-- ==== Defs.lean ====
def Pre_Kernel [hPre_attention_operands : Cert.Pre_attention_operands.Facts] (m : (ℓ : Loc Cert.Kernel.nD Cert.Kernel.τ Cert.Kernel.sig) → Buf (Elt Bits) ℓ) : Prop :=
  ∀ c : Dev Cert.Kernel.nD,
    (Cert.Pre_attention_operands.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_attention_operands.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_attention_operands.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.1 = (fun _ => 1#1)
    ∧ (Cert.Pre_attention_operands.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.2.1 = (fun _ => 1#1)
    ∧ (Cert.Pre_attention_operands.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.2.2 = (fun _ => 1#1)

def Pre_KernelIdeal [hPre_attention_operands : Cert.Pre_attention_operands.Facts] (m : (ℓ : Loc Cert.KernelIdeal.nD Cert.KernelIdeal.τ Cert.KernelIdeal.sig) → Buf (Elt Ideal) ℓ) : Prop :=
  ∀ c : Dev Cert.KernelIdeal.nD,
    (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_operands [hPre_attention_operands : Cert.Pre_attention_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_attention_operands : Cert.Pre_attention_operands.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_attention_operands : Cert.Pre_attention_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_attention_operands [hReferenceIdeal : Cert.ReferenceIdeal.Facts] [hPre_attention_operands : Cert.Pre_attention_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_attention_operands : Cert.Pre_attention_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v56_3)) (v4 : (c : Dev Cert.Kernel3Ideal.nD) → Buf (Elt Ideal) ((c.tc : Thread Cert.Kernel3Ideal.nD Cert.Kernel3Ideal.τ).loc Cert.Kernel3Ideal.main_v56_4)) (v5 : (c : Dev Cert.Kernel3Ideal.nD) → Buf (Elt Ideal) ((c.tc : Thread Cert.Kernel3Ideal.nD Cert.Kernel3Ideal.τ).loc Cert.Kernel3Ideal.main_v56_5)) (v6 : (c : Dev Cert.Kernel3Ideal.nD) → Buf (Elt Ideal) ((c.tc : Thread Cert.Kernel3Ideal.nD Cert.Kernel3Ideal.τ).loc Cert.Kernel3Ideal.main_v56_6)) (v7 : (c : Dev Cert.Kernel3Ideal.nD) → Buf (Elt Ideal) ((c.tc : Thread Cert.Kernel3Ideal.nD Cert.Kernel3Ideal.τ).loc Cert.Kernel3Ideal.main_v56_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v56_3) = v3 c
          ∧ r.2.mem ((c.tc : Thread Cert.Kernel3Ideal.nD Cert.Kernel3Ideal.τ).loc Cert.Kernel3Ideal.main_v56_4) = v4 c
          ∧ r.2.mem ((c.tc : Thread Cert.Kernel3Ideal.nD Cert.Kernel3Ideal.τ).loc Cert.Kernel3Ideal.main_v56_5) = v5 c
          ∧ r.2.mem ((c.tc : Thread Cert.Kernel3Ideal.nD Cert.Kernel3Ideal.τ).loc Cert.Kernel3Ideal.main_v56_6) = v6 c
          ∧ r.2.mem ((c.tc : Thread Cert.Kernel3Ideal.nD Cert.Kernel3Ideal.τ).loc Cert.Kernel3Ideal.main_v56_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v103) = v2 c
          ∧ r.2.mem ((c.tc : Thread Cert.Reference3Ideal.nD Cert.Reference3Ideal.τ).loc Cert.Reference3Ideal.main_v108) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v118) = v5 c
          ∧ r.2.mem ((c.tc : Thread Cert.Reference3Ideal.nD Cert.Reference3Ideal.τ).loc Cert.Reference3Ideal.main_v15) = v6 c
          ∧ r.2.mem ((c.tc : Thread Cert.Reference3Ideal.nD Cert.Reference3Ideal.τ).loc Cert.Reference3Ideal.main_v96) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attention_operands : Cert.Pre_attention_operands.Facts),
    quiescent_Kernel (hKernel := hKernel) (hPre_attention_operands := hPre_attention_operands)
    ∧ quiescent_KernelIdeal (hKernelIdeal := hKernelIdeal) (hPre_attention_operands := hPre_attention_operands)
    ∧ quiescent_ReferenceIdeal (hReferenceIdeal := hReferenceIdeal)
    ∧ quiescent_ReferenceIdeal_pre_attention_operands (hReferenceIdeal := hReferenceIdeal) (hPre_attention_operands := hPre_attention_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_attention_operands := hPre_attention_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_attention_operands.lean ====
abbrev S128 : Shape := ⟨1, ![128]⟩
abbrev S2x16x8192x128 : Shape := ⟨4, ![2, 16, 8192, 128]⟩
abbrev S16384x1024 : Shape := ⟨2, ![16384, 1024]⟩
abbrev S1x128 : Shape := ⟨2, ![1, 128]⟩
abbrev S16 : Shape := ⟨1, ![16]⟩
abbrev S_ : Shape := ⟨0, ![]⟩
abbrev S1x16x1x1 : Shape := ⟨4, ![1, 16, 1, 1]⟩
abbrev S2x16x8192x64 : Shape := ⟨4, ![2, 16, 8192, 64]⟩
abbrev S2x16x8192x3 : Shape := ⟨4, ![2, 16, 8192, 3]⟩
abbrev S2x16x8192x58 : Shape := ⟨4, ![2, 16, 8192, 58]⟩
abbrev S2x16x8192x1 : Shape := ⟨4, ![2, 16, 8192, 1]⟩

class Facts : Prop where
  bcast_S_S16 : S_.BroadcastsInDim S16 (![] : Fin 0 → Fin S16.rank)
  bcast_S16_S1x16x1x1_1 : S16.BroadcastsInDim S1x16x1x1 (![1] : Fin 1 → Fin S1x16x1x1.rank)
  slices_S2x16x8192x128_S2x16x8192x64_0_0_0_64 : S2x16x8192x128.Slices ![0, 0, 0, 64] S2x16x8192x64
  slices_S2x16x8192x128_S2x16x8192x64_0_0_0_0 : S2x16x8192x128.Slices ![0, 0, 0, 0] S2x16x8192x64
  bcast_S1x16x1x1_S2x16x8192x64_0_1_2_3 : S1x16x1x1.BroadcastsInDim S2x16x8192x64 (![0, 1, 2, 3] : Fin 4 → Fin S2x16x8192x64.rank)
  bitsLt_bf16_f32 : FTy.bits .bf16 < FTy.bits .f32
  bcast_S_S128 : S_.BroadcastsInDim S128 (![] : Fin 0 → Fin S128.rank)
  slices_S2x16x8192x64_S2x16x8192x3_0_0_0_3 : S2x16x8192x64.Slices ![0, 0, 0, 3] S2x16x8192x3
  bcast_S_S2x16x8192x3 : S_.BroadcastsInDim S2x16x8192x3 (![] : Fin 0 → Fin S2x16x8192x3.rank)
  slices_S2x16x8192x64_S2x16x8192x58_0_0_0_6 : S2x16x8192x64.Slices ![0, 0, 0, 6] S2x16x8192x58
  bcast_S_S2x16x8192x58 : S_.BroadcastsInDim S2x16x8192x58 (![] : Fin 0 → Fin S2x16x8192x58.rank)
  slices_S2x16x8192x64_S2x16x8192x3_0_0_0_0 : S2x16x8192x64.Slices ![0, 0, 0, 0] S2x16x8192x3
  slices_S2x16x8192x64_S2x16x8192x1_0_0_0_0 : S2x16x8192x64.Slices ![0, 0, 0, 0] S2x16x8192x1
  bcast_S_S2x16x8192x1 : S_.BroadcastsInDim S2x16x8192x1 (![] : Fin 0 → Fin S2x16x8192x1.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16 32) (arg1 : IVec S_ 32) : IVec S16 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16 32 := broadcastInDim S16 ![] bcast_S_S16 v2
  let v4 : IVec S16 32 := Host.remsi arg0 v3
  let c_1 : IVec S_ 32 := constantI S_ 32 0#32
  let v5 : IVec S16 32 := broadcastInDim S16 ![] bcast_S_S16 c_1
  let v6 : IVec S16 1 := cmpi .ne v4 v5
  let c_2 : IVec S_ 32 := constantI S_ 32 0#32
  let v7 : IVec S16 32 := broadcastInDim S16 ![] bcast_S_S16 c_2
  let v8 : IVec S16 1 := cmpi .slt v4 v7
  let c_3 : IVec S_ 32 := constantI S_ 32 0#32
  let v9 : IVec S_ 1 := cmpi .slt v2 c_3
  let v10 : IVec S16 1 := broadcastInDim S16 ![] bcast_S_S16 v9
  let v11 : IVec S16 1 := cmpi .ne v8 v10
  let v12 : IVec S16 1 := andi v11 v6
  let v13 : IVec S16 32 := broadcastInDim S16 ![] bcast_S_S16 v2
  let v14 : IVec S16 32 := addi v4 v13
  let v15 : IVec S16 32 := select v12 v14 v4
  v15

def fn_where_0 {F : FTy → Type} [FloatOps F] (arg0 : IVec S1x16x1x1 1) (arg1 : FVec F S2x16x8192x64 .bf16) (arg2 : FVec F S2x16x8192x64 .bf16) : FVec F S2x16x8192x64 .bf16 :=
  let v0 : IVec S2x16x8192x64 1 := broadcastInDim S2x16x8192x64 ![0, 1, 2, 3] bcast_S1x16x1x1_S2x16x8192x64_0_1_2_3 arg0
  let v1 : FVec F S2x16x8192x64 .bf16 := select v0 arg1 arg2
  v1

def fn_remainder_1 {F : FTy → Type} [FloatOps F] (arg0 : IVec S128 32) (arg1 : IVec S_ 32) : IVec S128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128 32 := broadcastInDim S128 ![] bcast_S_S128 v2
  let v4 : IVec S128 32 := Host.remsi arg0 v3
  let c_1 : IVec S_ 32 := constantI S_ 32 0#32
  let v5 : IVec S128 32 := broadcastInDim S128 ![] bcast_S_S128 c_1
  let v6 : IVec S128 1 := cmpi .ne v4 v5
  let c_2 : IVec S_ 32 := constantI S_ 32 0#32
  let v7 : IVec S128 32 := broadcastInDim S128 ![] bcast_S_S128 c_2
  let v8 : IVec S128 1 := cmpi .slt v4 v7
  let c_3 : IVec S_ 32 := constantI S_ 32 0#32
  let v9 : IVec S_ 1 := cmpi .slt v2 c_3
  let v10 : IVec S128 1 := broadcastInDim S128 ![] bcast_S_S128 v9
  let v11 : IVec S128 1 := cmpi .ne v8 v10
  let v12 : IVec S128 1 := andi v11 v6
  let v13 : IVec S128 32 := broadcastInDim S128 ![] bcast_S_S128 v2
  let v14 : IVec S128 32 := addi v4 v13
  let v15 : IVec S128 32 := select v12 v14 v4
  v15

def fn_part1 {F : FTy → Type} [FloatOps F] (main_arg0 : IVec S128 32) (main_v8 : FVec F S2x16x8192x64 .f32) (main_v12 : FVec F S2x16x8192x64 .f32) (main_v16 : FVec F S2x16x8192x64 .f32) (main_v18 : IVec S128 32) (main_v19 : IVec S128 32) : IVec S128 1 × IVec S2x16x8192x3 1 × IVec S2x16x8192x58 1 × IVec S2x16x8192x3 1 × IVec S2x16x8192x1 1 :=
  let main_v20 : IVec S128 32 := muli main_v19 main_v18
  let main_c_3 : IVec S_ 32 := constantI S_ 32 0#32
  let main_v21 : IVec S128 32 := broadcastInDim S128 ![] bcast_S_S128 main_c_3
  let main_v22 : IVec S128 1 := cmpi .sge main_arg0 main_v21
  let main_v23 : IVec S128 1 := cmpi .sle main_arg0 main_v20
  let main_v24 : IVec S128 1 := andi main_v22 main_v23
  let main_v25 : FVec F S2x16x8192x3 .f32 := (extractStridedSlice S2x16x8192x3 ![0, 0, 0, 3] · slices_S2x16x8192x64_S2x16x8192x3_0_0_0_3) main_v8
  let main_cst : FVec F S_ .f32 := constant S_ .f32 0x3F800000#32
  let main_v26 : FVec F S2x16x8192x3 .f32 := broadcastInDim S2x16x8192x3 ![] bcast_S_S2x16x8192x3 main_cst
  let main_v27 : IVec S2x16x8192x3 1 := cmpf .oeq main_v25 main_v26
  let main_v28 : FVec F S2x16x8192x58 .f32 := (extractStridedSlice S2x16x8192x58 ![0, 0, 0, 6] · slices_S2x16x8192x64_S2x16x8192x58_0_0_0_6) main_v8
  let main_cst_4 : FVec F S_ .f32 := constant S_ .f32 0x00000000#32
  let main_v29 : FVec F S2x16x8192x58 .f32 := broadcastInDim S2x16x8192x58 ![] bcast_S_S2x16x8192x58 main_cst_4
  let main_v30 : IVec S2x16x8192x58 1 := cmpf .oeq main_v28 main_v29
  let main_v31 : FVec F S2x16x8192x3 .f32 := (extractStridedSlice S2x16x8192x3 ![0, 0, 0, 0] · slices_S2x16x8192x64_S2x16x8192x3_0_0_0_0) main_v12
  let main_cst_5 : FVec F S_ .f32 := constant S_ .f32 0x3F800000#32
  let main_v32 : FVec F S2x16x8192x3 .f32 := broadcastInDim S2x16x8192x3 ![] bcast_S_S2x16x8192x3 main_cst_5
  let main_v33 : IVec S2x16x8192x3 1 := cmpf .oeq main_v31 main_v32
  let main_v34 : FVec F S2x16x8192x1 .f32 := (extractStridedSlice S2x16x8192x1 ![0, 0, 0, 0] · slices_S2x16x8192x64_S2x16x8192x1_0_0_0_0) main_v16
  let main_cst_6 : FVec F S_ .f32 := constant S_ .f32 0x3F800000#32
  let main_v35 : FVec F S2x16x8192x1 .f32 := broadcastInDim S2x16x8192x1 ![] bcast_S_S2x16x8192x1 main_cst_6
  let main_v36 : IVec S2x16x8192x1 1 := cmpf .oeq main_v34 main_v35
  (main_v24, main_v27, main_v30, main_v33, main_v36)

def fn {F : FTy → Type} [FloatOps F] (main_arg0 : IVec S128 32) (main_arg1 : FVec F S2x16x8192x128 .bf16) (main_arg2 : FVec F S2x16x8192x128 .bf16) (main_arg3 : FVec F S2x16x8192x128 .bf16) (main_arg4 : FVec F S16384x1024 .bf16) (main_arg5 : FVec F S1x128 .f32) : IVec S128 1 × IVec S2x16x8192x3 1 × IVec S2x16x8192x58 1 × IVec S2x16x8192x3 1 × IVec S2x16x8192x1 1 :=
  let main_v0 : IVec S16 32 := iotaInDim S16 32 0
  let main_c : IVec S_ 32 := constantI S_ 32 2#32
  let main_v1 : IVec S16 32 := fn_remainder (F := F) main_v0 main_c
  let main_c_0 : IVec S_ 32 := constantI S_ 32 0#32
  let main_v2 : IVec S16 32 := broadcastInDim S16 ![] bcast_S_S16 main_c_0
  let main_v3 : IVec S16 1 := cmpi .eq main_v1 main_v2
  let main_v4 : IVec S1x16x1x1 1 := broadcastInDim S1x16x1x1 ![1] bcast_S16_S1x16x1x1_1 main_v3
  let main_v5 : FVec F S2x16x8192x64 .bf16 := (extractStridedSlice S2x16x8192x64 ![0, 0, 0, 64] · slices_S2x16x8192x128_S2x16x8192x64_0_0_0_64) main_arg1
  let main_v6 : FVec F S2x16x8192x64 .bf16 := (extractStridedSlice S2x16x8192x64 ![0, 0, 0, 0] · slices_S2x16x8192x128_S2x16x8192x64_0_0_0_0) main_arg1
  let main_v7 : FVec F S2x16x8192x64 .bf16 := fn_where_0 (F := F) main_v4 main_v5 main_v6
  let main_v8 : FVec F S2x16x8192x64 .f32 := (extf .f32 · bitsLt_bf16_f32) main_v7
  let main_v9 : FVec F S2x16x8192x64 .bf16 := (extractStridedSlice S2x16x8192x64 ![0, 0, 0, 64] · slices_S2x16x8192x128_S2x16x8192x64_0_0_0_64) main_arg2
  let main_v10 : FVec F S2x16x8192x64 .bf16 := (extractStridedSlice S2x16x8192x64 ![0, 0, 0, 0] · slices_S2x16x8192x128_S2x16x8192x64_0_0_0_0) main_arg2
  let main_v11 : FVec F S2x16x8192x64 .bf16 := fn_where_0 (F := F) main_v4 main_v9 main_v10
  let main_v12 : FVec F S2x16x8192x64 .f32 := (extf .f32 · bitsLt_bf16_f32) main_v11
  let main_v13 : FVec F S2x16x8192x64 .bf16 := (extractStridedSlice S2x16x8192x64 ![0, 0, 0, 64] · slices_S2x16x8192x128_S2x16x8192x64_0_0_0_64) main_arg3
  let main_v14 : FVec F S2x16x8192x64 .bf16 := (extractStridedSlice S2x16x8192x64 ![0, 0, 0, 0] · slices_S2x16x8192x128_S2x16x8192x64_0_0_0_0) main_arg3
  let main_v15 : FVec F S2x16x8192x64 .bf16 := fn_where_0 (F := F) main_v4 main_v13 main_v14
  let main_v16 : FVec F S2x16x8192x64 .f32 := (extf .f32 · bitsLt_bf16_f32) main_v15
  let main_v17 : IVec S128 32 := iotaInDim S128 32 0
  let main_c_1 : IVec S_ 32 := constantI S_ 32 8#32
  let main_v18 : IVec S128 32 := fn_remainder_1 (F := F) main_v17 main_c_1
  let main_c_2 : IVec S_ 32 := constantI S_ 32 2#32
  let main_v19 : IVec S128 32 := broadcastInDim S128 ![] bcast_S_S128 main_c_2
  fn_part1 (F := F) main_arg0 main_v8 main_v12 main_v16 main_v18 main_v19
-- ==== Kernel.lean ====
abbrev S128 : Shape := ⟨1, ![128]⟩
abbrev S2x16x8192x128 : Shape := ⟨4, ![2, 16, 8192, 128]⟩
abbrev S16384x1024 : Shape := ⟨2, ![16384, 1024]⟩
abbrev S1x128 : Shape := ⟨2, ![1, 128]⟩
abbrev S1x2x1024x128 : Shape := ⟨4, ![1, 2, 1024, 128]⟩
abbrev S1x2x8192x128 : Shape := ⟨4, ![1, 2, 8192, 128]⟩
abbrev S1024x128 : Shape := ⟨2, ![1024, 128]⟩
abbrev S2x1024x512 : Shape := ⟨3, ![2, 1024, 512]⟩
abbrev S2x1024x128 : Shape := ⟨3, ![2, 1024, 128]⟩
abbrev S1 : Shape := ⟨1, ![1]⟩
abbrev S1x1x512x128 : Shape := ⟨4, ![1, 1, 512, 128]⟩
abbrev S512x128 : Shape := ⟨2, ![512, 128]⟩
abbrev S1x1x1024x128 : Shape := ⟨4, ![1, 1, 1024, 128]⟩
abbrev S1024x512 : Shape := ⟨2, ![1024, 512]⟩
abbrev S1x1024x512 : Shape := ⟨3, ![1, 1024, 512]⟩
abbrev S1x1024x128 : Shape := ⟨3, ![1, 1024, 128]⟩
abbrev S1024 : Shape := ⟨1, ![1024]⟩
abbrev S1024x1 : Shape := ⟨2, ![1024, 1]⟩
abbrev S512x512 : Shape := ⟨2, ![512, 512]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 6
  | .vmem => 14
  | .smem => 1
  | _ => 0

abbrev bufTy : (tb : Table) → Fin (tcTables nBuf tb) → BufTy
  | .hbm, ⟨0, _⟩ => ⟨S2x16x8192x128, .bf16⟩
  | .hbm, ⟨1, _⟩ => ⟨S2x16x8192x128, .bf16⟩
  | .hbm, ⟨2, _⟩ => ⟨S2x16x8192x128, .bf16⟩
  | .hbm, ⟨3, _⟩ => ⟨S16384x1024, .bf16⟩
  | .hbm, ⟨4, _⟩ => ⟨S1x128, .f32⟩
  | .hbm, ⟨5, _⟩ => ⟨S16384x1024, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S1024x128, .bf16⟩
  | .local _ .vmem, ⟨10, _⟩ => ⟨S1024x128, .bf16⟩
  | .local _ .vmem, ⟨11, _⟩ => ⟨S2x1024x512, .f32⟩
  | .local _ .vmem, ⟨12, _⟩ => ⟨S2x1024x128, .f32⟩
  | .local _ .vmem, ⟨13, _⟩ => ⟨S2x1024x128, .f32⟩
  | .local _ .smem, ⟨0, _⟩ => ⟨S128, .i32⟩
  | _, _ => ⟨S2x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c8_i32_0 : BitVec 32 := 8#32
  let v5 : BitVec 32 := Scalar.muli v4 c8_i32_0
  let arg2 : BitVec 32 := BitVec.ofNat 32 (i 2).val
  let v6 : BitVec 32 := Scalar.addi v5 arg2
  let v7 : Index := Scalar.indexCast v6
  ![v7.toNat]
def k0_mult1 (v8 : BitVec 32) : BitVec 32 :=
  let c512_i32 : BitVec 32 := 512#32
  let v17 : BitVec 32 := Scalar.muli v8 c512_i32
  v17

def k0_off2 (v8 : BitVec 32) : Fin 4 → Nat :=
  let c0_7 : Index := 0#32
  let c0_8 : Index := 0#32
  let c512_i32 : BitVec 32 := 512#32
  let v17 : BitVec 32 := Scalar.muli v8 c512_i32
  let v18 : BitVec 32 := v17
  let v19 : Index := Scalar.indexCast v18
  let c0_9 : Index := 0#32
  ![0, 0, v19.toNat, 0]
def k0_mult2 (v8 : BitVec 32) : BitVec 32 :=
  let c512_i32_216 : BitVec 32 := 512#32
  let v352 : BitVec 32 := Scalar.muli v8 c512_i32_216
  v352
def k0_cond1 (v8 : BitVec 32) : BitVec 1 :=
  let c2_i32 : BitVec 32 := 2#32
  let c0_i32 : BitVec 32 := 0#32
  let v28 : BitVec 1 := Scalar.cmpi .eq c2_i32 c0_i32
  let c1_i32 : BitVec 32 := 1#32
  let v29 : BitVec 32 := Scalar.select v28 c1_i32 c2_i32
  let v30 : BitVec 32 := Scalar.remsi v8 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1_i32_21 : BitVec 32 := 1#32
  let v38 : BitVec 1 := Scalar.cmpi .eq v37 c1_i32_21
  let v39 : BitVec 32 := Scalar.extui v38
  let c0_i32_22 : BitVec 32 := 0#32
  let v40 : BitVec 1 := Scalar.cmpi .ne v39 c0_i32_22
  v40

def k0_off3 (v8 : BitVec 32) : Fin 4 → Nat :=
  let c0_217 : Index := 0#32
  let c1_218 : Index := 1#32
  let c512_i32_216 : BitVec 32 := 512#32
  let v352 : BitVec 32 := Scalar.muli v8 c512_i32_216
  let v353 : BitVec 32 := v352
  let v354 : Index := Scalar.indexCast v353
  let c0_219 : Index := 0#32
  ![0, 1, v354.toNat, 0]
def k0_off4 (v8 : BitVec 32) : Fin 4 → Nat :=
  let c0_238 : Index := 0#32
  let c0_239 : Index := 0#32
  let c512_i32_216 : BitVec 32 := 512#32
  let v352 : BitVec 32 := Scalar.muli v8 c512_i32_216
  let v353 : BitVec 32 := v352
  let v380 : Index := Scalar.indexCast v353
  let c0_240 : Index := 0#32
  ![0, 0, v380.toNat, 0]
def k0_off5 (v8 : BitVec 32) : Fin 4 → Nat :=
  let c0_249 : Index := 0#32
  let c0_250 : Index := 0#32
  let c512_i32_216 : BitVec 32 := 512#32
  let v352 : BitVec 32 := Scalar.muli v8 c512_i32_216
  let v353 : BitVec 32 := v352
  let c512_i32_248 : BitVec 32 := 512#32
  let v391 : BitVec 32 := Scalar.addi v353 c512_i32_248
  let v392 : Index := Scalar.indexCast v391
  let c0_251 : Index := 0#32
  ![0, 0, v392.toNat, 0]
def k0_mult3 (v8 : BitVec 32) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let c1024_i32_216 : BitVec 32 := 1024#32
  let v352 : BitVec 32 := Scalar.muli v58 c1024_i32_216
  v352
def k0_cond2 (i : grid0.Coords) (v8 : BitVec 32) : BitVec 1 :=
  let arg2 : BitVec 32 := BitVec.ofNat 32 (i 2).val
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let v59 : BitVec 32 := Scalar.subi arg2 v58
  let c2_i32_31 : BitVec 32 := 2#32
  let c0_i32_32 : BitVec 32 := 0#32
  let v60 : BitVec 1 := Scalar.cmpi .eq c2_i32_31 c0_i32_32
  let c1_i32_33 : BitVec 32 := 1#32
  let v61 : BitVec 32 := Scalar.select v60 c1_i32_33 c2_i32_31
  let v62 : BitVec 32 := Scalar.remsi v59 v61
  let c0_i32_35 : BitVec 32 := 0#32
  let v64 : BitVec 1 := Scalar.cmpi .slt v62 c0_i32_35
  let c0_i32_36 : BitVec 32 := 0#32
  let v65 : BitVec 1 := Scalar.cmpi .slt v61 c0_i32_36
  let v66 : BitVec 1 := Scalar.xori v64 v65
  let c0_i32_34 : BitVec 32 := 0#32
  let v63 : BitVec 1 := Scalar.cmpi .ne v62 c0_i32_34
  let v67 : BitVec 1 := Scalar.andi v66 v63
  let v68 : BitVec 32 := Scalar.addi v62 v61
  let v69 : BitVec 32 := Scalar.select v67 v68 v62
  let c1_i32_37 : BitVec 32 := 1#32
  let v70 : BitVec 1 := Scalar.cmpi .eq v69 c1_i32_37
  let v71 : BitVec 32 := Scalar.extui v70
  let c0_i32_38 : BitVec 32 := 0#32
  let v72 : BitVec 1 := Scalar.cmpi .ne v71 c0_i32_38
  v72

def k0_off6 (v8 : BitVec 32) (c0_i32_217 : BitVec 32) : Fin 4 → Nat :=
  let c0_218 : Index := 0#32
  let c1_219 : Index := 1#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let c1024_i32_216 : BitVec 32 := 1024#32
  let v352 : BitVec 32 := Scalar.muli v58 c1024_i32_216
  let v353 : BitVec 32 := v352
  let v354 : BitVec 32 := Scalar.addi v353 c0_i32_217
  let v355 : Index := Scalar.indexCast v354
  let c0_220 : Index := 0#32
  ![0, 1, v355.toNat, 0]
def k0_off7 (v8 : BitVec 32) (c0_i32_217 : BitVec 32) : Fin 4 → Nat :=
  let c0_239 : Index := 0#32
  let c0_240 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let c1024_i32_216 : BitVec 32 := 1024#32
  let v352 : BitVec 32 := Scalar.muli v58 c1024_i32_216
  let v353 : BitVec 32 := v352
  let v354 : BitVec 32 := Scalar.addi v353 c0_i32_217
  let v381 : Index := Scalar.indexCast v354
  let c0_241 : Index := 0#32
  ![0, 0, v381.toNat, 0]
def k0_off8 (v8 : BitVec 32) (c0_i32_217 : BitVec 32) : Fin 4 → Nat :=
  let c0_250 : Index := 0#32
  let c0_251 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let c1024_i32_216 : BitVec 32 := 1024#32
  let v352 : BitVec 32 := Scalar.muli v58 c1024_i32_216
  let v353 : BitVec 32 := v352
  let v354 : BitVec 32 := Scalar.addi v353 c0_i32_217
  let c512_i32_249 : BitVec 32 := 512#32
  let v392 : BitVec 32 := Scalar.addi v354 c512_i32_249
  let v393 : Index := Scalar.indexCast v392
  let c0_252 : Index := 0#32
  ![0, 0, v393.toNat, 0]
def k0_mult4 (v8 : BitVec 32) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let c1024_i32_281 : BitVec 32 := 1024#32
  let v430 : BitVec 32 := Scalar.muli v58 c1024_i32_281
  v430
@[reducible] def k0_t1_loop (i : grid0.Coords) (v8 : BitVec 32) : Scf.Loop 32 :=
  let c0_i32_53 : BitVec 32 := 0#32
  let arg2 : BitVec 32 := BitVec.ofNat 32 (i 2).val
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let v59 : BitVec 32 := Scalar.subi arg2 v58
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_55 : BitVec 32 := 1#32
  ⟨c0_i32_53, v105, c1_i32_55⟩
def k0_mult5 (i : grid0.Coords) (v8 : BitVec 32) (k0_t1 : Fin (k0_t1_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c1_i32_55 : BitVec 32 := 1#32
  let arg13 : BitVec 32 := Scf.iv c0_i32_53 c1_i32_55 k0_t1
  let v352 : BitVec 32 := Scalar.muli c2_i32_216 arg13
  let v353 : BitVec 32 := Scalar.addi v83 v352
  let c1024_i32_217 : BitVec 32 := 1024#32
  let v354 : BitVec 32 := Scalar.muli v353 c1024_i32_217
  v354
def k0_off9 (i : grid0.Coords) (v8 : BitVec 32) (k0_t1 : Fin (k0_t1_loop i v8).trips) (c0_i32_218 : BitVec 32) : Fin 4 → Nat :=
  let c0_219 : Index := 0#32
  let c1_220 : Index := 1#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c1_i32_55 : BitVec 32 := 1#32
  let arg13 : BitVec 32 := Scf.iv c0_i32_53 c1_i32_55 k0_t1
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let v357 : Index := Scalar.indexCast v356
  let c0_221 : Index := 0#32
  ![0, 1, v357.toNat, 0]
def k0_off10 (i : grid0.Coords) (v8 : BitVec 32) (k0_t1 : Fin (k0_t1_loop i v8).trips) (c0_i32_218 : BitVec 32) : Fin 4 → Nat :=
  let c0_240 : Index := 0#32
  let c0_241 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c1_i32_55 : BitVec 32 := 1#32
  let arg13 : BitVec 32 := Scf.iv c0_i32_53 c1_i32_55 k0_t1
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let v383 : Index := Scalar.indexCast v356
  let c0_242 : Index := 0#32
  ![0, 0, v383.toNat, 0]
def k0_off11 (i : grid0.Coords) (v8 : BitVec 32) (k0_t1 : Fin (k0_t1_loop i v8).trips) (c0_i32_218 : BitVec 32) : Fin 4 → Nat :=
  let c0_251 : Index := 0#32
  let c0_252 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c1_i32_55 : BitVec 32 := 1#32
  let arg13 : BitVec 32 := Scf.iv c0_i32_53 c1_i32_55 k0_t1
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let c512_i32_250 : BitVec 32 := 512#32
  let v394 : BitVec 32 := Scalar.addi v356 c512_i32_250
  let v395 : Index := Scalar.indexCast v394
  let c0_253 : Index := 0#32
  ![0, 0, v395.toNat, 0]
def k0_mult6 (i : grid0.Coords) (v8 : BitVec 32) (k0_t1 : Fin (k0_t1_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c1_i32_55 : BitVec 32 := 1#32
  let arg13 : BitVec 32 := Scf.iv c0_i32_53 c1_i32_55 k0_t1
  let v352 : BitVec 32 := Scalar.muli c2_i32_216 arg13
  let v353 : BitVec 32 := Scalar.addi v83 v352
  let c1024_i32_282 : BitVec 32 := 1024#32
  let v432 : BitVec 32 := Scalar.muli v353 c1024_i32_282
  v432
def k0_mult7 (i : grid0.Coords) (v8 : BitVec 32) (k0_t1 : Fin (k0_t1_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c1_i32_55 : BitVec 32 := 1#32
  let arg13 : BitVec 32 := Scf.iv c0_i32_53 c1_i32_55 k0_t1
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  v513
def k0_off12 (i : grid0.Coords) (v8 : BitVec 32) (k0_t1 : Fin (k0_t1_loop i v8).trips) (c0_i32_350 : BitVec 32) : Fin 4 → Nat :=
  let c0_351 : Index := 0#32
  let c1_352 : Index := 1#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c1_i32_55 : BitVec 32 := 1#32
  let arg13 : BitVec 32 := Scf.iv c0_i32_53 c1_i32_55 k0_t1
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let v516 : Index := Scalar.indexCast v515
  let c0_353 : Index := 0#32
  ![0, 1, v516.toNat, 0]
def k0_off13 (i : grid0.Coords) (v8 : BitVec 32) (k0_t1 : Fin (k0_t1_loop i v8).trips) (c0_i32_350 : BitVec 32) : Fin 4 → Nat :=
  let c0_372 : Index := 0#32
  let c0_373 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c1_i32_55 : BitVec 32 := 1#32
  let arg13 : BitVec 32 := Scf.iv c0_i32_53 c1_i32_55 k0_t1
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let v542 : Index := Scalar.indexCast v515
  let c0_374 : Index := 0#32
  ![0, 0, v542.toNat, 0]
def k0_off14 (i : grid0.Coords) (v8 : BitVec 32) (k0_t1 : Fin (k0_t1_loop i v8).trips) (c0_i32_350 : BitVec 32) : Fin 4 → Nat :=
  let c0_383 : Index := 0#32
  let c0_384 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c1_i32_55 : BitVec 32 := 1#32
  let arg13 : BitVec 32 := Scf.iv c0_i32_53 c1_i32_55 k0_t1
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let c512_i32_382 : BitVec 32 := 512#32
  let v553 : BitVec 32 := Scalar.addi v515 c512_i32_382
  let v554 : Index := Scalar.indexCast v553
  let c0_385 : Index := 0#32
  ![0, 0, v554.toNat, 0]
def k0_mult8 (i : grid0.Coords) (v8 : BitVec 32) (k0_t1 : Fin (k0_t1_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c1_i32_55 : BitVec 32 := 1#32
  let arg13 : BitVec 32 := Scf.iv c0_i32_53 c1_i32_55 k0_t1
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_414 : BitVec 32 := 1024#32
  let v591 : BitVec 32 := Scalar.muli v512 c1024_i32_414
  v591
@[reducible] def k0_t2_loop (i : grid0.Coords) (v8 : BitVec 32) : Scf.Loop 32 :=
  let c0_i32_53 : BitVec 32 := 0#32
  let arg2 : BitVec 32 := BitVec.ofNat 32 (i 2).val
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let v59 : BitVec 32 := Scalar.subi arg2 v58
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let v102 : BitVec 32 := Scalar.addi c0_i32_53 v101
  let c1_i32_56 : BitVec 32 := 1#32
  ⟨v105, v102, c1_i32_56⟩
def k0_mult9 (i : grid0.Coords) (v8 : BitVec 32) (k0_t2 : Fin (k0_t2_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v352 : BitVec 32 := Scalar.muli c2_i32_216 arg13
  let v353 : BitVec 32 := Scalar.addi v83 v352
  let c1024_i32_217 : BitVec 32 := 1024#32
  let v354 : BitVec 32 := Scalar.muli v353 c1024_i32_217
  v354
def k0_off15 (i : grid0.Coords) (v8 : BitVec 32) (k0_t2 : Fin (k0_t2_loop i v8).trips) (c0_i32_218 : BitVec 32) : Fin 4 → Nat :=
  let c0_219 : Index := 0#32
  let c1_220 : Index := 1#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let v357 : Index := Scalar.indexCast v356
  let c0_221 : Index := 0#32
  ![0, 1, v357.toNat, 0]
def k0_off16 (i : grid0.Coords) (v8 : BitVec 32) (k0_t2 : Fin (k0_t2_loop i v8).trips) (c0_i32_218 : BitVec 32) : Fin 4 → Nat :=
  let c0_240 : Index := 0#32
  let c0_241 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let v383 : Index := Scalar.indexCast v356
  let c0_242 : Index := 0#32
  ![0, 0, v383.toNat, 0]
def k0_off17 (i : grid0.Coords) (v8 : BitVec 32) (k0_t2 : Fin (k0_t2_loop i v8).trips) (c0_i32_218 : BitVec 32) : Fin 4 → Nat :=
  let c0_251 : Index := 0#32
  let c0_252 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v352 : BitVec 32 := Scalar.muli c2_i32_216 arg13
  let v353 : BitVec 32 := Scalar.addi v83 v352
  let c1024_i32_217 : BitVec 32 := 1024#32
  let v354 : BitVec 32 := Scalar.muli v353 c1024_i32_217
  let v355 : BitVec 32 := v354
  let v356 : BitVec 32 := Scalar.addi v355 c0_i32_218
  let c512_i32_250 : BitVec 32 := 512#32
  let v394 : BitVec 32 := Scalar.addi v356 c512_i32_250
  let v395 : Index := Scalar.indexCast v394
  let c0_253 : Index := 0#32
  ![0, 0, v395.toNat, 0]
def k0_mult10 (i : grid0.Coords) (v8 : BitVec 32) (k0_t2 : Fin (k0_t2_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_216 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v352 : BitVec 32 := Scalar.muli c2_i32_216 arg13
  let v353 : BitVec 32 := Scalar.addi v83 v352
  let c1024_i32_282 : BitVec 32 := 1024#32
  let v432 : BitVec 32 := Scalar.muli v353 c1024_i32_282
  v432
def k0_mult11 (i : grid0.Coords) (v8 : BitVec 32) (k0_t2 : Fin (k0_t2_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  v513
def k0_off18 (i : grid0.Coords) (v8 : BitVec 32) (k0_t2 : Fin (k0_t2_loop i v8).trips) (c0_i32_350 : BitVec 32) : Fin 4 → Nat :=
  let c0_351 : Index := 0#32
  let c1_352 : Index := 1#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let v516 : Index := Scalar.indexCast v515
  let c0_353 : Index := 0#32
  ![0, 1, v516.toNat, 0]
def k0_off19 (i : grid0.Coords) (v8 : BitVec 32) (k0_t2 : Fin (k0_t2_loop i v8).trips) (c0_i32_350 : BitVec 32) : Fin 4 → Nat :=
  let c0_372 : Index := 0#32
  let c0_373 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let v542 : Index := Scalar.indexCast v515
  let c0_374 : Index := 0#32
  ![0, 0, v542.toNat, 0]
def k0_off20 (i : grid0.Coords) (v8 : BitVec 32) (k0_t2 : Fin (k0_t2_loop i v8).trips) (c0_i32_350 : BitVec 32) : Fin 4 → Nat :=
  let c0_383 : Index := 0#32
  let c0_384 : Index := 0#32
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_349 : BitVec 32 := 1024#32
  let v513 : BitVec 32 := Scalar.muli v512 c1024_i32_349
  let v514 : BitVec 32 := v513
  let v515 : BitVec 32 := Scalar.addi v514 c0_i32_350
  let c512_i32_382 : BitVec 32 := 512#32
  let v553 : BitVec 32 := Scalar.addi v515 c512_i32_382
  let v554 : Index := Scalar.indexCast v553
  let c0_385 : Index := 0#32
  ![0, 0, v554.toNat, 0]
def k0_mult12 (i : grid0.Coords) (v8 : BitVec 32) (k0_t2 : Fin (k0_t2_loop i v8).trips) : BitVec 32 :=
  let c1_i32_23 : BitVec 32 := 1#32
  let v41 : BitVec 32 := Scalar.addi v8 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32_24 : BitVec 32 := 2#32
  let c0_i32_27 : BitVec 32 := 0#32
  let v48 : BitVec 1 := Scalar.cmpi .sgt c2_i32_24 c0_i32_27
  let v49 : BitVec 32 := Scalar.extui v48
  let c0_i32_28 : BitVec 32 := 0#32
  let v50 : BitVec 1 := Scalar.cmpi .slt c2_i32_24 c0_i32_28
  let v51 : BitVec 32 := Scalar.extui v50
  let v52 : BitVec 32 := Scalar.subi v49 v51
  let v53 : BitVec 1 := Scalar.cmpi .ne v47 v52
  let v54 : BitVec 32 := Scalar.remsi v41 c2_i32_24
  let c0_i32_29 : BitVec 32 := 0#32
  let v55 : BitVec 1 := Scalar.cmpi .ne v54 c0_i32_29
  let v56 : BitVec 1 := Scalar.andi v53 v55
  let v42 : BitVec 32 := Scalar.divsi v41 c2_i32_24
  let c1_i32_30 : BitVec 32 := 1#32
  let v57 : BitVec 32 := Scalar.subi v42 c1_i32_30
  let v58 : BitVec 32 := Scalar.select v56 v57 v42
  let arg2 : BitVec 32 := BitVec.ofNat 32 (i 2).val
  let v59 : BitVec 32 := Scalar.subi arg2 v58
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v59 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.addi v58 v82
  let c2_i32_347 : BitVec 32 := 2#32
  let c0_i32_53 : BitVec 32 := 0#32
  let c0_i32_46 : BitVec 32 := 0#32
  let v85 : BitVec 1 := Scalar.cmpi .sgt v59 c0_i32_46
  let v86 : BitVec 32 := Scalar.extui v85
  let c0_i32_47 : BitVec 32 := 0#32
  let v87 : BitVec 1 := Scalar.cmpi .slt v59 c0_i32_47
  let v88 : BitVec 32 := Scalar.extui v87
  let v89 : BitVec 32 := Scalar.subi v86 v88
  let c2_i32_45 : BitVec 32 := 2#32
  let c0_i32_48 : BitVec 32 := 0#32
  let v90 : BitVec 1 := Scalar.cmpi .sgt c2_i32_45 c0_i32_48
  let v91 : BitVec 32 := Scalar.extui v90
  let c0_i32_49 : BitVec 32 := 0#32
  let v92 : BitVec 1 := Scalar.cmpi .slt c2_i32_45 c0_i32_49
  let v93 : BitVec 32 := Scalar.extui v92
  let v94 : BitVec 32 := Scalar.subi v91 v93
  let v95 : BitVec 1 := Scalar.cmpi .ne v89 v94
  let v96 : BitVec 32 := Scalar.remsi v59 c2_i32_45
  let c0_i32_50 : BitVec 32 := 0#32
  let v97 : BitVec 1 := Scalar.cmpi .ne v96 c0_i32_50
  let v98 : BitVec 1 := Scalar.andi v95 v97
  let v84 : BitVec 32 := Scalar.divsi v59 c2_i32_45
  let c1_i32_51 : BitVec 32 := 1#32
  let v99 : BitVec 32 := Scalar.subi v84 c1_i32_51
  let v100 : BitVec 32 := Scalar.select v98 v99 v84
  let v101 : BitVec 32 := Scalar.subi v100 c0_i32_53
  let c1_i32_54 : BitVec 32 := 1#32
  let v103 : BitVec 32 := Scalar.divsi v101 c1_i32_54
  let v104 : BitVec 32 := Scalar.muli v103 c1_i32_54
  let v105 : BitVec 32 := Scalar.addi c0_i32_53 v104
  let c1_i32_56 : BitVec 32 := 1#32
  let arg13 : BitVec 32 := Scf.iv v105 c1_i32_56 k0_t2
  let v510 : BitVec 32 := Scalar.muli c2_i32_347 arg13
  let v511 : BitVec 32 := Scalar.addi v83 v510
  let c1_i32_348 : BitVec 32 := 1#32
  let v512 : BitVec 32 := Scalar.addi v511 c1_i32_348
  let c1024_i32_414 : BitVec 32 := 1024#32
  let v591 : BitVec 32 := Scalar.muli v512 c1024_i32_414
  v591

def k0_chk1_0 (i : grid0.Coords) (v8 : BitVec 32) : Prop :=
  (512 ∣ (k0_mult1 v8).toNat) ∧
  (∀ a, (k0_off2 v8) a + S1x1x512x128.size a ≤ S1x2x8192x128.size a) ∧
  (∀ (k0_h1 : k0_cond1 v8 = 1#1), 512 ∣ (k0_mult2 v8).toNat) ∧
  (∀ (k0_h1 : k0_cond1 v8 = 1#1), ∀ a, (k0_off3 v8) a + S1x1x512x128.size a ≤ S1x2x8192x128.size a) ∧
  (∀ (k0_h1 : k0_cond1 v8 = 1#1), ∀ a, (k0_off4 v8) a + S1x1x512x128.size a ≤ S1x2x8192x128.size a) ∧
  (∀ (k0_h1 : k0_cond1 v8 = 1#1), ∀ a, (k0_off5 v8) a + S1x1x512x128.size a ≤ S1x2x8192x128.size a) ∧
  (∀ (k0_h2 : k0_cond2 i v8 = 1#1), 1024 ∣ (k0_mult3 v8).toNat) ∧
  (∀ (k0_h2 : k0_cond2 i v8 = 1#1), ∀ (r : Fin 2), ∀ a, (k0_off6 v8 (BitVec.ofNat 32 (512 * r.val))) a + S1x1x512x128.size a ≤ S1x2x8192x128.size a) ∧
  (∀ (k0_h2 : k0_cond2 i v8 = 1#1), ∀ (r : Fin 2), ∀ a, (k0_off7 v8 (BitVec.ofNat 32 (512 * r.val))) a + S1x1x512x128.size a ≤ S1x2x8192x128.size a) ∧
  (∀ (k0_h2 : k0_cond2 i v8 = 1#1), ∀ (r : Fin 2), ∀ a, (k0_off8 v8 (BitVec.ofNat 32 (512 * r.val))) a + S1x1x512x128.size a ≤ S1x2x8192x128.size a) ∧
  (∀ (k0_h2 : k0_cond2 i v8 = 1#1), 1024 ∣ (k0_mult4 v8).toNat) ∧
  ((k0_t1_loop i v8).OK) ∧
  (∀ k0_t1 : Fin (k0_t1_loop i v8).trips, 1024 ∣ (k0_mult5 i v8 k0_t1).toNat) ∧
  (∀ k0_t1 : Fin (k0_t1_loop i v8).trips, ∀ (r : Fin 2), ∀ a, (k0_off9 i v8 k0_t1 (BitVec.ofNat 32 (512 * r.val))) a + S1x1x512x128.size a ≤ S1x2x8192x128.size a) ∧
  (∀ k0_t1 : Fin (k0_t1_loop i v8).trips, ∀ (r : Fin 2), ∀ a, (k0_off10 i v8 k0_t1 (BitVec.ofNat 32 (512 * r.val))) a + S1x1x512x128.size a ≤ S1x2x8192x128.size a) ∧
  (∀ k0_t1 : Fin (k0_t1_loop i v8).trips, ∀ (r : Fin 2), ∀ a, (k0_off11 i v8 k0_t1 (BitVec.ofNat 32 (512 * r.val))) a + S1x1x512x128.size a ≤ S1x2x8192x128.size a) ∧
  (∀ k0_t1 : Fin (k0_t1_loop i v8).trips, 1024 ∣ (k0_mult6 i v8 k0_t1).toNat) ∧
  (∀ k0_t1 : Fin (k0_t1_loop i v8).trips, 1024 ∣ (k0_mult7 i v8 k0_t1).toNat) ∧
  (∀ k0_t1 : Fin (k0_t1_loop i v8).trips, ∀ (r : Fin 2), ∀ a, (k0_off12 i v8 k0_t1 (BitVec.ofNat 32 (512 * r.val))) a + S1x1x512x128.size a ≤ S1x2x8192x128.size a) ∧
  (∀ k0_t1 : Fin (k0_t1_loop i v8).trips, ∀ (r : Fin 2), ∀ a, (k0_off13 i v8 k0_t1 (BitVec.ofNat 32 (512 * r.val))) a + S1x1x512x128.size a ≤ S1x2x8192x128.size a) ∧
  (∀ k0_t1 : Fin (k0_t1_loop i v8).trips, ∀ (r : Fin 2), ∀ a, (k0_off14 i v8 k0_t1 (BitVec.ofNat 32 (512 * r.val))) a + S1x1x512x128.size a ≤ S1x2x8192x128.size a) ∧
  (∀ k0_t1 : Fin (k0_t1_loop i v8).trips, 1024 ∣ (k0_mult8 i v8 k0_t1).toNat) ∧
  ((k0_t2_loop i v8).OK) ∧
  (∀ k0_t2 : Fin (k0_t2_loop i v8).trips, 1024 ∣ (k0_mult9 i v8 k0_t2).toNat) ∧
  (∀ k0_t2 : Fin (k0_t2_loop i v8).trips, ∀ (r : Fin 2), ∀ a, (k0_off15 i v8 k0_t2 (BitVec.ofNat 32 (512 * r.val))) a + S1x1x512x128.size a ≤ S1x2x8192x128.size a) ∧
  (∀ k0_t2 : Fin (k0_t2_loop i v8).trips, ∀ (r : Fin 2), ∀ a, (k0_off16 i v8 k0_t2 (BitVec.ofNat 32 (512 * r.val))) a + S1x1x512x128.size a ≤ S1x2x8192x128.size a) ∧
  (∀ k0_t2 : Fin (k0_t2_loop i v8).trips, ∀ (r : Fin 2), ∀ a, (k0_off17 i v8 k0_t2 (BitVec.ofNat 32 (512 * r.val))) a + S1x1x512x128.size a ≤ S1x2x8192x128.size a) ∧
  (∀ k0_t2 : Fin (k0_t2_loop i v8).trips, 1024 ∣ (k0_mult10 i v8 k0_t2).toNat) ∧
  (∀ k0_t2 : Fin (k0_t2_loop i v8).trips, 1024 ∣ (k0_mult11 i v8 k0_t2).toNat) ∧
  (∀ k0_t2 : Fin (k0_t2_loop i v8).trips, ∀ (r : Fin 2), ∀ a, (k0_off18 i v8 k0_t2 (BitVec.ofNat 32 (512 * r.val))) a + S1x1x512x128.size a ≤ S1x2x8192x128.size a) ∧
  (∀ k0_t2 : Fin (k0_t2_loop i v8).trips, ∀ (r : Fin 2), ∀ a, (k0_off19 i v8 k0_t2 (BitVec.ofNat 32 (512 * r.val))) a + S1x1x512x128.size a ≤ S1x2x8192x128.size a) ∧
  (∀ k0_t2 : Fin (k0_t2_loop i v8).trips, ∀ (r : Fin 2), ∀ a, (k0_off20 i v8 k0_t2 (BitVec.ofNat 32 (512 * r.val))) a + S1x1x512x128.size a ≤ S1x2x8192x128.size a)
def k0_chk1_1 (i : grid0.Coords) (v8 : BitVec 32) : Prop :=
  (∀ k0_t2 : Fin (k0_t2_loop i v8).trips, 1024 ∣ (k0_mult12 i v8 k0_t2).toNat)
def k0_chk1 (i : grid0.Coords) (v8 : BitVec 32) : Prop :=
  k0_chk1_0 i v8 ∧
  k0_chk1_1 i v8
theorem k0_mult1_dvd : ∀ (i : grid0.Coords) (v8 : BitVec 32) (k0_hw1 : k0_chk1 i v8), 512 ∣ (k0_mult1 v8).toNat := fun i v8 k0_hw1 => k0_hw1.1.1
theorem k0_off2_inb : ∀ (i : grid0.Coords) (v8 : BitVec 32) (k0_hw1 : k0_chk1 i v8), ∀ a, (k0_off2 v8) a + S1x1x512x128.size a ≤ S1x2x8192x128.size a := fun i v8 k0_hw1 => k0_hw1.1.2.1
theorem k0_mult2_dvd : ∀ (i : grid0.Coords) (v8 : BitVec 32) (k0_hw1 : k0_chk1 i v8), ∀ (k0_h1 : k0_cond1 v8 = 1#1), 512 ∣ (k0_mult2 v8).toNat := fun i v8 k0_hw1 k0_h1 => k0_hw1.1.2.2.1 k0_h1
theorem k0_off3_inb : ∀ (i : grid0.Coords) (v8 : BitVec 32) (k0_hw1 : k0_chk1 i v8), ∀ (k0_h1 : k0_cond1 v8 = 1#1), ∀ a, (k0_off3 v8) a + S1x1x512x128.size a ≤ S1x2x8192x128.size a := fun i v8 k0_hw1 k0_h1 => k0_hw1.1.2.2.2.1 k0_h1
theorem k0_off4_inb : ∀ (i : grid0.Coords) (v8 : BitVec 32) (k0_hw1 : k0_chk1 i v8), ∀ (k0_h1 : k0_cond1 v8 = 1#1), ∀ a, (k0_off4 v8) a + S1x1x512x128.size a ≤ S1x2x8192x128.size a := fun i v8 k0_hw1 k0_h1 => k0_hw1.1.2.2.2.2.1 k0_h1
theorem k0_off5_inb : ∀ (i : grid0.Coords) (v8 : BitVec 32) (k0_hw1 : k0_chk1 i v8), ∀ (k0_h1 : k0_cond1 v8 = 1#1), ∀ a, (k0_off5 v8) a + S1x1x512x128.size a ≤ S1x2x8192x128.size a := fun i v8 k0_hw1 k0_h1 => k0_hw1.1.2.2.2.2.2.1 k0_h1
theorem k0_mult3_dvd : ∀ (i : grid0.Coords) (v8 : BitVec 32) (k0_hw1 : k0_chk1 i v8), ∀ (k0_h2 : k0_cond2 i v8 = 1#1), 1024 ∣ (k0_mult3 v8).toNat := fun i v8 k0_hw1 k0_h2 => k0_hw1.1.2.2.2.2.2.2.1 k0_h2
theorem k0_off6_inb : ∀ (i : grid0.Coords) (v8 : BitVec 32) (k0_hw1 : k0_chk1 i v8), ∀ (k0_h2 : k0_cond2 i v8 = 1#1), ∀ (r : Fin 2), ∀ a, (k0_off6 v8 (BitVec.ofNat 32 (512 * r.val))) a + S1x1x512x128.size a ≤ S1x2x8192x128.size a := fun i v8 k0_hw1 k0_h2 r => k0_hw1.1.2.2.2.2.2.2.2.1 k0_h2 r
theorem k0_off7_inb : ∀ (i : grid0.Coords) (v8 : BitVec 32) (k0_hw1 : k0_chk1 i v8), ∀ (k0_h2 : k0_cond2 i v8 = 1#1), ∀ (r : Fin 2), ∀ a, (k0_off7 v8 (BitVec.ofNat 32 (512 * r.val))) a + S1x1x512x128.size a ≤ S1x2x8192x128.size a := fun i v8 k0_hw1 k0_h2 r => k0_hw1.1.2.2.2.2.2.2.2.2.1 k0_h2 r
theorem k0_off8_inb : ∀ (i : grid0.Coords) (v8 : BitVec 32) (k0_hw1 : k0_chk1 i v8), ∀ (k0_h2 : k0_cond2 i v8 = 1#1), ∀ (r : Fin 2), ∀ a, (k0_off8 v8 (BitVec.ofNat 32 (512 * r.val))) a + S1x1x512x128.size a ≤ S1x2x8192x128.size a := fun i v8 k0_hw1 k0_h2 r => k0_hw1.1.2.2.2.2.2.2.2.2.2.1 k0_h2 r
theorem k0_mult4_dvd : ∀ (i : grid0.Coords) (v8 : BitVec 32) (k0_hw1 : k0_chk1 i v8), ∀ (k0_h2 : k0_cond2 i v8 = 1#1), 1024 ∣ (k0_mult4 v8).toNat := fun i v8 k0_hw1 k0_h2 => k0_hw1.1.2.2.2.2.2.2.2.2.2.2.1 k0_h2
theorem k0_t1_ok : ∀ (i : grid0.Coords) (v8 : BitVec 32) (k0_hw1 : k0_chk1 i v8), (k0_t1_loop i v8).OK := fun i v8 k0_hw1 => k0_hw1.1.2.2.2.2.2.2.2.2.2.2.2.1
theorem k0_mult5_dvd : ∀ (i : grid0.Coords) (v8 : BitVec 32) (k0_hw1 : k0_chk1 i v8) (k0_t1 : Fin (k0_t1_loop i v8).trips), 1024 ∣ (k0_mult5 i v8 k0_t1).toNat := fun i v8 k0_hw1 k0_t1 => k0_hw1.1.2.2.2.2.2.2.2.2.2.2.2.2.1 k0_t1
theorem k0_off9_inb : ∀ (i : grid0.Coords) (v8 : BitVec 32) (k0_hw1 : k0_chk1 i v8) (k0_t1 : Fin (k0_t1_loop i v8).trips), ∀ (r : Fin 2), ∀ a, (k0_off9 i v8 k0_t1 (BitVec.ofNat 32 (512 * r.val))) a + S1x1x512x128.size a ≤ S1x2x8192x128.size a := fun i v8 k0_hw1 k0_t1 r => k0_hw1.1.2.2.2.2.2.2.2.2.2.2.2.2.2.1 k0_t1 r
theorem k0_off10_inb : ∀ (i : grid0.Coords) (v8 : BitVec 32) (k0_hw1 : k0_chk1 i v8) (k0_t1 : Fin (k0_t1_loop i v8).trips), ∀ (r : Fin 2), ∀ a, (k0_off10 i v8 k0_t1 (BitVec.ofNat 32 (512 * r.val))) a + S1x1x512x128.size a ≤ S1x2x8192x128.size a := fun i v8 k0_hw1 k0_t1 r => k0_hw1.1.2.2.2.2.2.2.2.2.2.2.2.2.2.2.1 k0_t1 r
theorem k0_off11_inb : ∀ (i : grid0.Coords) (v8 : BitVec 32) (k0_hw1 : k0_chk1 i v8) (k0_t1 : Fin (k0_t1_loop i v8).trips), ∀ (r : Fin 2), ∀ a, (k0_off11 i v8 k0_t1 (BitVec.ofNat 32 (512 * r.val))) a + S1x1x512x128.size a ≤ S1x2x8192x128.size a := fun i v8 k0_hw1 k0_t1 r => k0_hw1.1.2.2.2.2.2.2.2.2.2.2.2.2.2.2.2.1 k0_t1 r
theorem k0_mult6_dvd : ∀ (i : grid0.Coords) (v8 : BitVec 32) (k0_hw1 : k0_chk1 i v8) (k0_t1 : Fin (k0_t1_loop i v8).trips), 1024 ∣ (k0_mult6 i v8 k0_t1).toNat := fun i v8 k0_hw1 k0_t1 => k0_hw1.1.2.2.2.2.2.2.2.2.2.2.2.2.2.2.2.2.1 k0_t1
theorem k0_mult7_dvd : ∀ (i : grid0.Coords) (v8 : BitVec 32) (k0_hw1 : k0_chk1 i v8) (k0_t1 : Fin (k0_t1_loop i v8).trips), 1024 ∣ (k0_mult7 i v8 k0_t1).toNat := fun i v8 k0_hw1 k0_t1 => k0_hw1.1.2.2.2.2.2.2.2.2.2.2.2.2.2.2.2.2.2.1 k0_t1
theorem k0_off12_inb : ∀ (i : grid0.Coords) (v8 : BitVec 32) (k0_hw1 : k0_chk1 i v8) (k0_t1 : Fin (k0_t1_loop i v8).trips), ∀ (r : Fin 2), ∀ a, (k0_off12 i v8 k0_t1 (BitVec.ofNat 32 (512 * r.val))) a + S1x1x512x128.size a ≤ S1x2x8192x128.size a := fun i v8 k0_hw1 k0_t1 r => k0_hw1.1.2.2.2.2.2.2.2.2.2.2.2.2.2.2.2.2.2.2.1 k0_t1 r
theorem k0_off13_inb : ∀ (i : grid0.Coords) (v8 : BitVec 32) (k0_hw1 : k0_chk1 i v8) (k0_t1 : Fin (k0_t1_loop i v8).trips), ∀ (r : Fin 2), ∀ a, (k0_off13 i v8 k0_t1 (BitVec.ofNat 32 (512 * r.val))) a + S1x1x512x128.size a ≤ S1x2x8192x128.size a := fun i v8 k0_hw1 k0_t1 r => k0_hw1.1.2.2.2.2.2.2.2.2.2.2.2.2.2.2.2.2.2.2.2.1 k0_t1 r
theorem k0_off14_inb : ∀ (i : grid0.Coords) (v8 : BitVec 32) (k0_hw1 : k0_chk1 i v8) (k0_t1 : Fin (k0_t1_loop i v8).trips), ∀ (r : Fin 2), ∀ a, (k0_off14 i v8 k0_t1 (BitVec.ofNat 32 (512 * r.val))) a + S1x1x512x128.size a ≤ S1x2x8192x128.size a := fun i v8 k0_hw1 k0_t1 r => k0_hw1.1.2.2.2.2.2.2.2.2.2.2.2.2.2.2.2.2.2.2.2.2.1 k0_t1 r
theorem k0_mult8_dvd : ∀ (i : grid0.Coords) (v8 : BitVec 32) (k0_hw1 : k0_chk1 i v8) (k0_t1 : Fin (k0_t1_loop i v8).trips), 1024 ∣ (k0_mult8 i v8 k0_t1).toNat := fun i v8 k0_hw1 k0_t1 => k0_hw1.1.2.2.2.2.2.2.2.2.2.2.2.2.2.2.2.2.2.2.2.2.2.1 k0_t1
theorem k0_t2_ok : ∀ (i : grid0.Coords) (v8 : BitVec 32) (k0_hw1 : k0_chk1 i v8), (k0_t2_loop i v8).OK := fun i v8 k0_hw1 => k0_hw1.1.2.2.2.2.2.2.2.2.2.2.2.2.2.2.2.2.2.2.2.2.2.2.1
theorem k0_mult9_dvd : ∀ (i : grid0.Coords) (v8 : BitVec 32) (k0_hw1 : k0_chk1 i v8) (k0_t2 : Fin (k0_t2_loop i v8).trips), 1024 ∣ (k0_mult9 i v8 k0_t2).toNat := fun i v8 k0_hw1 k0_t2 => k0_hw1.1.2.2.2.2.2.2.2.2.2.2.2.2.2.2.2.2.2.2.2.2.2.2.2.1 k0_t2
theorem k0_off15_inb : ∀ (i : grid0.Coords) (v8 : BitVec 32) (k0_hw1 : k0_chk1 i v8) (k0_t2 : Fin (k0_t2_loop i v8).trips), ∀ (r : Fin 2), ∀ a, (k0_off15 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.1 k0_t2 r
theorem k0_off16_inb : ∀ (i : grid0.Coords) (v8 : BitVec 32) (k0_hw1 : k0_chk1 i v8) (k0_t2 : Fin (k0_t2_loop i v8).trips), ∀ (r : Fin 2), ∀ a, (k0_off16 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.2.1 k0_t2 r
theorem k0_off17_inb : ∀ (i : grid0.Coords) (v8 : BitVec 32) (k0_hw1 : k0_chk1 i v8) (k0_t2 : Fin (k0_t2_loop i v8).trips), ∀ (r : Fin 2), ∀ a, (k0_off17 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.2.2.1 k0_t2 r
theorem k0_mult10_dvd : ∀ (i : grid0.Coords) (v8 : BitVec 32) (k0_hw1 : k0_chk1 i v8) (k0_t2 : Fin (k0_t2_loop i v8).trips), 1024 ∣ (k0_mult10 i v8 k0_t2).toNat := fun i v8 k0_hw1 k0_t2 => k0_hw1.1.2.2.2.2.2.2.2.2.2.2.2.2.2.2.2.2.2.2.2.2.2.2.2.2.2.2.2.1 k0_t2
theorem k0_mult11_dvd : ∀ (i : grid0.Coords) (v8 : BitVec 32) (k0_hw1 : k0_chk1 i v8) (k0_t2 : Fin (k0_t2_loop i v8).trips), 1024 ∣ (k0_mult11 i v8 k0_t2).toNat := fun i v8 k0_hw1 k0_t2 => k0_hw1.1.2.2.2.2.2.2.2.2.2.2.2.2.2.2.2.2.2.2.2.2.2.2.2.2.2.2.2.2.1 k0_t2
theorem k0_off18_inb : ∀ (i : grid0.Coords) (v8 : BitVec 32) (k0_hw1 : k0_chk1 i v8) (k0_t2 : Fin (k0_t2_loop i v8).trips), ∀ (r : Fin 2), ∀ a, (k0_off18 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.2.2.2.2.2.1 k0_t2 r
theorem k0_off19_inb : ∀ (i : grid0.Coords) (v8 : BitVec 32) (k0_hw1 : k0_chk1 i v8) (k0_t2 : Fin (k0_t2_loop i v8).trips), ∀ (r : Fin 2), ∀ a, (k0_off19 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.2.2.2.2.2.2.1 k0_t2 r
theorem k0_off20_inb : ∀ (i : grid0.Coords) (v8 : BitVec 32) (k0_hw1 : k0_chk1 i v8) (k0_t2 : Fin (k0_t2_loop i v8).trips), ∀ (r : Fin 2), ∀ a, (k0_off20 i v8 k0_t2 (BitVec.ofNat 32 (512 * r.val))) a + S1x1x512x128.size a ≤ S1x2x8192x128.size a := fun i v8 k0_hw1 k0_t2 r => k0_hw1.1.2.2.2.2.2.2.2.2.2.2.2.2.2.2.2.2.2.2.2.2.2.2.2.2.2.2.2.2.2.2.2 k0_t2 r
theorem k0_mult12_dvd : ∀ (i : grid0.Coords) (v8 : BitVec 32) (k0_hw1 : k0_chk1 i v8) (k0_t2 : Fin (k0_t2_loop i v8).trips), 1024 ∣ (k0_mult12 i v8 k0_t2).toNat := fun i v8 k0_hw1 k0_t2 => k0_hw1.2 k0_t2

def k0_mult13 (i : grid0.Coords) : BitVec 32 :=
  let arg2 : BitVec 32 := BitVec.ofNat 32 (i 2).val
  let c1024_i32 : BitVec 32 := 1024#32
  let v106 : BitVec 32 := Scalar.muli arg2 c1024_i32
  v106
def k0_off21 (i : grid0.Coords) (c0_i32_57 : BitVec 32) : Fin 4 → Nat :=
  let c0_58 : Index := 0#32
  let c1 : Index := 1#32
  let arg2 : BitVec 32 := BitVec.ofNat 32 (i 2).val
  let c1024_i32 : BitVec 32 := 1024#32
  let v106 : BitVec 32 := Scalar.muli arg2 c1024_i32
  let v107 : BitVec 32 := v106
  let v108 : BitVec 32 := Scalar.addi v107 c0_i32_57
  let v109 : Index := Scalar.indexCast v108
  let c0_59 : Index := 0#32
  ![0, 1, v109.toNat, 0]
def k0_off22 (i : grid0.Coords) (c0_i32_68 : BitVec 32) : Fin 4 → Nat :=
  let c0_82 : Index := 0#32
  let c0_83 : Index := 0#32
  let arg2 : BitVec 32 := BitVec.ofNat 32 (i 2).val
  let c1024_i32 : BitVec 32 := 1024#32
  let v106 : BitVec 32 := Scalar.muli arg2 c1024_i32
  let v107 : BitVec 32 := v106
  let v118 : BitVec 32 := Scalar.addi v107 c0_i32_68
  let v145 : Index := Scalar.indexCast v118
  let c0_84 : Index := 0#32
  ![0, 0, v145.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S128 : Shape := ⟨1, ![128]⟩
abbrev S2x16x8192x128 : Shape := ⟨4, ![2, 16, 8192, 128]⟩
abbrev S16384x1024 : Shape := ⟨2, ![16384, 1024]⟩
abbrev S1x128 : Shape := ⟨2, ![1, 128]⟩
abbrev S16 : Shape := ⟨1, ![16]⟩
abbrev S_ : Shape := ⟨0, ![]⟩
abbrev S1x16x1x1 : Shape := ⟨4, ![1, 16, 1, 1]⟩
abbrev S2x16x8192x64 : Shape := ⟨4, ![2, 16, 8192, 64]⟩
abbrev S2x16x8192x3 : Shape := ⟨4, ![2, 16, 8192, 3]⟩
abbrev S2x16x8192 : Shape := ⟨3, ![2, 16, 8192]⟩
abbrev S2x16x8192x8192 : Shape := ⟨4, ![2, 16, 8192, 8192]⟩
abbrev S2x16x8192x1 : Shape := ⟨4, ![2, 16, 8192, 1]⟩
abbrev S2x16x1x8192 : Shape := ⟨4, ![2, 16, 1, 8192]⟩
abbrev S2x8x8 : Shape := ⟨3, ![2, 8, 8]⟩
abbrev S2x8x2x8 : Shape := ⟨4, ![2, 8, 2, 8]⟩
abbrev S2x16x8 : Shape := ⟨3, ![2, 16, 8]⟩
abbrev S2x16x8x1024 : Shape := ⟨4, ![2, 16, 8, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S1x1x1x8192 : Shape := ⟨4, ![1, 1, 1, 8192]⟩
abbrev S1x64 : Shape := ⟨2, ![1, 64]⟩
abbrev S64 : Shape := ⟨1, ![64]⟩
abbrev S1x16x1x64 : Shape := ⟨4, ![1, 16, 1, 64]⟩
abbrev S2x8192x16x64 : Shape := ⟨4, ![2, 8192, 16, 64]⟩

abbrev nBuf : Space → Nat
  | .hbm => 148
  | .vmem => 0
  | .smem => 0
  | _ => 0

abbrev hbmTy0_0 (i : Nat) : BufTy := match i % 128 with
  | 0 => ⟨S128, .i32⟩
  | 1 => ⟨S2x16x8192x128, .bf16⟩
  | 2 => ⟨S2x16x8192x128, .bf16⟩
  | 3 => ⟨S2x16x8192x128, .bf16⟩
  | 4 => ⟨S16384x1024, .bf16⟩
  | 5 => ⟨S1x128, .f32⟩
  | 6 => ⟨S16, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S16, .i32⟩
  | 14 => ⟨S16, .i32⟩
  | 15 => ⟨S_, .i32⟩
  | 16 => ⟨S16, .i32⟩
  | 17 => ⟨S16, .i1⟩
  | 18 => ⟨S_, .i32⟩
  | 19 => ⟨S16, .i32⟩
  | 20 => ⟨S16, .i1⟩
  | 21 => ⟨S_, .i32⟩
  | 22 => ⟨S_, .i1⟩
  | 23 => ⟨S16, .i1⟩
  | 24 => ⟨S16, .i1⟩
  | 25 => ⟨S16, .i1⟩
  | 26 => ⟨S16, .i32⟩
  | 27 => ⟨S16, .i32⟩
  | 28 => ⟨S16, .i32⟩
  | 29 => ⟨S_, .i32⟩
  | 30 => ⟨S16, .i32⟩
  | 31 => ⟨S16, .i1⟩
  | 32 => ⟨S1x16x1x1, .i1⟩
  | 33 => ⟨S2x16x8192x64, .bf16⟩
  | 34 => ⟨S2x16x8192x64, .bf16⟩
  | 35 => ⟨S2x16x8192x64, .i1⟩
  | 36 => ⟨S2x16x8192x64, .bf16⟩
  | 37 => ⟨S2x16x8192x64, .f32⟩
  | 38 => ⟨S2x16x8192x64, .bf16⟩
  | 39 => ⟨S2x16x8192x64, .bf16⟩
  | 40 => ⟨S2x16x8192x64, .i1⟩
  | 41 => ⟨S2x16x8192x64, .bf16⟩
  | 42 => ⟨S2x16x8192x64, .f32⟩
  | 43 => ⟨S2x16x8192x64, .bf16⟩
  | 44 => ⟨S2x16x8192x64, .bf16⟩
  | 45 => ⟨S2x16x8192x64, .i1⟩
  | 46 => ⟨S2x16x8192x64, .bf16⟩
  | 47 => ⟨S2x16x8192x64, .f32⟩
  | 48 => ⟨S2x16x8192x64, .bf16⟩
  | 49 => ⟨S2x16x8192x64, .bf16⟩
  | 50 => ⟨S2x16x8192x64, .i1⟩
  | 51 => ⟨S2x16x8192x64, .bf16⟩
  | 52 => ⟨S2x16x8192x64, .f32⟩
  | 53 => ⟨S2x16x8192x64, .bf16⟩
  | 54 => ⟨S2x16x8192x64, .bf16⟩
  | 55 => ⟨S2x16x8192x64, .i1⟩
  | 56 => ⟨S2x16x8192x64, .bf16⟩
  | 57 => ⟨S2x16x8192x64, .f32⟩
  | 58 => ⟨S2x16x8192x3, .f32⟩
  | 59 => ⟨S_, .f32⟩
  | 60 => ⟨S2x16x8192, .f32⟩
  | 61 => ⟨S2x16x8192x3, .f32⟩
  | 62 => ⟨S_, .f32⟩
  | 63 => ⟨S2x16x8192, .f32⟩
  | 64 => ⟨S2x16x8192x8192, .f32⟩
  | 65 => ⟨S2x16x8192x1, .f32⟩
  | 66 => ⟨S2x16x8192x8192, .f32⟩
  | 67 => ⟨S2x16x8192x8192, .f32⟩
  | 68 => ⟨S2x16x1x8192, .f32⟩
  | 69 => ⟨S2x16x8192x8192, .f32⟩
  | 70 => ⟨S2x16x8192x8192, .f32⟩
  | 71 => ⟨S2x8x8, .i32⟩
  | 72 => ⟨S2x8x2x8, .i32⟩
  | 73 => ⟨S2x16x8, .i32⟩
  | 74 => ⟨S2x16x8x1024, .i32⟩
  | 75 => ⟨S2x16x8192, .i32⟩
  | 76 => ⟨S_, .i32⟩
  | 77 => ⟨S2x16x8192, .i32⟩
  | 78 => ⟨S2x16x8192, .i32⟩
  | 79 => ⟨S8192, .i32⟩
  | 80 => ⟨S8192x1, .i32⟩
  | 81 => ⟨S1x8192, .i32⟩
  | 82 => ⟨S8192x8192, .i32⟩
  | 83 => ⟨S8192x8192, .i32⟩
  | 84 => ⟨S8192x8192, .i1⟩
  | 85 => ⟨S1x1x8192x8192, .i1⟩
  | 86 => ⟨S1x1x1x8192, .i32⟩
  | 87 => ⟨S2x16x8192x1, .i32⟩
  | 88 => ⟨S2x16x8192x8192, .i32⟩
  | 89 => ⟨S2x16x8192x8192, .i32⟩
  | 90 => ⟨S2x16x8192x8192, .i1⟩
  | 91 => ⟨S2x16x8192x8192, .i1⟩
  | 92 => ⟨S2x16x8192x8192, .i1⟩
  | 93 => ⟨S_, .f32⟩
  | 94 => ⟨S_, .f32⟩
  | 95 => ⟨S2x16x8192x8192, .f32⟩
  | 96 => ⟨S2x16x8192x8192, .f32⟩
  | 97 => ⟨S_, .f32⟩
  | 98 => ⟨S2x16x8192, .f32⟩
  | 99 => ⟨S2x16x8192x1, .f32⟩
  | 100 => ⟨S2x16x8192x8192, .f32⟩
  | 101 => ⟨S2x16x8192x8192, .f32⟩
  | 102 => ⟨S_, .f32⟩
  | 103 => ⟨S2x16x8192x8192, .f32⟩
  | 104 => ⟨S2x16x8192x8192, .f32⟩
  | 105 => ⟨S_, .f32⟩
  | 106 => ⟨S2x16x8192, .f32⟩
  | 107 => ⟨S2x16x8192x1, .f32⟩
  | 108 => ⟨S2x16x8192x8192, .f32⟩
  | 109 => ⟨S2x16x8192x8192, .f32⟩
  | 110 => ⟨S2x16x8192x64, .f32⟩
  | 111 => ⟨S2x16x8192x64, .f32⟩
  | 112 => ⟨S_, .f32⟩
  | 113 => ⟨S2x16x8192, .f32⟩
  | 114 => ⟨S2x16x8192x1, .f32⟩
  | 115 => ⟨S_, .f32⟩
  | 116 => ⟨S2x16x8192x1, .f32⟩
  | 117 => ⟨S2x16x8192x1, .f32⟩
  | 118 => ⟨S_, .f32⟩
  | 119 => ⟨S2x16x8192x1, .f32⟩
  | 120 => ⟨S2x16x8192x1, .f32⟩
  | 121 => ⟨S2x16x8192x1, .f32⟩
  | 122 => ⟨S2x16x8192x64, .f32⟩
  | 123 => ⟨S2x16x8192x64, .f32⟩
  | 124 => ⟨S1x64, .f32⟩
  | 125 => ⟨S64, .f32⟩
  | 126 => ⟨S1x64, .f32⟩
  | 127 => ⟨S64, .f32⟩
  | _ => ⟨S128, .i32⟩

abbrev hbmTy0_1 (i : Nat) : BufTy := match i % 128 with
  | 0 => ⟨S1x16x1x64, .i1⟩
  | 1 => ⟨S1x16x1x64, .f32⟩
  | 2 => ⟨S1x16x1x64, .f32⟩
  | 3 => ⟨S1x16x1x64, .f32⟩
  | 4 => ⟨S2x16x8192x64, .f32⟩
  | 5 => ⟨S2x16x8192x64, .f32⟩
  | 6 => ⟨S2x8192x16x64, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S16384x1024, .f32⟩
  | 18 => ⟨S16384x1024, .f32⟩
  | 19 => ⟨S16384x1024, .bf16⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call2_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call3_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call4_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call5_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst : Ref sig .tc := ⟨.hbm, 59, rfl⟩
abbrev main_v26 : Ref sig .tc := ⟨.hbm, 60, rfl⟩
abbrev main_v27 : Ref sig .tc := ⟨.hbm, 61, rfl⟩
abbrev main_cst_1 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_3 : Ref sig .tc := ⟨.hbm, 93, rfl⟩
abbrev main_call6_v0 : Ref sig .tc := ⟨.hbm, 94, rfl⟩
abbrev main_call6_v1 : Ref sig .tc := ⟨.hbm, 95, rfl⟩
abbrev main_v57 : Ref sig .tc := ⟨.hbm, 96, rfl⟩
abbrev main_cst_4 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_5 : Ref sig .tc := ⟨.hbm, 102, rfl⟩
abbrev main_v62 : Ref sig .tc := ⟨.hbm, 103, rfl⟩
abbrev main_v63 : Ref sig .tc := ⟨.hbm, 104, rfl⟩
abbrev main_cst_6 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_7 : Ref sig .tc := ⟨.hbm, 112, rfl⟩
abbrev main_v70 : Ref sig .tc := ⟨.hbm, 113, rfl⟩
abbrev main_v71 : Ref sig .tc := ⟨.hbm, 114, rfl⟩
abbrev main_cst_8 : Ref sig .tc := ⟨.hbm, 115, rfl⟩
abbrev main_v72 : Ref sig .tc := ⟨.hbm, 116, rfl⟩
abbrev main_v73 : Ref sig .tc := ⟨.hbm, 117, rfl⟩
abbrev main_cst_9 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_10 : Ref sig .tc := ⟨.hbm, 139, rfl⟩
abbrev main_v91 : Ref sig .tc := ⟨.hbm, 140, rfl⟩
abbrev main_v92 : Ref sig .tc := ⟨.hbm, 141, rfl⟩
abbrev main_cst_11 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x256, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S16384x2048 : Shape := ⟨2, ![16384, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x256, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S1x1024, .f32⟩
  | .hbm, ⟨10, _⟩ => ⟨S16384x2048, .bf16⟩
  | .hbm, ⟨11, _⟩ => ⟨S16384x2048, .f32⟩
  | .hbm, ⟨12, _⟩ => ⟨S2048x1024, .bf16⟩
  | .hbm, ⟨13, _⟩ => ⟨S2048x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S256x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2560 : Shape := ⟨2, ![1024, 2560]⟩
abbrev S1024x1024 : Shape := ⟨2, ![1024, 1024]⟩
abbrev S1024x128 : Shape := ⟨2, ![1024, 128]⟩
abbrev S1x128 : Shape := ⟨2, ![1, 128]⟩
abbrev S128x128 : Shape := ⟨2, ![128, 128]⟩
abbrev S_ : Shape := ⟨0, ![]⟩
abbrev S128x384 : Shape := ⟨2, ![128, 384]⟩
abbrev S128x1024 : Shape := ⟨2, ![128, 1024]⟩
abbrev S16384x1536 : Shape := ⟨2, ![16384, 1536]⟩
abbrev S2x16x8192x128 : Shape := ⟨4, ![2, 16, 8192, 128]⟩
abbrev S16384x128 : Shape := ⟨2, ![16384, 128]⟩
abbrev S32x8x128 : Shape := ⟨3, ![32, 8, 128]⟩
abbrev S512x1024 : Shape := ⟨2, ![512, 1024]⟩
abbrev S512x1536 : Shape := ⟨2, ![512, 1536]⟩
abbrev S1x16x512x128 : Shape := ⟨4, ![1, 16, 512, 128]⟩
abbrev S512x128 : Shape := ⟨2, ![512, 128]⟩
abbrev S1x8x128 : Shape := ⟨3, ![1, 8, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S384x128 : Shape := ⟨2, ![384, 128]⟩
abbrev S1x1x512x128 : Shape := ⟨4, ![1, 1, 512, 128]⟩
abbrev S1 : Shape := ⟨1, ![1]⟩
abbrev S1x1 : Shape := ⟨2, ![1, 1]⟩
abbrev S4x128 : Shape := ⟨2, ![4, 128]⟩
abbrev S8x128 : Shape := ⟨2, ![8, 128]⟩

abbrev nBuf : Space → Nat
  | .hbm => 103
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x128, .bf16⟩
  | .hbm, ⟨8, _⟩ => ⟨S1x128, .f32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x384, .f32⟩
  | .hbm, ⟨18, _⟩ => ⟨S128x384, .bf16⟩
  | .hbm, ⟨19, _⟩ => ⟨S128x1024, .i32⟩
  | .hbm, ⟨20, _⟩ => ⟨S128x1024, .i32⟩
  | .hbm, ⟨21, _⟩ => ⟨S_, .i32⟩
  | .hbm, ⟨22, _⟩ => ⟨S128x1024, .i32⟩
  | .hbm, ⟨23, _⟩ => ⟨S128x1024, .i32⟩
  | .hbm, ⟨24, _⟩ => ⟨S_, .i32⟩
  | .hbm, ⟨25, _⟩ => ⟨S128x1024, .i32⟩
  | .hbm, ⟨26, _⟩ => ⟨S128x1024, .i32⟩
  | .hbm, ⟨27, _⟩ => ⟨S_, .i32⟩
  | .hbm, ⟨28, _⟩ => ⟨S128x1024, .i32⟩
  | .hbm, ⟨29, _⟩ => ⟨S128x1024, .i32⟩
  | .hbm, ⟨30, _⟩ => ⟨S_, .i32⟩
  | .hbm, ⟨31, _⟩ => ⟨S128x1024, .i32⟩
  | .hbm, ⟨32, _⟩ => ⟨S128x1024, .i32⟩
  | .hbm, ⟨33, _⟩ => ⟨S_, .i32⟩
  | .hbm, ⟨34, _⟩ => ⟨S128x1024, .i32⟩
  | .hbm, ⟨35, _⟩ => ⟨S128x1024, .i32⟩
  | .hbm, ⟨36, _⟩ => ⟨S128x1024, .i32⟩
  | .hbm, ⟨37, _⟩ => ⟨S_, .i32⟩
  | .hbm, ⟨38, _⟩ => ⟨S128x1024, .i32⟩
  | .hbm, ⟨39, _⟩ => ⟨S128x1024, .i32⟩
  | .hbm, ⟨40, _⟩ => ⟨S_, .i32⟩
  | .hbm, ⟨41, _⟩ => ⟨S128x1024, .i32⟩
  | .hbm, ⟨42, _⟩ => ⟨S128x1024, .i1⟩
  | .hbm, ⟨43, _⟩ => ⟨S_, .i32⟩
  | .hbm, ⟨44, _⟩ => ⟨S128x1024, .i32⟩
  | .hbm, ⟨45, _⟩ => ⟨S128x1024, .i1⟩
  | .hbm, ⟨46, _⟩ => ⟨S_, .i32⟩
  | .hbm, ⟨47, _⟩ => ⟨S128x1024, .i32⟩
  | .hbm, ⟨48, _⟩ => ⟨S128x1024, .i1⟩
  | .hbm, ⟨49, _⟩ => ⟨S128x1024, .i1⟩
  | .hbm, ⟨50, _⟩ => ⟨S_, .i32⟩
  | .hbm, ⟨51, _⟩ => ⟨S128x1024, .i32⟩
  | .hbm, ⟨52, _⟩ => ⟨S128x1024, .i32⟩
  | .hbm, ⟨53, _⟩ => ⟨S_, .i32⟩
  | .hbm, ⟨54, _⟩ => ⟨S128x1024, .i32⟩
  | .hbm, ⟨55, _⟩ => ⟨S128x1024, .i32⟩
  | .hbm, ⟨56, _⟩ => ⟨S128x1024, .i32⟩
  | .hbm, ⟨57, _⟩ => ⟨S128x1024, .i1⟩
  | .hbm, ⟨58, _⟩ => ⟨S128x1024, .i1⟩
  | .hbm, ⟨59, _⟩ => ⟨S_, .i32⟩
  | .hbm, ⟨60, _⟩ => ⟨S128x1024, .i32⟩
  | .hbm, ⟨61, _⟩ => ⟨S128x1024, .i1⟩
  | .hbm, ⟨62, _⟩ => ⟨S128x1024, .i1⟩
  | .hbm, ⟨63, _⟩ => ⟨S128x1024, .i1⟩
  | .hbm, ⟨64, _⟩ => ⟨S_, .f32⟩
  | .hbm, ⟨65, _⟩ => ⟨S_, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S_, .i32⟩
  | .hbm, ⟨70, _⟩ => ⟨S128x1024, .i32⟩
  | .hbm, ⟨71, _⟩ => ⟨S128x1024, .i1⟩
  | .hbm, ⟨72, _⟩ => ⟨S128x1024, .i1⟩
  | .hbm, ⟨73, _⟩ => ⟨S_, .i32⟩
  | .hbm, ⟨74, _⟩ => ⟨S128x1024, .i32⟩
  | .hbm, ⟨75, _⟩ => ⟨S128x1024, .i32⟩
  | .hbm, ⟨76, _⟩ => ⟨S_, .i32⟩
  | .hbm, ⟨77, _⟩ => ⟨S128x1024, .i32⟩
  | .hbm, ⟨78, _⟩ => ⟨S128x1024, .i32⟩
  | .hbm, ⟨79, _⟩ => ⟨S_, .i32⟩
  | .hbm, ⟨80, _⟩ => ⟨S128x1024, .i32⟩
  | .hbm, ⟨81, _⟩ => ⟨S128x1024, .i32⟩
  | .hbm, ⟨82, _⟩ => ⟨S128x1024, .i32⟩
  | .hbm, ⟨83, _⟩ => ⟨S128x1024, .i1⟩
  | .hbm, ⟨84, _⟩ => ⟨S128x1024, .i1⟩
  | .hbm, ⟨85, _⟩ => ⟨S_, .f32⟩
  | .hbm, ⟨86, _⟩ => ⟨S_, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S128x1024, .bf16⟩
  | .hbm, ⟨94, _⟩ => ⟨S128x1024, .bf16⟩
  | .hbm, ⟨95, _⟩ => ⟨S16384x1024, .bf16⟩
  | .hbm, ⟨96, _⟩ => ⟨S16384x1536, .bf16⟩
  | .hbm, ⟨97, _⟩ => ⟨S16384x1024, .bf16⟩
  | .hbm, ⟨98, _⟩ => ⟨S2x16x8192x128, .bf16⟩
  | .hbm, ⟨99, _⟩ => ⟨S2x16x8192x128, .bf16⟩
  | .hbm, ⟨100, _⟩ => ⟨S2x16x8192x128, .bf16⟩
  | .hbm, ⟨101, _⟩ => ⟨S16384x128, .f32⟩
  | .hbm, ⟨102, _⟩ => ⟨S32x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1x128, .f32⟩
  | .local _ .vmem, ⟨10, _⟩ => ⟨S128x384, .bf16⟩
  | .local _ .vmem, ⟨11, _⟩ => ⟨S128x1024, .bf16⟩
  | .local _ .vmem, ⟨12, _⟩ => ⟨S128x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1536, .bf16⟩
  | .local _ .vmem, ⟨16, _⟩ => ⟨S512x1536, .bf16⟩
  | .local _ .vmem, ⟨17, _⟩ => ⟨S512x1024, .bf16⟩
  | .local _ .vmem, ⟨18, _⟩ => ⟨S512x1024, .bf16⟩
  | .local _ .vmem, ⟨19, _⟩ => ⟨S1x16x512x128, .bf16⟩
  | .local _ .vmem, ⟨20, _⟩ => ⟨S1x16x512x128, .bf16⟩
  | .local _ .vmem, ⟨21, _⟩ => ⟨S1x16x512x128, .bf16⟩
  | .local _ .vmem, ⟨22, _⟩ => ⟨S1x16x512x128, .bf16⟩
  | .local _ .vmem, ⟨23, _⟩ => ⟨S1x16x512x128, .bf16⟩
  | .local _ .vmem, ⟨24, _⟩ => ⟨S1x16x512x128, .bf16⟩
  | .local _ .vmem, ⟨25, _⟩ => ⟨S512x128, .f32⟩
  | .local _ .vmem, ⟨26, _⟩ => ⟨S512x128, .f32⟩
  | .local _ .vmem, ⟨27, _⟩ => ⟨S1x8x128, .f32⟩
  | .local _ .vmem, ⟨28, _⟩ => ⟨S1x8x128, .f32⟩
  | .local _ .vmem, ⟨29, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_cst_13 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_14 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_15 : Ref sig .tc := ⟨.hbm, 73, rfl⟩
abbrev main_v43 : Ref sig .tc := ⟨.hbm, 74, rfl⟩
abbrev main_v44 : Ref sig .tc := ⟨.hbm, 75, rfl⟩
abbrev main_c_16 : Ref sig .tc := ⟨.hbm, 76, rfl⟩
abbrev main_v45 : Ref sig .tc := ⟨.hbm, 77, rfl⟩
abbrev main_v46 : Ref sig .tc := ⟨.hbm, 78, rfl⟩
abbrev main_c_17 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_18 : Ref sig .tc := ⟨.hbm, 85, rfl⟩
abbrev main_cst_19 : Ref sig .tc := ⟨.hbm, 86, rfl⟩
abbrev main_call2_v0 : Ref sig .tc := ⟨.hbm, 87, rfl⟩
abbrev main_call2_v1 : Ref sig .tc := ⟨.hbm, 88, rfl⟩
abbrev main_v52 : Ref sig .tc := ⟨.hbm, 89, rfl⟩
abbrev main_cst_20 : Ref sig .tc := ⟨.hbm, 90, rfl⟩
abbrev main_call3_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56_0 : Ref sig .tc := ⟨.hbm, 95, rfl⟩
abbrev main_v56_1 : Ref sig .tc := ⟨.hbm, 96, rfl⟩
abbrev main_v56_2 : Ref sig .tc := ⟨.hbm, 97, rfl⟩
abbrev main_v56_3 : Ref sig .tc := ⟨.hbm, 98, rfl⟩
abbrev main_v56_4 : Ref sig .tc := ⟨.hbm, 99, rfl⟩
abbrev main_v56_5 : Ref sig .tc := ⟨.hbm, 100, rfl⟩
abbrev main_v56_6 : Ref sig .tc := ⟨.hbm, 101, rfl⟩
abbrev main_v56_7 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S16384x1024 : Shape := ⟨2, ![16384, 1024]⟩
abbrev S1x1024 : Shape := ⟨2, ![1, 1024]⟩
abbrev S1024x2560 : Shape := ⟨2, ![1024, 2560]⟩
abbrev S1024x1024 : Shape := ⟨2, ![1024, 1024]⟩
abbrev S1024x128 : Shape := ⟨2, ![1024, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩
abbrev S16384x128 : Shape := ⟨2, ![16384, 128]⟩
abbrev S2x8192x16x64 : Shape := ⟨4, ![2, 8192, 16, 64]⟩
abbrev S2x16x8192x64 : Shape := ⟨4, ![2, 16, 8192, 64]⟩
abbrev S2x8192x128 : Shape := ⟨3, ![2, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x128x8192 : Shape := ⟨3, ![2, 128, 8192]⟩
abbrev S2x8192x16 : Shape := ⟨3, ![2, 8192, 16]⟩
abbrev S2x8192x16x1 : Shape := ⟨4, ![2, 8192, 16, 1]⟩
abbrev S2x8192x16x3 : Shape := ⟨4, ![2, 8192, 16, 3]⟩
abbrev S2x16x8192x3 : Shape := ⟨4, ![2, 16, 8192, 3]⟩
abbrev S2x16x8192x58 : Shape := ⟨4, ![2, 16, 8192, 58]⟩
abbrev S64 : Shape := ⟨1, ![64]⟩
abbrev S16 : Shape := ⟨1, ![16]⟩
abbrev S1x16x1x1 : Shape := ⟨4, ![1, 16, 1, 1]⟩
abbrev S32x512x128 : Shape := ⟨3, ![32, 512, 128]⟩
abbrev S2x16x8192 : Shape := ⟨3, ![2, 16, 8192]⟩
abbrev S2x16x16x512 : Shape := ⟨4, ![2, 16, 16, 512]⟩
abbrev S2x16x16 : Shape := ⟨3, ![2, 16, 16]⟩
abbrev S32x1x16 : Shape := ⟨3, ![32, 1, 16]⟩
abbrev S32x1x112 : Shape := ⟨3, ![32, 1, 112]⟩
abbrev S32x1x128 : Shape := ⟨3, ![32, 1, 128]⟩
abbrev S32x4x128 : Shape := ⟨3, ![32, 4, 128]⟩
abbrev S32x8x128 : Shape := ⟨3, ![32, 8, 128]⟩
abbrev S16384x1536 : Shape := ⟨2, ![16384, 1536]⟩
abbrev S2x16x8192x128 : Shape := ⟨4, ![2, 16, 8192, 128]⟩

abbrev nBuf : Space → Nat
  | .hbm => 163
  | .vmem => 0
  | .smem => 0
  | _ => 0

abbrev hbmTy0_0 (i : Nat) : BufTy := match i % 128 with
  | 0 => ⟨S16384x1024, .f32⟩
  | 1 => ⟨S1x1024, .f32⟩
  | 2 => ⟨S1024x2560, .bf16⟩
  | 3 => ⟨S1024x1024, .bf16⟩
  | 4 => ⟨S1024x1024, .bf16⟩
  | 5 => ⟨S1024x1024, .bf16⟩
  | 6 => ⟨S1024x1024, .bf16⟩
  | 7 => ⟨S1024x128, .bf16⟩
  | 8 => ⟨S1x128, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S16384x1024, .f32⟩
  | 24 => ⟨S1024x2560, .f32⟩
  | 25 => ⟨S16384x2560, .f32⟩
  | 26 => ⟨S1024x128, .f32⟩
  | 27 => ⟨S16384x128, .f32⟩
  | 28 => ⟨S1024x1024, .f32⟩
  | 29 => ⟨S16384x1024, .f32⟩
  | 30 => ⟨S2x8192x16x64, .f32⟩
  | 31 => ⟨S2x16x8192x64, .f32⟩
  | 32 => ⟨S_, .f32⟩
  | 33 => ⟨S2x16x8192x64, .f32⟩
  | 34 => ⟨S2x16x8192x64, .f32⟩
  | 35 => ⟨S1024x1024, .f32⟩
  | 36 => ⟨S16384x1024, .f32⟩
  | 37 => ⟨S2x8192x16x64, .f32⟩
  | 38 => ⟨S2x16x8192x64, .f32⟩
  | 39 => ⟨S1024x1024, .f32⟩
  | 40 => ⟨S16384x1024, .f32⟩
  | 41 => ⟨S2x8192x16x64, .f32⟩
  | 42 => ⟨S2x16x8192x64, .f32⟩
  | 43 => ⟨S16384x128, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S16384x128, .f32⟩
  | 50 => ⟨S16384x128, .f32⟩
  | 51 => ⟨S16384x128, .i1⟩
  | 52 => ⟨S16384x128, .f32⟩
  | 53 => ⟨S16384x128, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S2x8192x128, .f32⟩
  | 62 => ⟨S8192, .i32⟩
  | 63 => ⟨S8192x1, .i32⟩
  | 64 => ⟨S1x8192, .i32⟩
  | 65 => ⟨S8192x8192, .i32⟩
  | 66 => ⟨S8192x8192, .i32⟩
  | 67 => ⟨S8192x8192, .i1⟩
  | 68 => ⟨S8192x8192, .f32⟩
  | 69 => ⟨S2x128x8192, .f32⟩
  | 70 => ⟨S2x8192x128, .f32⟩
  | 71 => ⟨S_, .f32⟩
  | 72 => ⟨S2x8192x128, .f32⟩
  | 73 => ⟨S2x8192x128, .f32⟩
  | 74 => ⟨S2x8192x128, .bf16⟩
  | 75 => ⟨S2x8192x128, .f32⟩
  | 76 => ⟨S2x8192x128, .f32⟩
  | 77 => ⟨S2x8192x128, .bf16⟩
  | 78 => ⟨S2x8192x128, .f32⟩
  | 79 => ⟨S2x8192x128, .f32⟩
  | 80 => ⟨S2x8192x128, .bf16⟩
  | 81 => ⟨S2x8192x128, .f32⟩
  | 82 => ⟨S2x8192x128, .f32⟩
  | 83 => ⟨S2x8192x128, .f32⟩
  | 84 => ⟨S2x8192x16, .f32⟩
  | 85 => ⟨S2x8192x16, .f32⟩
  | 86 => ⟨S2x8192x16, .f32⟩
  | 87 => ⟨S2x8192x16x1, .f32⟩
  | 88 => ⟨S2x8192x16x1, .f32⟩
  | 89 => ⟨S2x8192x16x1, .f32⟩
  | 90 => ⟨S2x8192x16x3, .f32⟩
  | 91 => ⟨S2x16x8192x3, .f32⟩
  | 92 => ⟨S_, .f32⟩
  | 93 => ⟨S2x16x8192x3, .f32⟩
  | 94 => ⟨S_, .f32⟩
  | 95 => ⟨S2x16x8192x58, .f32⟩
  | 96 => ⟨S64, .i32⟩
  | 97 => ⟨S_, .i32⟩
  | 98 => ⟨S64, .i32⟩
  | 99 => ⟨S64, .i1⟩
  | 100 => ⟨S64, .f32⟩
  | 101 => ⟨S2x16x8192x64, .f32⟩
  | 102 => ⟨S16, .i32⟩
  | 103 => ⟨S_, .i32⟩
  | 104 => ⟨S16, .i32⟩
  | 105 => ⟨S16, .i32⟩
  | 106 => ⟨S_, .i32⟩
  | 107 => ⟨S16, .i32⟩
  | 108 => ⟨S16, .i1⟩
  | 109 => ⟨S1x16x1x1, .i1⟩
  | 110 => ⟨S32x512x128, .f32⟩
  | 111 => ⟨S2x16x8192x64, .f32⟩
  | 112 => ⟨S_, .f32⟩
  | 113 => ⟨S2x16x8192, .f32⟩
  | 114 => ⟨S2x16x16x512, .f32⟩
  | 115 => ⟨S_, .f32⟩
  | 116 => ⟨S2x16x16, .f32⟩
  | 117 => ⟨S2x16x16, .f32⟩
  | 118 => ⟨S32x1x16, .f32⟩
  | 119 => ⟨S_, .f32⟩
  | 120 => ⟨S32x1x112, .f32⟩
  | 121 => ⟨S32x1x128, .f32⟩
  | 122 => ⟨S2x16x8192x64, .f32⟩
  | 123 => ⟨S_, .f32⟩
  | 124 => ⟨S2x16x8192, .f32⟩
  | 125 => ⟨S2x16x16x512, .f32⟩
  | 126 => ⟨S_, .f32⟩
  | 127 => ⟨S2x16x16, .f32⟩
  | _ => ⟨S16384x1024, .f32⟩

abbrev hbmTy0_1 (i : Nat) : BufTy := match i % 128 with
  | 0 => ⟨S2x16x16, .f32⟩
  | 1 => ⟨S32x1x16, .f32⟩
  | 2 => ⟨S_, .f32⟩
  | 3 => ⟨S32x1x112, .f32⟩
  | 4 => ⟨S32x1x128, .f32⟩
  | 5 => ⟨S32x1x128, .f32⟩
  | 6 => ⟨S32x1x128, .f32⟩
  | 7 => ⟨S_, .f32⟩
  | 8 => ⟨S32x4x128, .f32⟩
  | 9 => ⟨S32x8x128, .f32⟩
  | 10 => ⟨S16384x1024, .f32⟩
  | 11 => ⟨S16384x1024, .bf16⟩
  | 12 => ⟨S16384x1536, .f32⟩
  | 13 => ⟨S16384x1536, .bf16⟩
  | 14 => ⟨S1024x1024, .f32⟩
  | 15 => ⟨S16384x1024, .f32⟩
  | 16 => ⟨S16384x1024, .bf16⟩
  | 17 => ⟨S2x16x8192x64, .f32⟩
  | 18 => ⟨S2x16x8192x128, .f32⟩
  | 19 => ⟨S2x16x8192x128, .f32⟩
  | 20 => ⟨S2x16x8192x128, .i1⟩
  | 21 => ⟨S2x16x8192x128, .f32⟩
  | 22 => ⟨S2x16x8192x128, .bf16⟩
  | 23 => ⟨S2x16x8192x3, .f32⟩
  | 24 => ⟨S2x16x8192x64, .f32⟩
  | 25 => ⟨S2x16x8192x128, .f32⟩
  | 26 => ⟨S2x16x8192x128, .f32⟩
  | 27 => ⟨S2x16x8192x128, .i1⟩
  | 28 => ⟨S2x16x8192x128, .f32⟩
  | 29 => ⟨S2x16x8192x128, .bf16⟩
  | 30 => ⟨S2x16x8192x128, .f32⟩
  | 31 => ⟨S2x16x8192x128, .f32⟩
  | 32 => ⟨S2x16x8192x128, .i1⟩
  | 33 => ⟨S2x16x8192x128, .f32⟩
  | 34 => ⟨S2x16x8192x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v65 : Ref sig .tc := ⟨.hbm, 96, rfl⟩
abbrev main_c : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_6 : Ref sig .tc := ⟨.hbm, 103, rfl⟩
abbrev main_v71 : Ref sig .tc := ⟨.hbm, 104, rfl⟩
abbrev main_v72 : Ref sig .tc := ⟨.hbm, 105, rfl⟩
abbrev main_c_7 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_8 : Ref sig .tc := ⟨.hbm, 112, rfl⟩
abbrev main_v78 : Ref sig .tc := ⟨.hbm, 113, rfl⟩
abbrev main_v79 : Ref sig .tc := ⟨.hbm, 114, rfl⟩
abbrev main_cst_9 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_10 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_13 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_14 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_call1_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call2_v0 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call3_v0 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]
-- ==== Proof.Slabs.lean ====
/-
  Two slabs stacked in one buffer: a scratch of the kernel holds one slab per head of the pair, and every load and store
  of the kernel is of a whole slab or of the lower half of its rows. The windows and puts of such a stack, as functions
  of its two slabs.
-/
module

public import Idealize.ShloMosaic.Lib.VecWindow

@[expose] public section

noncomputable section

namespace Cert.Slabs

open Idealize.ShloMosaic Idealize.ShloMosaic.VecWindow

variable {α : Type} {n k : ℕ}

/-- The index of one slab under an index of the stack. -/
def under (y : (⟨3, ![2, n, k]⟩ : Shape).Idx) : (⟨3, ![1, n, k]⟩ : Shape).Idx
  | 0 => (0 : Fin 1)
  | 1 => (y 1 : Fin n)
  | 2 => (y 2 : Fin k)

/-- Slab `x0` over slab `x1`. -/
def stk (x0 x1 : (⟨3, ![1, n, k]⟩ : Shape).Idx → α) : (⟨3, ![2, n, k]⟩ : Shape).Idx → α :=
  fun y => if (y 0).val = 0 then x0 (under y) else x1 (under y)

/-- The first slab of a stack. -/
def fst (x : (⟨3, ![2, n, k]⟩ : Shape).Idx → α) : (⟨3, ![1, n, k]⟩ : Shape).Idx → α :=
  fun y => x fun | 0 => (0 : Fin 2) | 1 => (y 1 : Fin n) | 2 => (y 2 : Fin k)

/-- The second slab of a stack. -/
def snd (x : (⟨3, ![2, n, k]⟩ : Shape).Idx → α) : (⟨3, ![1, n, k]⟩ : Shape).Idx → α :=
  fun y => x fun | 0 => (1 : Fin 2) | 1 => (y 1 : Fin n) | 2 => (y 2 : Fin k)

/-- The rows from `h` on of a slab of `h + h'` rows. -/
def low (h h' : ℕ) (x : (⟨3, ![1, n, k]⟩ : Shape).Idx → α) (e : h + h' = n) : (⟨3, ![1, h', k]⟩ : Shape).Idx → α :=
  fun y => x fun | 0 => (0 : Fin 1) | 1 => (⟨h + (y 1).val, by have : (y 1).val < h' := (y 1).isLt; omega⟩ : Fin n) | 2 => (y 2 : Fin k)

/-- A slab of `h + h'` rows with the rows from `h` on replaced. -/
def setLow (h h' : ℕ) (x : (⟨3, ![1, n, k]⟩ : Shape).Idx → α) (w : (⟨3, ![1, h', k]⟩ : Shape).Idx → α) (e : h + h' = n) : (⟨3, ![1, n, k]⟩ : Shape).Idx → α :=
  fun y => if hy : h ≤ (y 1).val then
      w fun | 0 => (0 : Fin 1) | 1 => (⟨(y 1).val - h, by have : (y 1).val < n := (y 1).isLt; omega⟩ : Fin h') | 2 => (y 2 : Fin k)
    else x y

theorem idx3_ext {a b c : ℕ} {y z : (⟨3, ![a, b, c]⟩ : Shape).Idx} (h0 : (y 0).val = (z 0).val) (h1 : (y 1).val = (z 1).val)
    (h2 : (y 2).val = (z 2).val) : y = z := by
  funext i
  apply Fin.ext
  match i with
  | 0 => exact h0
  | 1 => exact h1
  | 2 => exact h2

/-- Every buffer of two slabs is the stack of them. -/
theorem stk_eta (x : (⟨3, ![2, n, k]⟩ : Shape).Idx → α) : stk (fst x) (snd x) = x := by
  funext y
  have hy : (y 0).val < 2 := (y 0).isLt
  unfold stk
  split
  · exact congrArg x (idx3_ext (show 0 = (y 0).val by omega) rfl rfl)
  · exact congrArg x (idx3_ext (show 1 = (y 0).val by omega) rfl rfl)

variable (x0 x1 w : (⟨3, ![1, n, k]⟩ : Shape).Idx → α)

theorem window_stk_0 (inb) : window (stk x0 x1) ![0, 0, 0] ![1, n, k] inb = x0 := by
  funext y
  have h0 : (y 0).val < 1 := (y 0).isLt
  unfold window stk
  rw [if_pos (by show 0 + 1 * (y 0).val = 0; omega)]
  exact congrArg x0 (idx3_ext (show 0 = (y 0).val by omega) (show 0 + 1 * (y 1).val = (y 1).val by omega) (show 0 + 1 * (y 2).val = (y 2).val by omega))

theorem window_stk_1 (inb) : window (stk x0 x1) ![1, 0, 0] ![1, n, k] inb = x1 := by
  funext y
  have h0 : (y 0).val < 1 := (y 0).isLt
  unfold window stk
  rw [if_neg (by show ¬ (1 + 1 * (y 0).val = 0); omega)]
  exact congrArg x1 (idx3_ext (show 0 = (y 0).val by omega) (show 0 + 1 * (y 1).val = (y 1).val by omega) (show 0 + 1 * (y 2).val = (y 2).val by omega))

theorem put_stk_0 : put (stk x0 x1) ![0, 0, 0] ![1, n, k] w = stk w x1 := by
  funext y
  have h0 : (y 0).val < 2 := (y 0).isLt
  have h1 : (y 1).val < n := (y 1).isLt
  have h2 : (y 2).val < k := (y 2).isLt
  unfold put stk
  by_cases h : (y 0).val = 0
  · rw [dif_pos (by intro a; match a with | 0 => exact ⟨Nat.zero_le _, show (y 0).val < 0 + 1 by omega⟩ | 1 => exact ⟨Nat.zero_le _, show (y 1).val < 0 + n by omega⟩ | 2 => exact ⟨Nat.zero_le _, show (y 2).val < 0 + k by omega⟩), if_pos h]
    refine congrArg w (funext fun a => Fin.ext ?_)
    match a with
    | 0 => exact (show (y 0).val - 0 = 0 by omega)
    | 1 => exact (show (y 1).val - 0 = (y 1).val by omega)
    | 2 => exact (show (y 2).val - 0 = (y 2).val by omega)
  · rw [dif_neg (by intro hh; have := (hh 0).2; exact h (by have : (y 0).val < 0 + 1 := this; omega)), if_neg h, if_neg h]

theorem put_stk_1 : put (stk x0 x1) ![1, 0, 0] ![1, n, k] w = stk x0 w := by
  funext y
  have h0 : (y 0).val < 2 := (y 0).isLt
  have h1 : (y 1).val < n := (y 1).isLt
  have h2 : (y 2).val < k := (y 2).isLt
  unfold put stk
  by_cases h : (y 0).val = 0
  · rw [dif_neg (by intro hh; have := (hh 0).1; have : 1 ≤ (y 0).val := this; omega), if_pos h, if_pos h]
  · rw [dif_pos (by intro a; match a with | 0 => exact ⟨show 1 ≤ (y 0).val by omega, show (y 0).val < 1 + 1 by omega⟩ | 1 => exact ⟨Nat.zero_le _, show (y 1).val < 0 + n by omega⟩ | 2 => exact ⟨Nat.zero_le _, show (y 2).val < 0 + k by omega⟩), if_neg h]
    refine congrArg w (funext fun a => Fin.ext ?_)
    match a with
    | 0 => exact (show (y 0).val - 1 = 0 by omega)
    | 1 => exact (show (y 1).val - 0 = (y 1).val by omega)
    | 2 => exact (show (y 2).val - 0 = (y 2).val by omega)

variable {h h' : ℕ} (e : h + h' = n) (wl : (⟨3, ![1, h', k]⟩ : Shape).Idx → α)

theorem window_stk_low_0 (inb) : window (stk x0 x1) ![0, h, 0] ![1, h', k] inb = low h h' x0 e := by
  funext y
  have h0 : (y 0).val < 1 := (y 0).isLt
  unfold window stk low
  rw [if_pos (by show 0 + 1 * (y 0).val = 0; omega)]
  exact congrArg x0 (idx3_ext (show 0 = 0 by omega) (show h + 1 * (y 1).val = h + (y 1).val by omega) (show 0 + 1 * (y 2).val = (y 2).val by omega))

theorem window_stk_low_1 (inb) : window (stk x0 x1) ![1, h, 0] ![1, h', k] inb = low h h' x1 e := by
  funext y
  have h0 : (y 0).val < 1 := (y 0).isLt
  unfold window stk low
  rw [if_neg (by show ¬ (1 + 1 * (y 0).val = 0); omega)]
  exact congrArg x1 (idx3_ext (show 0 = 0 by omega) (show h + 1 * (y 1).val = h + (y 1).val by omega) (show 0 + 1 * (y 2).val = (y 2).val by omega))

theorem put_stk_low_0 : put (stk x0 x1) ![0, h, 0] ![1, h', k] wl = stk (setLow h h' x0 wl e) x1 := by
  funext y
  have h0 : (y 0).val < 2 := (y 0).isLt
  have h1 : (y 1).val < n := (y 1).isLt
  have h2 : (y 2).val < k := (y 2).isLt
  unfold put stk setLow
  by_cases hy : (y 0).val = 0
  · rw [if_pos hy, if_pos hy]
    by_cases hr : h ≤ (y 1).val
    · rw [dif_pos (by intro a; match a with | 0 => exact ⟨Nat.zero_le _, show (y 0).val < 0 + 1 by omega⟩ | 1 => exact ⟨hr, show (y 1).val < h + h' by omega⟩ | 2 => exact ⟨Nat.zero_le _, show (y 2).val < 0 + k by omega⟩),
        dif_pos (show h ≤ (under y 1).val from hr)]
      refine congrArg wl (funext fun a => Fin.ext ?_)
      match a with
      | 0 => exact (show (y 0).val - 0 = 0 by omega)
      | 1 => exact rfl
      | 2 => exact (show (y 2).val - 0 = (y 2).val by omega)
    · rw [dif_neg (by intro hh; exact hr (hh 1).1), dif_neg (show ¬ h ≤ (under y 1).val from hr)]
  · rw [dif_neg (by intro hh; have := (hh 0).2; exact hy (by have : (y 0).val < 0 + 1 := this; omega)), if_neg hy, if_neg hy]

theorem put_stk_low_1 : put (stk x0 x1) ![1, h, 0] ![1, h', k] wl = stk x0 (setLow h h' x1 wl e) := by
  funext y
  have h0 : (y 0).val < 2 := (y 0).isLt
  have h1 : (y 1).val < n := (y 1).isLt
  have h2 : (y 2).val < k := (y 2).isLt
  unfold put stk setLow
  by_cases hy : (y 0).val = 0
  · rw [dif_neg (by intro hh; have := (hh 0).1; have : 1 ≤ (y 0).val := this; omega), if_pos hy, if_pos hy]
  · rw [if_neg hy, if_neg hy]
    by_cases hr : h ≤ (y 1).val
    · rw [dif_pos (by intro a; match a with | 0 => exact ⟨show 1 ≤ (y 0).val by omega, show (y 0).val < 1 + 1 by omega⟩ | 1 => exact ⟨hr, show (y 1).val < h + h' by omega⟩ | 2 => exact ⟨Nat.zero_le _, show (y 2).val < 0 + k by omega⟩),
        dif_pos (show h ≤ (under y 1).val from hr)]
      refine congrArg wl (funext fun a => Fin.ext ?_)
      match a with
      | 0 => exact (show (y 0).val - 1 = 0 by omega)
      | 1 => exact rfl
      | 2 => exact (show (y 2).val - 0 = (y 2).val by omega)
    · rw [dif_neg (by intro hh; exact hr (hh 1).1), dif_neg (show ¬ h ≤ (under y 1).val from hr)]

/-- The lower rows just set. -/
theorem low_setLow : low h h' (setLow h h' x0 wl e) e = wl := by
  funext y
  have h0 : (y 0).val < 1 := (y 0).isLt
  unfold low setLow
  refine (dif_pos (show h ≤ h + (y 1).val by omega)).trans ?_
  refine congrArg wl (funext fun a => Fin.ext ?_)
  match a with
  | 0 => exact (show 0 = (y 0).val by omega)
  | 1 => exact (show h + (y 1).val - h = (y 1).val by omega)
  | 2 => exact rfl

/-- A tile of `h'` rows of one slab of a two-slab block, from row `t` on (row numbers taken modulo `n`). -/
def tile {s2 : ℕ} (h' : ℕ) (x : (⟨4, ![1, 2, n, s2]⟩ : Shape).Idx → α) (hd : Fin 2) (t : ℕ) (hn : 0 < n) : (⟨4, ![1, 1, h', s2]⟩ : Shape).Idx → α :=
  fun y => x fun | 0 => (0 : Fin 1) | 1 => hd | 2 => (⟨(t + (y 2).val) % n, Nat.mod_lt _ hn⟩ : Fin n) | 3 => (y 3 : Fin s2)

theorem window_tile {s2 t : ℕ} (x : (⟨4, ![1, 2, n, s2]⟩ : Shape).Idx → α) (hd : Fin 2) (hn : 0 < n) (inb) :
    window x ![0, hd.val, t, 0] ![1, 1, h', s2] inb = tile h' x hd t hn := by
  funext y
  have h0 : (y 0).val < 1 := (y 0).isLt
  have h1 : (y 1).val < 1 := (y 1).isLt
  have h2 : (y 2).val < h' := (y 2).isLt
  have ht : t + h' ≤ n := inb 2
  unfold window tile
  refine congrArg x (funext fun a => Fin.ext ?_)
  match a with
  | 0 => show 0 + 1 * (y 0).val = 0; omega
  | 1 => show hd.val + 1 * (y 1).val = hd.val; omega
  | 2 => show t + 1 * (y 2).val = (t + (y 2).val) % n; rw [Nat.mod_eq_of_lt (by omega)]; omega
  | 3 => show 0 + 1 * (y 3).val = (y 3).val; omega

end Cert.Slabs
-- ==== Proof.Words.lean ====
/-
  What the precondition says of the table: no entry is past its diagonal.
-/
module

public import proofs.«01_k».proof.Proof.Gen.Pre_attention_operands
public import Idealize.ShloMosaic.PureOps.BitExact
public import Idealize.ShloMosaic.Init

@[expose] public section

set_option maxRecDepth 16384

noncomputable section

namespace Cert.Words

open Cert.Pre_attention_operands
open Idealize.ShloMosaic

variable {F : FTy → Type} [FloatOps F]

/-- The last tile a point may start at, as the precondition computes it. -/
def rem8 (x : BitVec 32) : BitVec 32 :=
  fn_remainder_1 (F := Bits) (fun _ => x) (fun _ => 8#32) (fun | 0 => (0 : Fin 128))

theorem rem8_eq : ∀ j : Fin 128, rem8 (BitVec.ofNat 32 j.val) = BitVec.ofNat 32 (j.val % 8) := by decide +kernel

theorem bound (T : IVec S128 32) (a1 a2 a3 : FVec F S2x16x8192x128 .bf16) (a4 : FVec F S16384x1024 .bf16) (a5 : FVec F S1x128 .f32)
    (h : (fn (F := F) T a1 a2 a3 a4 a5).1 = fun _ => 1#1) (y : S128.Idx) : (T y).toNat ≤ 2 * ((y 0).val % 8) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e : IntOp.andi (IntOp.cmpi .sge (T y) 0#32) (IntOp.cmpi .sle (T y) (IntOp.muli 2#32 (rem8 (BitVec.ofNat 32 (y 0).val)))) = 1#1 := congrFun h y
  rw [rem8_eq (y 0)] at e
  simp only [IntOp.cmpi, andi_ofBool, ofBool_eq_one, Bool.and_eq_true] at e
  obtain ⟨h0, h1⟩ := e
  have hy : (y 0).val < 128 := (y 0).isLt
  simp only [IntOp.muli] at h1
  have e2 : (2#32 * BitVec.ofNat 32 ((y 0).val % 8)) = BitVec.ofNat 32 (2 * ((y 0).val % 8)) := by
    apply BitVec.eq_of_toNat_eq; simp [BitVec.toNat_mul]
  rw [e2] at h1
  generalize T y = t at *
  rw [BitVec.sle_eq_decide, decide_eq_true_eq] at h0 h1
  have hn : (BitVec.ofNat 32 (2 * ((y 0).val % 8))).toInt = 2 * ((y 0).val % 8) := by
    rw [BitVec.toInt_eq_toNat_cond, BitVec.toNat_ofNat]; split <;> omega
  rw [hn] at h1
  have := BitVec.toInt_eq_toNat_cond t
  have h00 : (0#32).toInt = 0 := by decide
  rw [h00] at h0
  split at this <;> omega

end Cert.Words
-- ==== Proof.Twin.Spec.lean ====
/-
  What one grid point of the attention computes, as functions of the blocks it reads: the state carried from key tile to
  key tile (the scores already made of the first head, the two accumulators, the two running maxima), the step of one
  tile of 512 keys, and the buffers holding the state.
-/
module

public import proofs.«01_k».proof.Proof.Gen.KernelIdeal.Skeleton
public import proofs.«01_k».proof.Proof.Slabs
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The queries of one head of the block. -/
def qw (q : Vec F S1x2x1024x128 .bf16) (h : Fin 2) : Vec F S1x1x1024x128 .bf16 := Slabs.tile (n := 1024) 1024 q h 0 (by decide)

/-- The lower half of the queries of one head of the block. -/
def ql (q : Vec F S1x2x1024x128 .bf16) (h : Fin 2) : Vec F S1x1x512x128 .bf16 := Slabs.tile (n := 1024) 512 q h 512 (by decide)

/-- The tile of 512 keys (or values) of one head from key `t` on. -/
def kt (k : Vec F S1x2x8192x128 .bf16) (h : Fin 2) (t : ℕ) : Vec F S1x1x512x128 .bf16 := Slabs.tile (n := 8192) 512 k h t (by decide)

/-- The running maximum after the scores `s`. -/
def mN (s : Vec F S1x1024x512 .f32) (m : Vec F S1x1024x128 .f32) : Vec F S1x1024x128 .f32 := k0_pay7 s m

/-- The accumulator after the scores `s` over the values `v`. -/
def aN (s : Vec F S1x1024x512 .f32) (m : Vec F S1x1024x128 .f32) (v : Vec F S1x1x512x128 .bf16) (a : Vec F S1x1024x128 .f32) : Vec F S1x1024x128 .f32 :=
  k0_pay9 (k0_pay5 s m) (k0_pay6 s m) (k0_pay8 v) a

/-- What is carried from tile to tile: the next scores of the first head, and each head's accumulator and maximum. -/
structure St (F : FTy → Type) [FloatOps F] where
  s0 : Vec F S1x1024x512 .f32
  a0 : Vec F S1x1024x128 .f32
  a1 : Vec F S1x1024x128 .f32
  m0 : Vec F S1x1024x128 .f32
  m1 : Vec F S1x1024x128 .f32

/-- One tile of keys, from key `t` on. -/
def step (q : Vec F S1x2x1024x128 .bf16) (k v : Vec F S1x2x8192x128 .bf16) (t : ℕ) (x : St F) : St F where
  s0 := k0_pay1 (kt k 0 (t + 512)) (qw q 0)
  a0 := aN x.s0 x.m0 (kt v 0 t) x.a0
  a1 := aN (k0_pay1 (kt k 1 t) (qw q 1)) x.m1 (kt v 1 t) x.a1
  m0 := mN x.s0 x.m0
  m1 := mN (k0_pay1 (kt k 1 t) (qw q 1)) x.m1

/-- `n` tiles, from tile `w` on. -/
def steps (q : Vec F S1x2x1024x128 .bf16) (k v : Vec F S1x2x8192x128 .bf16) (w : ℕ) : ℕ → St F → St F
  | 0, x => x
  | n + 1, x => step q k v (512 * (w + n)) (steps q k v w n x)

/-- The state at the start: the scores of the first head against tile `w`, empty accumulators, the low maximum. -/
def init (q : Vec F S1x2x1024x128 .bf16) (k : Vec F S1x2x8192x128 .bf16) (w : ℕ) : St F where
  s0 := k0_pay1 (kt k 0 (512 * w)) (qw q 0)
  a0 := Slabs.fst (n := 1024) (k := 128) k0_pay165
  a1 := Slabs.snd (n := 1024) (k := 128) k0_pay165
  m0 := Slabs.fst (n := 1024) (k := 128) k0_pay164
  m1 := Slabs.snd (n := 1024) (k := 128) k0_pay164

/-- Two slabs of 512 columns. -/
def stkS (x0 x1 : Vec F S1x1024x512 .f32) : Vec F S2x1024x512 .f32 := Slabs.stk (n := 1024) (k := 512) x0 x1

/-- Two slabs of 128 columns. -/
def stkA (x0 x1 : Vec F S1x1024x128 .f32) : Vec F S2x1024x128 .f32 := Slabs.stk (n := 1024) (k := 128) x0 x1

def fstS (x : Vec F S2x1024x512 .f32) : Vec F S1x1024x512 .f32 := Slabs.fst (n := 1024) (k := 512) x
def sndS (x : Vec F S2x1024x512 .f32) : Vec F S1x1024x512 .f32 := Slabs.snd (n := 1024) (k := 512) x
def fstA (x : Vec F S2x1024x128 .f32) : Vec F S1x1024x128 .f32 := Slabs.fst (n := 1024) (k := 128) x
def sndA (x : Vec F S2x1024x128 .f32) : Vec F S1x1024x128 .f32 := Slabs.snd (n := 1024) (k := 128) x
/-- The lower 512 rows of a slab of scores. -/
def lowS (x : Vec F S1x1024x512 .f32) : Vec F S1x512x512 .f32 := Slabs.low (n := 1024) (k := 512) 512 512 x rfl
/-- The lower 512 rows of a slab of 128 columns. -/
def lowA (x : Vec F S1x1024x128 .f32) : Vec F S1x512x128 .f32 := Slabs.low (n := 1024) (k := 128) 512 512 x rfl
/-- A slab of scores with its lower rows replaced. -/
def putS (x : Vec F S1x1024x512 .f32) (w : Vec F S1x512x512 .f32) : Vec F S1x1024x512 .f32 := Slabs.setLow (n := 1024) (k := 512) 512 512 x w rfl
/-- A slab of 128 columns with its lower rows replaced. -/
def putA (x : Vec F S1x1024x128 .f32) (w : Vec F S1x512x128 .f32) : Vec F S1x1024x128 .f32 := Slabs.setLow (n := 1024) (k := 128) 512 512 x w rfl

theorem etaS (x : Vec F S2x1024x512 .f32) : stkS (fstS x) (sndS x) = x := Slabs.stk_eta x
theorem etaA (x : Vec F S2x1024x128 .f32) : stkA (fstA x) (sndA x) = x := Slabs.stk_eta x

section Windows

variable (x0 x1 w : Vec F S1x1024x512 .f32) (wl : Vec F S1x512x512 .f32) (y0 y1 u : Vec F S1x1024x128 .f32) (ul : Vec F S1x512x128 .f32)

theorem winS0 {off} (ho : off = ![0, 0, 0]) (inb) : window (stkS x0 x1) off ![1, 1024, 512] inb = x0 := by
  subst ho; exact Slabs.window_stk_0 x0 x1 inb
theorem winS1 {off} (ho : off = ![1, 0, 0]) (inb) : window (stkS x0 x1) off ![1, 1024, 512] inb = x1 := by
  subst ho; exact Slabs.window_stk_1 x0 x1 inb
theorem putS0 {off} (ho : off = ![0, 0, 0]) : put (stkS x0 x1) off ![1, 1024, 512] w = stkS w x1 := by
  subst ho; exact Slabs.put_stk_0 x0 x1 w
theorem putS1 {off} (ho : off = ![1, 0, 0]) : put (stkS x0 x1) off ![1, 1024, 512] w = stkS x0 w := by
  subst ho; exact Slabs.put_stk_1 x0 x1 w
theorem winSl0 {off} (ho : off = ![0, 512, 0]) (inb) : window (stkS x0 x1) off ![1, 512, 512] inb = lowS x0 := by
  subst ho; exact Slabs.window_stk_low_0 x0 x1 rfl inb
theorem winSl1 {off} (ho : off = ![1, 512, 0]) (inb) : window (stkS x0 x1) off ![1, 512, 512] inb = lowS x1 := by
  subst ho; exact Slabs.window_stk_low_1 x0 x1 rfl inb
theorem putSl0 {off} (ho : off = ![0, 512, 0]) : put (stkS x0 x1) off ![1, 512, 512] wl = stkS (putS x0 wl) x1 := by
  subst ho; exact Slabs.put_stk_low_0 x0 x1 rfl wl
theorem putSl1 {off} (ho : off = ![1, 512, 0]) : put (stkS x0 x1) off ![1, 512, 512] wl = stkS x0 (putS x1 wl) := by
  subst ho; exact Slabs.put_stk_low_1 x0 x1 rfl wl
theorem lowS_putS : lowS (putS x0 wl) = wl := Slabs.low_setLow x0 rfl wl
theorem winA0 {off} (ho : off = ![0, 0, 0]) (inb) : window (stkA y0 y1) off ![1, 1024, 128] inb = y0 := by
  subst ho; exact Slabs.window_stk_0 y0 y1 inb
theorem winA1 {off} (ho : off = ![1, 0, 0]) (inb) : window (stkA y0 y1) off ![1, 1024, 128] inb = y1 := by
  subst ho; exact Slabs.window_stk_1 y0 y1 inb
theorem putA0 {off} (ho : off = ![0, 0, 0]) : put (stkA y0 y1) off ![1, 1024, 128] u = stkA u y1 := by
  subst ho; exact Slabs.put_stk_0 y0 y1 u
theorem putA1 {off} (ho : off = ![1, 0, 0]) : put (stkA y0 y1) off ![1, 1024, 128] u = stkA y0 u := by
  subst ho; exact Slabs.put_stk_1 y0 y1 u
theorem winAl0 {off} (ho : off = ![0, 512, 0]) (inb) : window (stkA y0 y1) off ![1, 512, 128] inb = lowA y0 := by
  subst ho; exact Slabs.window_stk_low_0 y0 y1 rfl inb
theorem winAl1 {off} (ho : off = ![1, 512, 0]) (inb) : window (stkA y0 y1) off ![1, 512, 128] inb = lowA y1 := by
  subst ho; exact Slabs.window_stk_low_1 y0 y1 rfl inb
theorem putAl0 {off} (ho : off = ![0, 512, 0]) : put (stkA y0 y1) off ![1, 512, 128] ul = stkA (putA y0 ul) y1 := by
  subst ho; exact Slabs.put_stk_low_0 y0 y1 rfl ul
theorem putAl1 {off} (ho : off = ![1, 512, 0]) : put (stkA y0 y1) off ![1, 512, 128] ul = stkA y0 (putA y1 ul) := by
  subst ho; exact Slabs.put_stk_low_1 y0 y1 rfl ul
theorem lowA_putA : lowA (putA y0 ul) = ul := Slabs.low_setLow y0 rfl ul

theorem win_kt0 (x : Vec F S1x2x8192x128 .bf16) (t : ℕ) {off} (ho : off = ![0, 0, t, 0]) (inb) : window x off ![1, 1, 512, 128] inb = kt x 0 t := by
  subst ho; exact Slabs.window_tile (n := 8192) x 0 (by decide) inb
theorem win_kt1 (x : Vec F S1x2x8192x128 .bf16) (t : ℕ) {off} (ho : off = ![0, 1, t, 0]) (inb) : window x off ![1, 1, 512, 128] inb = kt x 1 t := by
  subst ho; exact Slabs.window_tile (n := 8192) x 1 (by decide) inb
theorem win_qw0 (x : Vec F S1x2x1024x128 .bf16) {off} (ho : off = ![0, 0, 0, 0]) (inb) : window x off ![1, 1, 1024, 128] inb = qw x 0 := by
  subst ho; exact Slabs.window_tile (n := 1024) x 0 (by decide) inb
theorem win_qw1 (x : Vec F S1x2x1024x128 .bf16) {off} (ho : off = ![0, 1, 0, 0]) (inb) : window x off ![1, 1, 1024, 128] inb = qw x 1 := by
  subst ho; exact Slabs.window_tile (n := 1024) x 1 (by decide) inb
theorem win_ql0 (x : Vec F S1x2x1024x128 .bf16) {off} (ho : off = ![0, 0, 512, 0]) (inb) : window x off ![1, 1, 512, 128] inb = ql x 0 := by
  subst ho; exact Slabs.window_tile (n := 1024) x 0 (by decide) inb
theorem win_ql1 (x : Vec F S1x2x1024x128 .bf16) {off} (ho : off = ![0, 1, 512, 0]) (inb) : window x off ![1, 1, 512, 128] inb = ql x 1 := by
  subst ho; exact Slabs.window_tile (n := 1024) x 1 (by decide) inb

theorem putFullA (x z : Vec F S2x1024x128 .f32) {off} (ho : off = ![0, 0, 0]) : put x off ![2, 1024, 128] z = z := by
  subst ho
  funext y
  have h0 : (y 0).val < 2 := (y 0).isLt
  have h1 : (y 1).val < 1024 := (y 1).isLt
  have h2 : (y 2).val < 128 := (y 2).isLt
  unfold put
  rw [dif_pos (by intro a; match a with | 0 => exact ⟨Nat.zero_le _, show (y 0).val < 0 + 2 by omega⟩ | 1 => exact ⟨Nat.zero_le _, show (y 1).val < 0 + 1024 by omega⟩ | 2 => exact ⟨Nat.zero_le _, show (y 2).val < 0 + 128 by omega⟩)]
  refine congrArg z (funext fun a => Fin.ext ?_)
  match a with
  | 0 => exact (show (y 0).val - 0 = (y 0).val by omega)
  | 1 => exact (show (y 1).val - 0 = (y 1).val by omega)
  | 2 => exact (show (y 2).val - 0 = (y 2).val by omega)

theorem putFullZ (x z : Vec F S1024x128 .bf16) {off} (ho : off = ![0, 0]) : put x off ![1024, 128] z = z := by
  subst ho
  funext y
  have h0 : (y 0).val < 1024 := (y 0).isLt
  have h1 : (y 1).val < 128 := (y 1).isLt
  unfold put
  rw [dif_pos (by intro a; match a with | 0 => exact ⟨Nat.zero_le _, show (y 0).val < 0 + 1024 by omega⟩ | 1 => exact ⟨Nat.zero_le _, show (y 1).val < 0 + 128 by omega⟩)]
  refine congrArg z (funext fun a => Fin.ext ?_)
  match a with
  | 0 => exact (show (y 0).val - 0 = (y 0).val by omega)
  | 1 => exact (show (y 1).val - 0 = (y 1).val by omega)

theorem winFullZ (x : Vec F S1024x128 .bf16) {off} (ho : off = ![0, 0]) (inb) : window x off ![1024, 128] inb = x := by
  subst ho
  funext y
  refine congrArg x (funext fun a => Fin.ext ?_)
  match a with
  | 0 => exact (show 0 + 1 * (y 0).val = (y 0).val by omega)
  | 1 => exact (show 0 + 1 * (y 1).val = (y 1).val by omega)

theorem winFullG (x : Vec F S1x128 .f32) {off} (ho : off = ![0, 0]) (inb) : window x off ![1, 128] inb = x := by
  subst ho
  funext y
  refine congrArg x (funext fun a => Fin.ext ?_)
  match a with
  | 0 => exact (show 0 + 1 * (y 0).val = (y 0).val by omega)
  | 1 => exact (show 0 + 1 * (y 1).val = (y 1).val by omega)

/-- A load reads a window of what the view reads. -/
theorem rd_at {κ : Kind} {sp : Space} {s : Shape} {e : EltTy} (v : View sig κ sp s e) (f : v.ty.Contents (Elt F)) {off size : Fin s.rank → ℕ} (inb : ∀ a, off a + size a ≤ s.size a) :
    v.readAt (Elt F) (Rect.unit off size inb).toLoadRect f = window (v.read (Elt F) f) off size inb := rfl

/-- A load covered by earlier stores reads a window of the stores over anything. -/
theorem rd_cov {κ : Kind} {sp : Space} {s : Shape} {e : EltTy} (v : View sig κ sp s e) (L : List (View.Piece (Elt F) s e)) {off size : Fin s.rank → ℕ} (inb : ∀ a, off a + size a ≤ s.size a) :
    v.readCov L (Rect.unit off size inb).toLoadRect = window (v.read (Elt F) (v.writes (Elt F) v.junk L)) off size inb := rfl

/-- The last store over the earlier ones. -/
theorem rd_cons {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

theorem rd_nil {κ : Kind} {sp : Space} {s : Shape} {e : EltTy} (v : View sig κ sp s e) (f : v.ty.Contents (Elt F)) :
    v.read (Elt F) (v.writes (Elt F) f []) = v.read (Elt F) f := rfl

theorem rd_rep {κ : Kind} {sp : Space} {s : Shape} {e : EltTy} (v : View sig κ sp s e) (x : s.Idx → Elt F e) :
    v.read (Elt F) (v.rep x) = x := View.read_rep v x

def junkS0 {κ : Kind} {sp : Space} (v : View sig κ sp S2x1024x512 .f32) : Vec F S1x1024x512 .f32 := fstS (v.read (Elt F) v.junk)
def junkS1 {κ : Kind} {sp : Space} (v : View sig κ sp S2x1024x512 .f32) : Vec F S1x1024x512 .f32 := sndS (v.read (Elt F) v.junk)
theorem rd_junkS {κ : Kind} {sp : Space} (v : View sig κ sp S2x1024x512 .f32) : v.read (Elt F) v.junk = stkS (junkS0 (F := F) v) (junkS1 v) := (etaS _).symm
def junkA0 {κ : Kind} {sp : Space} (v : View sig κ sp S2x1024x128 .f32) : Vec F S1x1024x128 .f32 := fstA (v.read (Elt F) v.junk)
def junkA1 {κ : Kind} {sp : Space} (v : View sig κ sp S2x1024x128 .f32) : Vec F S1x1024x128 .f32 := sndA (v.read (Elt F) v.junk)
theorem rd_junkA {κ : Kind} {sp : Space} (v : View sig κ sp S2x1024x128 .f32) : v.read (Elt F) v.junk = stkA (junkA0 (F := F) v) (junkA1 v) := (etaA _).symm

end Windows

/-- The blocks of one grid point and its scratches, the scratches holding the state `x` (the second slab of scores holds
    anything: every read of it follows a store to it). -/
def Held (c : Dev nD) (arg4 : Memref sig .tc .vmem S1x2x1024x128 .bf16) (arg5 arg6 : Memref sig .tc .vmem S1x2x8192x128 .bf16) (arg10 : Memref sig .tc .vmem S2x1024x512 .f32) (arg11 arg12 : Memref sig .tc .vmem S2x1024x128 .f32)
    (q : Vec F S1x2x1024x128 .bf16) (k v : Vec F S1x2x8192x128 .bf16) (x : St F) : sProp 𝕄 :=
  iprop((arg4.view.loc (c : Thread nD τ) ↦[arg4.view.set]{fullShare} arg4.view.rep q) ∗ (arg5.view.loc (c : Thread nD τ) ↦[arg5.view.set]{fullShare} arg5.view.rep k) ∗ (arg6.view.loc (c : Thread nD τ) ↦[arg6.view.set]{fullShare} arg6.view.rep v)
    ∗ (∃ s1, arg10.view.loc (c : Thread nD τ) ↦[arg10.view.set]{fullShare} arg10.view.rep (stkS x.s0 s1)) ∗ (arg11.view.loc (c : Thread nD τ) ↦[arg11.view.set]{fullShare} arg11.view.rep (stkA x.a0 x.a1)) ∗ (arg12.view.loc (c : Thread nD τ) ↦[arg12.view.set]{fullShare} arg12.view.rep (stkA x.m0 x.m1)))

/-- The accumulators of the two heads after the two diagonal tiles: the first over all rows, the second over the lower 512. -/
structure Fin2 (F : FTy → Type) [FloatOps F] where
  A0 : Vec F S1x1024x128 .f32
  A1 : Vec F S1x1024x128 .f32

/-- The diagonal: query tile `n` against its own 1024 keys, masked. -/
def diag (q : Vec F S1x2x1024x128 .bf16) (k v : Vec F S1x2x8192x128 .bf16) (n : ℕ) (x : St F) : Fin2 F :=
  let s1 : Vec F S1x1024x512 .f32 := k0_pay172 (kt k 1 (1024 * n)) (qw q 1)
  let m0 : Vec F S1x1024x128 .f32 := k0_pay177 (k0_pay175 x.s0 x.m0)
  let a0 : Vec F S1x1024x128 .f32 := k0_pay178 (k0_pay174 x.m0) (k0_pay175 x.s0 x.m0) (k0_pay176 x.s0 x.m0) (kt v 0 (1024 * n)) x.a0
  let s0 : Vec F S1x512x512 .f32 := k0_pay179 (kt k 0 (1024 * n + 512)) (ql q 0)
  let m1 : Vec F S1x1024x128 .f32 := k0_pay183 s1 x.m1
  let a1 : Vec F S1x1024x128 .f32 := k0_pay184 s1 x.m1 (kt v 1 (1024 * n)) x.a1
  let s1' : Vec F S1x512x512 .f32 := k0_pay185 (kt k 1 (1024 * n + 512)) (ql q 1)
  { A0 := putA a0 (k0_pay192 (k0_pay189 s0 (lowA m0)) (k0_pay190 s0 (lowA m0)) (kt v 0 (1024 * n + 512)) (lowA a0))
    A1 := putA a1 (k0_pay199 (k0_pay196 s1' (lowA m1)) (k0_pay197 s1' (lowA m1)) (kt v 1 (1024 * n + 512)) (lowA a1)) }

/-- The rows written: both heads normed, weighted and gated. -/
def gated (z : Vec F S1024x128 .bf16) (g : Vec F S1x128 .f32) (x : Fin2 F) : FVec F S1024x128 .bf16 :=
  k0_pay203 (iota .tc S1024x128 32 [1] iota_S1024x128_d1_w32) k0_pay163 (k0_pay200 x.A0) (k0_pay201 (iota .tc S1024x128 32 [1] iota_S1024x128_d1_w32) x.A0)
    (k0_pay202 (iota .tc S1024x128 32 [1] iota_S1024x128_d1_w32) k0_pay163 x.A0) (Scalar.ofBits .f32 0x358637BD#32) x.A1 g z

end Cert.KernelIdeal.Body
-- ==== Proof.Twin.Places.lean ====
/-
  Where the kernel puts its tiles: for query tile `n` and first key tile `w`, the offsets of every load of keys and values,
  the branches taken and the numbers of trips, by evaluation at every pair (n, w) with w no later than the diagonal.
-/
module

public import proofs.«01_k».proof.Proof.Twin.Spec

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

/-- The grid point of query tile `n` of the first rows and heads: what the offsets depend on is the query tile alone. -/
def crd (n : Fin 8) : grid0.Coords
  | 0 => (0 : Fin 2)
  | 1 => (0 : Fin 8)
  | 2 => n

/-- The number of 1024-key steps before the diagonal, from first tile `w`. -/
def trip0 (w : ℕ) : ℕ := (w + 1) / 2
/-- One when the number of 1024-key steps is odd. -/
def odd (n w : ℕ) : ℕ := (n - trip0 w) % 2

structure Places (i : grid0.Coords) (v8 : BitVec 32) (n w : ℕ) : Prop where
  chk : k0_chk1 i v8
  c1 : k0_cond1 v8 = 1#1 ↔ w % 2 = 1
  c2 : k0_cond2 i v8 = 1#1 ↔ odd n w = 1
  o2 : k0_off2 v8 = ![0, 0, 512 * w, 0]
  o3 : k0_off3 v8 = ![0, 1, 512 * w, 0]
  o4 : k0_off4 v8 = ![0, 0, 512 * w, 0]
  o5 : k0_off5 v8 = ![0, 0, 512 * w + 512, 0]
  o6 : k0_off6 v8 0#32 = ![0, 1, 1024 * trip0 w, 0]
  o6' : k0_off6 v8 512#32 = ![0, 1, 1024 * trip0 w + 512, 0]
  o7 : k0_off7 v8 0#32 = ![0, 0, 1024 * trip0 w, 0]
  o7' : k0_off7 v8 512#32 = ![0, 0, 1024 * trip0 w + 512, 0]
  o8 : k0_off8 v8 0#32 = ![0, 0, 1024 * trip0 w + 512, 0]
  o8' : k0_off8 v8 512#32 = ![0, 0, 1024 * trip0 w + 512 + 512, 0]
  t1 : (k0_t1_loop i v8).trips = (n - trip0 w) / 2
  t2 : (k0_t2_loop i v8).trips = 0
  o9 : ∀ j : Fin (k0_t1_loop i v8).trips, k0_off9 i v8 j 0#32 = ![0, 1, 1024 * (trip0 w + odd n w) + 2048 * j, 0] ∧ k0_off9 i v8 j 512#32 = ![0, 1, 1024 * (trip0 w + odd n w) + 2048 * j + 512, 0]
  o10 : ∀ j : Fin (k0_t1_loop i v8).trips, k0_off10 i v8 j 0#32 = ![0, 0, 1024 * (trip0 w + odd n w) + 2048 * j, 0] ∧ k0_off10 i v8 j 512#32 = ![0, 0, 1024 * (trip0 w + odd n w) + 2048 * j + 512, 0]
  o11 : ∀ j : Fin (k0_t1_loop i v8).trips, k0_off11 i v8 j 0#32 = ![0, 0, 1024 * (trip0 w + odd n w) + 2048 * j + 512, 0] ∧ k0_off11 i v8 j 512#32 = ![0, 0, 1024 * (trip0 w + odd n w) + 2048 * j + 512 + 512, 0]
  o12 : ∀ j : Fin (k0_t1_loop i v8).trips, k0_off12 i v8 j 0#32 = ![0, 1, 1024 * (trip0 w + odd n w) + 2048 * j + 1024, 0] ∧ k0_off12 i v8 j 512#32 = ![0, 1, 1024 * (trip0 w + odd n w) + 2048 * j + 1024 + 512, 0]
  o13 : ∀ j : Fin (k0_t1_loop i v8).trips, k0_off13 i v8 j 0#32 = ![0, 0, 1024 * (trip0 w + odd n w) + 2048 * j + 1024, 0] ∧ k0_off13 i v8 j 512#32 = ![0, 0, 1024 * (trip0 w + odd n w) + 2048 * j + 1024 + 512, 0]
  o14 : ∀ j : Fin (k0_t1_loop i v8).trips, k0_off14 i v8 j 0#32 = ![0, 0, 1024 * (trip0 w + odd n w) + 2048 * j + 1024 + 512, 0] ∧ k0_off14 i v8 j 512#32 = ![0, 0, 1024 * (trip0 w + odd n w) + 2048 * j + 1024 + 512 + 512, 0]
  o21 : k0_off21 i 0#32 = ![0, 1, 1024 * n, 0]
  o21' : k0_off21 i 512#32 = ![0, 1, 1024 * n + 512, 0]
  o22 : k0_off22 i 0#32 = ![0, 0, 1024 * n, 0]
  o22' : k0_off22 i 512#32 = ![0, 0, 1024 * n + 512, 0]

set_option maxHeartbeats 4000000 in
theorem at_chk : ∀ n : Fin 8, ∀ w : Fin 15, w.val ≤ 2 * n.val → (k0_chk1 (crd n) (BitVec.ofNat 32 w.val)) := by decide +kernel
set_option maxHeartbeats 4000000 in
theorem at_c1 : ∀ n : Fin 8, ∀ w : Fin 15, w.val ≤ 2 * n.val → (k0_cond1 (BitVec.ofNat 32 w.val) = 1#1 ↔ w.val % 2 = 1) := by decide +kernel
set_option maxHeartbeats 4000000 in
theorem at_c2 : ∀ n : Fin 8, ∀ w : Fin 15, w.val ≤ 2 * n.val → (k0_cond2 (crd n) (BitVec.ofNat 32 w.val) = 1#1 ↔ odd n.val w.val = 1) := by decide +kernel
set_option maxHeartbeats 4000000 in
theorem at_o2 : ∀ n : Fin 8, ∀ w : Fin 15, w.val ≤ 2 * n.val → (k0_off2 (BitVec.ofNat 32 w.val) = ![0, 0, 512 * w.val, 0]) := by decide +kernel
set_option maxHeartbeats 4000000 in
theorem at_o3 : ∀ n : Fin 8, ∀ w : Fin 15, w.val ≤ 2 * n.val → (k0_off3 (BitVec.ofNat 32 w.val) = ![0, 1, 512 * w.val, 0]) := by decide +kernel
set_option maxHeartbeats 4000000 in
theorem at_o4 : ∀ n : Fin 8, ∀ w : Fin 15, w.val ≤ 2 * n.val → (k0_off4 (BitVec.ofNat 32 w.val) = ![0, 0, 512 * w.val, 0]) := by decide +kernel
set_option maxHeartbeats 4000000 in
theorem at_o5 : ∀ n : Fin 8, ∀ w : Fin 15, w.val ≤ 2 * n.val → (k0_off5 (BitVec.ofNat 32 w.val) = ![0, 0, 512 * w.val + 512, 0]) := by decide +kernel
set_option maxHeartbeats 4000000 in
theorem at_o6 : ∀ n : Fin 8, ∀ w : Fin 15, w.val ≤ 2 * n.val → (k0_off6 (BitVec.ofNat 32 w.val) 0#32 = ![0, 1, 1024 * trip0 w.val, 0]) := by decide +kernel
set_option maxHeartbeats 4000000 in
theorem at_o6' : ∀ n : Fin 8, ∀ w : Fin 15, w.val ≤ 2 * n.val → (k0_off6 (BitVec.ofNat 32 w.val) 512#32 = ![0, 1, 1024 * trip0 w.val + 512, 0]) := by decide +kernel
set_option maxHeartbeats 4000000 in
theorem at_o7 : ∀ n : Fin 8, ∀ w : Fin 15, w.val ≤ 2 * n.val → (k0_off7 (BitVec.ofNat 32 w.val) 0#32 = ![0, 0, 1024 * trip0 w.val, 0]) := by decide +kernel
set_option maxHeartbeats 4000000 in
theorem at_o7' : ∀ n : Fin 8, ∀ w : Fin 15, w.val ≤ 2 * n.val → (k0_off7 (BitVec.ofNat 32 w.val) 512#32 = ![0, 0, 1024 * trip0 w.val + 512, 0]) := by decide +kernel
set_option maxHeartbeats 4000000 in
theorem at_o8 : ∀ n : Fin 8, ∀ w : Fin 15, w.val ≤ 2 * n.val → (k0_off8 (BitVec.ofNat 32 w.val) 0#32 = ![0, 0, 1024 * trip0 w.val + 512, 0]) := by decide +kernel
set_option maxHeartbeats 4000000 in
theorem at_o8' : ∀ n : Fin 8, ∀ w : Fin 15, w.val ≤ 2 * n.val → (k0_off8 (BitVec.ofNat 32 w.val) 512#32 = ![0, 0, 1024 * trip0 w.val + 512 + 512, 0]) := by decide +kernel
set_option maxHeartbeats 4000000 in
theorem at_t1 : ∀ n : Fin 8, ∀ w : Fin 15, w.val ≤ 2 * n.val → ((k0_t1_loop (crd n) (BitVec.ofNat 32 w.val)).trips = (n.val - trip0 w.val) / 2) := by decide +kernel
set_option maxHeartbeats 4000000 in
theorem at_t2 : ∀ n : Fin 8, ∀ w : Fin 15, w.val ≤ 2 * n.val → ((k0_t2_loop (crd n) (BitVec.ofNat 32 w.val)).trips = 0) := by decide +kernel
set_option maxHeartbeats 4000000 in
theorem at_o9 : ∀ n : Fin 8, ∀ w : Fin 15, w.val ≤ 2 * n.val → (∀ j : Fin (k0_t1_loop (crd n) (BitVec.ofNat 32 w.val)).trips, k0_off9 (crd n) (BitVec.ofNat 32 w.val) j 0#32 = ![0, 1, 1024 * (trip0 w.val + odd n.val w.val) + 2048 * j.val, 0] ∧ k0_off9 (crd n) (BitVec.ofNat 32 w.val) j 512#32 = ![0, 1, 1024 * (trip0 w.val + odd n.val w.val) + 2048 * j.val + 512, 0]) := by decide +kernel
set_option maxHeartbeats 4000000 in
theorem at_o10 : ∀ n : Fin 8, ∀ w : Fin 15, w.val ≤ 2 * n.val → (∀ j : Fin (k0_t1_loop (crd n) (BitVec.ofNat 32 w.val)).trips, k0_off10 (crd n) (BitVec.ofNat 32 w.val) j 0#32 = ![0, 0, 1024 * (trip0 w.val + odd n.val w.val) + 2048 * j.val, 0] ∧ k0_off10 (crd n) (BitVec.ofNat 32 w.val) j 512#32 = ![0, 0, 1024 * (trip0 w.val + odd n.val w.val) + 2048 * j.val + 512, 0]) := by decide +kernel
set_option maxHeartbeats 4000000 in
theorem at_o11 : ∀ n : Fin 8, ∀ w : Fin 15, w.val ≤ 2 * n.val → (∀ j : Fin (k0_t1_loop (crd n) (BitVec.ofNat 32 w.val)).trips, k0_off11 (crd n) (BitVec.ofNat 32 w.val) j 0#32 = ![0, 0, 1024 * (trip0 w.val + odd n.val w.val) + 2048 * j.val + 512, 0] ∧ k0_off11 (crd n) (BitVec.ofNat 32 w.val) j 512#32 = ![0, 0, 1024 * (trip0 w.val + odd n.val w.val) + 2048 * j.val + 512 + 512, 0]) := by decide +kernel
set_option maxHeartbeats 4000000 in
theorem at_o12 : ∀ n : Fin 8, ∀ w : Fin 15, w.val ≤ 2 * n.val → (∀ j : Fin (k0_t1_loop (crd n) (BitVec.ofNat 32 w.val)).trips, k0_off12 (crd n) (BitVec.ofNat 32 w.val) j 0#32 = ![0, 1, 1024 * (trip0 w.val + odd n.val w.val) + 2048 * j.val + 1024, 0] ∧ k0_off12 (crd n) (BitVec.ofNat 32 w.val) j 512#32 = ![0, 1, 1024 * (trip0 w.val + odd n.val w.val) + 2048 * j.val + 1024 + 512, 0]) := by decide +kernel
set_option maxHeartbeats 4000000 in
theorem at_o13 : ∀ n : Fin 8, ∀ w : Fin 15, w.val ≤ 2 * n.val → (∀ j : Fin (k0_t1_loop (crd n) (BitVec.ofNat 32 w.val)).trips, k0_off13 (crd n) (BitVec.ofNat 32 w.val) j 0#32 = ![0, 0, 1024 * (trip0 w.val + odd n.val w.val) + 2048 * j.val + 1024, 0] ∧ k0_off13 (crd n) (BitVec.ofNat 32 w.val) j 512#32 = ![0, 0, 1024 * (trip0 w.val + odd n.val w.val) + 2048 * j.val + 1024 + 512, 0]) := by decide +kernel
set_option maxHeartbeats 4000000 in
theorem at_o14 : ∀ n : Fin 8, ∀ w : Fin 15, w.val ≤ 2 * n.val → (∀ j : Fin (k0_t1_loop (crd n) (BitVec.ofNat 32 w.val)).trips, k0_off14 (crd n) (BitVec.ofNat 32 w.val) j 0#32 = ![0, 0, 1024 * (trip0 w.val + odd n.val w.val) + 2048 * j.val + 1024 + 512, 0] ∧ k0_off14 (crd n) (BitVec.ofNat 32 w.val) j 512#32 = ![0, 0, 1024 * (trip0 w.val + odd n.val w.val) + 2048 * j.val + 1024 + 512 + 512, 0]) := by decide +kernel
set_option maxHeartbeats 4000000 in
theorem at_o21 : ∀ n : Fin 8, ∀ w : Fin 15, w.val ≤ 2 * n.val → (k0_off21 (crd n) 0#32 = ![0, 1, 1024 * n.val, 0]) := by decide +kernel
set_option maxHeartbeats 4000000 in
theorem at_o21' : ∀ n : Fin 8, ∀ w : Fin 15, w.val ≤ 2 * n.val → (k0_off21 (crd n) 512#32 = ![0, 1, 1024 * n.val + 512, 0]) := by decide +kernel
set_option maxHeartbeats 4000000 in
theorem at_o22 : ∀ n : Fin 8, ∀ w : Fin 15, w.val ≤ 2 * n.val → (k0_off22 (crd n) 0#32 = ![0, 0, 1024 * n.val, 0]) := by decide +kernel
set_option maxHeartbeats 4000000 in
theorem at_o22' : ∀ n : Fin 8, ∀ w : Fin 15, w.val ≤ 2 * n.val → (k0_off22 (crd n) 512#32 = ![0, 0, 1024 * n.val + 512, 0]) := by decide +kernel

/-- The places hold at every query tile and every first key tile up to the diagonal. -/
theorem places (i : grid0.Coords) (w : ℕ) (hw : w ≤ 2 * (i 2).val) : Places i (BitVec.ofNat 32 w) (i 2).val w := by
  have h2 : (i 2).val < 8 := (i 2).isLt
  exact {
    chk := at_chk (i 2) ⟨w, by omega⟩ hw,
    c1 := at_c1 (i 2) ⟨w, by omega⟩ hw,
    c2 := at_c2 (i 2) ⟨w, by omega⟩ hw,
    o2 := at_o2 (i 2) ⟨w, by omega⟩ hw,
    o3 := at_o3 (i 2) ⟨w, by omega⟩ hw,
    o4 := at_o4 (i 2) ⟨w, by omega⟩ hw,
    o5 := at_o5 (i 2) ⟨w, by omega⟩ hw,
    o6 := at_o6 (i 2) ⟨w, by omega⟩ hw,
    o6' := at_o6' (i 2) ⟨w, by omega⟩ hw,
    o7 := at_o7 (i 2) ⟨w, by omega⟩ hw,
    o7' := at_o7' (i 2) ⟨w, by omega⟩ hw,
    o8 := at_o8 (i 2) ⟨w, by omega⟩ hw,
    o8' := at_o8' (i 2) ⟨w, by omega⟩ hw,
    t1 := at_t1 (i 2) ⟨w, by omega⟩ hw,
    t2 := at_t2 (i 2) ⟨w, by omega⟩ hw,
    o9 := at_o9 (i 2) ⟨w, by omega⟩ hw,
    o10 := at_o10 (i 2) ⟨w, by omega⟩ hw,
    o11 := at_o11 (i 2) ⟨w, by omega⟩ hw,
    o12 := at_o12 (i 2) ⟨w, by omega⟩ hw,
    o13 := at_o13 (i 2) ⟨w, by omega⟩ hw,
    o14 := at_o14 (i 2) ⟨w, by omega⟩ hw,
    o21 := at_o21 (i 2) ⟨w, by omega⟩ hw,
    o21' := at_o21' (i 2) ⟨w, by omega⟩ hw,
    o22 := at_o22 (i 2) ⟨w, by omega⟩ hw,
    o22' := at_o22' (i 2) ⟨w, by omega⟩ hw }

end Cert.KernelIdeal.Body
-- ==== Proof.Twin.Step1.lean ====
/-
  The step of one tile of keys, as the kernel runs it when the first tile is odd.
-/
module

public import proofs.«01_k».proof.Proof.Twin.Places

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (E : Set ℕ) (i : grid0.Coords) (arg3 : Memref sig .tc .smem S128 .i32) (harg3 : arg3.IsWhole) (arg4 : Memref sig .tc .vmem S1x2x1024x128 .bf16) (harg4 : arg4.IsWhole) (arg5 : Memref sig .tc .vmem S1x2x8192x128 .bf16) (harg5 : arg5.IsWhole) (arg6 : Memref sig .tc .vmem S1x2x8192x128 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x512 .f32) (harg10 : arg10.IsWhole) (arg11 : Memref sig .tc .vmem S2x1024x128 .f32) (harg11 : arg11.IsWhole) (arg12 : Memref sig .tc .vmem S2x1024x128 .f32) (harg12 : arg12.IsWhole)
  (v8 : BitVec 32) (k0_hw1 : k0_chk1 i v8) (q : Vec F S1x2x1024x128 .bf16) (k v : Vec F S1x2x8192x128 .bf16)

local notation "𝕄" => MT nD τ sig Unit (Elt F) ℕ (UR sig nD τ) ℕ

set_option maxHeartbeats 4000000 in
/-- An odd first tile is one step. -/
theorem part29_pos {n w : ℕ} (hP : Places i v8 n w) (x : St F) (arg2 c2 c0 : BitVec 32) (h1 : k0_cond1 v8 = 1#1) :
    Held (F := F) c arg4 arg5 arg6 arg10 arg11 arg12 q k v x ⊢
      wp frame (wpE (defs₀ (F := F)) Variants.none (c : Thread nD τ) none) E
        (k0_part29 (F := F) i arg3 harg3 arg4 harg4 arg5 harg5 arg6 harg6 arg7 harg7 arg8 harg8 arg9 harg9 arg10 harg10 arg11 harg11 arg12 harg12 arg2 v8 k0_hw1 c2 c0)
        (fun _ => Held (F := F) c arg4 arg5 arg6 arg10 arg11 arg12 q k v (step q k v (512 * w) x)) := by
  unfold Held
  rw [k0_part29_eq_skeleton]
  unfold k0_part29_skel
  iintro ⟨H4, H5, H6, ⟨%s1, H10⟩, H11, H12⟩
  sl_exec
  sl_step
  sl_unfold_run_names
  isplitl [H4]; · iexact H4
  isplitl [H5]; · iexact H5
  isplitl [H6]; · iexact H6
  isplitl [H10]
  · iexists (k0_pay1 (kt k 1 (512 * w)) (qw q 1))
    iapply (pointsTo_rep_of_read (c : Thread nD τ) arg10 _ fullShare _ ?_) $$ [H10]
    rotate_left
    · iexact H10
    · simp only [rd_cons, rd_nil, rd_rep, rd_junkS, rd_junkA, rd_at, rd_cov, win_kt1 _ _ hP.o3, win_kt0 _ _ hP.o4, win_kt0 _ _ hP.o5, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl
  isplitl [H11]
  · iapply (pointsTo_rep_of_read (c : Thread nD τ) arg11 _ fullShare _ ?_) $$ [H11]
    rotate_left
    · iexact H11
    · simp only [rd_cons, rd_nil, rd_rep, rd_junkS, rd_junkA, rd_at, rd_cov, win_kt1 _ _ hP.o3, win_kt0 _ _ hP.o4, win_kt0 _ _ hP.o5, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl
  · iapply (pointsTo_rep_of_read (c : Thread nD τ) arg12 _ fullShare _ ?_) $$ [H12]
    rotate_left
    · iexact H12
    · simp only [rd_cons, rd_nil, rd_rep, rd_junkS, rd_junkA, rd_at, rd_cov, win_kt1 _ _ hP.o3, win_kt0 _ _ hP.o4, win_kt0 _ _ hP.o5, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl

/-- An even first tile is none. -/
theorem part29_neg (x : St F) (arg2 c2 c0 : BitVec 32) (h1 : ¬ k0_cond1 v8 = 1#1) :
    Held (F := F) c arg4 arg5 arg6 arg10 arg11 arg12 q k v x ⊢
      wp frame (wpE (defs₀ (F := F)) Variants.none (c : Thread nD τ) none) E
        (k0_part29 (F := F) i arg3 harg3 arg4 harg4 arg5 harg5 arg6 harg6 arg7 harg7 arg8 harg8 arg9 harg9 arg10 harg10 arg11 harg11 arg12 harg12 arg2 v8 k0_hw1 c2 c0)
        (fun _ => Held (F := F) c arg4 arg5 arg6 arg10 arg11 arg12 q k v x) := by
  rw [k0_part29_eq_skeleton]
  unfold k0_part29_skel
  iintro H
  sl_exec
  sl_step
  iexact H

end Cert.KernelIdeal.Body
-- ==== Proof.Twin.Trip.lean ====
/-
  One trip of the kernel's loop: four tiles of keys.
-/
module

public import proofs.«01_k».proof.Proof.Twin.Places

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (E : Set ℕ) (i : grid0.Coords) (arg3 : Memref sig .tc .smem S128 .i32) (harg3 : arg3.IsWhole) (arg4 : Memref sig .tc .vmem S1x2x1024x128 .bf16) (harg4 : arg4.IsWhole) (arg5 : Memref sig .tc .vmem S1x2x8192x128 .bf16) (harg5 : arg5.IsWhole) (arg6 : Memref sig .tc .vmem S1x2x8192x128 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x512 .f32) (harg10 : arg10.IsWhole) (arg11 : Memref sig .tc .vmem S2x1024x128 .f32) (harg11 : arg11.IsWhole) (arg12 : Memref sig .tc .vmem S2x1024x128 .f32) (harg12 : arg12.IsWhole)
  (v8 : BitVec 32) (k0_hw1 : k0_chk1 i v8) (q : Vec F S1x2x1024x128 .bf16) (k v : Vec F S1x2x8192x128 .bf16)

local notation "𝕄" => MT nD τ sig Unit (Elt F) ℕ (UR sig nD τ) ℕ

set_option maxHeartbeats 16000000 in
theorem trip {n w : ℕ} (hP : Places i v8 n w) (x : St F) (v58 v59 v61 v62 : BitVec 32) (v63 v66 : BitVec 1) (v83 : BitVec 32) (j : Fin (k0_t1_loop i v8).trips) :
    Held (F := F) c arg4 arg5 arg6 arg10 arg11 arg12 q k v x ⊢
      wp frame (wpE (defs₀ (F := F)) Variants.none (c : Thread nD τ) none) E
        (k0_t1_body (F := F) i arg3 harg3 arg4 harg4 arg5 harg5 arg6 harg6 arg7 harg7 arg8 harg8 arg9 harg9 arg10 harg10 arg11 harg11 arg12 harg12 v8 k0_hw1 v58 v59 v61 v62 v63 v66 v83 j PUnit.unit)
        (fun _ => Held (F := F) c arg4 arg5 arg6 arg10 arg11 arg12 q k v (step q k v ((1024 * (trip0 w + odd n w) + 2048 * j.val) + 1024 + 512) (step q k v ((1024 * (trip0 w + odd n w) + 2048 * j.val) + 1024) (step q k v ((1024 * (trip0 w + odd n w) + 2048 * j.val) + 512) (step q k v ((1024 * (trip0 w + odd n w) + 2048 * j.val)) x))))) := by
  unfold Held
  unfold k0_t1_body
  iintro ⟨H4, H5, H6, ⟨%s1, H10⟩, H11, H12⟩
  sl_exec
  sl_step
  sl_unfold_run_names
  isplitl [H4]; · iexact H4
  isplitl [H5]; · iexact H5
  isplitl [H6]; · iexact H6
  isplitl [H10]
  · iexists (k0_pay1 (kt k 1 ((1024 * (trip0 w + odd n w) + 2048 * j.val) + 1024 + 512)) (qw q 1))
    iapply (pointsTo_rep_of_read (c : Thread nD τ) arg10 _ fullShare _ ?_) $$ [H10]
    rotate_left
    · iexact H10
    · simp only [rd_cons, rd_nil, rd_rep, rd_junkS, rd_junkA, rd_at, rd_cov, win_kt1 _ _ (hP.o9 j).1, win_kt1 _ _ (hP.o9 j).2, win_kt0 _ _ (hP.o10 j).1, win_kt0 _ _ (hP.o10 j).2, win_kt0 _ _ (hP.o11 j).1, win_kt0 _ _ (hP.o11 j).2, win_kt1 _ _ (hP.o12 j).1, win_kt1 _ _ (hP.o12 j).2, win_kt0 _ _ (hP.o13 j).1, win_kt0 _ _ (hP.o13 j).2, win_kt0 _ _ (hP.o14 j).1, win_kt0 _ _ (hP.o14 j).2, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl
  isplitl [H11]
  · iapply (pointsTo_rep_of_read (c : Thread nD τ) arg11 _ fullShare _ ?_) $$ [H11]
    rotate_left
    · iexact H11
    · simp only [rd_cons, rd_nil, rd_rep, rd_junkS, rd_junkA, rd_at, rd_cov, win_kt1 _ _ (hP.o9 j).1, win_kt1 _ _ (hP.o9 j).2, win_kt0 _ _ (hP.o10 j).1, win_kt0 _ _ (hP.o10 j).2, win_kt0 _ _ (hP.o11 j).1, win_kt0 _ _ (hP.o11 j).2, win_kt1 _ _ (hP.o12 j).1, win_kt1 _ _ (hP.o12 j).2, win_kt0 _ _ (hP.o13 j).1, win_kt0 _ _ (hP.o13 j).2, win_kt0 _ _ (hP.o14 j).1, win_kt0 _ _ (hP.o14 j).2, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl
  · iapply (pointsTo_rep_of_read (c : Thread nD τ) arg12 _ fullShare _ ?_) $$ [H12]
    rotate_left
    · iexact H12
    · simp only [rd_cons, rd_nil, rd_rep, rd_junkS, rd_junkA, rd_at, rd_cov, win_kt1 _ _ (hP.o9 j).1, win_kt1 _ _ (hP.o9 j).2, win_kt0 _ _ (hP.o10 j).1, win_kt0 _ _ (hP.o10 j).2, win_kt0 _ _ (hP.o11 j).1, win_kt0 _ _ (hP.o11 j).2, win_kt1 _ _ (hP.o12 j).1, win_kt1 _ _ (hP.o12 j).2, win_kt0 _ _ (hP.o13 j).1, win_kt0 _ _ (hP.o13 j).2, win_kt0 _ _ (hP.o14 j).1, win_kt0 _ _ (hP.o14 j).2, win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl

end Cert.KernelIdeal.Body
-- ==== Proof.Twin.Part30.lean ====
/-
  The tiles between the first and the diagonal: two at once when their number asks for it, then the loop, four a trip.
-/
module

public import proofs.«01_k».proof.Proof.Twin.Trip

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (E : Set ℕ) (i : grid0.Coords) (arg3 : Memref sig .tc .smem S128 .i32) (harg3 : arg3.IsWhole) (arg4 : Memref sig .tc .vmem S1x2x1024x128 .bf16) (harg4 : arg4.IsWhole) (arg5 : Memref sig .tc .vmem S1x2x8192x128 .bf16) (harg5 : arg5.IsWhole) (arg6 : Memref sig .tc .vmem S1x2x8192x128 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x512 .f32) (harg10 : arg10.IsWhole) (arg11 : Memref sig .tc .vmem S2x1024x128 .f32) (harg11 : arg11.IsWhole) (arg12 : Memref sig .tc .vmem S2x1024x128 .f32) (harg12 : arg12.IsWhole)
  (v8 : BitVec 32) (k0_hw1 : k0_chk1 i v8) (q : Vec F S1x2x1024x128 .bf16) (k v : Vec F S1x2x8192x128 .bf16)

local notation "𝕄" => MT nD τ sig Unit (Elt F) ℕ (UR sig nD τ) ℕ

/-- The four tiles of trip `j`. -/
def four (n w j : ℕ) (x : St F) : St F :=
  (step q k v ((1024 * (trip0 w + odd n w) + 2048 * j) + 1024 + 512) (step q k v ((1024 * (trip0 w + odd n w) + 2048 * j) + 1024) (step q k v ((1024 * (trip0 w + odd n w) + 2048 * j) + 512) (step q k v ((1024 * (trip0 w + odd n w) + 2048 * j)) x))))

/-- The first `j` trips. -/
def fours (n w : ℕ) : ℕ → St F → St F
  | 0, x => x
  | j + 1, x => four q k v n w j (fours n w j x)

/-- The two tiles before the loop. -/
def two (w : ℕ) (x : St F) : St F := step q k v (1024 * trip0 w + 512) (step q k v (1024 * trip0 w) x)

set_option maxHeartbeats 16000000 in
theorem part30_neg {n w : ℕ} (hP : Places i v8 n w) (x : St F) (v58 v59 v61 v62 : BitVec 32) (v63 v66 : BitVec 1) (h2 : ¬ k0_cond2 i v8 = 1#1) :
    Held (F := F) c arg4 arg5 arg6 arg10 arg11 arg12 q k v x ⊢
      wp frame (wpE (defs₀ (F := F)) Variants.none (c : Thread nD τ) none) E
        (k0_part30 (F := F) i arg3 harg3 arg4 harg4 arg5 harg5 arg6 harg6 arg7 harg7 arg8 harg8 arg9 harg9 arg10 harg10 arg11 harg11 arg12 harg12 v8 k0_hw1 v58 v59 v61 v62 v63 v66)
        (fun _ => Held (F := F) c arg4 arg5 arg6 arg10 arg11 arg12 q k v (fours q k v n w (k0_t1_loop i v8).trips x)) := by
  rw [k0_part30_eq_skeleton]
  unfold k0_part30_skel
  iintro H
  sl_exec
  iapply (Scf.wp_for_bind _ _ _ _ _ _ _ _ _ (fun j _ => Held (F := F) c arg4 arg5 arg6 arg10 arg11 arg12 q k v (fours q k v n w j x))
    (fun j _ => trip c E i arg3 harg3 arg4 harg4 arg5 harg5 arg6 harg6 arg7 harg7 arg8 harg8 arg9 harg9 arg10 harg10 arg11 harg11 arg12 harg12 v8 k0_hw1 q k v hP (fours q k v n w j x) v58 v59 v61 v62 v63 v66 _ j)) $$ [H]
  · iexact H
  iintro %_ H
  sl_exec
  sl_step
  unfold Held
  iexact H

set_option maxHeartbeats 16000000 in
theorem part30_pos {n w : ℕ} (hP : Places i v8 n w) (x : St F) (v58 v59 v61 v62 : BitVec 32) (v63 v66 : BitVec 1) (h2 : k0_cond2 i v8 = 1#1) :
    Held (F := F) c arg4 arg5 arg6 arg10 arg11 arg12 q k v x ⊢
      wp frame (wpE (defs₀ (F := F)) Variants.none (c : Thread nD τ) none) E
        (k0_part30 (F := F) i arg3 harg3 arg4 harg4 arg5 harg5 arg6 harg6 arg7 harg7 arg8 harg8 arg9 harg9 arg10 harg10 arg11 harg11 arg12 harg12 v8 k0_hw1 v58 v59 v61 v62 v63 v66)
        (fun _ => Held (F := F) c arg4 arg5 arg6 arg10 arg11 arg12 q k v (fours q k v n w (k0_t1_loop i v8).trips (two q k v w x))) := by
  rw [k0_part30_eq_skeleton]
  unfold k0_part30_skel
  unfold Held
  iintro ⟨H4, H5, H6, ⟨%s1, H10⟩, H11, H12⟩
  sl_exec
  ihave H : Held (F := F) c arg4 arg5 arg6 arg10 arg11 arg12 q k v (two q k v w x) $$ [H4 H5 H6 H10 H11 H12]
  · unfold Held
    sl_unfold_run_names
    isplitl [H4]; · iexact H4
    isplitl [H5]; · iexact H5
    isplitl [H6]; · iexact H6
    isplitl [H10]
    · iexists (k0_pay1 (kt k 1 (1024 * trip0 w + 512)) (qw q 1))
      iapply (pointsTo_rep_of_read (c : Thread nD τ) arg10 _ fullShare _ ?_) $$ [H10]
      rotate_left
      · iexact H10
      · simp only [rd_cons, rd_nil, rd_rep, rd_junkS, rd_junkA, rd_at, rd_cov, win_kt1 _ _ hP.o6, win_kt1 _ _ hP.o6', win_kt0 _ _ hP.o7, win_kt0 _ _ hP.o7', win_kt0 _ _ hP.o8, win_kt0 _ _ hP.o8', win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
        rfl
    isplitl [H11]
    · iapply (pointsTo_rep_of_read (c : Thread nD τ) arg11 _ fullShare _ ?_) $$ [H11]
      rotate_left
      · iexact H11
      · simp only [rd_cons, rd_nil, rd_rep, rd_junkS, rd_junkA, rd_at, rd_cov, win_kt1 _ _ hP.o6, win_kt1 _ _ hP.o6', win_kt0 _ _ hP.o7, win_kt0 _ _ hP.o7', win_kt0 _ _ hP.o8, win_kt0 _ _ hP.o8', win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
        rfl
    · iapply (pointsTo_rep_of_read (c : Thread nD τ) arg12 _ fullShare _ ?_) $$ [H12]
      rotate_left
      · iexact H12
      · simp only [rd_cons, rd_nil, rd_rep, rd_junkS, rd_junkA, rd_at, rd_cov, win_kt1 _ _ hP.o6, win_kt1 _ _ hP.o6', win_kt0 _ _ hP.o7, win_kt0 _ _ hP.o7', win_kt0 _ _ hP.o8, win_kt0 _ _ hP.o8', win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
        rfl

  iapply (Scf.wp_for_bind _ _ _ _ _ _ _ _ _ (fun j _ => Held (F := F) c arg4 arg5 arg6 arg10 arg11 arg12 q k v (fours q k v n w j (two q k v w x)))
    (fun j _ => trip c E i arg3 harg3 arg4 harg4 arg5 harg5 arg6 harg6 arg7 harg7 arg8 harg8 arg9 harg9 arg10 harg10 arg11 harg11 arg12 harg12 v8 k0_hw1 q k v hP (fours q k v n w j (two q k v w x)) v58 v59 v61 v62 v63 v66 _ j)) $$ [H]
  · iexact H
  iintro %_ H
  sl_exec
  sl_step
  unfold Held
  iexact H

end Cert.KernelIdeal.Body
-- ==== Proof.Twin.Body.lean ====
/-
  The first part of the body: the word of the table, the empty accumulators, the first scores.
-/
module

public import proofs.«01_k».proof.Proof.Twin.Step1
public import proofs.«01_k».proof.Proof.Twin.Part30

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (E : Set ℕ) (i : grid0.Coords) (arg3 : Memref sig .tc .smem S128 .i32) (harg3 : arg3.IsWhole) (arg4 : Memref sig .tc .vmem S1x2x1024x128 .bf16) (harg4 : arg4.IsWhole) (arg5 : Memref sig .tc .vmem S1x2x8192x128 .bf16) (harg5 : arg5.IsWhole) (arg6 : Memref sig .tc .vmem S1x2x8192x128 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x512 .f32) (harg10 : arg10.IsWhole) (arg11 : Memref sig .tc .vmem S2x1024x128 .f32) (harg11 : arg11.IsWhole) (arg12 : Memref sig .tc .vmem S2x1024x128 .f32) (harg12 : arg12.IsWhole)
  (q : Vec F S1x2x1024x128 .bf16) (k v : Vec F S1x2x8192x128 .bf16)

local notation "𝕄" => MT nD τ sig Unit (Elt F) ℕ (UR sig nD τ) ℕ

theorem ret_eq (a : BitVec 32) (v0 : IVec S1024x128 32) (v2 : IVec S1024x128 1) (v8 v8' : Elt F .i32) (e : v8 = v8') (h : k0_chk1 i v8) (h' : k0_chk1 i v8') :
    (⟨a, v0, v2, v8, h, 2#32, 0#32⟩ : Σ' (arg2 : BitVec 32) (v0 : IVec S1024x128 32) (v2 : IVec S1024x128 1) (v8 : Elt F .i32) (k0_hw1 : k0_chk1 i v8) (c2_i32 : BitVec 32), BitVec 32) = ⟨a, v0, v2, v8', h', 2#32, 0#32⟩ := by
  subst e; rfl

theorem ho2 {n w : ℕ} {v8 : BitVec 32} (hw : v8 = BitVec.ofNat 32 w) (hP : Places i (BitVec.ofNat 32 w) n w) : k0_off2 v8 = ![0, 0, 512 * w, 0] := by
  rw [hw]; exact hP.o2

set_option maxHeartbeats 8000000 in
theorem part28 {n w : ℕ} (sh : PosShare TreeShare) (T : arg3.view.ty.Contents (Elt F)) (hw : View.readAt (Elt F) arg3.view (Rect.unit (s := S128) (k0_off1 i) S1.size (k0_off1_inb i)).toLoadRect T (Shape.Idx.first (numel1_S1.symm ▸ Nat.one_pos)) = BitVec.ofNat 32 w) (hP : Places i (BitVec.ofNat 32 w) n w) :
    iprop((arg3.view.loc (c : Thread nD τ) ↦[arg3.view.set]{sh} T) ∗ (arg4.view.loc (c : Thread nD τ) ↦[arg4.view.set]{fullShare} arg4.view.rep q) ∗ (arg5.view.loc (c : Thread nD τ) ↦[arg5.view.set]{fullShare} arg5.view.rep k) ∗ (arg6.view.loc (c : Thread nD τ) ↦[arg6.view.set]{fullShare} arg6.view.rep v)
    ∗ (∃ s0 s1, arg10.view.loc (c : Thread nD τ) ↦[arg10.view.set]{fullShare} arg10.view.rep (stkS s0 s1)) ∗ (∃ a, arg11.view.loc (c : Thread nD τ) ↦[arg11.view.set]{fullShare} arg11.view.rep a) ∗ (∃ m, arg12.view.loc (c : Thread nD τ) ↦[arg12.view.set]{fullShare} arg12.view.rep m)) ⊢
      wp frame (wpE (defs₀ (F := F)) Variants.none (c : Thread nD τ) none) E
        (k0_part28 (F := F) i arg3 harg3 arg4 harg4 arg5 harg5 arg6 harg6 arg7 harg7 arg8 harg8 arg9 harg9 arg10 harg10 arg11 harg11 arg12 harg12)
        (fun r => iprop(⌜r = ⟨BitVec.ofNat 32 (i 2).val, iota .tc S1024x128 32 [1] iota_S1024x128_d1_w32, k0_pay163, BitVec.ofNat 32 w, hP.chk, 2#32, 0#32⟩⌝ ∗ (arg3.view.loc (c : Thread nD τ) ↦[arg3.view.set]{sh} T) ∗ Held (F := F) c arg4 arg5 arg6 arg10 arg11 arg12 q k v (init q k w))) := by
  rw [k0_part28_eq_skeleton]
  unfold k0_part28_skel
  have hchk : k0_chk1 i (View.readAt (Elt F) arg3.view (Rect.unit (s := S128) (k0_off1 i) S1.size (k0_off1_inb i)).toLoadRect T (Shape.Idx.first (numel1_S1.symm ▸ Nat.one_pos))) := by rw [hw]; exact hP.chk
  iintro ⟨H3, H4, H5, H6, ⟨%s0, %s1, H10⟩, ⟨%a, H11⟩, ⟨%m, H12⟩⟩
  sl_exec (disch := first | (guard_target = k0_chk1 _ _; exact hchk))
  sl_step
  sl_unfold_run_names
  isplitr
  · ipureintro
    exact ret_eq i _ _ _ _ _ hw _ _
  isplitl [H3]; · iexact H3
  unfold Held
  isplitl [H4]; · iexact H4
  isplitl [H5]; · iexact H5
  isplitl [H6]; · iexact H6
  isplitl [H10]
  · iexists s1
    iapply (pointsTo_rep_of_read (c : Thread nD τ) arg10 _ fullShare _ ?_) $$ [H10]
    rotate_left
    · iexact H10
    · simp only [rd_cons, rd_nil, rd_rep, rd_junkS, rd_junkA, rd_at (e := .bf16), rd_cov, win_kt0 _ _ (ho2 i hw hP), win_qw0 _ (off := ![0, 0, 0, 0]) rfl, win_qw1 _ (off := ![0, 1, 0, 0]) rfl, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl]
      rfl
  isplitl [H11]
  · iapply (pointsTo_rep_of_read (c : Thread nD τ) arg11 _ fullShare _ ?_) $$ [H11]
    rotate_left
    · iexact H11
    · simp only [rd_cons, rd_nil, rd_rep, putFullA _ _ (off := ![0, 0, 0]) rfl]
      exact (etaA _).symm
  · iapply (pointsTo_rep_of_read (c : Thread nD τ) arg12 _ fullShare _ ?_) $$ [H12]
    rotate_left
    · iexact H12
    · simp only [rd_cons, rd_nil, rd_rep, putFullA _ _ (off := ![0, 0, 0]) rfl]
      exact (etaA _).symm

/-- The state before the diagonal. -/
def before (n w : ℕ) : St F :=
  let x1 := if w % 2 = 1 then step q k v (512 * w) (init q k w) else init q k w
  fours q k v n w ((n - trip0 w) / 2) (if odd n w = 1 then two q k v w x1 else x1)

set_option maxHeartbeats 8000000 in
theorem part29 {n w : ℕ} {v8 : BitVec 32} (k0_hw1 : k0_chk1 i v8) (hP : Places i v8 n w) (x : St F) (arg2 c2 c0 : BitVec 32) :
    Held (F := F) c arg4 arg5 arg6 arg10 arg11 arg12 q k v x ⊢
      wp frame (wpE (defs₀ (F := F)) Variants.none (c : Thread nD τ) none) E
        (k0_part29 (F := F) i arg3 harg3 arg4 harg4 arg5 harg5 arg6 harg6 arg7 harg7 arg8 harg8 arg9 harg9 arg10 harg10 arg11 harg11 arg12 harg12 arg2 v8 k0_hw1 c2 c0)
        (fun _ => Held (F := F) c arg4 arg5 arg6 arg10 arg11 arg12 q k v (if w % 2 = 1 then step q k v (512 * w) x else x)) := by
  by_cases h : w % 2 = 1
  · rw [if_pos h]; exact part29_pos c E i arg3 harg3 arg4 harg4 arg5 harg5 arg6 harg6 arg7 harg7 arg8 harg8 arg9 harg9 arg10 harg10 arg11 harg11 arg12 harg12 v8 k0_hw1 q k v hP x arg2 c2 c0 (hP.c1.2 h)
  · rw [if_neg h]; exact part29_neg c E i arg3 harg3 arg4 harg4 arg5 harg5 arg6 harg6 arg7 harg7 arg8 harg8 arg9 harg9 arg10 harg10 arg11 harg11 arg12 harg12 v8 k0_hw1 q k v x arg2 c2 c0 (fun e => h (hP.c1.1 e))

set_option maxHeartbeats 8000000 in
theorem part30 {n w : ℕ} {v8 : BitVec 32} (k0_hw1 : k0_chk1 i v8) (hP : Places i v8 n w) (x : St F) (v58 v59 v61 v62 : BitVec 32) (v63 v66 : BitVec 1) :
    Held (F := F) c arg4 arg5 arg6 arg10 arg11 arg12 q k v x ⊢
      wp frame (wpE (defs₀ (F := F)) Variants.none (c : Thread nD τ) none) E
        (k0_part30 (F := F) i arg3 harg3 arg4 harg4 arg5 harg5 arg6 harg6 arg7 harg7 arg8 harg8 arg9 harg9 arg10 harg10 arg11 harg11 arg12 harg12 v8 k0_hw1 v58 v59 v61 v62 v63 v66)
        (fun _ => Held (F := F) c arg4 arg5 arg6 arg10 arg11 arg12 q k v (fours q k v n w ((n - trip0 w) / 2) (if odd n w = 1 then two q k v w x else x))) := by
  have ht := hP.t1
  by_cases h : odd n w = 1
  · rw [if_pos h, ← ht]; exact part30_pos c E i arg3 harg3 arg4 harg4 arg5 harg5 arg6 harg6 arg7 harg7 arg8 harg8 arg9 harg9 arg10 harg10 arg11 harg11 arg12 harg12 v8 k0_hw1 q k v hP x v58 v59 v61 v62 v63 v66 (hP.c2.2 h)
  · rw [if_neg h, ← ht]; exact part30_neg c E i arg3 harg3 arg4 harg4 arg5 harg5 arg6 harg6 arg7 harg7 arg8 harg8 arg9 harg9 arg10 harg10 arg11 harg11 arg12 harg12 v8 k0_hw1 q k v hP x v58 v59 v61 v62 v63 v66 (fun e => h (hP.c2.1 e))

set_option maxHeartbeats 16000000 in
/-- The whole body at one grid point: from its blocks and the word of the table, the rows it writes. -/
theorem body {n w : ℕ} (sh : PosShare TreeShare) (T : arg3.view.ty.Contents (Elt F)) (hw : View.readAt (Elt F) arg3.view (Rect.unit (s := S128) (k0_off1 i) S1.size (k0_off1_inb i)).toLoadRect T (Shape.Idx.first (numel1_S1.symm ▸ Nat.one_pos)) = BitVec.ofNat 32 w) (hP : Places i (BitVec.ofNat 32 w) n w)
    (z : Vec F S1024x128 .bf16) (g : Vec F S1x128 .f32) :
    (iprop(((arg3.view.loc (c : Thread nD τ) ↦[arg3.view.set]{sh} T) ∗ (arg4.view.loc (c : Thread nD τ) ↦[arg4.view.set]{fullShare} arg4.view.rep q) ∗ (arg5.view.loc (c : Thread nD τ) ↦[arg5.view.set]{fullShare} arg5.view.rep k) ∗ (arg6.view.loc (c : Thread nD τ) ↦[arg6.view.set]{fullShare} arg6.view.rep v)
    ∗ (∃ s0 s1, arg10.view.loc (c : Thread nD τ) ↦[arg10.view.set]{fullShare} arg10.view.rep (stkS s0 s1)) ∗ (∃ a, arg11.view.loc (c : Thread nD τ) ↦[arg11.view.set]{fullShare} arg11.view.rep a) ∗ (∃ m, arg12.view.loc (c : Thread nD τ) ↦[arg12.view.set]{fullShare} arg12.view.rep m))
      ∗ (arg7.view.loc (c : Thread nD τ) ↦[arg7.view.set]{fullShare} arg7.view.rep z) ∗ (arg8.view.loc (c : Thread nD τ) ↦[arg8.view.set]{fullShare} arg8.view.rep g) ∗ (∃ d, owns (c : Thread nD τ) arg9 fullShare d)) : sProp 𝕄) ⊢
      wp frame (wpE (defs₀ (F := F)) Variants.none (c : Thread nD τ) none) E
        (cc0_fox_attn (F := F) i arg3 harg3 arg4 harg4 arg5 harg5 arg6 harg6 arg7 harg7 arg8 harg8 arg9 harg9 arg10 harg10 arg11 harg11 arg12 harg12)
        (fun _ => iprop(((arg3.view.loc (c : Thread nD τ) ↦[arg3.view.set]{sh} T) ∗ (arg4.view.loc (c : Thread nD τ) ↦[arg4.view.set]{fullShare} arg4.view.rep q) ∗ (arg5.view.loc (c : Thread nD τ) ↦[arg5.view.set]{fullShare} arg5.view.rep k) ∗ (arg6.view.loc (c : Thread nD τ) ↦[arg6.view.set]{fullShare} arg6.view.rep v)
    ∗ (∃ s0 s1, arg10.view.loc (c : Thread nD τ) ↦[arg10.view.set]{fullShare} arg10.view.rep (stkS s0 s1)) ∗ (∃ a, arg11.view.loc (c : Thread nD τ) ↦[arg11.view.set]{fullShare} arg11.view.rep a) ∗ (∃ m, arg12.view.loc (c : Thread nD τ) ↦[arg12.view.set]{fullShare} arg12.view.rep m)) ∗ (arg7.view.loc (c : Thread nD τ) ↦[arg7.view.set]{fullShare} arg7.view.rep z) ∗ (arg8.view.loc (c : Thread nD τ) ↦[arg8.view.set]{fullShare} arg8.view.rep g) ∗ (arg9.view.loc (c : Thread nD τ) ↦[arg9.view.set]{fullShare} arg9.view.rep (gated z g (diag q k v n (before q k v n w)))))) := by
  rw [cc0_fox_attn_eq_skeleton]
  unfold cc0_fox_attn_skel
  unfold owns
  iintro ⟨HR, H7, H8, ⟨%d, %f, -, H9⟩⟩
  rw [wp_bind]
  iapply (wp_wand_r Idealize.ShloMosaic.frame (wpE (defs₀ (F := F)) Variants.none (c : Thread nD τ) none) E)
  isplitl [HR]
  · iapply (part28 c E i arg3 harg3 arg4 harg4 arg5 harg5 arg6 harg6 arg7 harg7 arg8 harg8 arg9 harg9 arg10 harg10 arg11 harg11 arg12 harg12 q k v sh T hw hP)
    iexact HR
  iintro %r ⟨%hr, H3, H⟩
  subst hr
  dsimp only
  rw [wp_bind]
  iapply (wp_wand_r Idealize.ShloMosaic.frame (wpE (defs₀ (F := F)) Variants.none (c : Thread nD τ) none) E)
  isplitl [H]
  · iapply (part29 c E i arg3 harg3 arg4 harg4 arg5 harg5 arg6 harg6 arg7 harg7 arg8 harg8 arg9 harg9 arg10 harg10 arg11 harg11 arg12 harg12 q k v hP.chk hP (init q k w) _ _ _)
    iexact H
  iintro %r H
  rw [wp_bind]
  iapply (wp_wand_r Idealize.ShloMosaic.frame (wpE (defs₀ (F := F)) Variants.none (c : Thread nD τ) none) E)
  isplitl [H]
  · iapply (part30 c E i arg3 harg3 arg4 harg4 arg5 harg5 arg6 harg6 arg7 harg7 arg8 harg8 arg9 harg9 arg10 harg10 arg11 harg11 arg12 harg12 q k v hP.chk hP _ _ _ _ _ _ _)
    iexact H
  iintro %r2 H
  have hb : fours q k v n w ((n - trip0 w) / 2) (if odd n w = 1 then two q k v w (if w % 2 = 1 then step q k v (512 * w) (init q k w) else init q k w) else (if w % 2 = 1 then step q k v (512 * w) (init q k w) else init q k w)) = before q k v n w := rfl
  rw [hb]
  generalize before q k v n w = x
  have htr := hP.t2
  unfold Held
  icases H with ⟨H4, H5, H6, ⟨%s1, H10⟩, H11, H12⟩
  sl_exec
  sl_step
  isplitr [H7 H8 H9]
  · isplitl [H3]; · iexact H3
    isplitl [H4]; · iexact H4
    isplitl [H5]; · iexact H5
    isplitl [H6]; · iexact H6
    isplitl [H10]
    · iexists (fstS (arg10.view.read (Elt F) (arg10.view.writes (Elt F) _ _))), (sndS (arg10.view.read (Elt F) (arg10.view.writes (Elt F) _ _)))
      iapply (pointsTo_rep_of_read (c : Thread nD τ) arg10 _ fullShare _ (etaS _).symm) $$ [H10]
      iexact H10
    isplitl [H11]
    · iexists (arg11.view.read (Elt F) (arg11.view.writes (Elt F) _ _))
      iapply (pointsTo_rep_of_read (c : Thread nD τ) arg11 _ fullShare _ rfl) $$ [H11]
      iexact H11
    · iexists (arg12.view.read (Elt F) (arg12.view.writes (Elt F) _ _))
      iapply (pointsTo_rep_of_read (c : Thread nD τ) arg12 _ fullShare _ rfl) $$ [H12]
      iexact H12
  isplitl [H7]; · iexact H7
  isplitl [H8]; · iexact H8
  sl_unfold_run_names
  iapply (pointsTo_rep_of_read (c : Thread nD τ) arg9 _ fullShare _ ?_) $$ [H9]
  rotate_left
  · iexact H9
  · simp only [rd_cons, rd_nil, rd_rep, rd_junkS, rd_junkA, rd_at, rd_cov, win_kt1 _ _ hP.o21, win_kt1 _ _ hP.o21', win_kt0 _ _ hP.o22, win_kt0 _ _ hP.o22', putFullZ _ _ (off := ![0, 0]) rfl, winFullZ _ (off := ![0, 0]) rfl, winFullG _ (off := ![0, 0]) rfl, win_qw0 _ (off := ![0, 0, 0, 0]) rfl, win_qw1 _ (off := ![0, 1, 0, 0]) rfl, win_ql0 _ (off := ![0, 0, 512, 0]) rfl, win_ql1 _ (off := ![0, 1, 512, 0]) rfl, lowS_putS, lowA_putA, putS0 _ _ _ (off := ![0, 0, 0]) rfl, winS0 _ _ (off := ![0, 0, 0]) rfl, putS1 _ _ _ (off := ![1, 0, 0]) rfl, winS1 _ _ (off := ![1, 0, 0]) rfl, putA0 _ _ _ (off := ![0, 0, 0]) rfl, winA0 _ _ (off := ![0, 0, 0]) rfl, putA1 _ _ _ (off := ![1, 0, 0]) rfl, winA1 _ _ (off := ![1, 0, 0]) rfl, putSl0 _ _ _ (off := ![0, 512, 0]) rfl, winSl0 _ _ (off := ![0, 512, 0]) rfl, putSl1 _ _ _ (off := ![1, 512, 0]) rfl, winSl1 _ _ (off := ![1, 512, 0]) rfl, putAl0 _ _ _ (off := ![0, 512, 0]) rfl, winAl0 _ _ (off := ![0, 512, 0]) rfl, putAl1 _ _ _ (off := ![1, 512, 0]) rfl, winAl1 _ _ (off := ![1, 512, 0]) rfl]
    rfl

end Cert.KernelIdeal.Body
-- ==== Proof.Twin.Launch.lean ====
/-
  The launch: every grid point runs the body on its blocks, and the result array ends as the blocks written.
-/
module

public import proofs.«01_k».proof.Proof.Twin.Body
public import proofs.«01_k».proof.Proof.Gen.KernelIdeal.Launch
public import Idealize.ShloMosaic.Lib.Pipeline.Quiescent
public import Idealize.ShloMosaic.Lib.Claim
public import Idealize.ShloMosaic.Lib.Pipeline.TableIdle
public import Idealize.ShloMosaic.Lib.Pipeline.FrameBody
public import Idealize.ShloMosaic.Lib.Pipeline.Value
public import Idealize.ShloMosaic.PureOps.BitExact
public import Idealize.ShloMosaic.Adequacy
public import Idealize.ShloMosaic.Init

@[expose] public section

set_option maxRecDepth 16384

noncomputable section

namespace Cert.KernelIdeal.Launch

open Cert.KernelIdeal Cert.KernelIdeal.Gen Cert.KernelIdeal.Body
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table, whole. -/
abbrev tb : Memref sig .tc .smem S128 .i32 := Memref.whole main_arg0

/-- The word the body reads of the table at a point: the first tile of keys it visits. -/
def word (T : Vec F S128 .i32) (i : grid0.Coords) : BitVec 32 :=
  View.readAt (Elt F) tb.view (Rect.unit (s := S128) (k0_off1 i) S1.size (k0_off1_inb i)).toLoadRect T (Shape.Idx.first (numel1_S1.symm ▸ Nat.one_pos))

/-- No point starts past its diagonal. -/
def Tab (T : Vec F S128 .i32) : Prop := ∀ i : grid0.Coords, (word (F := F) T i).toNat ≤ 2 * (i 2).val

variable (T : Vec F S128 .i32)

def pf : pre0.Contents (Elt F) := fun | ⟨0, _⟩ => T | ⟨_ + 1, h⟩ => absurd h (by simp)

/-- The pipeline at the table's contents. -/
def adm : (pcfg0 (F := F)).Adm := ⟨pf T, trivial⟩
abbrev cfgA : Pipeline.Cfg sig Λ₀ := cfg0 (F := F) (adm T)
abbrev pcs : Fin 1 → Pipeline.Cfg sig Λ₀ := Pipeline.pin (pcfgs (F := F)) fun _ => adm T

variable (m : (ℓ : Loc nD τ sig) → Buf (Elt F) ℓ) (ρ : Dev nD → PrngReg)

abbrev crd (t : Fin (cfgA T).N) : (cfgA T).grid.Coords := (cfgA T).grid.coords t

abbrev ms0 (t : Fin (cfgA T).N) : Memref sig .tc .vmem S1x2x1024x128 .bf16 := spec0_0.stage ((cfgA T).slots t (0 : Fin 6))
abbrev hs0 (t : Fin (cfgA T).N) : (ms0 T t).IsWhole := hstage0_0 (((cfgA T).slots t (0 : Fin 6)).cast nbuf0_0)
abbrev ms1 (t : Fin (cfgA T).N) : Memref sig .tc .vmem S1x2x8192x128 .bf16 := spec0_1.stage ((cfgA T).slots t (1 : Fin 6))
abbrev hs1 (t : Fin (cfgA T).N) : (ms1 T t).IsWhole := hstage0_1 (((cfgA T).slots t (1 : Fin 6)).cast nbuf0_1)
abbrev ms2 (t : Fin (cfgA T).N) : Memref sig .tc .vmem S1x2x8192x128 .bf16 := spec0_2.stage ((cfgA T).slots t (2 : Fin 6))
abbrev hs2 (t : Fin (cfgA T).N) : (ms2 T t).IsWhole := hstage0_2 (((cfgA T).slots t (2 : Fin 6)).cast nbuf0_2)
abbrev ms3 (t : Fin (cfgA T).N) : Memref sig .tc .vmem S1024x128 .bf16 := spec0_3.stage ((cfgA T).slots t (3 : Fin 6))
abbrev hs3 (t : Fin (cfgA T).N) : (ms3 T t).IsWhole := hstage0_3 (((cfgA T).slots t (3 : Fin 6)).cast nbuf0_3)
abbrev ms4 (t : Fin (cfgA T).N) : Memref sig .tc .vmem S1x128 .f32 := spec0_4.stage ((cfgA T).slots t (4 : Fin 6))
abbrev hs4 (t : Fin (cfgA T).N) : (ms4 T t).IsWhole := hstage0_4 (((cfgA T).slots t (4 : Fin 6)).cast nbuf0_4)
abbrev ms5 (t : Fin (cfgA T).N) : Memref sig .tc .vmem S1024x128 .bf16 := spec0_5.stage ((cfgA T).slots t (5 : Fin 6))
abbrev hs5 (t : Fin (cfgA T).N) : (ms5 T t).IsWhole := hstage0_5 (((cfgA T).slots t (5 : Fin 6)).cast nbuf0_5)

/-- The launch state. -/
abbrev s₀ : MemSt nD τ sig (Elt F) := ⟨m, fun _ => 0, ρ⟩

/-- Window `w`'s block at point `t`. -/
def iblk (c : Dev nD) (w : Fin (cfgA T).W) (t : Fin (cfgA T).N) : (((cfgA T).win w).xblock (crd T t)).Idx → Elt F ((cfgA T).win w).elt :=
  (((cfgA T).win w).blk t).view.read (Elt F) (m (((cfgA T).win w).arr.view.loc (c : Thread nD τ)))

/-- What point `t` writes. -/
def out (c : Dev nD) (t : Fin (cfgA T).N) : Vec F S1024x128 .bf16 :=
  gated (iblk T m c (3 : Fin 6) t) (iblk T m c (4 : Fin 6) t)
    (diag (iblk T m c (0 : Fin 6) t) (iblk T m c (1 : Fin 6) t) (iblk T m c (2 : Fin 6) t) (crd T t 2).val
      (before (iblk T m c (0 : Fin 6) t) (iblk T m c (1 : Fin 6) t) (iblk T m c (2 : Fin 6) t) (crd T t 2).val (word T (crd T t)).toNat))

/-- Between points: the scratches at anything, the body's half of the table. -/
def Phi (c : Dev nD) : sProp 𝕄 :=
  iprop((∃ a : Buf (Elt F) ((c : Thread nD τ).loc cc0_scratch0), ((c : Thread nD τ).loc cc0_scratch0) ↦{fullShare} a)
    ∗ (∃ a : Buf (Elt F) ((c : Thread nD τ).loc cc0_scratch1), ((c : Thread nD τ).loc cc0_scratch1) ↦{fullShare} a)
    ∗ (∃ a : Buf (Elt F) ((c : Thread nD τ).loc cc0_scratch2), ((c : Thread nD τ).loc cc0_scratch2) ↦{fullShare} a)
    ∗ (((c : Thread nD τ).loc main_arg0) ↦{fullShare.right} T))

def dats (_ : Fin 1) (c : Dev nD) : Dat τ (Elt F) Unit ℕ (UR sig nD τ) ℕ (cfgA T) c where
  A w := m (((cfgA T).win w).arr.view.loc (c : Thread nD τ))
  after w t := match w with
    | ⟨0, _⟩ => iblk T m c (0 : Fin 6) t
    | ⟨1, _⟩ => iblk T m c (1 : Fin 6) t
    | ⟨2, _⟩ => iblk T m c (2 : Fin 6) t
    | ⟨3, _⟩ => iblk T m c (3 : Fin 6) t
    | ⟨4, _⟩ => iblk T m c (4 : Fin 6) t
    | ⟨5, _⟩ => out T m c t
  Φ t := Phi T c
  q _ := fullShare
  owed _ := 0

theorem after_0 (c : Dev nD) (t : Fin (cfgA T).N) : (dats T m 0 c).after (0 : Fin 6) t = iblk T m c (0 : Fin 6) t := rfl
theorem after_1 (c : Dev nD) (t : Fin (cfgA T).N) : (dats T m 0 c).after (1 : Fin 6) t = iblk T m c (1 : Fin 6) t := rfl
theorem after_2 (c : Dev nD) (t : Fin (cfgA T).N) : (dats T m 0 c).after (2 : Fin 6) t = iblk T m c (2 : Fin 6) t := rfl
theorem after_3 (c : Dev nD) (t : Fin (cfgA T).N) : (dats T m 0 c).after (3 : Fin 6) t = iblk T m c (3 : Fin 6) t := rfl
theorem after_4 (c : Dev nD) (t : Fin (cfgA T).N) : (dats T m 0 c).after (4 : Fin 6) t = iblk T m c (4 : Fin 6) t := rfl
theorem after_5 (c : Dev nD) (t : Fin (cfgA T).N) : (dats T m 0 c).after (5 : Fin 6) t = out T m c t := rfl

theorem before_0 (c : Dev nD) (t : Fin (cfgA T).N) (d) : (dats T m 0 c).before (0 : Fin 6) t d = iblk T m c (0 : Fin 6) t :=
  ((dats T m 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T m 0 c).before (1 : Fin 6) t d = iblk T m c (1 : Fin 6) t :=
  ((dats T m 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T m 0 c).before (2 : Fin 6) t d = iblk T m c (2 : Fin 6) t :=
  ((dats T m 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T m 0 c).before (3 : Fin 6) t d = iblk T m c (3 : Fin 6) t :=
  ((dats T m 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA T).N) (d) : (dats T m 0 c).before (4 : Fin 6) t d = iblk T m c (4 : Fin 6) t :=
  ((dats T m 0 c).before_in_eq_fetched (4 : Fin 6) rfl (fun _ => rfl) (fun _ _ _ => rfl) (fun t => by rw [after_4]; unfold Dat.blockOf iblk; rfl) t d).trans
    (by unfold Dat.fetched Dat.blockOf iblk; rfl)

/-- A whole buffer, held as a memref's elements. -/
theorem held (c : Dev nD) (b : Ref sig .tc) (q : PosShare TreeShare) (f : Buf (Elt F) ((c : Thread nD τ).loc b)) :
    ((((c : Thread nD τ).loc b) ↦{q} f : sProp 𝕄)) = ((Memref.whole b).view.loc (c : Thread nD τ) ↦[(Memref.whole b).view.set]{q} f) := by
  rw [show (Memref.whole b).view.set = Finset.univ from View.set_whole b]

abbrev bodyAt (t : Fin (cfgA T).N) : Prog (TpuEff nD τ sig (Elt F) Λ₀ .tc) PUnit :=
  cc0_fox_attn (crd T t) (Memref.whole main_arg0) (Memref.isWhole_whole _) (ms0 T t) (hs0 T t) (ms1 T t) (hs1 T t) (ms2 T t) (hs2 T t) (ms3 T t) (hs3 T t) (ms4 T t) (hs4 T t) (ms5 T t) (hs5 T t) (Memref.whole cc0_scratch0) (Memref.isWhole_whole _) (Memref.whole cc0_scratch1) (Memref.isWhole_whole _) (Memref.whole cc0_scratch2) (Memref.isWhole_whole _)

set_option maxHeartbeats 6400000 in
theorem sound_body (hT : Tab T) (c : Dev nD) (t : Fin (cfgA T).N) :
    iprop((dats T m 0 c).Φ t.castSucc ∗ (dats T m 0 c).owesAt () t.castSucc
        ∗ (∃ d, owns (c : Thread nD τ) (ms0 T t) fullShare ((dats T m 0 c).before (0 : Fin 6) t d))
        ∗ (∃ d, owns (c : Thread nD τ) (ms1 T t) fullShare ((dats T m 0 c).before (1 : Fin 6) t d))
        ∗ (∃ d, owns (c : Thread nD τ) (ms2 T t) fullShare ((dats T m 0 c).before (2 : Fin 6) t d))
        ∗ (∃ d, owns (c : Thread nD τ) (ms3 T t) fullShare ((dats T m 0 c).before (3 : Fin 6) t d))
        ∗ (∃ d, owns (c : Thread nD τ) (ms4 T t) fullShare ((dats T m 0 c).before (4 : Fin 6) t d))
        ∗ (∃ d, owns (c : Thread nD τ) (ms5 T t) fullShare ((dats T m 0 c).before (5 : Fin 6) t d)))
      ⊢ wp frame (wpE (defs₀ (F := F)) Variants.none c none) Set.univ (bodyAt T t) fun _ =>
          iprop((dats T m 0 c).Φ t.succ ∗ (dats T m 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m 0 c).before w t d))
                  | true => owns (c : Thread nD τ) (((cfgA T).win w).stage ((cfgA T).slots t w)) fullShare ((dats T m 0 c).after w t)
                | false => owns (c : Thread nD τ) (((cfgA T).win w).stage ((cfgA T).slots t w)) fullShare ((dats T m 0 c).after w t)) := by
  rw [bigSep_W0]
  have i5 : (cfgA T).idle (5 : Fin 6) ((cfgA T).grid.coords t) = false := rfl
  rewrite [i5]
  simp only [before_0, before_1, before_2, before_3, before_4, after_0, after_1, after_2, after_3, after_4, after_5]
  rewrite [show (dats T m 0 c).Φ t.succ = Phi T c from rfl, show (dats T m 0 c).Φ t.castSucc = Phi T c from rfl,
    show (dats T m 0 c).owesAt () t.succ = (dats T m 0 c).owesAt () t.castSucc from rfl]
  unfold Phi
  iintro ⟨⟨⟨%a0, HS0⟩, ⟨%a1, HS1⟩, ⟨%a2, HS2⟩, HT⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [HS0 HS1 HS2 HT H0 H1 H2 H3 H4 H5]
  · iapply (Body.body c Set.univ (crd T t) tb (Memref.isWhole_whole _) (ms0 T t) (hs0 T t) (ms1 T t) (hs1 T t) (ms2 T t) (hs2 T t) (ms3 T t) (hs3 T t) (ms4 T t) (hs4 T t) (ms5 T t) (hs5 T t) (Memref.whole cc0_scratch0) (Memref.isWhole_whole _) (Memref.whole cc0_scratch1) (Memref.isWhole_whole _) (Memref.whole cc0_scratch2) (Memref.isWhole_whole _)
      (iblk T m c (0 : Fin 6) t) (iblk T m c (1 : Fin 6) t) (iblk T m c (2 : Fin 6) t) fullShare.right T (w := (word T (crd T t)).toNat) (n := (crd T t 2).val)
      (by rw [BitVec.ofNat_toNat, BitVec.setWidth_eq]; rfl) (places (crd T t) _ (hT _)) (iblk T m c (3 : Fin 6) t) (iblk T m c (4 : Fin 6) t))
    isplitr [H3 H4 H5]
    · isplitl [HT]; · rw [← held]; iexact HT
      isplitl [H0]; · iapply rep_of_owns; iexact H0
      isplitl [H1]; · iapply rep_of_owns; iexact H1
      isplitl [H2]; · iapply rep_of_owns; iexact H2
      isplitl [HS0]
      · ihave HS0 := (Entails.of_eq (held c cc0_scratch0 fullShare a0)) $$ HS0
        iexists (fstS ((Memref.whole cc0_scratch0).view.read (Elt F) a0)), (sndS ((Memref.whole cc0_scratch0).view.read (Elt F) a0))
        iapply (pointsTo_rep_of_read (c : Thread nD τ) (Memref.whole cc0_scratch0) _ fullShare _ (etaS _).symm) $$ [HS0]
        iexact HS0
      isplitl [HS1]
      · ihave HS1 := (Entails.of_eq (held c cc0_scratch1 fullShare a1)) $$ HS1
        iexists ((Memref.whole cc0_scratch1).view.read (Elt F) a1)
        iapply (pointsTo_rep_of_read (c : Thread nD τ) (Memref.whole cc0_scratch1) _ fullShare _ rfl) $$ [HS1]
        iexact HS1
      · ihave HS2 := (Entails.of_eq (held c cc0_scratch2 fullShare a2)) $$ HS2
        iexists ((Memref.whole cc0_scratch2).view.read (Elt F) a2)
        iapply (pointsTo_rep_of_read (c : Thread nD τ) (Memref.whole cc0_scratch2) _ fullShare _ rfl) $$ [HS2]
        iexact HS2
    isplitl [H3]; · iapply rep_of_owns; iexact H3
    isplitl [H4]; · iapply rep_of_owns; iexact H4
    iexists _; iexact H5
  iintro %r ⟨⟨HT, H0, H1, H2, ⟨%s0, %s1, HS0⟩, ⟨%b1, HS1⟩, ⟨%b2, HS2⟩⟩, H3, H4, H5⟩
  isplitl [HS0 HS1 HS2 HT]
  · isplitl [HS0]
    · iexists _; rw [held]; iexact HS0
    isplitl [HS1]
    · iexists _; rw [held]; iexact HS1
    isplitl [HS2]
    · iexists _; rw [held]; iexact HS2
    rw [held]; iexact HT
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply owns_of_rep; iexact H5

theorem body_obligation (hT : Tab T) (c : Dev nD) : BodyObligation (dats T m 0 c) (defs₀ (F := F)) Variants.none () Set.univ := fun t => by
  rw [bigSep_W0]
  exact sound_body T m hT c t

def u₀ : UR sig nD τ :=
  initOf (Pipeline.cells (pcs T) ((launch0 (F := F)).cellOf_inj fun _ => adm T))
    (Pipeline.launchToks (pcs T) ((launch0 (F := F)).cellOf_inj fun _ => adm T))

theorem share_eq (c : Dev nD) (w : Fin (cfgA T).W) : (dats T m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm T).1 ∗ Pipeline.scopedRest spec0 c) ⊢ (dats T m 0 c).Φ 0 := by
  rw [prefHeld_eq, scopedRest0_eq, show (dats T m 0 c).Φ 0 = Phi T c from rfl]
  unfold Phi
  iintro ⟨-, HT0, ⟨%a0, HS0⟩, ⟨%a1, HS1⟩, ⟨%a2, HS2⟩⟩
  isplitl [HS0]; · iexists a0; iexact HS0
  isplitl [HS1]; · iexists a1; iexact HS1
  isplitl [HS2]; · iexists a2; iexact HS2
  iexact HT0

theorem phiN_exit (c : Dev nD) : (dats T m 0 c).Φ (Fin.last (cfgA T).N) ⊢ iprop(BI.emp ∗ Pipeline.scopedRest spec0 c) := by
  rw [scopedRest0_eq, show (dats T m 0 c).Φ (Fin.last (cfgA T).N) = Phi T c from rfl]
  unfold Phi
  iintro ⟨⟨%a0, HS0⟩, ⟨%a1, HS1⟩, ⟨%a2, HS2⟩, -⟩
  isplitr; · iempintro
  isplitl [HS0]; · iexists a0; iexact HS0
  isplitl [HS1]; · iexists a1; iexact HS1
  iexists a2; iexact HS2

def QC : PUnit × MemSt nD τ sig (Elt F) → Prop := fun r =>
  ∀ c : Dev nD, (∀ w : Fin (cfgA T).W, r.2.mem (((cfgA T).win w).arr.view.loc (c : Thread nD τ)) = (dats T m 0 c).arrAt w (cfgA T).N)
    ∧ ∀ j, r.2.mem ((c : Thread nD τ).loc (pre0.ref j)) = (adm T).1 j

variable (hm : ∀ c : Dev nD, m ((c : Thread nD τ).loc main_arg0) = T)

include hm in
theorem V_pre (c : Dev nD) (j : Fin 1) : m ((c : Thread nD τ).loc (pre0.ref j)) = (adm T).1 j := by
  fin_cases j
  · exact hm c

abbrev EP : Emb (UR sig nD τ) 𝕄 := emb₁

include hm in
set_option backward.isDefEq.respectTransparency.types false in
set_option maxHeartbeats 4000000 in
theorem run_main_quiescent (hT : Tab T) : θ_run (defs (F := F)) (onTc (τ := τ) (main (F := F))) (s₀ m ρ) (fun r => QC T m r ∧ r.2.sem = fun _ => 0) :=
  Pipeline.θ_run_region_noSem_pf_quiescent pcfgs (fun _ => adm T) (dats T m) () ((launch0 (F := F)).cellOf_inj fun _ => adm T) (0 : Fin 1)
    (launch0 (F := F)).win.to₀ (launch0 (F := F)).pre EP defs₀ Variants.none m ρ main
    (hbody := fun c => (body_obligation T m hT c).loose) (hne := (launch0 (F := F)).block_pos)
    (harr := (launch0 (F := F)).arr_whole) (hstage := (launch0 (F := F)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := F)).win.arr_inj c (launch0 (F := F)).arr_whole
      (share_eq T m c) _ _ fun _ => rfl)
    (hpf := V_pre T m hm)
    (X := fun _ => iprop(emp)) (Y := fun _ => iprop(emp)) (Z := fun _ => iprop(emp))
    (hX := fun c => by rw [unscopedRestP0_eq]; iintro -; isplitr <;> iempintro)
    (hin := phi0_intro T m)
    (hout := phiN_exit T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hm in
/-- Every run ends with the arguments unchanged, the result array at the blocks written and the counters at zero. -/
theorem run (hT : Tab T) :
    θ_run (defs (F := F)) (onTc (τ := τ) (main (F := F))) ⟨m, fun _ => 0, ρ⟩ (fun r => (∀ c : Dev nD,
      r.2.mem ((c.tc : Thread nD τ).loc main_v0) = (dats T m 0 c).arrAt (5 : Fin 6) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 (5 : Fin 6), ((h.1 c).2 0).trans (hm c).symm, ((h.1 c).1 (0 : Fin 6)).trans ((dats T m 0 c).arrAt_in (0 : Fin 6) rfl _), ((h.1 c).1 (1 : Fin 6)).trans ((dats T m 0 c).arrAt_in (1 : Fin 6) rfl _), ((h.1 c).1 (2 : Fin 6)).trans ((dats T m 0 c).arrAt_in (2 : Fin 6) rfl _), ((h.1 c).1 (3 : Fin 6)).trans ((dats T m 0 c).arrAt_in (3 : Fin 6) rfl _), ((h.1 c).1 (4 : Fin 6)).trans ((dats T m 0 c).arrAt_in (4 : Fin 6) rfl _)⟩, h.2⟩) (run_main_quiescent T m ρ hm hT)

end Cert.KernelIdeal.Launch
-- ==== Proof.Twin.Frame.lean ====
/-
  The frame under the precondition: the table it admits keeps every point inside its diagonal.
-/
module

public import proofs.«01_k».proof.Proof.Twin.Launch
public import proofs.«01_k».proof.Proof.Words

@[expose] public section

set_option maxRecDepth 16384

noncomputable section

namespace Cert.KernelIdeal.Launch

open Cert.KernelIdeal Cert.KernelIdeal.Gen Cert.KernelIdeal.Body
open Idealize.ShloMosaic Idealize.ShloMosaic.TcCoe

variable {F : FTy → Type} [FloatOps F]

/-- The point of rows `a`, heads `b` and query tile `n`. -/
def pt (a : Fin 2) (b n : Fin 8) : grid0.Coords
  | 0 => a
  | 1 => b
  | 2 => n

theorem off1_pt : ∀ (a : Fin 2) (b n : Fin 8), k0_off1 (pt a b n) 0 = 64 * a.val + 8 * b.val + n.val := by decide +kernel

theorem off1_eq (i : grid0.Coords) : k0_off1 i 0 = 64 * (i 0).val + 8 * (i 1).val + (i 2).val :=
  off1_pt (i 0) (i 1) (i 2)

/-- The entry of the table the word of a point is. -/
def entry (i : grid0.Coords) : S128.Idx
  | 0 => (⟨64 * (i 0).val + 8 * (i 1).val + (i 2).val, by
      have h0 : (i 0).val < 2 := (i 0).isLt
      have h1 : (i 1).val < 8 := (i 1).isLt
      have h2 : (i 2).val < 8 := (i 2).isLt
      omega⟩ : Fin 128)

theorem word_eq (T : Vec F S128 .i32) (i : grid0.Coords) : word (F := F) T i = T (entry i) := by
  unfold word
  rw [View.readAt_apply]
  refine congrArg T (funext fun a => Fin.ext ?_)
  match a with
  | 0 => show k0_off1 i 0 + 1 * 0 = _; rw [off1_eq]; rfl

theorem tab_of (T : Vec F S128 .i32) (h : ∀ y : S128.Idx, (T y : BitVec 32).toNat ≤ 2 * ((y 0).val % 8)) : Tab (F := F) T := by
  intro i
  rw [word_eq]
  have := h (entry i)
  have e : (entry i 0).val = 64 * (i 0).val + 8 * (i 1).val + (i 2).val := rfl
  have h2 : (i 2).val < 8 := (i 2).isLt
  omega

end Cert.KernelIdeal.Launch
-- ==== Proof.Value.Reads.lean ====
/-
  What the operations of one tile compute at an index, over the extended reals: scores are dots over 128 lanes, the
  running maximum takes in a row of scores, the accumulator is rescaled and takes in the tile's values.
-/
module

public import proofs.«01_k».proof.Proof.Twin.Spec
public import Idealize.ShloMosaic.Lib.Pointwise

@[expose] public section

set_option maxRecDepth 16384

noncomputable section

namespace Cert.Value

open Cert.KernelIdeal Cert.KernelIdeal.Gen Cert.KernelIdeal.Body
open Idealize.ShloMosaic

/-- The greatest of a row of scores. -/
def top {n : ℕ} (f : Fin n → EReal) : EReal := Finset.univ.fold max ⊥ f

theorem ofBits_neg_inf : Ideal.ofBits .f32 0xFF800000#32 = ⊥ := by
  simp [Ideal.ofBits, Ideal.ieee]

theorem pay1_at (k : Vec Ideal S1x1x512x128 .bf16) (q : Vec Ideal S1x1x1024x128 .bf16) (r : Fin 1024) (j : Fin 512) :
    k0_pay1 k q (ix3 0 r j) = ∑ d : Fin 128, q (ix4 0 0 r d) * k (ix4 0 0 j d) := by
  pointwise [k0_pay1]

theorem pay172_at (k : Vec Ideal S1x1x512x128 .bf16) (q : Vec Ideal S1x1x1024x128 .bf16) (r : Fin 1024) (j : Fin 512) :
    k0_pay172 k q (ix3 0 r j) = ∑ d : Fin 128, q (ix4 0 0 r d) * k (ix4 0 0 j d) := by
  pointwise [k0_pay172]

theorem pay179_at (k : Vec Ideal S1x1x512x128 .bf16) (q : Vec Ideal S1x1x512x128 .bf16) (r j : Fin 512) :
    k0_pay179 k q (ix3 0 r j) = ∑ d : Fin 128, q (ix4 0 0 r d) * k (ix4 0 0 j d) := by
  pointwise [k0_pay179]

theorem pay185_at (k : Vec Ideal S1x1x512x128 .bf16) (q : Vec Ideal S1x1x512x128 .bf16) (r j : Fin 512) :
    k0_pay185 k q (ix3 0 r j) = ∑ d : Fin 128, q (ix4 0 0 r d) * k (ix4 0 0 j d) := by
  pointwise [k0_pay185]

theorem pay4_at (s : Vec Ideal S1x1024x512 .f32) (m : Vec Ideal S1x1024x128 .f32) (r : Fin 1024) (l : Fin 128) :
    k0_pay4 s m (ix2 r l) = max (m (ix3 0 r l)) (top fun j => s (ix3 0 r j)) := by
  pointwise [k0_pay4, k0_pay3, k0_pay2, top, ofBits_neg_inf]

theorem mN_at (s : Vec Ideal S1x1024x512 .f32) (m : Vec Ideal S1x1024x128 .f32) (r : Fin 1024) (l : Fin 128) :
    mN s m (ix3 0 r l) = max (m (ix3 0 r l)) (top fun j => s (ix3 0 r j)) := by
  pointwise [mN, k0_pay7, pay4_at]

theorem aN_at (s : Vec Ideal S1x1024x512 .f32) (m : Vec Ideal S1x1024x128 .f32) (v : Vec Ideal S1x1x512x128 .bf16) (a : Vec Ideal S1x1024x128 .f32)
    (M : Fin 1024 → EReal) (hm : ∀ r l, m (ix3 0 r l) = M r) (r : Fin 1024) (l : Fin 128) :
    aN s m v a (ix3 0 r l) = Ideal.exp2 (M r - max (M r) (top fun j => s (ix3 0 r j))) * a (ix3 0 r l)
      + ∑ j : Fin 512, Ideal.exp2 (s (ix3 0 r j) - max (M r) (top fun j => s (ix3 0 r j))) * v (ix4 0 0 j l) := by
  pointwise [aN, k0_pay9, k0_pay5, k0_pay6, k0_pay8, k0_pay3, k0_pay2, pay4_at, hm]
  simp only [dite_eq_ite, ite_self]
  rfl

theorem sge_word (a b : ℕ) (ha : a < 2 ^ 31) (hb : b < 2 ^ 31) :
    IntOp.cmpi .sge (BitVec.ofNat 32 a) (BitVec.ofNat 32 b) = BitVec.ofBool (decide (b ≤ a)) := by
  have e : (BitVec.ofNat 32 b).sle (BitVec.ofNat 32 a) = decide (b ≤ a) := by
    rw [BitVec.sle_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact decide_eq_decide.mpr (by omega)
  simp only [IntOp.cmpi, e]

theorem addi_word (a b : ℕ) : IntOp.addi (BitVec.ofNat 32 a) (BitVec.ofNat 32 b) = BitVec.ofNat 32 (a + b) := by
  simp only [IntOp.addi, BitVec.ofNat_add]

/-- A score is kept where the key is not after the query. -/
theorem masked (a b c : ℕ) (ha : a + c < 2 ^ 31) (hb : b + c < 2 ^ 31) (x : EReal) :
    Scalar.select (IntOp.cmpi .sge (IntOp.addi (BitVec.ofNat 32 a) (BitVec.ofNat 32 c)) (IntOp.addi (BitVec.ofNat 32 b) (BitVec.ofNat 32 c))) x ⊥
      = if b ≤ a then x else ⊥ := by
  rw [addi_word, addi_word, sge_word _ _ ha hb]
  by_cases h : b ≤ a
  · rw [if_pos h, decide_eq_true (by omega)]; rfl
  · rw [if_neg h, decide_eq_false (by omega)]; rfl

theorem pay173_at (s : Vec Ideal S1x1024x512 .f32) (r : Fin 1024) (j : Fin 512) :
    k0_pay173 s (ix2 r j) = if j.val ≤ r.val then s (ix3 0 r j) else ⊥ := by
  pointwise [k0_pay173, ofBits_neg_inf]
  exact masked _ _ 0 (by omega) (by omega) _

theorem pay180_at (s : Vec Ideal S1x1024x512 .f32) (r : Fin 1024) (j : Fin 512) :
    k0_pay180 s (ix2 r j) = if j.val ≤ r.val then s (ix3 0 r j) else ⊥ := by
  pointwise [k0_pay180, ofBits_neg_inf]
  exact masked _ _ 0 (by omega) (by omega) _

theorem pay186_at (s : Vec Ideal S1x512x512 .f32) (r : Fin 512) (j : Fin 512) :
    k0_pay186 s (ix2 r j) = if j.val ≤ r.val then s (ix3 0 r j) else ⊥ := by
  pointwise [k0_pay186, ofBits_neg_inf]
  exact masked _ _ 512 (by omega) (by omega) _

theorem pay193_at (s : Vec Ideal S1x512x512 .f32) (r : Fin 512) (j : Fin 512) :
    k0_pay193 s (ix2 r j) = if j.val ≤ r.val then s (ix3 0 r j) else ⊥ := by
  pointwise [k0_pay193, ofBits_neg_inf]
  exact masked _ _ 512 (by omega) (by omega) _

/-- The scores of a row with those of later keys masked. -/
def cut {n : ℕ} (s : Vec Ideal ⟨3, ![1, n, 512]⟩ .f32) (r : Fin n) (j : Fin 512) : EReal := if j.val ≤ r.val then s (ix3 0 r j) else ⊥

theorem pay175_at (s : Vec Ideal S1x1024x512 .f32) (m : Vec Ideal S1x1024x128 .f32) (r : Fin 1024) (l : Fin 128) :
    k0_pay175 s m (ix2 r l) = max (m (ix3 0 r l)) (top fun j => cut s r j) := by
  pointwise [k0_pay175, k0_pay174, pay173_at, top, ofBits_neg_inf, cut]

theorem pay182_at (s : Vec Ideal S1x1024x512 .f32) (m : Vec Ideal S1x1024x128 .f32) (r : Fin 1024) (l : Fin 128) :
    k0_pay182 s m (ix2 r l) = max (m (ix3 0 r l)) (top fun j => cut s r j) := by
  pointwise [k0_pay182, k0_pay181, pay180_at, top, ofBits_neg_inf, cut]

theorem pay188_at (s : Vec Ideal S1x512x512 .f32) (m : Vec Ideal S1x512x128 .f32) (r : Fin 512) (l : Fin 128) :
    k0_pay188 s m (ix2 r l) = max (m (ix3 0 r l)) (top fun j => cut s r j) := by
  pointwise [k0_pay188, k0_pay187, pay186_at, top, ofBits_neg_inf, cut]

theorem pay195_at (s : Vec Ideal S1x512x512 .f32) (m : Vec Ideal S1x512x128 .f32) (r : Fin 512) (l : Fin 128) :
    k0_pay195 s m (ix2 r l) = max (m (ix3 0 r l)) (top fun j => cut s r j) := by
  pointwise [k0_pay195, k0_pay194, pay193_at, top, ofBits_neg_inf, cut]

theorem pay178_at (s : Vec Ideal S1x1024x512 .f32) (m : Vec Ideal S1x1024x128 .f32) (v : Vec Ideal S1x1x512x128 .bf16) (a : Vec Ideal S1x1024x128 .f32)
    (M : Fin 1024 → EReal) (hm : ∀ r l, m (ix3 0 r l) = M r) (r : Fin 1024) (l : Fin 128) :
    k0_pay178 (k0_pay174 m) (k0_pay175 s m) (k0_pay176 s m) v a (ix3 0 r l) = Ideal.exp2 (M r - max (M r) (top fun j => cut s r j)) * a (ix3 0 r l)
      + ∑ j : Fin 512, Ideal.exp2 (cut s r j - max (M r) (top fun j => cut s r j)) * v (ix4 0 0 j l) := by
  pointwise [k0_pay178, k0_pay174, k0_pay176, pay175_at, pay173_at, hm, cut]
  simp only [dite_eq_ite, ite_self]
  rfl

theorem pay184_at (s : Vec Ideal S1x1024x512 .f32) (m : Vec Ideal S1x1024x128 .f32) (v : Vec Ideal S1x1x512x128 .bf16) (a : Vec Ideal S1x1024x128 .f32)
    (M : Fin 1024 → EReal) (hm : ∀ r l, m (ix3 0 r l) = M r) (r : Fin 1024) (l : Fin 128) :
    k0_pay184 s m v a (ix3 0 r l) = Ideal.exp2 (M r - max (M r) (top fun j => cut s r j)) * a (ix3 0 r l)
      + ∑ j : Fin 512, Ideal.exp2 (cut s r j - max (M r) (top fun j => cut s r j)) * v (ix4 0 0 j l) := by
  pointwise [k0_pay184, k0_pay181, pay182_at, pay180_at, hm, cut]
  simp only [dite_eq_ite, ite_self]
  rfl

theorem pay192_at (s : Vec Ideal S1x512x512 .f32) (m : Vec Ideal S1x512x128 .f32) (v : Vec Ideal S1x1x512x128 .bf16) (a : Vec Ideal S1x512x128 .f32)
    (M : Fin 512 → EReal) (hm : ∀ r l, m (ix3 0 r l) = M r) (r : Fin 512) (l : Fin 128) :
    k0_pay192 (k0_pay189 s m) (k0_pay190 s m) v a (ix3 0 r l) = Ideal.exp2 (M r - max (M r) (top fun j => cut s r j)) * a (ix3 0 r l)
      + ∑ j : Fin 512, Ideal.exp2 (cut s r j - max (M r) (top fun j => cut s r j)) * v (ix4 0 0 j l) := by
  pointwise [k0_pay192, k0_pay189, k0_pay190, k0_pay187, pay188_at, pay186_at, hm, cut]
  simp only [dite_eq_ite, ite_self]
  rfl

theorem pay199_at (s : Vec Ideal S1x512x512 .f32) (m : Vec Ideal S1x512x128 .f32) (v : Vec Ideal S1x1x512x128 .bf16) (a : Vec Ideal S1x512x128 .f32)
    (M : Fin 512 → EReal) (hm : ∀ r l, m (ix3 0 r l) = M r) (r : Fin 512) (l : Fin 128) :
    k0_pay199 (k0_pay196 s m) (k0_pay197 s m) v a (ix3 0 r l) = Ideal.exp2 (M r - max (M r) (top fun j => cut s r j)) * a (ix3 0 r l)
      + ∑ j : Fin 512, Ideal.exp2 (cut s r j - max (M r) (top fun j => cut s r j)) * v (ix4 0 0 j l) := by
  pointwise [k0_pay199, k0_pay196, k0_pay197, k0_pay194, pay195_at, pay193_at, hm, cut]
  simp only [dite_eq_ite, ite_self]
  rfl

theorem pay177_at (s : Vec Ideal S1x1024x512 .f32) (m : Vec Ideal S1x1024x128 .f32) (r : Fin 1024) (l : Fin 128) :
    k0_pay177 (k0_pay175 s m) (ix3 0 r l) = max (m (ix3 0 r l)) (top fun j => cut s r j) := by
  pointwise [k0_pay177, pay175_at]

theorem pay183_at (s : Vec Ideal S1x1024x512 .f32) (m : Vec Ideal S1x1024x128 .f32) (r : Fin 1024) (l : Fin 128) :
    k0_pay183 s m (ix3 0 r l) = max (m (ix3 0 r l)) (top fun j => cut s r j) := by
  pointwise [k0_pay183, pay182_at]

end Cert.Value

end
-- ==== Proof.Value.Softmax.lean ====
/-
  The mathematics of a softmax accumulated tile by tile: weighted sums of extended reals with weights that are powers of
  two, rescaled when the running maximum moves, and the quotient by the sum of the weights, which does not depend on it.
  The scores may be infinite.
-/
module

public import proofs.«01_k».proof.Proof.Value.Reads

@[expose] public section

noncomputable section

namespace Cert.Value

open Idealize.ShloMosaic

/-- The weighted sum of `x` over the keys of `S`, the weights taken against the level `M`. -/
def wsum (s : ℕ → EReal) (x : ℕ → EReal) (M : EReal) (S : Finset ℕ) : EReal := ∑ k ∈ S, Ideal.exp2 (s k - M) * x k

/-- What a running maximum is to the scores it has taken in. -/
structure Level (s : ℕ → EReal) (S : Finset ℕ) (M : EReal) : Prop where
  ne_bot : M ≠ ⊥
  le : ∀ k ∈ S, s k ≤ M
  top : M = ⊤ → ∃ k ∈ S, s k = ⊤

/-- Multiplying by a real that is not negative goes into a sum of extended reals. -/
theorem mul_sum_coe {ι : Type} (c : ℝ) (hc : 0 ≤ c) (S : Finset ι) (f : ι → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]

theorem exp2_sub (a b : ℝ) : Ideal.exp2 ((a : EReal) - (b : EReal)) = (((2 : ℝ) ^ (a - b) : ℝ) : EReal) := by
  rw [← EReal.coe_sub]; rfl

theorem exp2_bot_sub (b : EReal) : Ideal.exp2 ((⊥ : EReal) - b) = 0 := by
  rw [EReal.bot_sub]; rfl

theorem exp2_sub_top (a : EReal) : Ideal.exp2 (a - (⊤ : EReal)) = 0 := by
  rw [sub_eq_add_neg, EReal.neg_top, EReal.add_bot]; rfl

/-- Moving the level rescales a weight. -/
theorem shift (a M M' : EReal) (ha : a ≤ M) (hM : M ≠ ⊥) (h : M ≤ M') : Ideal.exp2 (M - M') * Ideal.exp2 (a - M) = Ideal.exp2 (a - M') := by
  induction M' using EReal.rec with
  | bot => exact absurd (le_bot_iff.mp h) hM
  | top => rw [exp2_sub_top, exp2_sub_top, zero_mul]
  | coe m' =>
    induction M using EReal.rec with
    | bot => exact absurd rfl hM
    | top => exact absurd (top_le_iff.mp h) (EReal.coe_ne_top m')
    | coe m =>
      induction a using EReal.rec with
      | bot => rw [exp2_bot_sub, exp2_bot_sub, mul_zero]
      | top => exact absurd (top_le_iff.mp ha) (EReal.coe_ne_top m)
      | coe a =>
        rw [exp2_sub, exp2_sub, exp2_sub, ← EReal.coe_mul, ← Real.rpow_add (by norm_num)]
        congr 2
        ring

/-- Moving the level rescales a weighted sum. -/
theorem rescale (s : ℕ → EReal) (x : ℕ → EReal) (M M' : EReal) (S : Finset ℕ) (hs : ∀ k ∈ S, s k ≤ M) (hM : M ≠ ⊥) (h : M ≤ M') :
    Ideal.exp2 (M - M') * wsum s x M S = wsum s x M' S := by
  have e : ∃ c : ℝ, 0 ≤ c ∧ Ideal.exp2 (M - M') = (c : EReal) := by
    induction M' using EReal.rec with
    | bot => exact absurd (le_bot_iff.mp h) hM
    | top => exact ⟨0, le_rfl, exp2_sub_top _⟩
    | coe m' =>
      induction M using EReal.rec with
      | bot => exact absurd rfl hM
      | top => exact absurd (top_le_iff.mp h) (EReal.coe_ne_top m')
      | coe m => exact ⟨_, (Real.rpow_pos_of_pos (by norm_num) _).le, exp2_sub m m'⟩
  obtain ⟨c, hc, e⟩ := e
  unfold wsum
  rw [e, mul_sum_coe c hc, ← e]
  refine Finset.sum_congr rfl fun k hk => ?_
  rw [← mul_assoc, shift _ _ _ (hs k hk) hM h]

theorem le_greatest {n : ℕ} (f : Fin n → EReal) (j : Fin n) : f j ≤ top f := Finset.le_sup (f := f) (Finset.mem_univ j)

/-- A greatest score that is infinite is one of the scores. -/
theorem of_top_eq {n : ℕ} (f : Fin n → EReal) (h : top f = ⊤) : ∃ j, f j = ⊤ := by
  by_contra hn
  have h1 : top f < ⊤ := by
    show Finset.univ.sup f < ⊤
    rw [Finset.sup_lt_iff (by exact bot_lt_top)]
    exact fun j _ => lt_top_iff_ne_top.mpr fun e => hn ⟨j, e⟩
  exact h1.ne h

/-- A greatest score that is not minus infinity. -/
theorem of_top_ne_bot {n : ℕ} (f : Fin n → EReal) (h : top f ≠ ⊥) : ∃ j, f j ≠ ⊥ := by
  by_contra hn
  refine h (show Finset.univ.sup f = ⊥ from (Finset.sup_eq_bot_iff f Finset.univ).mpr fun j _ => ?_)
  by_contra hj
  exact hn ⟨j, hj⟩

/-- The running maximum after one tile of keys. -/
theorem level_step {s : ℕ → EReal} {A t E : ℕ} (hA : A ≤ t) (hE : t ≤ E) {M : EReal} (L : Level s (Finset.Ico A t) M) (σ : Fin 512 → EReal)
    (hσ : ∀ j : Fin 512, σ j = if t + j.val < E then s (t + j.val) else ⊥) : Level s (Finset.Ico A (min (t + 512) E)) (max M (top σ)) where
  ne_bot := fun h => L.ne_bot (max_eq_bot.mp h).1
  le := fun k hk => by
    have hk := Finset.mem_Ico.mp hk
    by_cases h : k < t
    · exact (L.le k (Finset.mem_Ico.mpr ⟨hk.1, h⟩)).trans (le_max_left _ _)
    · have e := hσ ⟨k - t, by omega⟩
      have e' : t + (k - t) = k := by omega
      simp only [e'] at e
      rw [if_pos (by omega)] at e
      rw [← e]
      exact (le_greatest σ _).trans (le_max_right _ _)
  top := fun h => by
    rcases max_eq_top.mp h with h | h
    · obtain ⟨k, hk, e⟩ := L.top h
      have hk := Finset.mem_Ico.mp hk
      exact ⟨k, Finset.mem_Ico.mpr ⟨hk.1, by omega⟩, e⟩
    · obtain ⟨j, e⟩ := of_top_eq σ h
      have hj := j.isLt
      rw [hσ] at e
      by_cases h' : t + j.val < E
      · rw [if_pos h'] at e
        exact ⟨_, Finset.mem_Ico.mpr ⟨by omega, by omega⟩, e⟩
      · rw [if_neg h'] at e
        exact absurd e bot_ne_top

/-- One tile of keys from `t` on, those from `E` on masked, taken into the sum over the keys from `A` to `t`. -/
theorem tile_sum (s : ℕ → EReal) (x : ℕ → EReal) (A t E : ℕ) (hA : A ≤ t) (hE : t ≤ E) (M : EReal) (L : Level s (Finset.Ico A t) M) (σ y : Fin 512 → EReal)
    (hσ : ∀ j : Fin 512, σ j = if t + j.val < E then s (t + j.val) else ⊥) (hy : ∀ j : Fin 512, y j = x (t + j.val)) :
    Ideal.exp2 (M - max M (top σ)) * wsum s x M (Finset.Ico A t) + ∑ j : Fin 512, Ideal.exp2 (σ j - max M (top σ)) * y j
      = wsum s x (max M (top σ)) (Finset.Ico A (min (t + 512) E)) := by
  rw [rescale s x M _ _ L.le L.ne_bot (le_max_left _ _)]
  generalize max M (top σ) = M'
  have e : ∑ j : Fin 512, Ideal.exp2 (σ j - M') * y j = wsum s x M' (Finset.Ico t (min (t + 512) E)) := by
    have e1 : ∀ j : Fin 512, Ideal.exp2 (σ j - M') * y j
        = (fun i => if t + i < E then Ideal.exp2 (s (t + i) - M') * x (t + i) else 0) j.val := by
      intro j
      show _ = if t + j.val < E then Ideal.exp2 (s (t + j.val) - M') * x (t + j.val) else 0
      rw [hσ j, hy j]
      by_cases h : t + j.val < E
      · rw [if_pos h, if_pos h]
      · rw [if_neg h, if_neg h, exp2_bot_sub, zero_mul]
    rw [Finset.sum_congr rfl fun j _ => e1 j, Fin.sum_univ_eq_sum_range (fun i => if t + i < E then Ideal.exp2 (s (t + i) - M') * x (t + i) else 0) 512,
      ← Finset.sum_filter]
    unfold wsum
    rw [Finset.sum_Ico_eq_sum_range]
    refine Finset.sum_congr ?_ fun k _ => rfl
    ext k
    simp only [Finset.mem_filter, Finset.mem_range]
    omega
  rw [e]
  unfold wsum
  exact Finset.sum_Ico_consecutive _ hA (by omega)

/-! ## The quotient -/

/-- The scores of which a softmax is an average: none is plus infinity, and one is more than minus infinity. -/
def Regular (s : ℕ → EReal) (S : Finset ℕ) : Prop := (∀ k ∈ S, s k ≠ ⊤) ∧ ∃ k ∈ S, s k ≠ ⊥

/-- The weight of a score, as a real number: a power of two, or nothing. -/
def wt (a : EReal) : ℝ := if a = ⊥ then 0 else (2 : ℝ) ^ a.toReal

theorem wt_nonneg (a : EReal) : 0 ≤ wt a := by
  unfold wt
  split
  · exact le_rfl
  · exact (Real.rpow_pos_of_pos (by norm_num) _).le

/-- The weight against a real level. -/
theorem exp2_wt (a : EReal) (ha : a ≠ ⊤) (m : ℝ) : Ideal.exp2 (a - (m : EReal)) = ((wt a * (2 : ℝ) ^ (-m) : ℝ) : EReal) := by
  induction a using EReal.rec with
  | bot => rw [exp2_bot_sub, wt, if_pos rfl, zero_mul]; rfl
  | top => exact absurd rfl ha
  | coe a => rw [exp2_sub, wt, if_neg (EReal.coe_ne_bot a), EReal.toReal_coe, ← Real.rpow_add (by norm_num), sub_eq_add_neg]

/-- The sum of the weights. -/
def total (s : ℕ → EReal) (S : Finset ℕ) : ℝ := ∑ j ∈ S, wt (s j)

theorem total_pos {s : ℕ → EReal} {S : Finset ℕ} (h : Regular s S) : 0 < total s S := by
  obtain ⟨_, k, hk, e⟩ := h
  refine Finset.sum_pos' (fun j _ => wt_nonneg _) ⟨k, hk, ?_⟩
  rw [wt, if_neg e]
  exact Real.rpow_pos_of_pos (by norm_num) _

/-- The share of key `k` among the keys of `S`. -/
def share (s : ℕ → EReal) (S : Finset ℕ) (k : ℕ) : ℝ := wt (s k) / total s S

/-- The attention: the average of `x` by the shares. -/
def avg (s : ℕ → EReal) (x : ℕ → EReal) (S : Finset ℕ) : EReal := ∑ k ∈ S, ((share s S k : ℝ) : EReal) * x k

theorem two_pow_pos (m : ℝ) : 0 < (2 : ℝ) ^ (-m) := Real.rpow_pos_of_pos (by norm_num) _

/-- The shares do not depend on the level. -/
theorem share_eq (s : ℕ → EReal) (S : Finset ℕ) (m : ℝ) (k : ℕ) : (total s S * (2 : ℝ) ^ (-m))⁻¹ * (wt (s k) * (2 : ℝ) ^ (-m)) = share s S k := by
  have h : (2 : ℝ) ^ (-m) ≠ 0 := (two_pow_pos m).ne'
  unfold share
  rw [mul_inv, div_eq_mul_inv]
  field_simp

theorem coe_sum (S : Finset ℕ) (f : ℕ → ℝ) : ((∑ j ∈ S, f j : ℝ) : EReal) = ∑ j ∈ S, ((f j : ℝ) : EReal) := by
  classical
  induction S using Finset.induction_on with
  | empty => simp
  | insert a S ha ih => rw [Finset.sum_insert ha, Finset.sum_insert ha, EReal.coe_add, ih]

/-- The weighted sum of ones is the sum of the weights. -/
theorem wsum_one {s : ℕ → EReal} (x : ℕ → EReal) {S : Finset ℕ} (h : Regular s S) (m : ℝ) (hx : ∀ k, x k = 1) :
    wsum s x (m : EReal) S = ((total s S * (2 : ℝ) ^ (-m) : ℝ) : EReal) := by
  unfold wsum total
  rw [Finset.sum_mul, coe_sum]
  exact Finset.sum_congr rfl fun k hk => by rw [hx, mul_one, exp2_wt _ (h.1 k hk)]

/-- Dividing the weighted sum by the sum of the weights gives the average. -/
theorem inv_wsum {s : ℕ → EReal} (x : ℕ → EReal) {S : Finset ℕ} (h : Regular s S) (m : ℝ) :
    (((total s S * (2 : ℝ) ^ (-m))⁻¹ : ℝ) : EReal) * wsum s x (m : EReal) S = avg s x S := by
  unfold wsum avg
  rw [mul_sum_coe _ (inv_nonneg.mpr (mul_pos (total_pos h) (two_pow_pos m)).le)]
  refine Finset.sum_congr rfl fun k hk => ?_
  rw [exp2_wt _ (h.1 k hk), ← mul_assoc, ← EReal.coe_mul, share_eq]

/-- The level of regular scores is real. -/
theorem Level.real {s : ℕ → EReal} {S : Finset ℕ} {M : EReal} (L : Level s S M) (h : Regular s S) : ∃ m : ℝ, M = (m : EReal) := by
  refine ⟨M.toReal, (EReal.coe_toReal (fun e => ?_) L.ne_bot).symm⟩
  obtain ⟨k, hk, e⟩ := L.top e
  exact h.1 k hk e

/-- Of scores that are not regular every weight vanishes. -/
theorem Level.wsum_eq_zero {s : ℕ → EReal} {S : Finset ℕ} {M : EReal} (L : Level s S M) (h : ¬ Regular s S) (x : ℕ → EReal) : wsum s x M S = 0 := by
  refine Finset.sum_eq_zero fun k hk => ?_
  by_cases hb : s k = ⊥
  · rw [hb, exp2_bot_sub, zero_mul]
  · have hM : M = ⊤ := by
      by_contra hM
      exact h ⟨fun j hj e => hM (top_le_iff.mp (e ▸ L.le j hj)), k, hk, hb⟩
    rw [hM, exp2_sub_top, zero_mul]

theorem one_div_coe {L : ℝ} (hL : L ≠ 0) : Ideal.div 1 (L : EReal) = ((L⁻¹ : ℝ) : EReal) := by
  unfold Ideal.div
  rw [if_neg (by exact_mod_cast hL), one_mul, EReal.coe_inv]

end Cert.Value

end
-- ==== Proof.Value.Row.lean ====
/-
  What the accumulators of one grid point hold: for every row, the sum of the values over the keys taken in so far,
  weighted by powers of two of the scores against one level.
-/
module

public import proofs.«01_k».proof.Proof.Twin.Body
public import proofs.«01_k».proof.Proof.Value.Softmax

@[expose] public section

set_option maxRecDepth 16384

noncomputable section

namespace Cert.Value

open Cert.KernelIdeal Cert.KernelIdeal.Gen Cert.KernelIdeal.Body
open Idealize.ShloMosaic

/-- The place of key `k`. -/
def key (k : ℕ) : Fin 8192 := ⟨k % 8192, Nat.mod_lt _ (by decide)⟩

/-- The value lane `l` of key `k` of one head. -/
def vals (v : Vec Ideal S1x2x8192x128 .bf16) (h : Fin 2) (l : Fin 128) (k : ℕ) : EReal := v (ix4 0 h (key k) l)

/-- The scores of a block of queries are `s`. -/
def Scores (q : Vec Ideal S1x2x1024x128 .bf16) (k : Vec Ideal S1x2x8192x128 .bf16) (s : Fin 2 → Fin 1024 → ℕ → EReal) : Prop :=
  ∀ h r j, ∑ d : Fin 128, q (ix4 0 h r d) * k (ix4 0 h (key j) d) = s h r j

theorem kt_at (k : Vec Ideal S1x2x8192x128 .bf16) (h : Fin 2) (t : ℕ) (j : Fin 512) (d : Fin 128) :
    kt k h t (ix4 0 0 j d) = k (ix4 0 h (key (t + j.val)) d) := by
  unfold kt Slabs.tile
  exact congrArg k (funext fun a => by match a with | 0 => rfl | 1 => rfl | 2 => rfl | 3 => rfl)

theorem qw_at (q : Vec Ideal S1x2x1024x128 .bf16) (h : Fin 2) (r : Fin 1024) (d : Fin 128) : qw q h (ix4 0 0 r d) = q (ix4 0 h r d) := by
  have hr := r.isLt
  unfold qw Slabs.tile
  refine congrArg q (funext fun a => ?_)
  match a with
  | 0 => rfl
  | 1 => rfl
  | 2 => exact Fin.ext (show (0 + r.val) % 1024 = r.val by omega)
  | 3 => rfl

theorem ql_at (q : Vec Ideal S1x2x1024x128 .bf16) (h : Fin 2) (r : Fin 512) (d : Fin 128) :
    ql q h (ix4 0 0 r d) = q (ix4 0 h (⟨512 + r.val, by have := r.isLt; omega⟩ : Fin 1024) d) := by
  have hr := r.isLt
  unfold ql Slabs.tile
  refine congrArg q (funext fun a => ?_)
  match a with
  | 0 => rfl
  | 1 => rfl
  | 2 => exact Fin.ext (show (512 + r.val) % 1024 = 512 + r.val by omega)
  | 3 => rfl

variable {q : Vec Ideal S1x2x1024x128 .bf16} {k v : Vec Ideal S1x2x8192x128 .bf16} {s : Fin 2 → Fin 1024 → ℕ → EReal}

theorem score_at (hs : Scores q k s) (h : Fin 2) (t : ℕ) (r : Fin 1024) (j : Fin 512) :
    k0_pay1 (kt k h t) (qw q h) (ix3 0 r j) = s h r (t + j.val) := by
  rw [pay1_at, ← hs h r]
  exact Finset.sum_congr rfl fun d _ => by rw [qw_at, kt_at]

theorem score172_at (hs : Scores q k s) (h : Fin 2) (t : ℕ) (r : Fin 1024) (j : Fin 512) :
    k0_pay172 (kt k h t) (qw q h) (ix3 0 r j) = s h r (t + j.val) := by
  rw [pay172_at, ← hs h r]
  exact Finset.sum_congr rfl fun d _ => by rw [qw_at, kt_at]

/-- A row of the lower half of the block. -/
def dn (r : Fin 512) : Fin 1024 := ⟨512 + r.val, by have := r.isLt; omega⟩

theorem score179_at (hs : Scores q k s) (h : Fin 2) (t : ℕ) (r : Fin 512) (j : Fin 512) :
    k0_pay179 (kt k h t) (ql q h) (ix3 0 r j) = s h (dn r) (t + j.val) := by
  rw [pay179_at, ← hs h (dn r)]
  exact Finset.sum_congr rfl fun d _ => by rw [ql_at, kt_at]; rfl

theorem score185_at (hs : Scores q k s) (h : Fin 2) (t : ℕ) (r : Fin 512) (j : Fin 512) :
    k0_pay185 (kt k h t) (ql q h) (ix3 0 r j) = s h (dn r) (t + j.val) := by
  rw [pay185_at, ← hs h (dn r)]
  exact Finset.sum_congr rfl fun d _ => by rw [ql_at, kt_at]; rfl

/-- One head's maximum and accumulator over the keys from `A` to `E r` of each row. -/
def Good (v : Vec Ideal S1x2x8192x128 .bf16) (s : Fin 2 → Fin 1024 → ℕ → EReal) (h : Fin 2) (A : ℕ) (E : Fin 1024 → ℕ)
    (m a : Vec Ideal S1x1024x128 .f32) : Prop :=
  ∃ M : Fin 1024 → EReal, (∀ r, Level (s h r) (Finset.Ico A (E r)) (M r)) ∧ ∀ r l, m (ix3 0 r l) = M r ∧ a (ix3 0 r l) = wsum (s h r) (vals v h l) (M r) (Finset.Ico A (E r))

/-- One tile without a mask. -/
theorem good_step (h : Fin 2) (A t : ℕ) (hA : A ≤ t) {m a : Vec Ideal S1x1024x128 .f32} (g : Good v s h A (fun _ => t) m a)
    (sc : Vec Ideal S1x1024x512 .f32) (hsc : ∀ r (j : Fin 512), sc (ix3 0 r j) = s h r (t + j.val)) :
    Good v s h A (fun _ => t + 512) (mN sc m) (aN sc m (kt v h t) a) := by
  obtain ⟨M, L, g⟩ := g
  have hc : ∀ r (j : Fin 512), sc (ix3 0 r j) = if t + j.val < t + 512 then s h r (t + j.val) else ⊥ := fun r j => by
    rw [if_pos (by have := j.isLt; omega)]; exact hsc r j
  have e : min (t + 512) (t + 512) = t + 512 := min_self _
  refine ⟨fun r => max (M r) (top fun j => sc (ix3 0 r j)), fun r => ?_, fun r l => ⟨?_, ?_⟩⟩
  · have := level_step hA (Nat.le_add_right t 512) (L r) (fun j => sc (ix3 0 r j)) (hc r)
    rwa [e] at this
  · rw [mN_at, (g r l).1]
  · rw [aN_at sc m _ a M (fun r l => (g r l).1), (g r l).2]
    rw [tile_sum (s h r) (vals v h l) A t (t + 512) hA (by omega) (M r) (L r) (fun j => sc (ix3 0 r j)) (fun j => kt v h t (ix4 0 0 j l))
      (hc r) (fun j => kt_at v h t j l), e]

/-- What is carried before tile `t`. -/
def Inv (v : Vec Ideal S1x2x8192x128 .bf16) (s : Fin 2 → Fin 1024 → ℕ → EReal) (A t : ℕ) (x : St Ideal) : Prop :=
  (∀ r (j : Fin 512), x.s0 (ix3 0 r j) = s 0 r (t + j.val)) ∧ Good v s 0 A (fun _ => t) x.m0 x.a0 ∧ Good v s 1 A (fun _ => t) x.m1 x.a1

theorem inv_step (hs : Scores q k s) (A t : ℕ) (hA : A ≤ t) {x : St Ideal} (g : Inv v s A t x) : Inv v s A (t + 512) (step q k v t x) :=
  ⟨fun r j => score_at hs 0 (t + 512) r j, good_step 0 A t hA g.2.1 x.s0 g.1,
    good_step 1 A t hA g.2.2 _ fun r j => score_at hs 1 t r j⟩

theorem ofBits_low : ∃ M : ℝ, Ideal.ofBits .f32 0xF149F2CA#32 = (M : EReal) := by
  refine ⟨(Ideal.ofBits .f32 0xF149F2CA#32).toReal, (EReal.coe_toReal ?_ ?_).symm⟩ <;>
    simp [Ideal.ofBits, Ideal.ieee, -EReal.coe_mul]

theorem good_init (h : Fin 2) (A : ℕ) (m a : Vec Ideal S1x1024x128 .f32) (hm : ∀ r l, m (ix3 0 r l) = Ideal.ofBits .f32 0xF149F2CA#32)
    (ha : ∀ r l, a (ix3 0 r l) = 0) : Good v s h A (fun _ => A) m a := by
  obtain ⟨M, hM⟩ := ofBits_low
  have he : Finset.Ico A A = ∅ := Finset.Ico_self A
  exact ⟨fun _ => (M : EReal), fun r => ⟨EReal.coe_ne_bot M, fun k hk => by rw [he] at hk; exact absurd hk (Finset.notMem_empty k), fun e => absurd e (EReal.coe_ne_top M)⟩,
    fun r l => ⟨(hm r l).trans hM, (ha r l).trans (by unfold wsum; rw [he, Finset.sum_empty])⟩⟩

theorem inv_init (hs : Scores q k s) (w : ℕ) : Inv v s (512 * w) (512 * w) (init q k w) := by
  refine ⟨fun r j => score_at hs 0 (512 * w) r j, good_init 0 _ _ _ (fun r l => ?_) (fun r l => ?_), good_init 1 _ _ _ (fun r l => ?_) (fun r l => ?_)⟩
  all_goals pointwise [init, Slabs.fst, Slabs.snd, k0_pay164, k0_pay165]

end Cert.Value

end
-- ==== Proof.Value.Block.lean ====
/-
  The accumulators of one grid point after all its tiles: each row holds the weighted sum over the keys from the first
  tile on up to the query itself.
-/
module

public import proofs.«01_k».proof.Proof.Value.Row

@[expose] public section

set_option maxRecDepth 16384

noncomputable section

namespace Cert.Value

open Cert.KernelIdeal Cert.KernelIdeal.Gen Cert.KernelIdeal.Body
open Idealize.ShloMosaic

variable {q : Vec Ideal S1x2x1024x128 .bf16} {k v : Vec Ideal S1x2x8192x128 .bf16} {s : Fin 2 → Fin 1024 → ℕ → EReal}

theorem inv_first (hs : Scores q k s) (w : ℕ) :
    Inv v s (512 * w) (1024 * trip0 w) (if w % 2 = 1 then step q k v (512 * w) (init q k w) else init q k w) := by
  by_cases h : w % 2 = 1
  · rw [if_pos h, show 1024 * trip0 w = 512 * w + 512 by unfold trip0; omega]
    exact inv_step hs _ _ le_rfl (inv_init hs w)
  · rw [if_neg h, show 1024 * trip0 w = 512 * w by unfold trip0; omega]
    exact inv_init hs w

theorem inv_two (hs : Scores q k s) (A w : ℕ) (hA : A ≤ 1024 * trip0 w) {x : St Ideal} (g : Inv v s A (1024 * trip0 w) x) :
    Inv v s A (1024 * (trip0 w + 1)) (two q k v w x) :=
  inv_step hs A (1024 * trip0 w + 512) (by omega) (inv_step hs A (1024 * trip0 w) hA g)

theorem inv_fours (hs : Scores q k s) (A n w : ℕ) (hA : A ≤ 1024 * (trip0 w + odd n w)) {x : St Ideal} (g : Inv v s A (1024 * (trip0 w + odd n w)) x) (j : ℕ) :
    Inv v s A (1024 * (trip0 w + odd n w) + 2048 * j) (fours q k v n w j x) := by
  induction j with
  | zero => exact g
  | succ j ih =>
    have hB : A ≤ 1024 * (trip0 w + odd n w) + 2048 * j := by omega
    rw [show 1024 * (trip0 w + odd n w) + 2048 * (j + 1) = 1024 * (trip0 w + odd n w) + 2048 * j + 1024 + 512 + 512 by omega]
    show Inv v s A _ (four q k v n w j (fours q k v n w j x))
    unfold four
    generalize 1024 * (trip0 w + odd n w) + 2048 * j = B at ih hB ⊢
    exact inv_step hs A (B + 1024 + 512) (by omega) (inv_step hs A (B + 1024) (by omega) (inv_step hs A (B + 512) (by omega) (inv_step hs A B hB ih)))

theorem inv_before (hs : Scores q k s) (n w : ℕ) (hw : w ≤ 2 * n) : Inv v s (512 * w) (1024 * n) (before q k v n w) := by
  have h0 : 512 * w ≤ 1024 * trip0 w := by unfold trip0; omega
  have h1 : 1024 * (trip0 w + odd n w) + 2048 * ((n - trip0 w) / 2) = 1024 * n := by unfold odd trip0; omega
  have g := inv_first (v := v) hs w
  have g2 : Inv v s (512 * w) (1024 * (trip0 w + odd n w))
      (if odd n w = 1 then two q k v w (if w % 2 = 1 then step q k v (512 * w) (init q k w) else init q k w)
        else if w % 2 = 1 then step q k v (512 * w) (init q k w) else init q k w) := by
    by_cases h : odd n w = 1
    · rw [if_pos h, h]
      exact inv_two hs _ w h0 g
    · rw [if_neg h, show odd n w = 0 by unfold odd at h ⊢; omega]
      exact g
  rw [← h1]
  exact inv_fours hs _ n w (by omega) g2 _

/-- One masked tile over all rows. -/
theorem good_cut (h : Fin 2) (A t : ℕ) (hA : A ≤ t) {m a m' a' : Vec Ideal S1x1024x128 .f32} (g : Good v s h A (fun _ => t) m a)
    (sc : Vec Ideal S1x1024x512 .f32) (hsc : ∀ r (j : Fin 512), sc (ix3 0 r j) = s h r (t + j.val))
    (hm : ∀ r l, m' (ix3 0 r l) = max (m (ix3 0 r l)) (top fun j => cut sc r j))
    (ha : ∀ (M : Fin 1024 → EReal) (hm : ∀ r l, m (ix3 0 r l) = M r) (r : Fin 1024) (l : Fin 128),
      a' (ix3 0 r l) = Ideal.exp2 (M r - max (M r) (top fun j => cut sc r j)) * a (ix3 0 r l)
        + ∑ j : Fin 512, Ideal.exp2 (cut sc r j - max (M r) (top fun j => cut sc r j)) * kt v h t (ix4 0 0 j l)) :
    Good v s h A (fun r => min (t + 512) (t + r.val + 1)) m' a' := by
  obtain ⟨M, L, g⟩ := g
  have hc : ∀ (r : Fin 1024) (j : Fin 512), cut sc r j = if t + j.val < t + r.val + 1 then s h r (t + j.val) else ⊥ := fun r j => by
    unfold cut
    by_cases hj : j.val ≤ r.val
    · rw [if_pos hj, if_pos (by omega)]; exact hsc r j
    · rw [if_neg hj, if_neg (by omega)]
  refine ⟨fun r => max (M r) (top fun j => cut sc r j), fun r => level_step hA (by omega) (L r) (fun j => cut sc r j) (hc r), fun r l => ⟨?_, ?_⟩⟩
  · rw [hm, (g r l).1]
  · rw [ha M (fun r l => (g r l).1), (g r l).2]
    exact tile_sum (s h r) (vals v h l) A t (t + r.val + 1) hA (by omega) (M r) (L r) (fun j => cut sc r j) (fun j => kt v h t (ix4 0 0 j l))
      (hc r) (fun j => kt_at v h t j l)

theorem low_at (x : Vec Ideal S1x1024x128 .f32) (r : Fin 512) (l : Fin 128) : lowA x (ix3 0 r l) = x (ix3 0 (dn r) l) := by
  unfold lowA Slabs.low
  exact congrArg x (funext fun a => by match a with | 0 => rfl | 1 => rfl | 2 => rfl)

theorem put_at_lt (x : Vec Ideal S1x1024x128 .f32) (u : Vec Ideal S1x512x128 .f32) (r : Fin 1024) (l : Fin 128) (hr : r.val < 512) :
    putA x u (ix3 0 r l) = x (ix3 0 r l) := by
  unfold putA Slabs.setLow
  exact dif_neg (show ¬ 512 ≤ r.val by omega)

theorem put_at_ge (x : Vec Ideal S1x1024x128 .f32) (u : Vec Ideal S1x512x128 .f32) (r : Fin 512) (l : Fin 128) :
    putA x u (ix3 0 (dn r) l) = u (ix3 0 r l) := by
  unfold putA Slabs.setLow
  exact (dif_pos (show 512 ≤ 512 + r.val by omega)).trans (congrArg u (funext fun a => by
    match a with
    | 0 => rfl
    | 1 => exact Fin.ext (show 512 + r.val - 512 = r.val by omega)
    | 2 => rfl))

/-- What an accumulator holds at the end. -/
def Done (v : Vec Ideal S1x2x8192x128 .bf16) (s : Fin 2 → Fin 1024 → ℕ → EReal) (h : Fin 2) (A t : ℕ) (a : Vec Ideal S1x1024x128 .f32) : Prop :=
  ∃ M : Fin 1024 → EReal, (∀ r, Level (s h r) (Finset.Ico A (t + r.val + 1)) (M r)) ∧ ∀ r l, a (ix3 0 r l) = wsum (s h r) (vals v h l) (M r) (Finset.Ico A (t + r.val + 1))

/-- The second masked tile, over the lower rows. -/
theorem done_cut (h : Fin 2) (A t : ℕ) (hA : A ≤ t) {m a : Vec Ideal S1x1024x128 .f32} (g : Good v s h A (fun r => min (t + 512) (t + r.val + 1)) m a)
    (sc : Vec Ideal S1x512x512 .f32) (hsc : ∀ r (j : Fin 512), sc (ix3 0 r j) = s h (dn r) (t + 512 + j.val))
    (u : Vec Ideal S1x512x128 .f32)
    (hu : ∀ (M : Fin 512 → EReal) (hm : ∀ r l, lowA m (ix3 0 r l) = M r) (r : Fin 512) (l : Fin 128),
      u (ix3 0 r l) = Ideal.exp2 (M r - max (M r) (top fun j => cut sc r j)) * lowA a (ix3 0 r l)
        + ∑ j : Fin 512, Ideal.exp2 (cut sc r j - max (M r) (top fun j => cut sc r j)) * kt v h (t + 512) (ix4 0 0 j l)) :
    Done v s h A t (putA a u) := by
  obtain ⟨M, L, g⟩ := g
  beta_reduce at L g
  have hc : ∀ (r : Fin 512) (j : Fin 512), cut sc r j = if t + 512 + j.val < t + 512 + r.val + 1 then s h (dn r) (t + 512 + j.val) else ⊥ := fun r j => by
    unfold cut
    by_cases hj : j.val ≤ r.val
    · rw [if_pos hj, if_pos (by omega)]; exact hsc r j
    · rw [if_neg hj, if_neg (by omega)]
  have e0 (r : Fin 512) : min (t + 512) (t + (dn r).val + 1) = t + 512 := by show min (t + 512) (t + (512 + r.val) + 1) = _; omega
  have e1 (r : Fin 512) : min (t + 512 + 512) (t + 512 + r.val + 1) = t + (dn r).val + 1 := by show _ = t + (512 + r.val) + 1; have := r.isLt; omega
  have e2 (r : Fin 1024) (hr : ¬ 512 ≤ r.val) : min (t + 512) (t + r.val + 1) = t + r.val + 1 := by omega
  have hL (r : Fin 512) : Level (s h (dn r)) (Finset.Ico A (t + 512)) (M (dn r)) := by
    have := L (dn r)
    rwa [e0] at this
  have hdn (r : Fin 1024) (hr : 512 ≤ r.val) : ∃ r' : Fin 512, r = dn r' :=
    ⟨⟨r.val - 512, by have := r.isLt; omega⟩, Fin.ext (show r.val = 512 + (r.val - 512) by omega)⟩
  have hin (r : Fin 512) : (⟨(dn r).val - 512, by have := (dn r).isLt; omega⟩ : Fin 512) = r := Fin.ext (show 512 + r.val - 512 = r.val by omega)
  have hge (r : Fin 512) : 512 ≤ (dn r).val := Nat.le_add_right 512 r.val
  refine ⟨fun r => if hr : 512 ≤ r.val then max (M r) (top fun j => cut sc (⟨r.val - 512, by have := r.isLt; omega⟩ : Fin 512) j) else M r, fun r => ?_, fun r l => ?_⟩
  · by_cases hr : 512 ≤ r.val
    · obtain ⟨r, rfl⟩ := hdn r hr
      beta_reduce
      rw [dif_pos hr, hin, ← e1]
      exact level_step (by omega) (by omega) (hL r) (fun j => cut sc r j) (hc r)
    · beta_reduce
      rw [dif_neg hr, ← e2 r hr]
      exact L r
  · by_cases hr : 512 ≤ r.val
    · obtain ⟨r, rfl⟩ := hdn r hr
      beta_reduce
      rw [put_at_ge, dif_pos hr, hin, hu (fun r => M (dn r)) (fun r l => (low_at m r l).trans (g (dn r) l).1), low_at, (g (dn r) l).2, e0, ← e1]
      exact tile_sum (s h (dn r)) (vals v h l) A (t + 512) (t + 512 + r.val + 1) (by omega) (by omega) (M (dn r)) (hL r) (fun j => cut sc r j) (fun j => kt v h (t + 512) (ix4 0 0 j l))
        (hc r) (fun j => kt_at v h (t + 512) j l)
    · beta_reduce
      rw [put_at_lt a u r l (by omega), dif_neg hr, (g r l).2, e2 r hr]

/-- Both accumulators at the end of the grid point of query tile `n`, from first tile `w`. -/
theorem diag_done (hs : Scores q k s) (n w : ℕ) (hw : w ≤ 2 * n) :
    Done v s 0 (512 * w) (1024 * n) (diag q k v n (before q k v n w)).A0 ∧ Done v s 1 (512 * w) (1024 * n) (diag q k v n (before q k v n w)).A1 := by
  obtain ⟨g0, g1, g2⟩ := inv_before (v := v) hs n w hw
  refine ⟨?_, ?_⟩
  · exact done_cut 0 (512 * w) (1024 * n) (by omega) (good_cut 0 (512 * w) (1024 * n) (by omega) g1 _ g0 (fun r l => pay177_at _ _ r l) fun M hm r l => pay178_at _ _ _ _ M hm r l)
      _ (fun r j => score179_at hs 0 _ r j) _ fun M hm r l => pay192_at _ _ _ _ M hm r l
  · exact done_cut 1 (512 * w) (1024 * n) (by omega) (good_cut 1 (512 * w) (1024 * n) (by omega) g2 _ (fun r j => score172_at hs 1 _ r j) (fun r l => pay183_at _ _ r l) fun M hm r l => pay184_at _ _ _ _ M hm r l)
      _ (fun r j => score185_at hs 1 _ r j) _ fun M hm r l => pay199_at _ _ _ _ M hm r l

end Cert.Value

end
-- ==== Proof.Value.Gate.lean ====
/-
  The rows written, at an index: the attention of each head, normed over its 64 lanes, weighted and gated.
-/
module

public import proofs.«01_k».proof.Proof.Value.Block

@[expose] public section

set_option maxRecDepth 16384

noncomputable section

namespace Cert.Value

open Cert.KernelIdeal Cert.KernelIdeal.Gen Cert.KernelIdeal.Body
open Idealize.ShloMosaic

/-- The norm of a head's 64 lanes: each divided by the root of the mean square (and the small constant). -/
def normed (f : Fin 64 → EReal) (d : Fin 64) : EReal :=
  f d * Ideal.rsqrt ((∑ e : Fin 64, f e * f e) * Ideal.ofBits .f32 0x3C800000#32 + Ideal.ofBits .f32 0x358637BD#32)

/-- The lane of head `h`'s data lane `d`: the low half for the first head of a pair, the high half for the second. -/
def lane (h : Fin 2) (d : Fin 64) : Fin 128 := ⟨64 * h.val + d.val, by have := h.isLt; have := d.isLt; omega⟩

/-- Norming before or after the division by the sum of the weights is the same. -/
theorem normed_scale (a : Fin 64 → EReal) (c : ℝ) (hc : 0 ≤ c) (d : Fin 64) :
    a d * ((c : EReal) * Ideal.rsqrt ((∑ e : Fin 64, a e * a e) * ((c : EReal) * (c : EReal)) * Ideal.ofBits .f32 0x3C800000#32 + Ideal.ofBits .f32 0x358637BD#32))
      = normed (fun e => (c : EReal) * a e) d := by
  unfold normed
  have e1 : (∑ e : Fin 64, a e * a e) * ((c : EReal) * (c : EReal)) = ∑ e : Fin 64, (c : EReal) * a e * ((c : EReal) * a e) := by
    rw [mul_comm, ← EReal.coe_mul, mul_sum_coe _ (mul_nonneg hc hc)]
    refine Finset.sum_congr rfl fun e _ => ?_
    rw [EReal.coe_mul, mul_mul_mul_comm]
  rw [e1, ← mul_assoc, mul_comm (a d) (c : EReal)]

theorem slt_word (x : Fin 128) (a b : EReal) :
    Scalar.select (IntOp.cmpi .slt (BitVec.ofNat 32 x.val) 64#32) a b = if x.val < 64 then a else b := by
  have h : IntOp.cmpi .slt (BitVec.ofNat 32 x.val) 64#32 = BitVec.ofBool (decide (x.val < 64)) := by revert x; decide +kernel
  rw [h]
  by_cases h : x.val < 64
  · rw [if_pos h, decide_eq_true h]; rfl
  · rw [if_neg h, decide_eq_false h]; rfl

theorem nslt_word (x : Fin 128) (a b : EReal) :
    Scalar.select (IntOp.xori (IntOp.cmpi .slt (BitVec.ofNat 32 x.val) 64#32) 1#1) a b = if x.val < 64 then b else a := by
  have h : IntOp.xori (IntOp.cmpi .slt (BitVec.ofNat 32 x.val) 64#32) 1#1 = BitVec.ofBool (decide (¬ x.val < 64)) := by revert x; decide +kernel
  rw [h]
  by_cases h : x.val < 64
  · rw [if_pos h, decide_eq_false (not_not.mpr h)]; rfl
  · rw [if_neg h, decide_eq_true h]; rfl

theorem eq64_word (x : Fin 128) (a b : EReal) :
    Scalar.select (IntOp.cmpi .eq (BitVec.ofNat 32 x.val) 64#32) a b = if x = 64 then a else b := by
  have h : IntOp.cmpi .eq (BitVec.ofNat 32 x.val) 64#32 = BitVec.ofBool (decide (x = 64)) := by revert x; decide +kernel
  rw [h]
  by_cases h : x = 64
  · rw [if_pos h, decide_eq_true h]; rfl
  · rw [if_neg h, decide_eq_false h]; rfl

theorem eq0_word (x : Fin 128) (a b : EReal) :
    Scalar.select (IntOp.cmpi .eq (BitVec.ofNat 32 x.val) 0#32) a b = if x = 0 then a else b := by
  have h : IntOp.cmpi .eq (BitVec.ofNat 32 x.val) 0#32 = BitVec.ofBool (decide (x = 0)) := by revert x; decide +kernel
  rw [h]
  by_cases h : x = 0
  · rw [if_pos h, decide_eq_true h]; rfl
  · rw [if_neg h, decide_eq_false h]; rfl

theorem sum_low (f : Fin 128 → EReal) : (∑ x : Fin 128, if x.val < 64 then f x else 0) = ∑ d : Fin 64, f (lane 0 d) := by
  rw [Fin.sum_univ_add (a := 64) (b := 64) (fun x : Fin 128 => if x.val < 64 then f x else 0)]
  have e0 : ∀ d : Fin 64, (if (Fin.castAdd 64 d : Fin 128).val < 64 then f (Fin.castAdd 64 d) else 0) = f (lane 0 d) := fun d =>
    (if_pos (show d.val < 64 from d.isLt)).trans (congrArg f (Fin.ext (show d.val = 64 * 0 + d.val by omega)))
  have e1 : ∀ d : Fin 64, (if (Fin.natAdd 64 d : Fin 128).val < 64 then f (Fin.natAdd 64 d) else 0) = 0 := fun d =>
    if_neg (show ¬ 64 + d.val < 64 by omega)
  rw [Finset.sum_congr rfl fun d _ => e0 d, Finset.sum_congr rfl fun d _ => e1 d, Finset.sum_const_zero, add_zero]

theorem sum_high (f : Fin 128 → EReal) : (∑ x : Fin 128, if x.val < 64 then 0 else f x) = ∑ d : Fin 64, f (lane 1 d) := by
  rw [Fin.sum_univ_add (a := 64) (b := 64) (fun x : Fin 128 => if x.val < 64 then 0 else f x)]
  have e0 : ∀ d : Fin 64, (if (Fin.castAdd 64 d : Fin 128).val < 64 then 0 else f (Fin.castAdd 64 d)) = 0 := fun d =>
    if_pos (show d.val < 64 from d.isLt)
  have e1 : ∀ d : Fin 64, (if (Fin.natAdd 64 d : Fin 128).val < 64 then 0 else f (Fin.natAdd 64 d)) = f (lane 1 d) := fun d =>
    (if_neg (show ¬ 64 + d.val < 64 by omega)).trans (congrArg f (Fin.ext (show 64 + d.val = 64 * 1 + d.val by omega)))
  rw [Finset.sum_congr rfl fun d _ => e0 d, Finset.sum_congr rfl fun d _ => e1 d, Finset.sum_const_zero, zero_add]

theorem gated_at (z : Vec Ideal S1024x128 .bf16) (g : Vec Ideal S1x128 .f32) (x : Fin2 Ideal) (r : Fin 1024) (l : Fin 128) :
    gated z g x (ix2 r l) = (if l.val < 64 then
        x.A0 (ix3 0 r l) * (Ideal.div 1 (x.A0 (ix3 0 r 64)) * Ideal.rsqrt ((∑ d : Fin 64, x.A0 (ix3 0 r (lane 0 d)) * x.A0 (ix3 0 r (lane 0 d)))
          * (Ideal.div 1 (x.A0 (ix3 0 r 64)) * Ideal.div 1 (x.A0 (ix3 0 r 64))) * Ideal.ofBits .f32 0x3C800000#32 + Ideal.ofBits .f32 0x358637BD#32))
      else
        x.A1 (ix3 0 r l) * (Ideal.div 1 (x.A1 (ix3 0 r 0)) * Ideal.rsqrt ((∑ d : Fin 64, x.A1 (ix3 0 r (lane 1 d)) * x.A1 (ix3 0 r (lane 1 d)))
          * (Ideal.div 1 (x.A1 (ix3 0 r 0)) * Ideal.div 1 (x.A1 (ix3 0 r 0))) * Ideal.ofBits .f32 0x3C800000#32 + Ideal.ofBits .f32 0x358637BD#32)))
      * g (ix2 0 l) * (z (ix2 r l) * Ideal.logistic (z (ix2 r l))) := by
  pointwise [gated, k0_pay203, k0_pay202, k0_pay201, k0_pay200, k0_pay163]
  simp only [slt_word, nslt_word, eq64_word, eq0_word, Finset.sum_ite_eq', Finset.mem_univ, if_true]
  rw [sum_low fun x_1 => x.A0 (ix3 0 r x_1) * x.A0 (ix3 0 r x_1), sum_high fun x_1 => x.A1 (ix3 0 r x_1) * x.A1 (ix3 0 r x_1)]

variable {v : Vec Ideal S1x2x8192x128 .bf16} {s : Fin 2 → Fin 1024 → ℕ → EReal}

/-- The lane that sums the weights. -/
def oneLane (h : Fin 2) : Fin 128 := if h = 0 then 64 else 0

open Classical in
/-- A lane of the normed attention over the keys of `S`, `x e` the values of lane `e`; nothing where the scores are not regular. -/
def attn (s : ℕ → EReal) (x : Fin 64 → ℕ → EReal) (S : Finset ℕ) (d : Fin 64) : EReal :=
  if Regular s S then normed (fun e => avg s (x e) S) d else 0

theorem head_val {h : Fin 2} {A t : ℕ} {a : Vec Ideal S1x1024x128 .f32} (hA : A ≤ t) (g : Done v s h A t a) (one : ∀ k, vals v h (oneLane h) k = 1)
    (r : Fin 1024) (d : Fin 64) :
    a (ix3 0 r (lane h d)) * (Ideal.div 1 (a (ix3 0 r (oneLane h))) * Ideal.rsqrt ((∑ d : Fin 64, a (ix3 0 r (lane h d)) * a (ix3 0 r (lane h d)))
          * (Ideal.div 1 (a (ix3 0 r (oneLane h))) * Ideal.div 1 (a (ix3 0 r (oneLane h)))) * Ideal.ofBits .f32 0x3C800000#32 + Ideal.ofBits .f32 0x358637BD#32))
      = attn (s h r) (fun e => vals v h (lane h e)) (Finset.Ico A (t + r.val + 1)) d := by
  obtain ⟨M, L, g⟩ := g
  unfold attn
  by_cases hR : Regular (s h r) (Finset.Ico A (t + r.val + 1))
  · obtain ⟨m, hm⟩ := (L r).real hR
    have hp := mul_pos (total_pos hR) (two_pow_pos m)
    rw [if_pos hR, g r (oneLane h), hm, wsum_one _ hR m one, one_div_coe hp.ne']
    rw [normed_scale (fun e => a (ix3 0 r (lane h e))) _ (inv_nonneg.mpr hp.le) d]
    unfold normed
    simp only [g, hm, inv_wsum _ hR m]
  · rw [if_neg hR, g r (lane h d), (L r).wsum_eq_zero hR, zero_mul]

/-- The rows written, for data lane `d` of head `h`. -/
theorem gated_val (z : Vec Ideal S1024x128 .bf16) (g : Vec Ideal S1x128 .f32) {x : Fin2 Ideal} {A t : ℕ} (hA : A ≤ t)
    (g0 : Done v s 0 A t x.A0) (g1 : Done v s 1 A t x.A1) (one : ∀ h k, vals v h (oneLane h) k = 1) (r : Fin 1024) (h : Fin 2) (d : Fin 64) :
    gated z g x (ix2 r (lane h d)) = attn (s h r) (fun e => vals v h (lane h e)) (Finset.Ico A (t + r.val + 1)) d
      * g (ix2 0 (lane h d)) * (z (ix2 r (lane h d)) * Ideal.logistic (z (ix2 r (lane h d)))) := by
  rw [gated_at]
  match h with
  | 0 =>
    rw [if_pos (show (lane 0 d).val < 64 from (show 64 * 0 + d.val < 64 by have := d.isLt; omega))]
    exact congrArg (fun y => y * g (ix2 0 (lane 0 d)) * (z (ix2 r (lane 0 d)) * Ideal.logistic (z (ix2 r (lane 0 d))))) (head_val hA g0 (one 0) r d)
  | 1 =>
    rw [if_neg (show ¬ (lane 1 d).val < 64 from (show ¬ 64 * 1 + d.val < 64 by omega))]
    exact congrArg (fun y => y * g (ix2 0 (lane 1 d)) * (z (ix2 r (lane 1 d)) * Ideal.logistic (z (ix2 r (lane 1 d))))) (head_val hA g1 (one 1) r d)

end Cert.Value

end
-- ==== Proof.Value.Operands.lean ====
/-
  What the precondition says of the queries, the keys and the values, lane by lane.
-/
module

public import proofs.«01_k».proof.Proof.Words
public import proofs.«01_k».proof.Proof.Value.Gate

@[expose] public section

set_option maxRecDepth 16384

noncomputable section

namespace Cert.Value

open Idealize.ShloMosaic Idealize.SL.Sem
open Cert.Pre_attention_operands (fn fn_part1 fn_where fn_where_0 fn_remainder S2x16x8192x64 S2x16x8192x128 S128 S16384x1024 S1x128)

/-- Lane `d` of the half of a row that holds head `H`'s own data. -/
def own (H : Fin 16) (d : Fin 64) : Fin 128 := ⟨64 * (H.val % 2) + d.val, by omega⟩

/-- Lane `e` of the other half. -/
def side (H : Fin 16) (e : Fin 64) : Fin 128 := ⟨64 * (1 - H.val % 2) + e.val, by omega⟩

/-- The remainder of a head's number by two, as the programs compute it. -/
def rem2 (w : BitVec 32) : BitVec 32 :=
  let two : BitVec 32 := Scalar.select (IntOp.cmpi .eq 2#32 0#32) 1#32 2#32
  let r := IntOp.remsi ArithUnit.host w two
  Scalar.select (IntOp.andi (IntOp.cmpi .ne (IntOp.cmpi .slt r 0#32) (IntOp.cmpi .slt two 0#32)) (IntOp.cmpi .ne r 0#32)) (IntOp.addi r two) r

/-- Whether a head is the first of its pair. -/
def even (H : Fin 16) : BitVec 1 := IntOp.cmpi .eq (rem2 (BitVec.ofNat 32 H.val)) 0#32

theorem even_eq : ∀ H : Fin 16, even H = if H.val % 2 = 0 then 1#1 else 0#1 := by decide +kernel

theorem pick_own (a : Fin 128 → EReal) (H : Fin 16) (d : Fin 64) (h0 : d.val < 128) (h1 : 64 + d.val < 128) :
    Scalar.select (even H) (a ⟨d.val, h0⟩) (a ⟨64 + d.val, h1⟩) = a (own H d) := by
  rw [even_eq]
  unfold own
  rcases Nat.mod_two_eq_zero_or_one H.val with e | e <;> simp [e, Scalar.select]

theorem pick_side (a : Fin 128 → EReal) (H : Fin 16) (d : Fin 64) (h0 : d.val < 128) (h1 : 64 + d.val < 128) :
    Scalar.select (even H) (a ⟨64 + d.val, h1⟩) (a ⟨d.val, h0⟩) = a (side H d) := by
  rw [even_eq]
  unfold side
  rcases Nat.mod_two_eq_zero_or_one H.val with e | e <;> simp [e, Scalar.select]

theorem one_bits : Ideal.ofBits .f32 1065353216#32 = 1 := by
  simp [Ideal.ofBits, Ideal.ieee, -EReal.coe_mul]
  norm_num

theorem of_ofBool {p : Prop} [Decidable p] (h : BitVec.ofBool (decide p) = 1#1) : p := by
  by_contra hp
  simp [hp] at h

section
variable (T : IVec S128 32) (q k v : FVec Ideal S2x16x8192x128 .bf16) (z : FVec Ideal S16384x1024 .bf16) (g : FVec Ideal S1x128 .f32)

theorem q_mid (h : (fn (F := Ideal) T q k v z g).2.1 = fun _ => 1#1) (b : Fin 2) (H : Fin 16) (r : Fin 8192) (d : Fin 3) :
    q (ix4 b H r (side H ⟨3 + d.val, by omega⟩)) = 1 := by
  have e := congrFun h (ix4 b H r d)
  pointwise [fn, fn_part1, fn_where_0, fn_remainder, fn_where] at e
  have e := of_ofBool e
  rw [← pick_side (fun l => q (ix4 b H r l)) H ⟨3 + d.val, by omega⟩ (by simp only; omega) (by simp only; omega)]
  exact e

theorem q_high (h : (fn (F := Ideal) T q k v z g).2.2.1 = fun _ => 1#1) (b : Fin 2) (H : Fin 16) (r : Fin 8192) (d : Fin 58) :
    q (ix4 b H r (side H ⟨6 + d.val, by omega⟩)) = 0 := by
  have e := congrFun h (ix4 b H r d)
  pointwise [fn, fn_part1, fn_where_0, fn_remainder, fn_where] at e
  have e := of_ofBool e
  rw [← pick_side (fun l => q (ix4 b H r l)) H ⟨6 + d.val, by omega⟩ (by simp only; omega) (by simp only; omega)]
  exact e

theorem k_low (h : (fn (F := Ideal) T q k v z g).2.2.2.1 = fun _ => 1#1) (b : Fin 2) (H : Fin 16) (r : Fin 8192) (d : Fin 3) :
    k (ix4 b H r (side H ⟨d.val, by omega⟩)) = 1 := by
  have e := congrFun h (ix4 b H r d)
  pointwise [fn, fn_part1, fn_where_0, fn_remainder, fn_where] at e
  have e := of_ofBool e
  rw [← pick_side (fun l => k (ix4 b H r l)) H ⟨d.val, by omega⟩ (by simp only; omega) (by simp only; omega)]
  exact e

theorem v_one (h : (fn (F := Ideal) T q k v z g).2.2.2.2 = fun _ => 1#1) (b : Fin 2) (H : Fin 16) (r : Fin 8192) :
    v (ix4 b H r (side H 0)) = 1 := by
  have e := congrFun h (ix4 b H r (0 : Fin 1))
  pointwise [fn, fn_part1, fn_where_0, fn_remainder, fn_where] at e
  have e := of_ofBool e
  rw [← pick_side (fun l => v (ix4 b H r l)) H 0 (by decide) (by decide)]
  exact e

end

/-- The operands, lane by lane. -/
structure Lanes (q k v : FVec Ideal S2x16x8192x128 .bf16) : Prop where
  q_mid : ∀ b H r (d : Fin 3), q (ix4 b H r (side H ⟨3 + d.val, by omega⟩)) = 1
  q_high : ∀ b H r (d : Fin 58), q (ix4 b H r (side H ⟨6 + d.val, by omega⟩)) = 0
  k_low : ∀ b H r (d : Fin 3), k (ix4 b H r (side H ⟨d.val, by omega⟩)) = 1
  v_one : ∀ b H r, v (ix4 b H r (side H 0)) = 1

/-- What the precondition says of the queries, the keys and the values. -/
def Admits (T : IVec S128 32) (q k v : FVec Ideal S2x16x8192x128 .bf16) (z : FVec Ideal S16384x1024 .bf16) (g : FVec Ideal S1x128 .f32) : Prop :=
  (fn (F := Ideal) T q k v z g).1 = (fun _ => 1#1) ∧ (fn (F := Ideal) T q k v z g).2.1 = (fun _ => 1#1)
    ∧ (fn (F := Ideal) T q k v z g).2.2.1 = (fun _ => 1#1) ∧ (fn (F := Ideal) T q k v z g).2.2.2.1 = (fun _ => 1#1)
    ∧ (fn (F := Ideal) T q k v z g).2.2.2.2 = fun _ => 1#1

theorem lanes_of {T : IVec S128 32} {q k v : FVec Ideal S2x16x8192x128 .bf16} {z : FVec Ideal S16384x1024 .bf16} {g : FVec Ideal S1x128 .f32}
    (h : Admits T q k v z g) : Lanes q k v where
  q_mid := q_mid _ _ _ _ _ _ h.2.1
  q_high := q_high _ _ _ _ _ _ h.2.2.1
  k_low := k_low _ _ _ _ _ _ h.2.2.2.1
  v_one := v_one _ _ _ _ _ _ h.2.2.2.2

/-- A sum over the 128 lanes, half by half. -/
theorem sum_halves (f : Fin 128 → EReal) (H : Fin 16) : ∑ l, f l = ∑ d, f (own H d) + ∑ e, f (side H e) := by
  have e : ∑ l, f l = ∑ d : Fin 64, f ⟨d.val, by omega⟩ + ∑ d : Fin 64, f ⟨64 + d.val, by omega⟩ :=
    Fin.sum_univ_add (a := 64) (b := 64) f
  rw [e]
  unfold own side
  rcases Nat.mod_two_eq_zero_or_one H.val with e | e
  · simp only [e, mul_zero, zero_add, Nat.sub_zero, mul_one]
  · simp only [e, mul_zero, zero_add, Nat.sub_self, mul_one]
    rw [add_comm]

/-- A sum over 64 lanes: the first three, the next three, and the rest. -/
theorem sum_parts (f : Fin 64 → EReal) :
    ∑ l, f l = (∑ d : Fin 3, f ⟨d.val, by omega⟩ + ∑ d : Fin 3, f ⟨3 + d.val, by omega⟩) + ∑ d : Fin 58, f ⟨6 + d.val, by omega⟩ := by
  have e : ∑ l, f l = ∑ d : Fin 6, f ⟨d.val, by omega⟩ + ∑ d : Fin 58, f ⟨6 + d.val, by omega⟩ :=
    Fin.sum_univ_add (a := 6) (b := 58) f
  have e' : ∑ d : Fin 6, f ⟨d.val, by omega⟩ = ∑ d : Fin 3, f ⟨d.val, by omega⟩ + ∑ d : Fin 3, f ⟨3 + d.val, by omega⟩ :=
    Fin.sum_univ_add (a := 3) (b := 3) fun d : Fin 6 => f ⟨d.val, by omega⟩
  rw [e, e']

/-- The product of a whole query row with a whole key row: the product of the data, and the two columns' parts. -/
theorem whole_row {q k v : FVec Ideal S2x16x8192x128 .bf16} (L : Lanes q k v) (b : Fin 2) (H : Fin 16) (r j : Fin 8192) :
    ∑ l, q (ix4 b H r l) * k (ix4 b H j l) = ∑ d, q (ix4 b H r (own H d)) * k (ix4 b H j (own H d))
      + (∑ d : Fin 3, q (ix4 b H r (side H ⟨d.val, by omega⟩)) + ∑ d : Fin 3, k (ix4 b H j (side H ⟨3 + d.val, by omega⟩))) := by
  rw [sum_halves _ H, sum_parts fun e => q (ix4 b H r (side H e)) * k (ix4 b H j (side H e))]
  simp only [L.k_low, L.q_mid, L.q_high, mul_one, one_mul, zero_mul, Finset.sum_const_zero, add_zero]

/-- The score of a query against a key. -/
def score (q k : FVec Ideal S2x16x8192x128 .bf16) (b : Fin 2) (H : Fin 16) (r : Fin 8192) (j : ℕ) : EReal :=
  ∑ l, q (ix4 b H r l) * k (ix4 b H (key j) l)

end Cert.Value
-- ==== Proof.Value.Array.lean ====
/-
  The result array the launch leaves, entry by entry: the attention of a head at a position, normed and gated.
-/
module

public import proofs.«01_k».proof.Proof.Value.Operands
public import proofs.«01_k».proof.Proof.Twin.Frame

@[expose] public section

set_option maxRecDepth 16384

noncomputable section

namespace Cert.Value

open Cert.KernelIdeal Cert.KernelIdeal.Gen Cert.KernelIdeal.Body Cert.KernelIdeal.Launch
open Idealize.ShloMosaic Idealize.ShloMosaic.TcCoe Idealize.SL.Sem
open Idealize.ShloMosaic.Pipeline (Dat Cfg Window)

/-- The entry of the table that governs a position of a head. -/
def slot (b : Fin 2) (H : Fin 16) (r : Fin 8192) : S128.Idx :=
  ix1 (⟨64 * b.val + 8 * (H.val / 2) + r.val / 1024, by omega⟩ : Fin 128)

/-- The first key a position of a head may see. -/
def first (T : IVec S128 32) (b : Fin 2) (H : Fin 16) (r : Fin 8192) : ℕ := 512 * (T (slot b H r)).toNat

/-- The normed attention of a position, lane by lane. -/
def mix (T : IVec S128 32) (q k v : FVec Ideal S2x16x8192x128 .bf16) (b : Fin 2) (H : Fin 16) (r : Fin 8192) (d : Fin 64) : EReal :=
  attn (score q k b H r) (fun e j => v (ix4 b H (key j) (own H e))) (Finset.Ico (first T b H r) (r.val + 1)) d

/-- The row of the result that holds a position. -/
def rowAt (b : Fin 2) (r : Fin 8192) : Fin 16384 := ⟨8192 * b.val + r.val, by omega⟩

/-- The column of the result that holds a lane of a head. -/
def colAt (H : Fin 16) (d : Fin 64) : Fin 1024 := ⟨64 * H.val + d.val, by omega⟩

/-- An entry of the result. -/
def entryOf (T : IVec S128 32) (q k v : FVec Ideal S2x16x8192x128 .bf16) (z : FVec Ideal S16384x1024 .bf16) (g : FVec Ideal S1x128 .f32)
    (b : Fin 2) (H : Fin 16) (r : Fin 8192) (d : Fin 64) : EReal :=
  mix T q k v b H r d * g (ix2 0 (own H d)) * (z (ix2 (rowAt b r) (colAt H d)) * Ideal.logistic (z (ix2 (rowAt b r) (colAt H d))))

/-- The result array. -/
def whole (T : IVec S128 32) (q k v : FVec Ideal S2x16x8192x128 .bf16) (z : FVec Ideal S16384x1024 .bf16) (g : FVec Ideal S1x128 .f32) :
    FVec Ideal S16384x1024 .bf16 := fun i =>
  entryOf T q k v z g ⟨(i 0).val / 8192, by have : (i 0).val < 16384 := (i 0).isLt; omega⟩ ⟨(i 1).val / 64, by have : (i 1).val < 1024 := (i 1).isLt; omega⟩
    ⟨(i 0).val % 8192, by omega⟩ ⟨(i 1).val % 64, by omega⟩

theorem whole_at (T : IVec S128 32) (q k v : FVec Ideal S2x16x8192x128 .bf16) (z : FVec Ideal S16384x1024 .bf16) (g : FVec Ideal S1x128 .f32)
    (b : Fin 2) (H : Fin 16) (r : Fin 8192) (d : Fin 64) : whole T q k v z g (ix2 (rowAt b r) (colAt H d)) = entryOf T q k v z g b H r d := by
  have e1 : (8192 * b.val + r.val) / 8192 = b.val := by omega
  have e2 : (64 * H.val + d.val) / 64 = H.val := by omega
  have e3 : (8192 * b.val + r.val) % 8192 = r.val := by omega
  have e4 : (64 * H.val + d.val) % 64 = d.val := by omega
  show entryOf T q k v z g ⟨(8192 * b.val + r.val) / 8192, _⟩ ⟨(64 * H.val + d.val) / 64, _⟩ ⟨(8192 * b.val + r.val) % 8192, _⟩ ⟨(64 * H.val + d.val) % 64, _⟩ = _
  simp only [e1, e2, e3, e4]

/-! ## The grid -/

theorem tr0 : ∀ (a : Fin 2) (p n : Fin 8), cc0_transform_0 (pt a p n) = ![a.val, p.val, n.val, 0] := by decide +kernel
theorem tr1 : ∀ (a : Fin 2) (p n : Fin 8), cc0_transform_1 (pt a p n) = ![a.val, p.val, 0, 0] := by decide +kernel
theorem tr2 : ∀ (a : Fin 2) (p n : Fin 8), cc0_transform_2 (pt a p n) = ![a.val, p.val, 0, 0] := by decide +kernel
theorem tr3 : ∀ (a : Fin 2) (p n : Fin 8), cc0_transform_3 (pt a p n) = ![8 * a.val + n.val, p.val] := by decide +kernel
theorem tr4 : ∀ (a : Fin 2) (p n : Fin 8), cc0_transform_4 (pt a p n) = ![0, 0] := by decide +kernel
theorem tr5 : ∀ (a : Fin 2) (p n : Fin 8), cc0_transform_5 (pt a p n) = ![8 * a.val + n.val, p.val] := by decide +kernel

/-- Every point writes its block back. -/
theorem flush5 : ∀ t : Fin grid0.N, Window.flushOf grid0 true cc0_transform_5 t = true := by decide +kernel

/-- The point of rows `a`, heads `p` and query tile `n`, by number. -/
def num (a : Fin 2) (p n : Fin 8) : Fin grid0.N := ⟨64 * a.val + 8 * p.val + n.val, by
  have : grid0.N = 128 := by decide +kernel
  omega⟩

theorem coords_num : ∀ (a : Fin 2) (p n : Fin 8), (grid0.coords (num a p n) 0).val = a.val ∧ (grid0.coords (num a p n) 1).val = p.val ∧ (grid0.coords (num a p n) 2).val = n.val := by
  decide +kernel

theorem eq_pt (i : grid0.Coords) : ∃ (a : Fin 2) (p n : Fin 8), i = pt a p n :=
  ⟨i 0, i 1, i 2, funext fun x => match x with | 0 => rfl | 1 => rfl | 2 => rfl⟩

/-- The head of a pair. -/
def headOf (p : Fin 8) (h : Fin 2) : Fin 16 := ⟨2 * p.val + h.val, by omega⟩

/-- The position of a row of a tile. -/
def posOf (n : Fin 8) (r : Fin 1024) : Fin 8192 := ⟨1024 * n.val + r.val, by omega⟩

section
variable (T : Vec Ideal S128 .i32) (m : (ℓ : Loc nD τ sig) → Buf (Elt Ideal) ℓ) (c : Dev nD)

abbrev qA : FVec Ideal S2x16x8192x128 .bf16 := m ((c : Thread nD τ).loc main_arg1)
abbrev kA : FVec Ideal S2x16x8192x128 .bf16 := m ((c : Thread nD τ).loc main_arg2)
abbrev vA : FVec Ideal S2x16x8192x128 .bf16 := m ((c : Thread nD τ).loc main_arg3)
abbrev zA : FVec Ideal S16384x1024 .bf16 := m ((c : Thread nD τ).loc main_arg4)
abbrev gA : FVec Ideal S1x128 .f32 := m ((c : Thread nD τ).loc main_arg5)

variable (t : Fin (cfgA T).N) (a : Fin 2) (p n : Fin 8) (ht : crd T t = pt a p n)
include ht

theorem q_blk (h : Fin 2) (r : Fin 1024) (l : Fin 128) :
    (iblk T m c (0 : Fin 6) t : Vec Ideal S1x2x1024x128 .bf16) (ix4 0 h r l) = qA m c (ix4 a (headOf p h) (posOf n r) l) := by
  unfold iblk
  rw [View.read_apply]
  refine congrArg (qA m c) (funext fun x => Fin.ext ?_)
  have e := tr0 a p n
  match x with
  | ⟨0, _⟩ => show cc0_transform_0 (crd T t) 0 * 1 + 1 * 0 = a.val; rw [ht, e]; show a.val * 1 + 1 * 0 = a.val; omega
  | ⟨1, _⟩ => show cc0_transform_0 (crd T t) 1 * 2 + 1 * h.val = 2 * p.val + h.val; rw [ht, e]; show p.val * 2 + 1 * h.val = _; omega
  | ⟨2, _⟩ => show cc0_transform_0 (crd T t) 2 * 1024 + 1 * r.val = 1024 * n.val + r.val; rw [ht, e]; show n.val * 1024 + 1 * r.val = _; omega
  | ⟨3, _⟩ => show cc0_transform_0 (crd T t) 3 * 128 + 1 * l.val = l.val; rw [ht, e]; show 0 * 128 + 1 * l.val = _; omega

theorem k_blk (h : Fin 2) (j : Fin 8192) (l : Fin 128) :
    (iblk T m c (1 : Fin 6) t : Vec Ideal S1x2x8192x128 .bf16) (ix4 0 h j l) = kA m c (ix4 a (headOf p h) j l) := by
  unfold iblk
  rw [View.read_apply]
  refine congrArg (kA m c) (funext fun x => Fin.ext ?_)
  have e := tr1 a p n
  match x with
  | ⟨0, _⟩ => show cc0_transform_1 (crd T t) 0 * 1 + 1 * 0 = a.val; rw [ht, e]; show a.val * 1 + 1 * 0 = a.val; omega
  | ⟨1, _⟩ => show cc0_transform_1 (crd T t) 1 * 2 + 1 * h.val = 2 * p.val + h.val; rw [ht, e]; show p.val * 2 + 1 * h.val = _; omega
  | ⟨2, _⟩ => show cc0_transform_1 (crd T t) 2 * 8192 + 1 * j.val = j.val; rw [ht, e]; show 0 * 8192 + 1 * j.val = _; omega
  | ⟨3, _⟩ => show cc0_transform_1 (crd T t) 3 * 128 + 1 * l.val = l.val; rw [ht, e]; show 0 * 128 + 1 * l.val = _; omega

theorem v_blk (h : Fin 2) (j : Fin 8192) (l : Fin 128) :
    (iblk T m c (2 : Fin 6) t : Vec Ideal S1x2x8192x128 .bf16) (ix4 0 h j l) = vA m c (ix4 a (headOf p h) j l) := by
  unfold iblk
  rw [View.read_apply]
  refine congrArg (vA m c) (funext fun x => Fin.ext ?_)
  have e := tr2 a p n
  match x with
  | ⟨0, _⟩ => show cc0_transform_2 (crd T t) 0 * 1 + 1 * 0 = a.val; rw [ht, e]; show a.val * 1 + 1 * 0 = a.val; omega
  | ⟨1, _⟩ => show cc0_transform_2 (crd T t) 1 * 2 + 1 * h.val = 2 * p.val + h.val; rw [ht, e]; show p.val * 2 + 1 * h.val = _; omega
  | ⟨2, _⟩ => show cc0_transform_2 (crd T t) 2 * 8192 + 1 * j.val = j.val; rw [ht, e]; show 0 * 8192 + 1 * j.val = _; omega
  | ⟨3, _⟩ => show cc0_transform_2 (crd T t) 3 * 128 + 1 * l.val = l.val; rw [ht, e]; show 0 * 128 + 1 * l.val = _; omega

theorem z_blk (h : Fin 2) (r : Fin 1024) (d : Fin 64) :
    (iblk T m c (3 : Fin 6) t : Vec Ideal S1024x128 .bf16) (ix2 r (lane h d)) = zA m c (ix2 (rowAt a (posOf n r)) (colAt (headOf p h) d)) := by
  unfold iblk
  rw [View.read_apply]
  refine congrArg (zA m c) (funext fun x => Fin.ext ?_)
  have e := tr3 a p n
  match x with
  | ⟨0, _⟩ => show cc0_transform_3 (crd T t) 0 * 1024 + 1 * r.val = 8192 * a.val + (1024 * n.val + r.val); rw [ht, e]; show (8 * a.val + n.val) * 1024 + 1 * r.val = _; omega
  | ⟨1, _⟩ => show cc0_transform_3 (crd T t) 1 * 128 + 1 * (64 * h.val + d.val) = 64 * (2 * p.val + h.val) + d.val; rw [ht, e]; show p.val * 128 + 1 * (64 * h.val + d.val) = _; omega

theorem g_blk (l : Fin 128) : (iblk T m c (4 : Fin 6) t : Vec Ideal S1x128 .f32) (ix2 0 l) = gA m c (ix2 0 l) := by
  unfold iblk
  rw [View.read_apply]
  refine congrArg (gA m c) (funext fun x => Fin.ext ?_)
  have e := tr4 a p n
  match x with
  | ⟨0, _⟩ => show cc0_transform_4 (crd T t) 0 * 1 + 1 * 0 = 0; rw [ht, e]; rfl
  | ⟨1, _⟩ => show cc0_transform_4 (crd T t) 1 * 128 + 1 * l.val = l.val; rw [ht, e]; show 0 * 128 + 1 * l.val = _; omega

/-- The block of the result array a point writes. -/
theorem o_blk (A : FVec Ideal S16384x1024 .bf16) (h : Fin 2) (r : Fin 1024) (d : Fin 64) :
    ((((cfgA T).win (5 : Fin 6)).blk t).view.read (Elt Ideal) A : Vec Ideal S1024x128 .bf16) (ix2 r (lane h d)) = A (ix2 (rowAt a (posOf n r)) (colAt (headOf p h) d)) := by
  rw [View.read_apply]
  refine congrArg A (funext fun x => Fin.ext ?_)
  have e := tr5 a p n
  match x with
  | ⟨0, _⟩ => show cc0_transform_5 (crd T t) 0 * 1024 + 1 * r.val = 8192 * a.val + (1024 * n.val + r.val); rw [ht, e]; show (8 * a.val + n.val) * 1024 + 1 * r.val = _; omega
  | ⟨1, _⟩ => show cc0_transform_5 (crd T t) 1 * 128 + 1 * (64 * h.val + d.val) = 64 * (2 * p.val + h.val) + d.val; rw [ht, e]; show p.val * 128 + 1 * (64 * h.val + d.val) = _; omega

end

end Cert.Value
-- ==== Proof.Value.Result.lean ====
/-
  The result array the launch leaves is the array of attentions.
-/
module

public import proofs.«01_k».proof.Proof.Value.Array

@[expose] public section

set_option maxRecDepth 16384

noncomputable section

namespace Cert.Value

open Cert.KernelIdeal Cert.KernelIdeal.Gen Cert.KernelIdeal.Body Cert.KernelIdeal.Launch
open Idealize.ShloMosaic Idealize.ShloMosaic.TcCoe Idealize.SL.Sem
open Idealize.ShloMosaic.Pipeline (Dat Cfg Window)

variable (T : Vec Ideal S128 .i32) (m : (ℓ : Loc nD τ sig) → Buf (Elt Ideal) ℓ) (c : Dev nD)

theorem own_head (p : Fin 8) (h : Fin 2) (d : Fin 64) : own (headOf p h) d = lane h d := by
  refine Fin.ext ?_
  show 64 * ((2 * p.val + h.val) % 2) + d.val = 64 * h.val + d.val
  omega

theorem side_head : ∀ (p : Fin 8) (h : Fin 2), side (headOf p h) 0 = oneLane h := by decide

theorem entry_slot (a : Fin 2) (p n : Fin 8) (h : Fin 2) (r : Fin 1024) : entry (pt a p n) = slot a (headOf p h) (posOf n r) := by
  funext x
  match x with
  | 0 =>
    refine Fin.ext ?_
    show 64 * a.val + 8 * p.val + n.val = 64 * a.val + 8 * ((2 * p.val + h.val) / 2) + (1024 * n.val + r.val) / 1024
    omega

/-- What a point writes, entry by entry. -/
theorem out_at (hT : Tab (F := Ideal) T) (L : Lanes (qA m c) (kA m c) (vA m c)) (t : Fin (cfgA T).N) (a : Fin 2) (p n : Fin 8) (ht : crd T t = pt a p n)
    (h : Fin 2) (r : Fin 1024) (d : Fin 64) :
    out T m c t (ix2 r (lane h d)) = entryOf T (qA m c) (kA m c) (vA m c) (zA m c) (gA m c) a (headOf p h) (posOf n r) d := by
  have hn : (crd T t 2).val = n.val := by rw [ht]; rfl
  have hw : (word T (crd T t)).toNat ≤ 2 * (crd T t 2).val := hT (crd T t)
  have hs : Scores (iblk T m c (0 : Fin 6) t : Vec Ideal S1x2x1024x128 .bf16) (iblk T m c (1 : Fin 6) t : Vec Ideal S1x2x8192x128 .bf16)
      (fun h r j => score (qA m c) (kA m c) a (headOf p h) (posOf n r) j) := by
    intro h r j
    unfold score
    refine Finset.sum_congr rfl fun l _ => ?_
    rw [q_blk T m c t a p n ht, k_blk T m c t a p n ht]
  have e (h : Fin 2) (l : Fin 128) : vals (iblk T m c (2 : Fin 6) t : Vec Ideal S1x2x8192x128 .bf16) h l = fun j => vA m c (ix4 a (headOf p h) (key j) l) :=
    funext fun j => v_blk T m c t a p n ht h (key j) l
  obtain ⟨g0, g1⟩ := diag_done (v := (iblk T m c (2 : Fin 6) t : Vec Ideal S1x2x8192x128 .bf16)) hs (crd T t 2).val (word T (crd T t)).toNat hw
  unfold out
  refine (gated_val _ _ (by omega) g0 g1 (fun h k => ?_) r h d).trans ?_
  · rw [e, ← side_head p h]
    exact L.v_one a (headOf p h) (key k)
  · rw [g_blk T m c t a p n ht, z_blk T m c t a p n ht]
    simp only [e]
    unfold entryOf
    have f : 512 * (word T (crd T t)).toNat = first T a (headOf p h) (posOf n r) := by
      rw [word_eq, ht, entry_slot a p n h r]
      rfl
    have f2 : 1024 * (crd T t 2).val + r.val + 1 = (posOf n r).val + 1 := by rw [hn]; rfl
    rw [f, f2, own_head]
    congr 2
    unfold mix
    simp only [own_head]

theorem flushed_eq (hT : Tab (F := Ideal) T) (L : Lanes (qA m c) (kA m c) (vA m c)) (t : Fin (cfgA T).N) (hf : ((cfgA T).win (5 : Fin 6)).flush t = true) :
    (dats T m 0 c).flushed (5 : Fin 6) t = (((cfgA T).win (5 : Fin 6)).blk t).view.read (Elt Ideal) (whole T (qA m c) (kA m c) (vA m c) (zA m c) (gA m c)) := by
  obtain ⟨a, p, n, ht⟩ := eq_pt (crd T t)
  show ((cfgA T).win (5 : Fin 6)).cut (crd T t) ((dats T m 0 c).after (5 : Fin 6) t) = _
  rw [after_5]
  have key' : ∀ j : S1024x128.Idx, out T m c t j
      = ((((cfgA T).win (5 : Fin 6)).blk t).view.read (Elt Ideal) (whole T (qA m c) (kA m c) (vA m c) (zA m c) (gA m c)) : Vec Ideal S1024x128 .bf16) j := by
    intro j
    have h1 : (j 1).val < 128 := (j 1).isLt
    obtain ⟨r, h, d, rfl⟩ : ∃ (r : Fin 1024) (h : Fin 2) (d : Fin 64), j = ix2 r (lane h d) :=
      ⟨j 0, ⟨(j 1).val / 64, by omega⟩, ⟨(j 1).val % 64, by omega⟩, funext fun x => match x with
        | 0 => rfl
        | 1 => Fin.ext (show (j 1).val = 64 * ((j 1).val / 64) + (j 1).val % 64 by omega)⟩
    rw [out_at T m c hT L t a p n ht, o_blk T t a p n ht, whole_at]
  exact funext key'

theorem final (hT : Tab (F := Ideal) T) (L : Lanes (qA m c) (kA m c) (vA m c)) :
    (dats T m 0 c).arrAt (5 : Fin 6) (cfgA T).N = whole T (qA m c) (kA m c) (vA m c) (zA m c) (gA m c) :=
  (dats T m 0 c).arrAt_eq_of_cover (5 : Fin 6) _ (flushed_eq T m c hT L) fun i => by
    have h0 : (i 0).val < 16384 := (i 0).isLt
    have h1 : (i 1).val < 1024 := (i 1).isLt
    let a : Fin 2 := ⟨(i 0).val / 8192, by omega⟩
    let p : Fin 8 := ⟨(i 1).val / 128, by omega⟩
    let n : Fin 8 := ⟨(i 0).val / 1024 % 8, by omega⟩
    have ht : crd T (num a p n) = pt a p n := by
      obtain ⟨e0, e1, e2⟩ := coords_num a p n
      exact funext fun x => match x with
        | 0 => Fin.ext e0
        | 1 => Fin.ext e1
        | 2 => Fin.ext e2
    refine ⟨num a p n, flush5 (num a p n), ?_⟩
    show i ∈ ((View.whole main_v0).slice (((cfgA T).win (5 : Fin 6)).rect (num a p n))).set
    rw [View.set_slice_whole, Rect.mem_set_unit]
    intro x
    have e := tr5 a p n
    match x with
    | ⟨0, _⟩ =>
      show cc0_transform_5 (crd T (num a p n)) 0 * 1024 ≤ (i 0).val ∧ (i 0).val < cc0_transform_5 (crd T (num a p n)) 0 * 1024 + 1024
      rw [ht, e]
      show (8 * ((i 0).val / 8192) + (i 0).val / 1024 % 8) * 1024 ≤ (i 0).val ∧ (i 0).val < (8 * ((i 0).val / 8192) + (i 0).val / 1024 % 8) * 1024 + 1024
      omega
    | ⟨1, _⟩ =>
      show cc0_transform_5 (crd T (num a p n)) 1 * 128 ≤ (i 1).val ∧ (i 1).val < cc0_transform_5 (crd T (num a p n)) 1 * 128 + 128
      rw [ht, e]
      show (i 1).val / 128 * 128 ≤ (i 1).val ∧ (i 1).val < (i 1).val / 128 * 128 + 128
      omega

end Cert.Value
-- ==== Proof.Value.Ref.lean ====
/-
  The reference, read at an entry.
-/
module

public import proofs.«01_k».proof.Proof.Value.Array
public import proofs.«01_k».proof.Proof.Gen.ReferenceIdeal.Run

@[expose] public section

set_option maxRecDepth 16384

noncomputable section

namespace Cert.Value

open Cert.ReferenceIdeal Cert.ReferenceIdeal.Gen Cert.ReferenceIdeal.Value
open Idealize.ShloMosaic Idealize.ShloMosaic.TcCoe Idealize.SL.Sem

variable (V : Valuation τ sig (Elt Ideal))

abbrev rT : IVec S128 32 := V (Proc.devRef .tc main_arg0)
abbrev rQ : FVec Ideal S2x16x8192x128 .bf16 := V (Proc.devRef .tc main_arg1)
abbrev rK : FVec Ideal S2x16x8192x128 .bf16 := V (Proc.devRef .tc main_arg2)
abbrev rV : FVec Ideal S2x16x8192x128 .bf16 := V (Proc.devRef .tc main_arg3)
abbrev rZ : FVec Ideal S16384x1024 .bf16 := V (Proc.devRef .tc main_arg4)
abbrev rG : FVec Ideal S1x128 .f32 := V (Proc.devRef .tc main_arg5)

theorem v4_at (H : Fin 16) : (res_main_v4 V : IVec S1x16x1x1 1) (ix4 0 H 0 0) = even H := by
  pointwise [res_main_v4, res_main_call0_v4, res_main_call0_v2, res_main_call0_v0]
  rfl

/-- The reference's masked scores, powers and averages, entry by entry. -/
def s57 (b : Fin 2) (H : Fin 16) (r j : Fin 8192) : EReal := res_main_v57 V (ix4 b H r j)
def e63 (b : Fin 2) (H : Fin 16) (r j : Fin 8192) : EReal := res_main_v63 V (ix4 b H r j)
def a68 (b : Fin 2) (H : Fin 16) (r : Fin 8192) (d : Fin 64) : EReal := res_main_v68 V (ix4 b H r d)

/-- The keys a position sees. -/
abbrev seen (T : IVec S128 32) (b : Fin 2) (H : Fin 16) (r : Fin 8192) : Finset ℕ := Finset.Ico (first T b H r) (r.val + 1)

/-- No entry of the table is past its diagonal. -/
def Before (T : IVec S128 32) : Prop := ∀ y : S128.Idx, (T y).toNat ≤ 2 * ((y 0).val % 8)

theorem first_le {T : IVec S128 32} (hT : Before T) (b : Fin 2) (H : Fin 16) (r : Fin 8192) : first T b H r ≤ r.val := by
  have h := hT (slot b H r)
  have e : (slot b H r 0).val = 64 * b.val + 8 * (H.val / 2) + r.val / 1024 := rfl
  have hr := r.isLt
  unfold first
  omega

/-- The mask of the scores, as numbers. -/
theorem mask_at {T : IVec S128 32} (hT : Before T) (b : Fin 2) (H : Fin 16) (r j : Fin 8192) (x : EReal) :
    Scalar.select (IntOp.andi (IntOp.cmpi .sge (BitVec.ofNat 32 r.val) (BitVec.ofNat 32 j.val))
      (IntOp.cmpi .sge (BitVec.ofNat 32 j.val) (IntOp.muli 512#32 (T (slot b H r))))) x ⊥ = if j.val ∈ seen T b H r then x else ⊥ := by
  have hf := first_le hT b H r
  have hr := r.isLt
  have hj := j.isLt
  have e : IntOp.muli 512#32 (T (slot b H r)) = BitVec.ofNat 32 (first T b H r) := by
    unfold first at hf ⊢
    apply BitVec.eq_of_toNat_eq
    simp [IntOp.muli, BitVec.toNat_mul]
  rw [e, sge_word _ _ (by omega) (by omega), sge_word _ _ (by omega) (by omega)]
  by_cases h1 : j.val ≤ r.val <;> by_cases h2 : first T b H r ≤ j.val
  · rw [if_pos (Finset.mem_Ico.mpr ⟨h2, by omega⟩), decide_eq_true h1, decide_eq_true h2]; rfl
  · rw [if_neg (fun h => h2 (Finset.mem_Ico.mp h).1), decide_eq_true h1, decide_eq_false h2]; rfl
  · rw [if_neg (fun h => h1 (by have := (Finset.mem_Ico.mp h).2; omega)), decide_eq_false h1, decide_eq_true h2]; rfl
  · rw [if_neg (fun h => h2 (Finset.mem_Ico.mp h).1), decide_eq_false h1, decide_eq_false h2]; rfl

theorem key_val (j : Fin 8192) : key j.val = j := Fin.ext (Nat.mod_eq_of_lt j.isLt)

theorem v57_at (hT : Before (rT V)) (L : Lanes (rQ V) (rK V) (rV V)) (b : Fin 2) (H : Fin 16) (r j : Fin 8192) :
    s57 V b H r j
      = if j.val ∈ seen (rT V) b H r then score (rQ V) (rK V) b H r j.val else (⊥ : EReal) := by
  unfold s57
  unfold score
  rw [← mask_at hT, key_val, whole_row L]
  pointwise [res_main_v57, res_main_v43, v4_at]
  have e : (id (constant (F := Ideal) S_ .f32 4286578688#32) ix0 : EReal) = ⊥ := ofBits_neg_inf
  have e' : (ix1 ⟨b.val * 64 + H.val / 2 * 8 + r.val / 1024, by omega⟩ : S128.Idx) = slot b H r := by
    unfold slot
    congr 2
    omega
  rw [e]
  refine congrArg₂ (fun y x => Scalar.select (IntOp.andi (IntOp.cmpi .sge (BitVec.ofNat 32 r.val) (BitVec.ofNat 32 j.val))
      (IntOp.cmpi .sge (BitVec.ofNat 32 j.val) (IntOp.muli 512#32 (rT V y)))) x ⊥) e' ?_
  rw [add_assoc]
  refine congrArg₂ (· + ·) (Finset.sum_congr rfl fun d _ => ?_) (congrArg₂ (· + ·) (Finset.sum_congr rfl fun d _ => ?_) (Finset.sum_congr rfl fun d _ => ?_))
  · exact congrArg₂ (· * ·) (pick_own (fun l => rQ V (ix4 b H r l)) H d _ _) (pick_own (fun l => rK V (ix4 b H j l)) H d _ _)
  · exact pick_side (fun l => rQ V (ix4 b H r l)) H ⟨d.val, by omega⟩ _ _
  · exact pick_side (fun l => rK V (ix4 b H j l)) H ⟨3 + d.val, by omega⟩ _ _

theorem two_bits : Ideal.ofBits .f32 1073741824#32 = ((2 : ℝ) : EReal) := by
  simp [Ideal.ofBits, Ideal.ieee, -EReal.coe_mul]
  norm_num

theorem pow_at (W : FVec Ideal S2x16x8192x8192 .f32) (b : Fin 2) (H : Fin 16) (r j : Fin 8192) :
    Host.powf (broadcastInDim S2x16x8192x8192 ![] bcast_S_S2x16x8192x8192 (constant S_ .f32 0x40000000#32)) (subf W (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduce FloatOps.maximumf W (constant S_ .f32 0xFF800000#32) reducesTo_S2x16x8192x8192_S2x16x8192_d3 h_S_)))) (ix4 b H r j)
      = Ideal.pow ((2 : ℝ) : EReal) (W (ix4 b H r j) - top fun j => W (ix4 b H r j)) := by
  pointwise [top, ofBits_neg_inf, two_bits]

theorem v63_at (b : Fin 2) (H : Fin 16) (r j : Fin 8192) : e63 V b H r j = Ideal.pow ((2 : ℝ) : EReal) (s57 V b H r j - top fun j => s57 V b H r j) := by
  unfold e63 res_main_v63
  exact pow_at (res_main_v57 V) b H r j

theorem v68_at (b : Fin 2) (H : Fin 16) (r : Fin 8192) (d : Fin 64) : a68 V b H r d
    = ∑ j : Fin 8192, Ideal.div (e63 V b H r j) (∑ j, e63 V b H r j)
      * rV V (ix4 b H j (own H d)) := by
  unfold a68
  pointwise [res_main_v68, v4_at]
  exact Finset.sum_congr rfl fun j _ => congrArg _ (pick_own (fun l => rV V (ix4 b H j l)) H d _ _)

/-! ## The weights -/

theorem pow_two (x : EReal) : Ideal.pow ((2 : ℝ) : EReal) x = Ideal.exp2 x := by
  induction x using EReal.rec with
  | bot =>
    show (if (2 : ℝ) < 0 then ⊥ else if (1 : ℝ) < 2 then 0 else if (2 : ℝ) = 1 then 1 else ⊤) = (0 : EReal)
    rw [if_neg (by norm_num), if_pos (by norm_num)]
  | coe y => rfl
  | top =>
    show (if (2 : ℝ) < 0 then ⊥ else if (1 : ℝ) < 2 then ⊤ else if (2 : ℝ) = 1 then 1 else 0) = (⊤ : EReal)
    rw [if_neg (by norm_num), if_pos (by norm_num)]

/-- A sum over the keys of which only those of `S` count. -/
theorem sum_seen {S : Finset ℕ} (hS : S ⊆ Finset.range 8192) (f : ℕ → EReal) :
    (∑ j : Fin 8192, if j.val ∈ S then f j.val else 0) = ∑ k ∈ S, f k := by
  rw [Fin.sum_univ_eq_sum_range (fun i => if i ∈ S then f i else 0) 8192, ← Finset.sum_filter]
  refine Finset.sum_congr ?_ fun k _ => rfl
  ext k
  simp only [Finset.mem_filter]
  exact ⟨fun h => h.2, fun h => ⟨hS h, h⟩⟩

/-- The softmax of masked scores that are regular, averaged: the average over the keys seen. -/
theorem softmax_avg (s : ℕ → EReal) (x : ℕ → EReal) {S : Finset ℕ} (hS : S ⊆ Finset.range 8192) (hR : Regular s S) (σ e : Fin 8192 → EReal)
    (hσ : ∀ j, σ j = if j.val ∈ S then s j.val else ⊥) (he : ∀ j, e j = Ideal.exp2 (σ j - top σ)) :
    ∑ j : Fin 8192, Ideal.div (e j) (∑ j, e j) * x j.val = avg s x S := by
  obtain ⟨m, hm⟩ : ∃ m : ℝ, top σ = (m : EReal) := by
    refine ⟨(top σ).toReal, (EReal.coe_toReal (fun h => ?_) fun h => ?_).symm⟩
    · obtain ⟨j, e⟩ := of_top_eq σ h
      rw [hσ] at e
      by_cases hj : j.val ∈ S
      · rw [if_pos hj] at e
        exact hR.1 _ hj e
      · rw [if_neg hj] at e
        exact bot_ne_top e
    · obtain ⟨k, hk, e⟩ := hR.2
      have h1 := le_greatest σ ⟨k, Finset.mem_range.mp (hS hk)⟩
      rw [hσ, if_pos hk, h] at h1
      exact e (le_bot_iff.mp h1)
  have hw : ∀ j, e j = if j.val ∈ S then ((wt (s j.val) * (2 : ℝ) ^ (-m) : ℝ) : EReal) else 0 := by
    intro j
    rw [he, hm, hσ]
    by_cases hj : j.val ∈ S
    · rw [if_pos hj, if_pos hj, exp2_wt _ (hR.1 _ hj)]
    · rw [if_neg hj, if_neg hj, exp2_bot_sub]
  have hsum : ∑ j, e j = ((total s S * (2 : ℝ) ^ (-m) : ℝ) : EReal) := by
    unfold total
    rw [Finset.sum_mul, coe_sum, ← sum_seen hS]
    exact Finset.sum_congr rfl fun j _ => hw j
  have hpos := mul_pos (total_pos hR) (two_pow_pos m)
  rw [hsum]
  unfold avg
  rw [← sum_seen hS]
  refine Finset.sum_congr rfl fun j _ => ?_
  have hd : ∀ y, Ideal.div y ((total s S * (2 : ℝ) ^ (-m) : ℝ) : EReal) = y * (((total s S * (2 : ℝ) ^ (-m))⁻¹ : ℝ) : EReal) := by
    intro y
    unfold Ideal.div
    rw [if_neg (by exact_mod_cast hpos.ne'), EReal.coe_inv]
  rw [hd, hw]
  by_cases hj : j.val ∈ S
  · rw [if_pos hj, if_pos hj, ← EReal.coe_mul, mul_comm (wt _ * _), share_eq]
  · rw [if_neg hj, if_neg hj, zero_mul, zero_mul]

/-- A number that is zero or infinite. -/
def Wild (x : EReal) : Prop := x = 0 ∨ x = ⊤ ∨ x = ⊥

theorem wild_sum {n : ℕ} (f : Fin n → EReal) (h : ∀ j, Wild (f j)) : Wild (∑ j, f j) := by
  refine Finset.sum_induction f Wild (fun a b ha hb => ?_) (Or.inl rfl) fun j _ => h j
  rcases ha with rfl | rfl | rfl
  · rw [zero_add]; exact hb
  · rcases hb with rfl | rfl | rfl
    · exact Or.inr (Or.inl (add_zero _))
    · exact Or.inr (Or.inl rfl)
    · exact Or.inr (Or.inr (EReal.add_bot _))
  · exact Or.inr (Or.inr (EReal.bot_add _))

theorem wild_bot_mul (x : EReal) : Wild (⊥ * x) := by
  rcases lt_trichotomy x 0 with h | rfl | h
  · exact Or.inr (Or.inl (EReal.bot_mul_of_neg h))
  · exact Or.inl (mul_zero _)
  · exact Or.inr (Or.inr (EReal.bot_mul_of_pos h))

/-- The softmax of masked scores that are not regular: a quotient of zeros. -/
theorem softmax_wild (s : ℕ → EReal) (x : ℕ → EReal) {S : Finset ℕ} (hS : S ⊆ Finset.range 8192) (hR : ¬ Regular s S) (σ e : Fin 8192 → EReal)
    (hσ : ∀ j, σ j = if j.val ∈ S then s j.val else ⊥) (he : ∀ j, e j = Ideal.exp2 (σ j - top σ)) :
    Wild (∑ j : Fin 8192, Ideal.div (e j) (∑ j, e j) * x j.val) := by
  have h0 : ∀ j, e j = 0 := by
    intro j
    rw [he]
    by_cases hb : σ j = ⊥
    · rw [hb, exp2_bot_sub]
    · have ht : top σ = ⊤ := by
        by_contra ht
        have mem : ∀ i : Fin 8192, σ i ≠ ⊥ → i.val ∈ S := fun i hi => by
          by_contra hn
          exact hi ((hσ i).trans (if_neg hn))
        refine hR ⟨fun k hk e => ht (top_le_iff.mp ?_), j.val, mem j hb, fun e => hb ?_⟩
        · have h1 := le_greatest σ ⟨k, Finset.mem_range.mp (hS hk)⟩
          rw [hσ, if_pos hk, e] at h1
          exact h1
        · rw [hσ, if_pos (mem j hb), e]
      rw [ht, exp2_sub_top]
  refine wild_sum _ fun j => ?_
  rw [Finset.sum_eq_zero fun j _ => h0 j, h0 j]
  have : Ideal.div 0 0 = ⊥ := by
    unfold Ideal.div
    rw [if_pos rfl, if_neg (lt_irrefl _)]
  rw [this]
  exact wild_bot_mul _

/-- The norm of numbers that are zero or infinite is zero. -/
theorem normed_wild (f : Fin 64 → EReal) (h : ∀ e, Wild (f e)) (d : Fin 64) : normed f d = 0 := by
  unfold normed
  by_cases h0 : f d = 0
  · rw [h0, zero_mul]
  · have hd : f d * f d = ⊤ := by
      rcases h d with e | e | e
      · exact absurd e h0
      · rw [e]; rfl
      · rw [e]; rfl
    have hn : ∀ e, 0 ≤ f e * f e := fun e => by
      rcases h e with e | e | e
      · rw [e, mul_zero]
      · rw [e]; exact le_top
      · rw [e]; exact le_top
    have hs : ∑ e, f e * f e = ⊤ := top_le_iff.mp (hd ▸ Finset.single_le_sum (f := fun e => f e * f e) (fun e _ => hn e) (Finset.mem_univ d))
    have h64 : Ideal.ofBits .f32 0x3C800000#32 = ((1 / 64 : ℝ) : EReal) := by
      simp [Ideal.ofBits, Ideal.ieee, -EReal.coe_mul]
      norm_num
    have heps : Ideal.ofBits .f32 0x358637BD#32 ≠ ⊥ := by simp [Ideal.ofBits, Ideal.ieee, -EReal.coe_mul]
    rw [hs, h64, EReal.top_mul_coe_of_pos (by norm_num), EReal.top_add_of_ne_bot heps]
    exact mul_zero _

theorem a68_normed (hT : Before (rT V)) (L : Lanes (rQ V) (rK V) (rV V)) (b : Fin 2) (H : Fin 16) (r : Fin 8192) (d : Fin 64) :
    normed (a68 V b H r) d = mix (rT V) (rQ V) (rK V) (rV V) b H r d := by
  have hS : seen (rT V) b H r ⊆ Finset.range 8192 := fun k hk => by
    have := (Finset.mem_Ico.mp hk).2
    have := r.isLt
    exact Finset.mem_range.mpr (by omega)
  have hσ := fun j => v57_at V hT L b H r j
  have he : ∀ j, e63 V b H r j = Ideal.exp2 (s57 V b H r j - top fun j => s57 V b H r j) := fun j => (v63_at V b H r j).trans (pow_two _)
  have hv (d : Fin 64) : a68 V b H r d = ∑ j : Fin 8192, Ideal.div (e63 V b H r j) (∑ j, e63 V b H r j) * (fun j => rV V (ix4 b H (key j) (own H d))) j.val := by
    rw [v68_at]
    exact Finset.sum_congr rfl fun j _ => by beta_reduce; rw [key_val]
  unfold mix attn
  by_cases hR : Regular (score (rQ V) (rK V) b H r) (seen (rT V) b H r)
  · rw [if_pos hR]
    exact congrArg (fun f => normed f d) (funext fun e => (hv e).trans (softmax_avg _ (fun j => rV V (ix4 b H (key j) (own H e))) hS hR _ _ hσ he))
  · rw [if_neg hR]
    exact normed_wild _ (fun e => (hv e).symm ▸ softmax_wild _ (fun j => rV V (ix4 b H (key j) (own H e))) hS hR _ _ hσ he) d

theorem div_bits (x : EReal) : Ideal.div x (Ideal.ofBits .f32 1115684864#32) = x * Ideal.ofBits .f32 0x3C800000#32 := by
  have e : Ideal.ofBits .f32 1115684864#32 = ((64 : ℝ) : EReal) := by
    simp [Ideal.ofBits, Ideal.ieee, -EReal.coe_mul]
    norm_num
  have e' : Ideal.ofBits .f32 0x3C800000#32 = ((1 / 64 : ℝ) : EReal) := by
    simp [Ideal.ofBits, Ideal.ieee, -EReal.coe_mul]
    norm_num
  rw [e, e', Ideal.div_coe (by norm_num)]

/-- Dividing the sum of squares by 64 or multiplying it by the reciprocal is the same, and so is either way of writing the gate. -/
theorem gate_form (f : Fin 64 → EReal) (d : Fin 64) (g z : EReal) :
    f d * Ideal.rsqrt (Ideal.div (∑ e, f e * f e) (Ideal.ofBits .f32 1115684864#32) + Ideal.ofBits .f32 0x358637BD#32) * g * (z * Ideal.div 1 (1 + Ideal.exp (-z)))
      = normed f d * g * (z * Ideal.logistic z) := by
  rw [div_bits (∑ e, f e * f e)]
  rfl

theorem entry_form (T : IVec S128 32) (q k v : FVec Ideal S2x16x8192x128 .bf16) (z : FVec Ideal S16384x1024 .bf16) (g : FVec Ideal S1x128 .f32)
    (b : Fin 2) (H : Fin 16) (r : Fin 8192) (d : Fin 64) (f : Fin 64 → EReal) (hf : normed f d = mix T q k v b H r d) :
    entryOf T q k v z g b H r d = f d * Ideal.rsqrt (Ideal.div (∑ e, f e * f e) (Ideal.ofBits .f32 1115684864#32) + Ideal.ofBits .f32 0x358637BD#32) * g (ix2 0 (own H d))
      * (z (ix2 (rowAt b r) (colAt H d)) * Ideal.div 1 (1 + Ideal.exp (-z (ix2 (rowAt b r) (colAt H d))))) := by
  rw [gate_form, hf]
  rfl

/-- The reference's result array. -/
def refArray : FVec Ideal S16384x1024 .bf16 :=
  truncf .bf16 (mulf (shapeCast _ (transpose S2x8192x16x64 [0, 2, 1, 3] (mulf (mulf (res_main_v68 V) (broadcastInDim S2x16x8192x64 ![0, 1, 2, 3] bcast_S2x16x8192x1_S2x16x8192x64_0_1_2_3 (Host.rsqrt (addf (Host.divf (broadcastInDim S2x16x8192x1 ![0, 1, 2] bcast_S2x16x8192_S2x16x8192x1_0_1_2 (Host.reduceAdd (mulf (res_main_v68 V) (res_main_v68 V)) (constant S_ .f32 0x00000000#32) reducesTo_S2x16x8192x64_S2x16x8192_d3 h_S_)) (broadcastInDim S2x16x8192x1 ![] bcast_S_S2x16x8192x1 (constant S_ .f32 0x42800000#32))) (broadcastInDim S2x16x8192x1 ![] bcast_S_S2x16x8192x1 (constant S_ .f32 0x358637BD#32)))))) (broadcastInDim S2x16x8192x64 ![0, 1, 2, 3] bcast_S1x16x1x64_S2x16x8192x64_0_1_2_3 (select (broadcastInDim S1x16x1x64 ![0, 1, 2, 3] bcast_S1x16x1x1_S1x16x1x64_0_1_2_3 (res_main_v4 V)) (broadcastInDim S1x16x1x64 ![3] bcast_S64_S1x16x1x64_3 (shapeCast _ (extractStridedSlice S1x64 ![0, 0] (rG V) slices_S1x128_S1x64_0_0) shapeCasts_S1x64_S64)) (broadcastInDim S1x16x1x64 ![3] bcast_S64_S1x16x1x64_3 (shapeCast _ (extractStridedSlice S1x64 ![0, 64] (rG V) slices_S1x128_S1x64_0_64) shapeCasts_S1x64_S64))))) transposes_S2x16x8192x64_S2x8192x16x64_0_2_1_3) shapeCasts_S2x8192x16x64_S16384x1024) (mulf (res_main_v88 V) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (res_main_v88 V))))))) bitsLt_bf16_f32

theorem refArray_at (hT : Before (rT V)) (L : Lanes (rQ V) (rK V) (rV V)) (b : Fin 2) (H : Fin 16) (r : Fin 8192) (d : Fin 64) :
    refArray V (ix2 (rowAt b r) (colAt H d)) = entryOf (rT V) (rQ V) (rK V) (rV V) (rZ V) (rG V) b H r d := by
  have e1 : (8192 * b.val + r.val) / 8192 = b.val := by omega
  have e2 : (64 * H.val + d.val) / 64 = H.val := by omega
  have e3 : (8192 * b.val + r.val) % 8192 = r.val := by omega
  have e4 : (64 * H.val + d.val) % 64 = d.val := by omega
  unfold refArray
  pointwise [res_main_v88, v4_at]
  have r0 : (rowAt b r).val = 8192 * b.val + r.val := rfl
  have c0 : (colAt H d).val = 64 * H.val + d.val := rfl
  simp only [r0, c0, e1, e2, e3, e4, Fin.eta]
  have ef := a68_normed V hT L b H r d
  refine Eq.trans ?_ (entry_form _ _ _ _ _ _ b H r d (a68 V b H r) ef).symm
  have es := pick_own (fun l => rG V (ix2 0 l)) H d (by omega) (by omega)
  have ea (e : Fin 64) : res_main_v68 V (ix4 b H r e) = a68 V b H r e := rfl
  simp only [ea]
  exact congrArg (fun g => a68 V b H r d * Ideal.rsqrt (Ideal.div (∑ e, a68 V b H r e * a68 V b H r e) (Ideal.ofBits .f32 1115684864#32) + Ideal.ofBits .f32 0x358637BD#32) * g
    * (rZ V (ix2 (rowAt b r) (colAt H d)) * Ideal.div 1 (1 + Ideal.exp (-rZ V (ix2 (rowAt b r) (colAt H d)))))) es

theorem refArray_eq (hT : Before (rT V)) (L : Lanes (rQ V) (rK V) (rV V)) :
    refArray V = whole (rT V) (rQ V) (rK V) (rV V) (rZ V) (rG V) := by
  funext j
  have h0 : (j 0).val < 16384 := (j 0).isLt
  have h1 : (j 1).val < 1024 := (j 1).isLt
  obtain ⟨b, H, r, d, rfl⟩ : ∃ (b : Fin 2) (H : Fin 16) (r : Fin 8192) (d : Fin 64), j = ix2 (rowAt b r) (colAt H d) :=
    ⟨⟨(j 0).val / 8192, by omega⟩, ⟨(j 1).val / 64, by omega⟩, ⟨(j 0).val % 8192, by omega⟩, ⟨(j 1).val % 64, by omega⟩, funext fun x => match x with
      | 0 => Fin.ext (show (j 0).val = 8192 * ((j 0).val / 8192) + (j 0).val % 8192 by omega)
      | 1 => Fin.ext (show (j 1).val = 64 * ((j 1).val / 64) + (j 1).val % 64 by omega)⟩
  rw [refArray_at V hT L]
  exact (whole_at _ _ _ _ _ _ b H r d).symm

end Cert.Value
-- ==== Proof.Output.Rows.lean ====
/-
  The output projection, row by row: what a row of the result is, and that a block of the kernel computes it.
-/
module

public import proofs.«01_k».proof.Proof.Gen.Kernel2Ideal.Value
public import Idealize.ShloMosaic.Lib.Pointwise

@[expose] public section

set_option maxRecDepth 16384

noncomputable section

namespace Cert.Output

open Idealize.ShloMosaic

/-- The norm of a row: each entry over the root of the mean square (and the small constant), weighted. -/
def normed (f g : Fin 1024 → EReal) (d : Fin 1024) : EReal :=
  f d * Ideal.rsqrt (Ideal.div (∑ e : Fin 1024, f e * f e) (Ideal.ofBits .f32 0x44800000#32) + Ideal.ofBits .f32 0x358637BD#32) * g d

/-- A row with the two groups of heads projected onto it. -/
def projected (x a b : Fin 1024 → EReal) (wa wb : Fin 1024 → Fin 1024 → EReal) (d : Fin 1024) : EReal :=
  x d + (∑ e, a e * wa e d + ∑ e, b e * wb e d)

/-- A row with its embedding let in by a gate. -/
def embedded (h gp : Fin 1024 → EReal) (p : Fin 256 → EReal) (wg : Fin 1024 → Fin 1024 → EReal) (wp : Fin 256 → Fin 1024 → EReal) (d : Fin 1024) : EReal :=
  h d + Ideal.logistic (∑ e, normed h gp e * wg e d) * ∑ e, p e * wp e d

section
open Cert.Kernel2Ideal Cert.Kernel2Ideal.Gen Cert.Kernel2Ideal.Value

variable (x : FVec Ideal S1024x1024 .f32) (ys ya ws wa wg : FVec Ideal S1024x1024 .bf16) (p : FVec Ideal S1024x256 .f32)
  (wp : FVec Ideal S256x1024 .bf16) (gp gf : FVec Ideal S1x1024 .f32)

theorem pay1_at (h : FVec Ideal S1024x1024 .f32) (r d : Fin 1024) :
    k0_pay1 h gf (ix2 r d) = normed (fun e => h (ix2 r e)) (fun e => gf (ix2 0 e)) d := by
  pointwise [k0_pay1, normed]

theorem pay2_at (r d : Fin 1024) :
    k0_pay2 (F := Ideal) x ys ws ya wa p wp gp wg (ix2 r d)
      = embedded (projected (fun e => x (ix2 r e)) (fun e => ys (ix2 r e)) (fun e => ya (ix2 r e)) (fun e d => ws (ix2 e d)) (fun e d => wa (ix2 e d)))
          (fun e => gp (ix2 0 e)) (fun e => p (ix2 r e)) (fun e d => wg (ix2 e d)) (fun e d => wp (ix2 e d)) d := by
  pointwise [k0_pay2, normed, projected, embedded]

theorem zero2 : (![0, 0] : Fin 2 → ℕ) = fun _ => 0 := by decide

theorem ld_00 : View.ld (Val := Elt Ideal) (e' := .f32) x r0_0 = x := View.ld_unit_zero zero2 _ _
theorem ld_00' (x : FVec Ideal S1024x1024 .bf16) : View.ld (Val := Elt Ideal) (e' := .bf16) x r0_0 = x := View.ld_unit_zero zero2 _ _
theorem ld_01 : View.ld (Val := Elt Ideal) (e' := .f32) p r0_1 = p := View.ld_unit_zero zero2 _ _
theorem ld_02 : View.ld (Val := Elt Ideal) (e' := .bf16) wp r0_2 = wp := View.ld_unit_zero zero2 _ _
theorem ld_03 : View.ld (Val := Elt Ideal) (e' := .f32) gp r0_3 = gp := View.ld_unit_zero zero2 _ _

/-- A row of the result. -/
def row (x ys ya : Fin 1024 → EReal) (p : Fin 256 → EReal) (ws wa wg : Fin 1024 → Fin 1024 → EReal) (wp : Fin 256 → Fin 1024 → EReal) (gp gf : Fin 1024 → EReal) :
    Fin 1024 → EReal :=
  normed (embedded (projected x ys ya ws wa) gp p wg wp) gf

/-- What a grid point leaves in its block of the result. -/
theorem out_at (r d : Fin 1024) :
    out0_10 (F := Ideal) x ys ya p ws wa wg wp gp gf (ix2 r d)
      = row (fun e => x (ix2 r e)) (fun e => ys (ix2 r e)) (fun e => ya (ix2 r e)) (fun e => p (ix2 r e)) (fun e d => ws (ix2 e d)) (fun e d => wa (ix2 e d))
          (fun e d => wg (ix2 e d)) (fun e d => wp (ix2 e d)) (fun e => gp (ix2 0 e)) (fun e => gf (ix2 0 e)) d := by
  have hi : r0_0.idx (ix2 r d) = (ix2 r d : S1024x1024.Idx) := funext fun a => Fin.ext (by
    match a with
    | 0 => show 0 + 1 * r.val = r.val; omega
    | 1 => show 0 + 1 * d.val = d.val; omega)
  unfold out0_10
  rw [ld_00, ld_00', ld_00', ld_00', ld_00', ld_00', ld_01, ld_02, ld_03, ld_03, canon10_eq, ← hi, ← piece10_0]
  refine (pay1_at _ _ r d).trans ?_
  unfold row
  exact congrArg (fun f => normed f _ d) (funext fun e => pay2_at ..)

end

end Cert.Output
-- ==== Proof.Output.Array.lean ====
/-
  The array the output projection's launch leaves: its rows, each from the same row of the operands.
-/
module

public import proofs.«01_k».proof.Proof.Output.Rows

@[expose] public section

set_option maxRecDepth 16384

noncomputable section

namespace Cert.Output

open Cert.Kernel2Ideal Cert.Kernel2Ideal.Gen Cert.Kernel2Ideal.Value
open Idealize.ShloMosaic Idealize.ShloMosaic.TcCoe Idealize.SL.Sem
open Idealize.ShloMosaic.Pipeline (Dat Cfg Window)

/-- The result array. -/
def whole (x : FVec Ideal S16384x1024 .f32) (ys ya : FVec Ideal S16384x1024 .bf16) (p : FVec Ideal S16384x256 .f32) (ws wa wg : FVec Ideal S1024x1024 .bf16)
    (wp : FVec Ideal S256x1024 .bf16) (gp gf : FVec Ideal S1x1024 .f32) : FVec Ideal S16384x1024 .f32 := fun i =>
  row (fun e => x (ix2 (i 0) e)) (fun e => ys (ix2 (i 0) e)) (fun e => ya (ix2 (i 0) e)) (fun e => p (ix2 (i 0) e)) (fun e d => ws (ix2 e d)) (fun e d => wa (ix2 e d))
    (fun e d => wg (ix2 e d)) (fun e d => wp (ix2 e d)) (fun e => gp (ix2 0 e)) (fun e => gf (ix2 0 e)) (i 1)

/-- The row of the array that a row of a block is. -/
def rowAt (n : Fin 16) (r : Fin 1024) : Fin 16384 := ⟨1024 * n.val + r.val, by omega⟩

theorem points : grid0.N = 16 := by decide +kernel

/-- The block of rows of a grid point. -/
def num (t : Fin cfg0.N) : Fin 16 := ⟨t.val, by have := t.isLt; have e : cfg0.N = 16 := points; omega⟩

theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr2 : ∀ t : Fin grid0.N, cc0_transform_2 (grid0.coords t) = ![t.val, 0] := by decide +kernel
theorem tr3 : ∀ t : Fin grid0.N, cc0_transform_3 (grid0.coords t) = ![t.val, 0] := by decide +kernel
theorem tr4 : ∀ t : Fin grid0.N, cc0_transform_4 (grid0.coords t) = ![0, 0] := by decide +kernel
theorem tr5 : ∀ t : Fin grid0.N, cc0_transform_5 (grid0.coords t) = ![0, 0] := by decide +kernel
theorem tr6 : ∀ t : Fin grid0.N, cc0_transform_6 (grid0.coords t) = ![0, 0] := by decide +kernel
theorem tr7 : ∀ t : Fin grid0.N, cc0_transform_7 (grid0.coords t) = ![0, 0] := by decide +kernel
theorem tr8 : ∀ t : Fin grid0.N, cc0_transform_8 (grid0.coords t) = ![0, 0] := by decide +kernel
theorem tr9 : ∀ t : Fin grid0.N, cc0_transform_9 (grid0.coords t) = ![0, 0] := by decide +kernel
theorem tr10 : ∀ t : Fin grid0.N, cc0_transform_10 (grid0.coords t) = ![t.val, 0] := by decide +kernel

/-- Every point writes its block back. -/
theorem flush10 : ∀ t : Fin grid0.N, Window.flushOf grid0 true cc0_transform_10 t = true := by decide +kernel

section
variable (m : (ℓ : Loc nD τ sig) → Buf (Elt Ideal) ℓ) (c : Dev nD)

abbrev xA : FVec Ideal S16384x1024 .f32 := m ((c : Thread nD τ).loc main_arg0)
abbrev ysA : FVec Ideal S16384x1024 .bf16 := m ((c : Thread nD τ).loc main_arg1)
abbrev yaA : FVec Ideal S16384x1024 .bf16 := m ((c : Thread nD τ).loc main_arg2)
abbrev pA : FVec Ideal S16384x256 .f32 := m ((c : Thread nD τ).loc main_arg3)
abbrev wsA : FVec Ideal S1024x1024 .bf16 := m ((c : Thread nD τ).loc main_arg4)
abbrev waA : FVec Ideal S1024x1024 .bf16 := m ((c : Thread nD τ).loc main_arg5)
abbrev wgA : FVec Ideal S1024x1024 .bf16 := m ((c : Thread nD τ).loc main_arg6)
abbrev wpA : FVec Ideal S256x1024 .bf16 := m ((c : Thread nD τ).loc main_arg7)
abbrev gpA : FVec Ideal S1x1024 .f32 := m ((c : Thread nD τ).loc main_arg8)
abbrev gfA : FVec Ideal S1x1024 .f32 := m ((c : Thread nD τ).loc main_arg9)

variable (t : Fin cfg0.N)

theorem blk0 (r : Fin 1024) (e : Fin 1024) : (iblk m c (0 : Fin 11) t : Vec Ideal S1024x1024 .f32) (ix2 r e) = xA m c (ix2 (rowAt (num t) r) e) := by
  unfold iblk
  rw [View.read_apply]
  refine congrArg (xA m c) (funext fun x => Fin.ext ?_)
  have h := tr0 t
  match x with
  | ⟨0, _⟩ => show cc0_transform_0 (grid0.coords t) 0 * 1024 + 1 * r.val = 1024 * t.val + r.val; rw [h]; show t.val * 1024 + 1 * r.val = _; omega
  | ⟨1, _⟩ => show cc0_transform_0 (grid0.coords t) 1 * 1024 + 1 * e.val = e.val; rw [h]; show 0 * 1024 + 1 * e.val = _; omega

theorem blk1 (r : Fin 1024) (e : Fin 1024) : (iblk m c (1 : Fin 11) t : Vec Ideal S1024x1024 .bf16) (ix2 r e) = ysA m c (ix2 (rowAt (num t) r) e) := by
  unfold iblk
  rw [View.read_apply]
  refine congrArg (ysA m c) (funext fun x => Fin.ext ?_)
  have h := tr1 t
  match x with
  | ⟨0, _⟩ => show cc0_transform_1 (grid0.coords t) 0 * 1024 + 1 * r.val = 1024 * t.val + r.val; rw [h]; show t.val * 1024 + 1 * r.val = _; omega
  | ⟨1, _⟩ => show cc0_transform_1 (grid0.coords t) 1 * 1024 + 1 * e.val = e.val; rw [h]; show 0 * 1024 + 1 * e.val = _; omega

theorem blk2 (r : Fin 1024) (e : Fin 1024) : (iblk m c (2 : Fin 11) t : Vec Ideal S1024x1024 .bf16) (ix2 r e) = yaA m c (ix2 (rowAt (num t) r) e) := by
  unfold iblk
  rw [View.read_apply]
  refine congrArg (yaA m c) (funext fun x => Fin.ext ?_)
  have h := tr2 t
  match x with
  | ⟨0, _⟩ => show cc0_transform_2 (grid0.coords t) 0 * 1024 + 1 * r.val = 1024 * t.val + r.val; rw [h]; show t.val * 1024 + 1 * r.val = _; omega
  | ⟨1, _⟩ => show cc0_transform_2 (grid0.coords t) 1 * 1024 + 1 * e.val = e.val; rw [h]; show 0 * 1024 + 1 * e.val = _; omega

theorem blk3 (r : Fin 1024) (e : Fin 256) : (iblk m c (3 : Fin 11) t : Vec Ideal S1024x256 .f32) (ix2 r e) = pA m c (ix2 (rowAt (num t) r) e) := by
  unfold iblk
  rw [View.read_apply]
  refine congrArg (pA m c) (funext fun x => Fin.ext ?_)
  have h := tr3 t
  match x with
  | ⟨0, _⟩ => show cc0_transform_3 (grid0.coords t) 0 * 1024 + 1 * r.val = 1024 * t.val + r.val; rw [h]; show t.val * 1024 + 1 * r.val = _; omega
  | ⟨1, _⟩ => show cc0_transform_3 (grid0.coords t) 1 * 256 + 1 * e.val = e.val; rw [h]; show 0 * 256 + 1 * e.val = _; omega

theorem blk4 : (iblk m c (4 : Fin 11) t : Vec Ideal S1024x1024 .bf16) = wsA m c := by
  funext y
  unfold iblk
  rw [View.read_apply]
  refine congrArg (wsA m c) (funext fun x => Fin.ext ?_)
  have h := tr4 t
  match x with
  | ⟨0, _⟩ => show cc0_transform_4 (grid0.coords t) 0 * 1024 + 1 * (y 0).val = (y 0).val; rw [h]; show 0 * 1024 + 1 * (y 0).val = _; omega
  | ⟨1, _⟩ => show cc0_transform_4 (grid0.coords t) 1 * 1024 + 1 * (y 1).val = (y 1).val; rw [h]; show 0 * 1024 + 1 * (y 1).val = _; omega

theorem blk5 : (iblk m c (5 : Fin 11) t : Vec Ideal S1024x1024 .bf16) = waA m c := by
  funext y
  unfold iblk
  rw [View.read_apply]
  refine congrArg (waA m c) (funext fun x => Fin.ext ?_)
  have h := tr5 t
  match x with
  | ⟨0, _⟩ => show cc0_transform_5 (grid0.coords t) 0 * 1024 + 1 * (y 0).val = (y 0).val; rw [h]; show 0 * 1024 + 1 * (y 0).val = _; omega
  | ⟨1, _⟩ => show cc0_transform_5 (grid0.coords t) 1 * 1024 + 1 * (y 1).val = (y 1).val; rw [h]; show 0 * 1024 + 1 * (y 1).val = _; omega

theorem blk6 : (iblk m c (6 : Fin 11) t : Vec Ideal S1024x1024 .bf16) = wgA m c := by
  funext y
  unfold iblk
  rw [View.read_apply]
  refine congrArg (wgA m c) (funext fun x => Fin.ext ?_)
  have h := tr6 t
  match x with
  | ⟨0, _⟩ => show cc0_transform_6 (grid0.coords t) 0 * 1024 + 1 * (y 0).val = (y 0).val; rw [h]; show 0 * 1024 + 1 * (y 0).val = _; omega
  | ⟨1, _⟩ => show cc0_transform_6 (grid0.coords t) 1 * 1024 + 1 * (y 1).val = (y 1).val; rw [h]; show 0 * 1024 + 1 * (y 1).val = _; omega

theorem blk7 : (iblk m c (7 : Fin 11) t : Vec Ideal S256x1024 .bf16) = wpA m c := by
  funext y
  unfold iblk
  rw [View.read_apply]
  refine congrArg (wpA m c) (funext fun x => Fin.ext ?_)
  have h := tr7 t
  match x with
  | ⟨0, _⟩ => show cc0_transform_7 (grid0.coords t) 0 * 256 + 1 * (y 0).val = (y 0).val; rw [h]; show 0 * 256 + 1 * (y 0).val = _; omega
  | ⟨1, _⟩ => show cc0_transform_7 (grid0.coords t) 1 * 1024 + 1 * (y 1).val = (y 1).val; rw [h]; show 0 * 1024 + 1 * (y 1).val = _; omega

theorem blk8 : (iblk m c (8 : Fin 11) t : Vec Ideal S1x1024 .f32) = gpA m c := by
  funext y
  unfold iblk
  rw [View.read_apply]
  refine congrArg (gpA m c) (funext fun x => Fin.ext ?_)
  have h := tr8 t
  match x with
  | ⟨0, _⟩ => show cc0_transform_8 (grid0.coords t) 0 * 1 + 1 * (y 0).val = (y 0).val; rw [h]; show 0 * 1 + 1 * (y 0).val = _; omega
  | ⟨1, _⟩ => show cc0_transform_8 (grid0.coords t) 1 * 1024 + 1 * (y 1).val = (y 1).val; rw [h]; show 0 * 1024 + 1 * (y 1).val = _; omega

theorem blk9 : (iblk m c (9 : Fin 11) t : Vec Ideal S1x1024 .f32) = gfA m c := by
  funext y
  unfold iblk
  rw [View.read_apply]
  refine congrArg (gfA m c) (funext fun x => Fin.ext ?_)
  have h := tr9 t
  match x with
  | ⟨0, _⟩ => show cc0_transform_9 (grid0.coords t) 0 * 1 + 1 * (y 0).val = (y 0).val; rw [h]; show 0 * 1 + 1 * (y 0).val = _; omega
  | ⟨1, _⟩ => show cc0_transform_9 (grid0.coords t) 1 * 1024 + 1 * (y 1).val = (y 1).val; rw [h]; show 0 * 1024 + 1 * (y 1).val = _; omega

/-- The block of the result array a point writes. -/
theorem blk10 (A : FVec Ideal S16384x1024 .f32) (r d : Fin 1024) :
    (((cfg0.win (10 : Fin 11)).blk t).view.read (Elt Ideal) A : Vec Ideal S1024x1024 .f32) (ix2 r d) = A (ix2 (rowAt (num t) r) d) := by
  rw [View.read_apply]
  refine congrArg A (funext fun x => Fin.ext ?_)
  have h := tr10 t
  match x with
  | ⟨0, _⟩ => show cc0_transform_10 (grid0.coords t) 0 * 1024 + 1 * r.val = 1024 * t.val + r.val; rw [h]; show t.val * 1024 + 1 * r.val = _; omega
  | ⟨1, _⟩ => show cc0_transform_10 (grid0.coords t) 1 * 1024 + 1 * d.val = d.val; rw [h]; show 0 * 1024 + 1 * d.val = _; omega

theorem flushed_eq : (dats m 0 c).flushed (10 : Fin 11) t
    = ((cfg0.win (10 : Fin 11)).blk t).view.read (Elt Ideal) (whole (xA m c) (ysA m c) (yaA m c) (pA m c) (wsA m c) (waA m c) (wgA m c) (wpA m c) (gpA m c) (gfA m c)) := by
  rw [flushed10]
  have key : ∀ j : S1024x1024.Idx,
      out0_10 (F := Ideal) (iblk m c 0 t) (iblk m c 1 t) (iblk m c 2 t) (iblk m c 3 t) (iblk m c 4 t) (iblk m c 5 t) (iblk m c 6 t) (iblk m c 7 t) (iblk m c 8 t) (iblk m c 9 t) j
      = (((cfg0.win (10 : Fin 11)).blk t).view.read (Elt Ideal) (whole (xA m c) (ysA m c) (yaA m c) (pA m c) (wsA m c) (waA m c) (wgA m c) (wpA m c) (gpA m c) (gfA m c)) : Vec Ideal S1024x1024 .f32) j := by
    intro j
    obtain ⟨r, d, rfl⟩ : ∃ (r d : Fin 1024), j = ix2 r d := ⟨j 0, j 1, funext fun x => match x with | 0 => rfl | 1 => rfl⟩
    rw [blk10]
    refine (out_at _ _ _ _ _ _ _ _ _ _ r d).trans ?_
    simp only [blk0, blk1, blk2, blk3]
    rw [blk4, blk5, blk6, blk7, blk8, blk9]
    rfl
  exact funext key

end

theorem final (m : (ℓ : Loc nD τ sig) → Buf (Elt Ideal) ℓ) (c : Dev nD) :
    (dats m 0 c).arrAt (10 : Fin 11) cfg0.N = whole (xA m c) (ysA m c) (yaA m c) (pA m c) (wsA m c) (waA m c) (wgA m c) (wpA m c) (gpA m c) (gfA m c) :=
  (dats m 0 c).arrAt_eq_of_cover (10 : Fin 11) _ (fun t _ => flushed_eq m c t) fun i => by
    have h0 : (i 0).val < 16384 := (i 0).isLt
    have h1 : (i 1).val < 1024 := (i 1).isLt
    let t : Fin grid0.N := ⟨(i 0).val / 1024, by rw [points]; omega⟩
    refine ⟨t, flush10 t, ?_⟩
    show i ∈ ((View.whole main_v0).slice ((cfg0.win (10 : Fin 11)).rect t)).set
    rw [View.set_slice_whole, Rect.mem_set_unit]
    intro x
    have h := tr10 t
    match x with
    | ⟨0, _⟩ =>
      show cc0_transform_10 (grid0.coords t) 0 * 1024 ≤ (i 0).val ∧ (i 0).val < cc0_transform_10 (grid0.coords t) 0 * 1024 + 1024
      rw [h]
      show (i 0).val / 1024 * 1024 ≤ (i 0).val ∧ (i 0).val < (i 0).val / 1024 * 1024 + 1024
      omega
    | ⟨1, _⟩ =>
      show cc0_transform_10 (grid0.coords t) 1 * 1024 ≤ (i 1).val ∧ (i 1).val < cc0_transform_10 (grid0.coords t) 1 * 1024 + 1024
      rw [h]
      show 0 * 1024 ≤ (i 1).val ∧ (i 1).val < 0 * 1024 + 1024
      omega

end Cert.Output
-- ==== Proof.Output.Ref.lean ====
/-
  The output projection's reference, read at an entry.
-/
module

public import proofs.«01_k».proof.Proof.Output.Array
public import proofs.«01_k».proof.Proof.Gen.Reference2Ideal.Run

@[expose] public section

set_option maxRecDepth 16384

noncomputable section

namespace Cert.Output

open Cert.Reference2Ideal Cert.Reference2Ideal.Gen Cert.Reference2Ideal.Value
open Idealize.ShloMosaic Idealize.ShloMosaic.TcCoe Idealize.SL.Sem

/-- The reference's norm of the rows of an array. -/
def refNorm (h : FVec Ideal S16384x1024 .f32) (g : FVec Ideal S1x1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The reference's projection of the two groups of heads, side by side. -/
def refProj (x : FVec Ideal S16384x1024 .f32) (ys ya : FVec Ideal S16384x1024 .bf16) (ws wa : FVec Ideal S1024x1024 .bf16) : FVec Ideal S16384x1024 .f32 :=
  addf x (Host.dotGeneral dot_S16384x2048_S2048x1024_S16384x1024_1_0_0_1_n_n none (extf .f32 (concatenate S16384x2048 1 [⟨S16384x1024, ys⟩, ⟨S16384x1024, ya⟩] concatenates_S16384x1024_S16384x1024_S16384x2048_d1) bitsLt_bf16_f32) (extf .f32 (concatenate S2048x1024 0 [⟨S1024x1024, ws⟩, ⟨S1024x1024, wa⟩] concatenates_S1024x1024_S1024x1024_S2048x1024_d0) bitsLt_bf16_f32))

/-- The reference's gated embedding, added. -/
def refEmb (h : FVec Ideal S16384x1024 .f32) (p : FVec Ideal S16384x256 .f32) (wg : FVec Ideal S1024x1024 .bf16) (wp : FVec Ideal S256x1024 .bf16) (gp : FVec Ideal S1x1024 .f32) : FVec Ideal S16384x1024 .f32 :=
  addf h (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (refNorm h gp) (extf .f32 wg bitsLt_bf16_f32)))))) (Host.dotGeneral dot_S16384x256_S256x1024_S16384x1024_1_0_0_1_n_n none p (extf .f32 wp bitsLt_bf16_f32)))

theorem refNorm_at (h : FVec Ideal S16384x1024 .f32) (g : FVec Ideal S1x1024 .f32) (r : Fin 16384) (d : Fin 1024) :
    refNorm h g (ix2 r d) = normed (fun e => h (ix2 r e)) (fun e => g (ix2 0 e)) d := by
  pointwise [refNorm, normed]

theorem refProj_at (x : FVec Ideal S16384x1024 .f32) (ys ya : FVec Ideal S16384x1024 .bf16) (ws wa : FVec Ideal S1024x1024 .bf16) (r : Fin 16384) (d : Fin 1024) :
    refProj x ys ya ws wa (ix2 r d)
      = projected (fun e => x (ix2 r e)) (fun e => ys (ix2 r e)) (fun e => ya (ix2 r e)) (fun e d => ws (ix2 e d)) (fun e d => wa (ix2 e d)) d := by
  pointwise [refProj, projected]

theorem refEmb_at (h : FVec Ideal S16384x1024 .f32) (p : FVec Ideal S16384x256 .f32) (wg : FVec Ideal S1024x1024 .bf16) (wp : FVec Ideal S256x1024 .bf16) (gp : FVec Ideal S1x1024 .f32)
    (r : Fin 16384) (d : Fin 1024) :
    refEmb h p wg wp gp (ix2 r d)
      = embedded (fun e => h (ix2 r e)) (fun e => gp (ix2 0 e)) (fun e => p (ix2 r e)) (fun e d => wg (ix2 e d)) (fun e d => wp (ix2 e d)) d := by
  pointwise [refEmb, refNorm_at, embedded]
  rfl

/-- The reference's result array. -/
def refArray (x : FVec Ideal S16384x1024 .f32) (ys ya : FVec Ideal S16384x1024 .bf16) (p : FVec Ideal S16384x256 .f32) (ws wa wg : FVec Ideal S1024x1024 .bf16)
    (wp : FVec Ideal S256x1024 .bf16) (gp gf : FVec Ideal S1x1024 .f32) : FVec Ideal S16384x1024 .f32 :=
  refNorm (refEmb (refProj x ys ya ws wa) p wg wp gp) gf

theorem refArray_eq (x : FVec Ideal S16384x1024 .f32) (ys ya : FVec Ideal S16384x1024 .bf16) (p : FVec Ideal S16384x256 .f32) (ws wa wg : FVec Ideal S1024x1024 .bf16)
    (wp : FVec Ideal S256x1024 .bf16) (gp gf : FVec Ideal S1x1024 .f32) :
    refArray x ys ya p ws wa wg wp gp gf = whole x ys ya p ws wa wg wp gp gf := by
  funext j
  obtain ⟨r, d, rfl⟩ : ∃ (r : Fin 16384) (d : Fin 1024), j = ix2 r d := ⟨j 0, j 1, funext fun x => match x with | 0 => rfl | 1 => rfl⟩
  refine (refNorm_at _ _ r d).trans ?_
  simp only [refEmb_at, refProj_at]
  rfl

theorem res_eq (m : (ℓ : Loc nD τ sig) → Buf (Elt Ideal) ℓ) (c : Dev nD) :
    res_main_v41 m c = refArray (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := rfl

end Cert.Output
-- ==== Proof.Project.Rows.lean ====
/-
  The input projections, row by row: a block of the kernel's stores, each read at an entry.
-/
module

public import proofs.«01_k».proof.Proof.Gen.Kernel3Ideal.Skeleton
public import proofs.«01_k».proof.Proof.Output.Rows
public import Idealize.ShloMosaic.Lib.Pointwise

@[expose] public section

set_option maxRecDepth 16384

noncomputable section

namespace Cert.Project

open Cert.Kernel3Ideal Cert.Kernel3Ideal.Gen
open Cert.Output (normed)
open Idealize.ShloMosaic

/-- A normed row times a column of weights. -/
def proj {n : ℕ} (x g : Fin 1024 → EReal) (w : Fin 1024 → Fin n → EReal) (d : Fin n) : EReal := ∑ e, normed x g e * w e d

variable (x : FVec Ideal S512x1024 .f32) (g : FVec Ideal S1x1024 .f32)

theorem pay4_at (r : Fin 512) (e : Fin 1024) :
    k0_pay4 (F := Ideal) x g (ix2 r e) = normed (fun e => x (ix2 r e)) (fun e => g (ix2 0 e)) e := by
  pointwise [k0_pay4, normed]

theorem pay5_at (w : FVec Ideal S1024x128 .bf16) (r : Fin 512) (d : Fin 128) :
    k0_pay5 (F := Ideal) x g w (ix2 r d) = proj (fun e => x (ix2 r e)) (fun e => g (ix2 0 e)) (fun e d => w (ix2 e d)) d := by
  pointwise [k0_pay5, pay4_at, proj]

theorem pay6_at (w : FVec Ideal S1024x512 .bf16) (r d : Fin 512) :
    k0_pay6 (F := Ideal) x g w (ix2 r d) = proj (fun e => x (ix2 r e)) (fun e => g (ix2 0 e)) (fun e d => w (ix2 e d)) d := by
  pointwise [k0_pay6, pay4_at, proj]

theorem low_word : ∀ l : Fin 128, IntOp.cmpi .slt (BitVec.ofNat 32 l.val) 64#32 = BitVec.ofBool (decide (l.val < 64)) := by decide +kernel
theorem half_word : ∀ l : Fin 128, IntOp.cmpi .eq (BitVec.ofNat 32 l.val) 64#32 = BitVec.ofBool (decide (l.val = 64)) := by decide +kernel
theorem zero_word : ∀ l : Fin 128, IntOp.cmpi .eq (BitVec.ofNat 32 l.val) 0#32 = BitVec.ofBool (decide (l.val = 0)) := by decide +kernel

theorem sel {α : Type} (p : Prop) [Decidable p] (a b : α) : Scalar.select (BitVec.ofBool (decide p)) a b = if p then a else b := by
  by_cases h : p
  · rw [if_pos h, decide_eq_true h]; rfl
  · rw [if_neg h, decide_eq_false h]; rfl

/-- The even head of a pair keeps the low lanes, and a one follows them. -/
def evenLanes (v : Fin 128 → EReal) (l : Fin 128) : EReal := if l.val < 64 then v l else if l.val = 64 then 1 else 0

/-- The odd head of a pair keeps the high lanes, and a one leads. -/
def oddLanes (v : Fin 128 → EReal) (l : Fin 128) : EReal := if l.val < 64 then (if l.val = 0 then 1 else 0) else v l

theorem even_at (w : FVec Ideal S512x512 .bf16) (o : ℕ) (hs : S512x512.Slices ![0, o] S512x128) (ho : o + 128 ≤ 512) (hc : S512x128.ShapeCasts S1x1x512x128) (r : Fin 512) (l : Fin 128) :
    shapeCast S1x1x512x128 (select k0_pay34 (extractStridedSlice S512x128 ![0, o] w hs) (k0_pay35 (F := Ideal))) hc (ix4 0 0 r l)
      = evenLanes (fun l => w (ix2 r ⟨o + l.val, by omega⟩)) l := by
  pointwise [k0_pay34, k0_pay35]
  rw [low_word, half_word, sel, sel]
  rfl

theorem odd_at (w : FVec Ideal S512x512 .bf16) (o : ℕ) (hs : S512x512.Slices ![0, o] S512x128) (ho : o + 128 ≤ 512) (hc : S512x128.ShapeCasts S1x1x512x128) (r : Fin 512) (l : Fin 128) :
    shapeCast S1x1x512x128 (select k0_pay34 (k0_pay36 (F := Ideal)) (extractStridedSlice S512x128 ![0, o] w hs)) hc (ix4 0 0 r l)
      = oddLanes (fun l => w (ix2 r ⟨o + l.val, by omega⟩)) l := by
  pointwise [k0_pay34, k0_pay36]
  rw [low_word, zero_word, sel, sel]
  rfl

end Cert.Project
-- ==== Proof.Project.Pieces.lean ====
/-
  What a grid point of the input projections leaves in its blocks: the stores' pieces, read at an entry.
-/
module

public import proofs.«01_k».proof.Proof.Project.Rows
public import proofs.«01_k».proof.Proof.Gen.Kernel3Ideal.Frame.Runs
public import Idealize.ShloMosaic.Lib.WritesUnit

@[expose] public section

set_option maxRecDepth 65536

noncomputable section

namespace Cert.Project

open Cert.Kernel3Ideal Cert.Kernel3Ideal.Gen
open Cert.Output (normed)
open Idealize.ShloMosaic Idealize.ShloMosaic.TcCoe

/-- The lanes of a head: its 64 columns in one half, and a one at the start of the other. -/
def headLanes (V : Fin 1024 → EReal) (h : Fin 16) (l : Fin 128) : EReal :=
  if h.val % 2 = 0 then evenLanes (fun l => V ⟨128 * (h.val / 2) + l.val, by omega⟩) l else oddLanes (fun l => V ⟨128 * (h.val / 2) + l.val, by omega⟩) l

theorem load_at {S : Shape} {e : EltTy} (a : Memref sig .tc .vmem S e) (ha : a.IsWhole) (X : Vec Ideal S e) (r : Rect S) :
    View.readAt (Elt Ideal) a.view r.toLoadRect (ha.unread X) = fun y => X (r.idx y) :=
  (View.readAt_eq_ld a.view (ha.unread X) r).trans (by rw [ha.read_unread])

theorem miss (v : View sig .tc .vmem S1x16x512x128 .bf16) (f : v.ty.Contents (Elt Ideal)) (k : ℕ) (inb : ∀ a, (![0, k, 0, 0] : Fin 4 → ℕ) a + S1x1x512x128.size a ≤ S1x16x512x128.size a)
    (P : Vec Ideal S1x1x512x128 .bf16) (L : List (View.Piece (Elt Ideal) S1x16x512x128 .bf16)) (h : Fin 16) (r : Fin 512) (l : Fin 128) (hk : h.val ≠ k) :
    v.read (Elt Ideal) (v.writes (Elt Ideal) f (⟨Rect.unit (s := S1x16x512x128) ![0, k, 0, 0] S1x1x512x128.size inb, P⟩ :: L)) (ix4 0 h r l)
      = v.read (Elt Ideal) (v.writes (Elt Ideal) f L) (ix4 0 h r l) :=
  View.read_writes_cons_unit_of_not_mem v f inb P L _ rfl (1 : Fin 4) (by
    show h.val < k ∨ k + 1 ≤ h.val
    omega)

theorem hit (v : View sig .tc .vmem S1x16x512x128 .bf16) (f : v.ty.Contents (Elt Ideal)) (k : ℕ) (inb : ∀ a, (![0, k, 0, 0] : Fin 4 → ℕ) a + S1x1x512x128.size a ≤ S1x16x512x128.size a)
    (P : Vec Ideal S1x1x512x128 .bf16) (L : List (View.Piece (Elt Ideal) S1x16x512x128 .bf16)) (h : Fin 16) (r : Fin 512) (l : Fin 128) (hk : h.val = k) :
    v.read (Elt Ideal) (v.writes (Elt Ideal) f (⟨Rect.unit (s := S1x16x512x128) ![0, k, 0, 0] S1x1x512x128.size inb, P⟩ :: L)) (ix4 0 h r l)
      = P (ix4 0 0 r l) :=
  View.read_writes_cons_unit_of_mem v f inb P L _ (ix4 0 0 r l) rfl (fun a => by
    match a with
    | 0 => rfl
    | 1 => show h.val = k + 0; omega
    | 2 => exact (Nat.zero_add _).symm
    | 3 => exact (Nat.zero_add _).symm)

theorem miss2 {W : ℕ} (v : View sig .tc .vmem ⟨2, ![512, W]⟩ .bf16) (f : v.ty.Contents (Elt Ideal)) (k : ℕ) (inb : ∀ a, (![0, k] : Fin 2 → ℕ) a + S512x512.size a ≤ (![512, W] : Fin 2 → ℕ) a)
    (P : Vec Ideal S512x512 .bf16) (L : List (View.Piece (Elt Ideal) ⟨2, ![512, W]⟩ .bf16)) (r : Fin 512) (d : Fin W) (hk : d.val < k ∨ k + 512 ≤ d.val) :
    v.read (Elt Ideal) (v.writes (Elt Ideal) f (⟨Rect.unit (s := ⟨2, ![512, W]⟩) ![0, k] S512x512.size inb, P⟩ :: L)) (ix2 r d)
      = v.read (Elt Ideal) (v.writes (Elt Ideal) f L) (ix2 r d) :=
  View.read_writes_cons_unit_of_not_mem v f inb P L _ rfl (1 : Fin 2) hk

theorem hit2 {W : ℕ} (v : View sig .tc .vmem ⟨2, ![512, W]⟩ .bf16) (f : v.ty.Contents (Elt Ideal)) (k : ℕ) (inb : ∀ a, (![0, k] : Fin 2 → ℕ) a + S512x512.size a ≤ (![512, W] : Fin 2 → ℕ) a)
    (P : Vec Ideal S512x512 .bf16) (L : List (View.Piece (Elt Ideal) ⟨2, ![512, W]⟩ .bf16)) (r : Fin 512) (d : Fin W) (d' : Fin 512) (hk : d.val = k + d'.val) :
    v.read (Elt Ideal) (v.writes (Elt Ideal) f (⟨Rect.unit (s := ⟨2, ![512, W]⟩) ![0, k] S512x512.size inb, P⟩ :: L)) (ix2 r d)
      = P (ix2 r d') :=
  View.read_writes_cons_unit_of_mem v f inb P L _ (ix2 r d') rfl (fun a => by
    match a with
    | 0 => exact (Nat.zero_add _).symm
    | 1 => exact hk)

/-- A block of 512 columns of a projection. -/
theorem cols {W : ℕ} (a2 : Memref sig .tc .vmem S512x1024 .f32) (h2 : a2.IsWhole) (a3 : Memref sig .tc .vmem S1x1024 .f32) (h3 : a3.IsWhole)
    (a4 : Memref sig .tc .vmem ⟨2, ![1024, W]⟩ .bf16) (h4 : a4.IsWhole) (x : Vec Ideal S512x1024 .f32) (g : Vec Ideal S1x1024 .f32) (w : Vec Ideal ⟨2, ![1024, W]⟩ .bf16)
    (i2 : ∀ a, (![0, 0] : Fin 2 → ℕ) a + S512x1024.size a ≤ S512x1024.size a) (i3 : ∀ a, (![0, 0] : Fin 2 → ℕ) a + S1x1024.size a ≤ S1x1024.size a)
    (k : ℕ) (i4 : ∀ a, (![0, k] : Fin 2 → ℕ) a + S1024x512.size a ≤ (![1024, W] : Fin 2 → ℕ) a) (r d : Fin 512) (d' : Fin W) (hd : d'.val = k + d.val) :
    k0_pay6 (F := Ideal) (View.readAt (Elt Ideal) a2.view (Rect.unit (s := S512x1024) ![0, 0] S512x1024.size i2).toLoadRect (h2.unread x))
      (View.readAt (Elt Ideal) a3.view (Rect.unit (s := S1x1024) ![0, 0] S1x1024.size i3).toLoadRect (h3.unread g))
      (View.readAt (Elt Ideal) a4.view (Rect.unit (s := ⟨2, ![1024, W]⟩) ![0, k] S1024x512.size i4).toLoadRect (h4.unread w)) (ix2 r d)
      = proj (fun e => x (ix2 r e)) (fun e => g (ix2 0 e)) (fun e d => w (ix2 e d)) d' := by
  rw [load_at, load_at, load_at]
  refine (pay6_at _ _ _ r d).trans ?_
  have e2 : ∀ e : Fin 1024, (Rect.unit (s := S512x1024) ![0, 0] S512x1024.size i2).idx (ix2 r e) = (ix2 r e : S512x1024.Idx) := fun e => funext fun a => Fin.ext (by
    match a with
    | 0 => show 0 + 1 * r.val = r.val; omega
    | 1 => show 0 + 1 * e.val = e.val; omega)
  have e3 : ∀ e : Fin 1024, (Rect.unit (s := S1x1024) ![0, 0] S1x1024.size i3).idx (ix2 0 e) = (ix2 0 e : S1x1024.Idx) := fun e => funext fun a => Fin.ext (by
    match a with
    | 0 => rfl
    | 1 => show 0 + 1 * e.val = e.val; omega)
  have e4 : ∀ e : Fin 1024, (Rect.unit (s := ⟨2, ![1024, W]⟩) ![0, k] S1024x512.size i4).idx (ix2 e d) = (ix2 e d' : (⟨2, ![1024, W]⟩ : Shape).Idx) := fun e => funext fun a => Fin.ext (by
    match a with
    | 0 => show 0 + 1 * e.val = e.val; omega
    | 1 => show k + 1 * d.val = d'.val; omega)
  show (∑ e, normed (fun e => x _) (fun e => g _) e * w _) = ∑ e, normed _ _ e * w _
  simp only [e2, e3, e4]

theorem even_piece (w : FVec Ideal S512x512 .bf16) (o : ℕ) (hs : S512x512.Slices ![0, o] S512x128) (hc : S512x128.ShapeCasts S1x1x512x128) (r : Fin 512) (l : Fin 128)
    (V : Fin 1024 → EReal) (c : ℕ) (h : Fin 16) (hw : ∀ (d : Fin 512) (d' : Fin 1024), d'.val = c + d.val → w (ix2 r d) = V d') (ho : o + 128 ≤ 512) (hh : 128 * (h.val / 2) = c + o) (he : h.val % 2 = 0) :
    shapeCast S1x1x512x128 (select k0_pay34 (extractStridedSlice S512x128 ![0, o] w hs) (k0_pay35 (F := Ideal))) hc (ix4 0 0 r l) = headLanes V h l := by
  refine (even_at w o hs ho hc r l).trans ?_
  unfold headLanes
  rw [if_pos he]
  exact congrArg (fun f => evenLanes f l) (funext fun l => hw _ _ (by show 128 * (h.val / 2) + l.val = c + (o + l.val); omega))

theorem odd_piece (w : FVec Ideal S512x512 .bf16) (o : ℕ) (hs : S512x512.Slices ![0, o] S512x128) (hc : S512x128.ShapeCasts S1x1x512x128) (r : Fin 512) (l : Fin 128)
    (V : Fin 1024 → EReal) (c : ℕ) (h : Fin 16) (hw : ∀ (d : Fin 512) (d' : Fin 1024), d'.val = c + d.val → w (ix2 r d) = V d') (ho : o + 128 ≤ 512) (hh : 128 * (h.val / 2) = c + o) (he : h.val % 2 = 1) :
    shapeCast S1x1x512x128 (select k0_pay34 (k0_pay36 (F := Ideal)) (extractStridedSlice S512x128 ![0, o] w hs)) hc (ix4 0 0 r l) = headLanes V h l := by
  refine (odd_at w o hs ho hc r l).trans ?_
  unfold headLanes
  rw [if_neg (by omega)]
  exact congrArg (fun f => oddLanes f l) (funext fun l => hw _ _ (by show 128 * (h.val / 2) + l.val = c + (o + l.val); omega))

/-- A block of the tail: every column of its projection at once. -/
theorem tail_piece (v : View sig .tc .vmem S512x128 .f32) (f : v.ty.Contents (Elt Ideal))
    (a2 : Memref sig .tc .vmem S512x1024 .f32) (h2 : a2.IsWhole) (a3 : Memref sig .tc .vmem S1x1024 .f32) (h3 : a3.IsWhole)
    (a4 : Memref sig .tc .vmem S1024x128 .bf16) (h4 : a4.IsWhole) (x : Vec Ideal S512x1024 .f32) (g : Vec Ideal S1x1024 .f32) (w : Vec Ideal S1024x128 .bf16)
    (i2 : ∀ a, (![0, 0] : Fin 2 → ℕ) a + S512x1024.size a ≤ S512x1024.size a) (i3 : ∀ a, (![0, 0] : Fin 2 → ℕ) a + S1x1024.size a ≤ S1x1024.size a)
    (i4 : ∀ a, (![0, 0] : Fin 2 → ℕ) a + S1024x128.size a ≤ S1024x128.size a) (inb : ∀ a, (![0, 0] : Fin 2 → ℕ) a + S512x128.size a ≤ S512x128.size a)
    (L : List (View.Piece (Elt Ideal) S512x128 .f32)) (r : Fin 512) (d : Fin 128) :
    v.read (Elt Ideal) (v.writes (Elt Ideal) f (⟨Rect.unit (s := S512x128) ![0, 0] S512x128.size inb,
      k0_pay5 (F := Ideal) (View.readAt (Elt Ideal) a2.view (Rect.unit (s := S512x1024) ![0, 0] S512x1024.size i2).toLoadRect (h2.unread x))
        (View.readAt (Elt Ideal) a3.view (Rect.unit (s := S1x1024) ![0, 0] S1x1024.size i3).toLoadRect (h3.unread g))
        (View.readAt (Elt Ideal) a4.view (Rect.unit (s := S1024x128) ![0, 0] S1024x128.size i4).toLoadRect (h4.unread w))⟩ :: L)) (ix2 r d)
      = proj (fun e => x (ix2 r e)) (fun e => g (ix2 0 e)) (fun e d => w (ix2 e d)) d := by
  refine (View.read_writes_cons_unit_of_mem v f inb _ L _ (ix2 r d) rfl (fun a => by
    match a with
    | 0 => exact (Nat.zero_add _).symm
    | 1 => exact (Nat.zero_add _).symm)).trans ?_
  rw [load_at, load_at, load_at]
  refine (pay5_at _ _ _ r d).trans ?_
  have e2 : ∀ e : Fin 1024, (Rect.unit (s := S512x1024) ![0, 0] S512x1024.size i2).idx (ix2 r e) = (ix2 r e : S512x1024.Idx) := fun e => funext fun a => Fin.ext (by
    match a with
    | 0 => show 0 + 1 * r.val = r.val; omega
    | 1 => show 0 + 1 * e.val = e.val; omega)
  have e3 : ∀ e : Fin 1024, (Rect.unit (s := S1x1024) ![0, 0] S1x1024.size i3).idx (ix2 0 e) = (ix2 0 e : S1x1024.Idx) := fun e => funext fun a => Fin.ext (by
    match a with
    | 0 => rfl
    | 1 => show 0 + 1 * e.val = e.val; omega)
  have e4 : ∀ e : Fin 1024, (Rect.unit (s := S1024x128) ![0, 0] S1024x128.size i4).idx (ix2 e d) = (ix2 e d : S1024x128.Idx) := fun e => funext fun a => Fin.ext (by
    match a with
    | 0 => show 0 + 1 * e.val = e.val; omega
    | 1 => show 0 + 1 * d.val = d.val; omega)
  show (∑ e, normed (fun e => x _) (fun e => g _) e * w _) = ∑ e, normed _ _ e * w _
  simp only [e2, e3, e4]

end Cert.Project
-- ==== Proof.Project.PiecesA.lean ====
/-
  What the grid points at the start of a sequence leave in the blocks of the input projections.
-/
module

public import proofs.«01_k».proof.Proof.Project.Pieces
public import proofs.«01_k».proof.Proof.Gen.Kernel3Ideal.Frame

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16)

theorem A12_at (r : Fin 512) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix2 r d)
      = (proj (fun e => x0 (ix2 r e)) (fun e => x1 (ix2 0 e)) (fun e d => x2 (ix2 e d))) ⟨0 + d.val, by omega⟩ := by
  unfold out0_A_12 kernelRun0_A
  dsimp only
  by_cases h512 : 512 ≤ d.val
  · exact (hit2 (W := 1024) _ _ 512 _ _ _ r d ⟨d.val - 512, by omega⟩ (by show d.val = 512 + (d.val - 512); omega)).trans (cols (W := 2560) arg2 harg2 arg3 harg3 arg4 harg4 x0 x1 x2 _ _ 512 _ r _ _ (by show 0 + d.val = 512 + (d.val - 512); omega))
  refine (miss2 (W := 1024) _ _ 512 _ _ _ r d (.inl (by omega))).trans ?_
  exact (hit2 (W := 1024) _ _ 0 _ _ _ r d ⟨d.val - 0, by omega⟩ (by show d.val = 0 + (d.val - 0); omega)).trans (cols (W := 2560) arg2 harg2 arg3 harg3 arg4 harg4 x0 x1 x2 _ _ 0 _ r _ _ (by show 0 + d.val = 0 + (d.val - 0); omega))

theorem A13_at (r : Fin 512) (d : Fin 1536) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix2 r d)
      = (proj (fun e => x0 (ix2 r e)) (fun e => x1 (ix2 0 e)) (fun e d => x2 (ix2 e d))) ⟨1024 + d.val, by omega⟩ := by
  unfold out0_A_13 kernelRun0_A
  dsimp only
  by_cases h1024 : 1024 ≤ d.val
  · exact (hit2 (W := 1536) _ _ 1024 _ _ _ r d ⟨d.val - 1024, by omega⟩ (by show d.val = 1024 + (d.val - 1024); omega)).trans (cols (W := 2560) arg2 harg2 arg3 harg3 arg4 harg4 x0 x1 x2 _ _ 2048 _ r _ _ (by show 1024 + d.val = 2048 + (d.val - 1024); omega))
  refine (miss2 (W := 1536) _ _ 1024 _ _ _ r d (.inl (by omega))).trans ?_
  by_cases h512 : 512 ≤ d.val
  · exact (hit2 (W := 1536) _ _ 512 _ _ _ r d ⟨d.val - 512, by omega⟩ (by show d.val = 512 + (d.val - 512); omega)).trans (cols (W := 2560) arg2 harg2 arg3 harg3 arg4 harg4 x0 x1 x2 _ _ 1536 _ r _ _ (by show 1024 + d.val = 1536 + (d.val - 512); omega))
  refine (miss2 (W := 1536) _ _ 512 _ _ _ r d (.inl (by omega))).trans ?_
  exact (hit2 (W := 1536) _ _ 0 _ _ _ r d ⟨d.val - 0, by omega⟩ (by show d.val = 0 + (d.val - 0); omega)).trans (cols (W := 2560) arg2 harg2 arg3 harg3 arg4 harg4 x0 x1 x2 _ _ 1024 _ r _ _ (by show 1024 + d.val = 1024 + (d.val - 0); omega))

theorem A14_at (r : Fin 512) (d : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix2 r d)
      = (proj (fun e => x0 (ix2 r e)) (fun e => x1 (ix2 0 e)) (fun e d => x3 (ix2 e d))) ⟨0 + d.val, by omega⟩ := by
  unfold out0_A_14 kernelRun0_A
  dsimp only
  by_cases h512 : 512 ≤ d.val
  · exact (hit2 (W := 1024) _ _ 512 _ _ _ r d ⟨d.val - 512, by omega⟩ (by show d.val = 512 + (d.val - 512); omega)).trans (cols (W := 1024) arg2 harg2 arg3 harg3 arg5 harg5 x0 x1 x3 _ _ 512 _ r _ _ (by show 0 + d.val = 512 + (d.val - 512); omega))
  refine (miss2 (W := 1024) _ _ 512 _ _ _ r d (.inl (by omega))).trans ?_
  exact (hit2 (W := 1024) _ _ 0 _ _ _ r d ⟨d.val - 0, by omega⟩ (by show d.val = 0 + (d.val - 0); omega)).trans (cols (W := 1024) arg2 harg2 arg3 harg3 arg5 harg5 x0 x1 x3 _ _ 0 _ r _ _ (by show 0 + d.val = 0 + (d.val - 0); omega))

theorem A17_at (h : Fin 16) (r : Fin 512) (l : Fin 128) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix4 0 h r l)
      = headLanes (proj (fun e => x0 (ix2 r e)) (fun e => x1 (ix2 0 e)) (fun e d => x6 (ix2 e d))) h l := by
  unfold out0_A_17 kernelRun0_A
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_piece _ 0 slices_S512x512_o0_0_S512x128 shapeCasts_S512x128_S1x1x512x128 r l _ 0 (0 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_piece _ 0 slices_S512x512_o0_0_S512x128 shapeCasts_S512x128_S1x1x512x128 r l _ 0 (1 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_piece _ 128 slices_S512x512_o0_128_S512x128 shapeCasts_S512x128_S1x1x512x128 r l _ 0 (2 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_piece _ 128 slices_S512x512_o0_128_S512x128 shapeCasts_S512x128_S1x1x512x128 r l _ 0 (3 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_piece _ 256 slices_S512x512_o0_256_S512x128 shapeCasts_S512x128_S1x1x512x128 r l _ 0 (4 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_piece _ 256 slices_S512x512_o0_256_S512x128 shapeCasts_S512x128_S1x1x512x128 r l _ 0 (5 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_piece _ 384 slices_S512x512_o0_384_S512x128 shapeCasts_S512x128_S1x1x512x128 r l _ 0 (6 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_piece _ 384 slices_S512x512_o0_384_S512x128 shapeCasts_S512x128_S1x1x512x128 r l _ 0 (7 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_piece _ 0 slices_S512x512_o0_0_S512x128 shapeCasts_S512x128_S1x1x512x128 r l _ 512 (8 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_piece _ 0 slices_S512x512_o0_0_S512x128 shapeCasts_S512x128_S1x1x512x128 r l _ 512 (9 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_piece _ 128 slices_S512x512_o0_128_S512x128 shapeCasts_S512x128_S1x1x512x128 r l _ 512 (10 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_piece _ 128 slices_S512x512_o0_128_S512x128 shapeCasts_S512x128_S1x1x512x128 r l _ 512 (11 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_piece _ 256 slices_S512x512_o0_256_S512x128 shapeCasts_S512x128_S1x1x512x128 r l _ 512 (12 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_piece _ 256 slices_S512x512_o0_256_S512x128 shapeCasts_S512x128_S1x1x512x128 r l _ 512 (13 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (hit _ _ 14 _ _ _ _ r l rfl).trans ?_
    exact even_piece _ 384 slices_S512x512_o0_384_S512x128 shapeCasts_S512x128_S1x1x512x128 r l _ 512 (14 : Fin 16) (fun d d' hd => cols (W := 1024) arg2 harg2 arg3 harg3 arg8 harg8 x0 x1 x6 _ _ 512 _ r d d' hd) (by decide) (by decide) (by decide)
  · refine (hit _ _ 15 _ _ _ _ r l rfl).trans ?_
    exact odd_piece _ 384 slices_S512x512_o0_384_S512x128 shapeCasts_S512x128_S1x1x512x128 r l _ 512 (15 : Fin 16) (fun d d' hd => cols (W := 1024) arg2 harg2 arg3 harg3 arg8 harg8 x0 x1 x6 _ _ 512 _ r d d' hd) (by decide) (by decide) (by decide)

theorem A18_at (r : Fin 512) (d : Fin 128) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix2 r d)
      = proj (fun e => x0 (ix2 r e)) (fun e => x1 (ix2 0 e)) (fun e d => x7 (ix2 e d)) d := by
  unfold out0_A_18 kernelRun0_A
  dsimp only
  exact tail_piece _ _ arg2 harg2 arg3 harg3 arg9 harg9 x0 x1 x7 _ _ _ _ _ r d

end

end Cert.Project
-- ==== Proof.Project.PiecesB.lean ====
/-
  What the grid points past the start of a sequence leave in the blocks of the input projections.
-/
module

public import proofs.«01_k».proof.Proof.Project.Pieces
public import proofs.«01_k».proof.Proof.Gen.Kernel3Ideal.Frame

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : ¬cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16) (xs0 : Vec Ideal S1x128 .f32)

theorem B12_at (r : Fin 512) (d : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix2 r d)
      = (proj (fun e => x0 (ix2 r e)) (fun e => x1 (ix2 0 e)) (fun e d => x2 (ix2 e d))) ⟨0 + d.val, by omega⟩ := by
  unfold out0_B_12 kernelRun0_B
  dsimp only
  by_cases h512 : 512 ≤ d.val
  · exact (hit2 (W := 1024) _ _ 512 _ _ _ r d ⟨d.val - 512, by omega⟩ (by show d.val = 512 + (d.val - 512); omega)).trans (cols (W := 2560) arg2 harg2 arg3 harg3 arg4 harg4 x0 x1 x2 _ _ 512 _ r _ _ (by show 0 + d.val = 512 + (d.val - 512); omega))
  refine (miss2 (W := 1024) _ _ 512 _ _ _ r d (.inl (by omega))).trans ?_
  exact (hit2 (W := 1024) _ _ 0 _ _ _ r d ⟨d.val - 0, by omega⟩ (by show d.val = 0 + (d.val - 0); omega)).trans (cols (W := 2560) arg2 harg2 arg3 harg3 arg4 harg4 x0 x1 x2 _ _ 0 _ r _ _ (by show 0 + d.val = 0 + (d.val - 0); omega))

theorem B13_at (r : Fin 512) (d : Fin 1536) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix2 r d)
      = (proj (fun e => x0 (ix2 r e)) (fun e => x1 (ix2 0 e)) (fun e d => x2 (ix2 e d))) ⟨1024 + d.val, by omega⟩ := by
  unfold out0_B_13 kernelRun0_B
  dsimp only
  by_cases h1024 : 1024 ≤ d.val
  · exact (hit2 (W := 1536) _ _ 1024 _ _ _ r d ⟨d.val - 1024, by omega⟩ (by show d.val = 1024 + (d.val - 1024); omega)).trans (cols (W := 2560) arg2 harg2 arg3 harg3 arg4 harg4 x0 x1 x2 _ _ 2048 _ r _ _ (by show 1024 + d.val = 2048 + (d.val - 1024); omega))
  refine (miss2 (W := 1536) _ _ 1024 _ _ _ r d (.inl (by omega))).trans ?_
  by_cases h512 : 512 ≤ d.val
  · exact (hit2 (W := 1536) _ _ 512 _ _ _ r d ⟨d.val - 512, by omega⟩ (by show d.val = 512 + (d.val - 512); omega)).trans (cols (W := 2560) arg2 harg2 arg3 harg3 arg4 harg4 x0 x1 x2 _ _ 1536 _ r _ _ (by show 1024 + d.val = 1536 + (d.val - 512); omega))
  refine (miss2 (W := 1536) _ _ 512 _ _ _ r d (.inl (by omega))).trans ?_
  exact (hit2 (W := 1536) _ _ 0 _ _ _ r d ⟨d.val - 0, by omega⟩ (by show d.val = 0 + (d.val - 0); omega)).trans (cols (W := 2560) arg2 harg2 arg3 harg3 arg4 harg4 x0 x1 x2 _ _ 1024 _ r _ _ (by show 1024 + d.val = 1024 + (d.val - 0); omega))

theorem B14_at (r : Fin 512) (d : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix2 r d)
      = (proj (fun e => x0 (ix2 r e)) (fun e => x1 (ix2 0 e)) (fun e d => x3 (ix2 e d))) ⟨0 + d.val, by omega⟩ := by
  unfold out0_B_14 kernelRun0_B
  dsimp only
  by_cases h512 : 512 ≤ d.val
  · exact (hit2 (W := 1024) _ _ 512 _ _ _ r d ⟨d.val - 512, by omega⟩ (by show d.val = 512 + (d.val - 512); omega)).trans (cols (W := 1024) arg2 harg2 arg3 harg3 arg5 harg5 x0 x1 x3 _ _ 512 _ r _ _ (by show 0 + d.val = 512 + (d.val - 512); omega))
  refine (miss2 (W := 1024) _ _ 512 _ _ _ r d (.inl (by omega))).trans ?_
  exact (hit2 (W := 1024) _ _ 0 _ _ _ r d ⟨d.val - 0, by omega⟩ (by show d.val = 0 + (d.val - 0); omega)).trans (cols (W := 1024) arg2 harg2 arg3 harg3 arg5 harg5 x0 x1 x3 _ _ 0 _ r _ _ (by show 0 + d.val = 0 + (d.val - 0); omega))

theorem B17_at (h : Fin 16) (r : Fin 512) (l : Fin 128) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix4 0 h r l)
      = headLanes (proj (fun e => x0 (ix2 r e)) (fun e => x1 (ix2 0 e)) (fun e d => x6 (ix2 e d))) h l := by
  unfold out0_B_17 kernelRun0_B
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_piece _ 0 slices_S512x512_o0_0_S512x128 shapeCasts_S512x128_S1x1x512x128 r l _ 0 (0 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_piece _ 0 slices_S512x512_o0_0_S512x128 shapeCasts_S512x128_S1x1x512x128 r l _ 0 (1 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_piece _ 128 slices_S512x512_o0_128_S512x128 shapeCasts_S512x128_S1x1x512x128 r l _ 0 (2 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_piece _ 128 slices_S512x512_o0_128_S512x128 shapeCasts_S512x128_S1x1x512x128 r l _ 0 (3 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_piece _ 256 slices_S512x512_o0_256_S512x128 shapeCasts_S512x128_S1x1x512x128 r l _ 0 (4 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_piece _ 256 slices_S512x512_o0_256_S512x128 shapeCasts_S512x128_S1x1x512x128 r l _ 0 (5 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_piece _ 384 slices_S512x512_o0_384_S512x128 shapeCasts_S512x128_S1x1x512x128 r l _ 0 (6 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_piece _ 384 slices_S512x512_o0_384_S512x128 shapeCasts_S512x128_S1x1x512x128 r l _ 0 (7 : Fin 16) (fun d d' hd => cols (W := 1024) arg2 harg2 arg3 harg3 arg8 harg8 x0 x1 x6 _ _ 0 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_piece _ 0 slices_S512x512_o0_0_S512x128 shapeCasts_S512x128_S1x1x512x128 r l _ 512 (8 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_piece _ 0 slices_S512x512_o0_0_S512x128 shapeCasts_S512x128_S1x1x512x128 r l _ 512 (9 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_piece _ 128 slices_S512x512_o0_128_S512x128 shapeCasts_S512x128_S1x1x512x128 r l _ 512 (10 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_piece _ 128 slices_S512x512_o0_128_S512x128 shapeCasts_S512x128_S1x1x512x128 r l _ 512 (11 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_piece _ 256 slices_S512x512_o0_256_S512x128 shapeCasts_S512x128_S1x1x512x128 r l _ 512 (12 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_piece _ 256 slices_S512x512_o0_256_S512x128 shapeCasts_S512x128_S1x1x512x128 r l _ 512 (13 : Fin 16) (fun d d' hd => cols (W := 1024) arg2 harg2 arg3 harg3 arg8 harg8 x0 x1 x6 _ _ 512 _ r d d' hd) (by decide) (by decide) (by decide)
  · refine (miss _ _ 15 _ _ _ _ r l (by decide)).trans ?_
    refine (hit _ _ 14 _ _ _ _ r l rfl).trans ?_
    exact even_piece _ 384 slices_S512x512_o0_384_S512x128 shapeCasts_S512x128_S1x1x512x128 r l _ 512 (14 : Fin 16) (fun d d' hd => cols (W := 1024) arg2 harg2 arg3 harg3 arg8 harg8 x0 x1 x6 _ _ 512 _ r d d' hd) (by decide) (by decide) (by decide)
  · refine (hit _ _ 15 _ _ _ _ r l rfl).trans ?_
    exact odd_piece _ 384 slices_S512x512_o0_384_S512x128 shapeCasts_S512x128_S1x1x512x128 r l _ 512 (15 : Fin 16) (fun d d' hd => cols (W := 1024) arg2 harg2 arg3 harg3 arg8 harg8 x0 x1 x6 _ _ 512 _ r d d' hd) (by decide) (by decide) (by decide)

theorem B18_at (r : Fin 512) (d : Fin 128) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix2 r d)
      = proj (fun e => x0 (ix2 r e)) (fun e => x1 (ix2 0 e)) (fun e d => x7 (ix2 e d)) d := by
  unfold out0_B_18 kernelRun0_B
  dsimp only
  exact tail_piece _ _ arg2 harg2 arg3 harg3 arg9 harg9 x0 x1 x7 _ _ _ _ _ r d

end

end Cert.Project
-- ==== Proof.Project.Array.lean ====
/-
  The arrays the input projections leave: each entry, from its row of the layer's input and a column of the weights.
-/
module

public import proofs.«01_k».proof.Proof.Project.PiecesA
public import proofs.«01_k».proof.Proof.Project.PiecesB
public import proofs.«01_k».proof.Proof.Gen.Kernel3Ideal.Value

@[expose] public section

set_option maxRecDepth 16384

noncomputable section

namespace Cert.Project

open Cert.Kernel3Ideal Cert.Kernel3Ideal.Gen Cert.Kernel3Ideal.Value
open Idealize.ShloMosaic Idealize.ShloMosaic.TcCoe Idealize.SL.Sem
open Idealize.ShloMosaic.Pipeline (Dat Cfg Window)

/-- A projection of every row, its columns from column `o` of the weights on. -/
def colsOf {W N : ℕ} (o : ℕ) (ho : o + N ≤ W) (x : FVec Ideal S16384x1024 .f32) (g : FVec Ideal S1x1024 .f32) (w : FVec Ideal ⟨2, ![1024, W]⟩ .bf16) :
    (⟨2, ![16384, N]⟩ : Shape).Idx → EReal := fun i =>
  proj (fun e => x (ix2 (i 0) e)) (fun e => g (ix2 0 e)) (fun e d => w (ix2 e d)) ⟨o + (i 1).val, by have h : (i 1).val < N := (i 1).isLt; omega⟩

/-- The row of the layer's input at a step of a sequence. -/
def seqRow (b : Fin 2) (s : Fin 8192) : Fin 16384 := ⟨8192 * b.val + s.val, by omega⟩

/-- A projection of every row, head-major, every head with its lanes. -/
def headsOf (x : FVec Ideal S16384x1024 .f32) (g : FVec Ideal S1x1024 .f32) (w : FVec Ideal S1024x1024 .bf16) : FVec Ideal S2x16x8192x128 .bf16 := fun i =>
  headLanes (proj (fun e => x (ix2 (seqRow (i 0) (i 2)) e)) (fun e => g (ix2 0 e)) (fun e d => w (ix2 e d))) (i 1) (i 3)

/-- The row of the array that a row of a block is. -/
def rowAt (n : Fin 32) (r : Fin 512) : Fin 16384 := ⟨512 * n.val + r.val, by omega⟩

theorem points : grid0.N = 32 := by decide +kernel

/-- The block of rows of a grid point. -/
def num (t : Fin cfg0.N) : Fin 32 := ⟨t.val, by have := t.isLt; have e : cfg0.N = 32 := points; omega⟩

theorem tr0 : ∀ t : Fin grid0.N, cc0_transform_0 (grid0.coords t) = ![t.val, 0] := by decide +kernel
theorem tr1 : ∀ t : Fin grid0.N, cc0_transform_1 (grid0.coords t) = ![0, 0] := by decide +kernel
theorem tr2 : ∀ t : Fin grid0.N, cc0_transform_2 (grid0.coords t) = ![0, 0] := by decide +kernel
theorem tr3 : ∀ t : Fin grid0.N, cc0_transform_3 (grid0.coords t) = ![0, 0] := by decide +kernel
theorem tr6 : ∀ t : Fin grid0.N, cc0_transform_6 (grid0.coords t) = ![0, 0] := by decide +kernel
theorem tr7 : ∀ t : Fin grid0.N, cc0_transform_7 (grid0.coords t) = ![0, 0] := by decide +kernel
theorem tr12 : ∀ t : Fin grid0.N, cc0_transform_12 (grid0.coords t) = ![t.val, 0] := by decide +kernel
theorem tr13 : ∀ t : Fin grid0.N, cc0_transform_13 (grid0.coords t) = ![t.val, 0] := by decide +kernel
theorem tr14 : ∀ t : Fin grid0.N, cc0_transform_14 (grid0.coords t) = ![t.val, 0] := by decide +kernel
theorem tr18 : ∀ t : Fin grid0.N, cc0_transform_18 (grid0.coords t) = ![t.val, 0] := by decide +kernel
theorem tr17 : ∀ t : Fin grid0.N, cc0_transform_17 (grid0.coords t) = ![t.val / 16, 0, t.val % 16, 0] := by decide +kernel

/-! Every point writes its blocks back. -/

theorem flush12 : ∀ t : Fin grid0.N, Window.flushOf grid0 true cc0_transform_12 t = true := by decide +kernel
theorem flush13 : ∀ t : Fin grid0.N, Window.flushOf grid0 true cc0_transform_13 t = true := by decide +kernel
theorem flush14 : ∀ t : Fin grid0.N, Window.flushOf grid0 true cc0_transform_14 t = true := by decide +kernel
theorem flush17 : ∀ t : Fin grid0.N, Window.flushOf grid0 true cc0_transform_17 t = true := by decide +kernel
theorem flush18 : ∀ t : Fin grid0.N, Window.flushOf grid0 true cc0_transform_18 t = true := by decide +kernel

section
variable (m : (ℓ : Loc nD τ sig) → Buf (Elt Ideal) ℓ) (c : Dev nD)

abbrev xA : FVec Ideal S16384x1024 .f32 := m ((c : Thread nD τ).loc main_arg0)
abbrev gA : FVec Ideal S1x1024 .f32 := m ((c : Thread nD τ).loc main_arg1)
abbrev wsA : FVec Ideal S1024x2560 .bf16 := m ((c : Thread nD τ).loc main_arg2)
abbrev wzA : FVec Ideal S1024x1024 .bf16 := m ((c : Thread nD τ).loc main_arg3)
abbrev wvA : FVec Ideal S1024x1024 .bf16 := m ((c : Thread nD τ).loc main_arg6)
abbrev wtA : FVec Ideal S1024x128 .bf16 := m ((c : Thread nD τ).loc main_arg7)

variable (t : Fin cfg0.N)

theorem blk0 (r : Fin 512) (e : Fin 1024) : (iblk m c (0 : Fin 20) t : Vec Ideal S512x1024 .f32) (ix2 r e) = xA m c (ix2 (rowAt (num t) r) e) := by
  unfold iblk
  rw [View.read_apply]
  refine (congrFun (V_main_arg0 m c) _).trans ?_
  refine congrArg (xA m c) (funext fun x => Fin.ext ?_)
  have h := tr0 t
  match x with
  | ⟨0, _⟩ => show cc0_transform_0 (grid0.coords t) 0 * 512 + 1 * r.val = 512 * t.val + r.val; rw [h]; show t.val * 512 + 1 * r.val = _; omega
  | ⟨1, _⟩ => show cc0_transform_0 (grid0.coords t) 1 * 1024 + 1 * e.val = e.val; rw [h]; show 0 * 1024 + 1 * e.val = _; omega

theorem blk1 : (iblk m c (1 : Fin 20) t : Vec Ideal S1x1024 .f32) = gA m c := by
  funext y
  unfold iblk
  rw [View.read_apply]
  refine (congrFun (V_main_arg1 m c) _).trans ?_
  refine congrArg (gA m c) (funext fun x => Fin.ext ?_)
  have h := tr1 t
  match x with
  | ⟨0, _⟩ => show cc0_transform_1 (grid0.coords t) 0 * 1 + 1 * (y 0).val = (y 0).val; rw [h]; show 0 * 1 + 1 * (y 0).val = _; omega
  | ⟨1, _⟩ => show cc0_transform_1 (grid0.coords t) 1 * 1024 + 1 * (y 1).val = (y 1).val; rw [h]; show 0 * 1024 + 1 * (y 1).val = _; omega

theorem blk2 : (iblk m c (2 : Fin 20) t : Vec Ideal S1024x2560 .bf16) = wsA m c := by
  funext y
  unfold iblk
  rw [View.read_apply]
  refine (congrFun (V_main_arg2 m c) _).trans ?_
  refine congrArg (wsA m c) (funext fun x => Fin.ext ?_)
  have h := tr2 t
  match x with
  | ⟨0, _⟩ => show cc0_transform_2 (grid0.coords t) 0 * 1024 + 1 * (y 0).val = (y 0).val; rw [h]; show 0 * 1024 + 1 * (y 0).val = _; omega
  | ⟨1, _⟩ => show cc0_transform_2 (grid0.coords t) 1 * 2560 + 1 * (y 1).val = (y 1).val; rw [h]; show 0 * 2560 + 1 * (y 1).val = _; omega

theorem blk3 : (iblk m c (3 : Fin 20) t : Vec Ideal S1024x1024 .bf16) = wzA m c := by
  funext y
  unfold iblk
  rw [View.read_apply]
  refine (congrFun (V_main_arg3 m c) _).trans ?_
  refine congrArg (wzA m c) (funext fun x => Fin.ext ?_)
  have h := tr3 t
  match x with
  | ⟨0, _⟩ => show cc0_transform_3 (grid0.coords t) 0 * 1024 + 1 * (y 0).val = (y 0).val; rw [h]; show 0 * 1024 + 1 * (y 0).val = _; omega
  | ⟨1, _⟩ => show cc0_transform_3 (grid0.coords t) 1 * 1024 + 1 * (y 1).val = (y 1).val; rw [h]; show 0 * 1024 + 1 * (y 1).val = _; omega

theorem blk6 : (iblk m c (6 : Fin 20) t : Vec Ideal S1024x1024 .bf16) = wvA m c := by
  funext y
  unfold iblk
  rw [View.read_apply]
  refine (congrFun (V_main_arg6 m c) _).trans ?_
  refine congrArg (wvA m c) (funext fun x => Fin.ext ?_)
  have h := tr6 t
  match x with
  | ⟨0, _⟩ => show cc0_transform_6 (grid0.coords t) 0 * 1024 + 1 * (y 0).val = (y 0).val; rw [h]; show 0 * 1024 + 1 * (y 0).val = _; omega
  | ⟨1, _⟩ => show cc0_transform_6 (grid0.coords t) 1 * 1024 + 1 * (y 1).val = (y 1).val; rw [h]; show 0 * 1024 + 1 * (y 1).val = _; omega

theorem blk7 : (iblk m c (7 : Fin 20) t : Vec Ideal S1024x128 .bf16) = wtA m c := by
  funext y
  unfold iblk
  rw [View.read_apply]
  refine (congrFun (V_main_arg7 m c) _).trans ?_
  refine congrArg (wtA m c) (funext fun x => Fin.ext ?_)
  have h := tr7 t
  match x with
  | ⟨0, _⟩ => show cc0_transform_7 (grid0.coords t) 0 * 1024 + 1 * (y 0).val = (y 0).val; rw [h]; show 0 * 1024 + 1 * (y 0).val = _; omega
  | ⟨1, _⟩ => show cc0_transform_7 (grid0.coords t) 1 * 128 + 1 * (y 1).val = (y 1).val; rw [h]; show 0 * 128 + 1 * (y 1).val = _; omega

theorem rd12 (A : FVec Ideal S16384x1024 .bf16) (r : Fin 512) (d : Fin 1024) :
    (((cfg0.win (12 : Fin 20)).blk t).view.read (Elt Ideal) A : Vec Ideal S512x1024 .bf16) (ix2 r d) = A (ix2 (rowAt (num t) r) d) := by
  rw [View.read_apply]
  refine congrArg A (funext fun x => Fin.ext ?_)
  have h := tr12 t
  match x with
  | ⟨0, _⟩ => show cc0_transform_12 (grid0.coords t) 0 * 512 + 1 * r.val = 512 * t.val + r.val; rw [h]; show t.val * 512 + 1 * r.val = _; omega
  | ⟨1, _⟩ => show cc0_transform_12 (grid0.coords t) 1 * 1024 + 1 * d.val = d.val; rw [h]; show 0 * 1024 + 1 * d.val = _; omega

theorem flushed12_eq : (dats m 0 c).flushed (12 : Fin 20) t = ((cfg0.win (12 : Fin 20)).blk t).view.read (Elt Ideal) (colsOf (W := 2560) (N := 1024) 0 (by decide) (xA m c) (gA m c) (wsA m c) : FVec Ideal S16384x1024 .bf16) := by
  by_cases h0 : t.val % 16 = 0
  · rw [flushed12_A m c t h0]
    have key : ∀ j : S512x1024.Idx, out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (12 : Fin 20)).blk t).view.read (Elt Ideal) (colsOf (W := 2560) (N := 1024) 0 (by decide) (xA m c) (gA m c) (wsA m c) : FVec Ideal S16384x1024 .bf16) : Vec Ideal S512x1024 .bf16) j := by
      intro j
      obtain ⟨r, d, rfl⟩ : ∃ (r : Fin 512) (d : Fin 1024), j = ix2 r d := ⟨j 0, j 1, funext fun x => match x with | 0 => rfl | 1 => rfl⟩
      rw [rd12]
      refine (A12_at _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk2]
      rfl
    exact funext key
  · rw [flushed12_B m c t h0]
    have key : ∀ j : S512x1024.Idx, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (12 : Fin 20)).blk t).view.read (Elt Ideal) (colsOf (W := 2560) (N := 1024) 0 (by decide) (xA m c) (gA m c) (wsA m c) : FVec Ideal S16384x1024 .bf16) : Vec Ideal S512x1024 .bf16) j := by
      intro j
      obtain ⟨r, d, rfl⟩ : ∃ (r : Fin 512) (d : Fin 1024), j = ix2 r d := ⟨j 0, j 1, funext fun x => match x with | 0 => rfl | 1 => rfl⟩
      rw [rd12]
      refine (B12_at _ _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk2]
      rfl
    exact funext key

theorem rd13 (A : FVec Ideal S16384x1536 .bf16) (r : Fin 512) (d : Fin 1536) :
    (((cfg0.win (13 : Fin 20)).blk t).view.read (Elt Ideal) A : Vec Ideal S512x1536 .bf16) (ix2 r d) = A (ix2 (rowAt (num t) r) d) := by
  rw [View.read_apply]
  refine congrArg A (funext fun x => Fin.ext ?_)
  have h := tr13 t
  match x with
  | ⟨0, _⟩ => show cc0_transform_13 (grid0.coords t) 0 * 512 + 1 * r.val = 512 * t.val + r.val; rw [h]; show t.val * 512 + 1 * r.val = _; omega
  | ⟨1, _⟩ => show cc0_transform_13 (grid0.coords t) 1 * 1536 + 1 * d.val = d.val; rw [h]; show 0 * 1536 + 1 * d.val = _; omega

theorem flushed13_eq : (dats m 0 c).flushed (13 : Fin 20) t = ((cfg0.win (13 : Fin 20)).blk t).view.read (Elt Ideal) (colsOf (W := 2560) (N := 1536) 1024 (by decide) (xA m c) (gA m c) (wsA m c) : FVec Ideal S16384x1536 .bf16) := by
  by_cases h0 : t.val % 16 = 0
  · rw [flushed13_A m c t h0]
    have key : ∀ j : S512x1536.Idx, out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (13 : Fin 20)).blk t).view.read (Elt Ideal) (colsOf (W := 2560) (N := 1536) 1024 (by decide) (xA m c) (gA m c) (wsA m c) : FVec Ideal S16384x1536 .bf16) : Vec Ideal S512x1536 .bf16) j := by
      intro j
      obtain ⟨r, d, rfl⟩ : ∃ (r : Fin 512) (d : Fin 1536), j = ix2 r d := ⟨j 0, j 1, funext fun x => match x with | 0 => rfl | 1 => rfl⟩
      rw [rd13]
      refine (A13_at _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk2]
      rfl
    exact funext key
  · rw [flushed13_B m c t h0]
    have key : ∀ j : S512x1536.Idx, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (13 : Fin 20)).blk t).view.read (Elt Ideal) (colsOf (W := 2560) (N := 1536) 1024 (by decide) (xA m c) (gA m c) (wsA m c) : FVec Ideal S16384x1536 .bf16) : Vec Ideal S512x1536 .bf16) j := by
      intro j
      obtain ⟨r, d, rfl⟩ : ∃ (r : Fin 512) (d : Fin 1536), j = ix2 r d := ⟨j 0, j 1, funext fun x => match x with | 0 => rfl | 1 => rfl⟩
      rw [rd13]
      refine (B13_at _ _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk2]
      rfl
    exact funext key

theorem rd14 (A : FVec Ideal S16384x1024 .bf16) (r : Fin 512) (d : Fin 1024) :
    (((cfg0.win (14 : Fin 20)).blk t).view.read (Elt Ideal) A : Vec Ideal S512x1024 .bf16) (ix2 r d) = A (ix2 (rowAt (num t) r) d) := by
  rw [View.read_apply]
  refine congrArg A (funext fun x => Fin.ext ?_)
  have h := tr14 t
  match x with
  | ⟨0, _⟩ => show cc0_transform_14 (grid0.coords t) 0 * 512 + 1 * r.val = 512 * t.val + r.val; rw [h]; show t.val * 512 + 1 * r.val = _; omega
  | ⟨1, _⟩ => show cc0_transform_14 (grid0.coords t) 1 * 1024 + 1 * d.val = d.val; rw [h]; show 0 * 1024 + 1 * d.val = _; omega

theorem flushed14_eq : (dats m 0 c).flushed (14 : Fin 20) t = ((cfg0.win (14 : Fin 20)).blk t).view.read (Elt Ideal) (colsOf (W := 1024) (N := 1024) 0 (by decide) (xA m c) (gA m c) (wzA m c) : FVec Ideal S16384x1024 .bf16) := by
  by_cases h0 : t.val % 16 = 0
  · rw [flushed14_A m c t h0]
    have key : ∀ j : S512x1024.Idx, out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (14 : Fin 20)).blk t).view.read (Elt Ideal) (colsOf (W := 1024) (N := 1024) 0 (by decide) (xA m c) (gA m c) (wzA m c) : FVec Ideal S16384x1024 .bf16) : Vec Ideal S512x1024 .bf16) j := by
      intro j
      obtain ⟨r, d, rfl⟩ : ∃ (r : Fin 512) (d : Fin 1024), j = ix2 r d := ⟨j 0, j 1, funext fun x => match x with | 0 => rfl | 1 => rfl⟩
      rw [rd14]
      refine (A14_at _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk3]
      rfl
    exact funext key
  · rw [flushed14_B m c t h0]
    have key : ∀ j : S512x1024.Idx, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (14 : Fin 20)).blk t).view.read (Elt Ideal) (colsOf (W := 1024) (N := 1024) 0 (by decide) (xA m c) (gA m c) (wzA m c) : FVec Ideal S16384x1024 .bf16) : Vec Ideal S512x1024 .bf16) j := by
      intro j
      obtain ⟨r, d, rfl⟩ : ∃ (r : Fin 512) (d : Fin 1024), j = ix2 r d := ⟨j 0, j 1, funext fun x => match x with | 0 => rfl | 1 => rfl⟩
      rw [rd14]
      refine (B14_at _ _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk3]
      rfl
    exact funext key

theorem rd18 (A : FVec Ideal S16384x128 .f32) (r : Fin 512) (d : Fin 128) :
    (((cfg0.win (18 : Fin 20)).blk t).view.read (Elt Ideal) A : Vec Ideal S512x128 .f32) (ix2 r d) = A (ix2 (rowAt (num t) r) d) := by
  rw [View.read_apply]
  refine congrArg A (funext fun x => Fin.ext ?_)
  have h := tr18 t
  match x with
  | ⟨0, _⟩ => show cc0_transform_18 (grid0.coords t) 0 * 512 + 1 * r.val = 512 * t.val + r.val; rw [h]; show t.val * 512 + 1 * r.val = _; omega
  | ⟨1, _⟩ => show cc0_transform_18 (grid0.coords t) 1 * 128 + 1 * d.val = d.val; rw [h]; show 0 * 128 + 1 * d.val = _; omega

theorem flushed18_eq : (dats m 0 c).flushed (18 : Fin 20) t = ((cfg0.win (18 : Fin 20)).blk t).view.read (Elt Ideal) (colsOf (W := 128) (N := 128) 0 (by decide) (xA m c) (gA m c) (wtA m c) : FVec Ideal S16384x128 .f32) := by
  by_cases h0 : t.val % 16 = 0
  · rw [flushed18_A m c t h0]
    have key : ∀ j : S512x128.Idx, out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (18 : Fin 20)).blk t).view.read (Elt Ideal) (colsOf (W := 128) (N := 128) 0 (by decide) (xA m c) (gA m c) (wtA m c) : FVec Ideal S16384x128 .f32) : Vec Ideal S512x128 .f32) j := by
      intro j
      obtain ⟨r, d, rfl⟩ : ∃ (r : Fin 512) (d : Fin 128), j = ix2 r d := ⟨j 0, j 1, funext fun x => match x with | 0 => rfl | 1 => rfl⟩
      rw [rd18]
      refine (A18_at _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk7]
      exact congrArg _ (Fin.ext (Nat.zero_add _).symm)
    exact funext key
  · rw [flushed18_B m c t h0]
    have key : ∀ j : S512x128.Idx, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (18 : Fin 20)).blk t).view.read (Elt Ideal) (colsOf (W := 128) (N := 128) 0 (by decide) (xA m c) (gA m c) (wtA m c) : FVec Ideal S16384x128 .f32) : Vec Ideal S512x128 .f32) j := by
      intro j
      obtain ⟨r, d, rfl⟩ : ∃ (r : Fin 512) (d : Fin 128), j = ix2 r d := ⟨j 0, j 1, funext fun x => match x with | 0 => rfl | 1 => rfl⟩
      rw [rd18]
      refine (B18_at _ _ _ _ _ _ _ _ _ _ _ _ _ _ _ _ _ _ _ _ _ _ _ _ _ _ _ _ _ _ _ _ _ _ _ _ _ _ _ _ _ _ _ _ _ _ _ _ _ _ _ _ _ _ _ _ _ _ r d).trans ?_
      simp only [blk0]
      rw [blk1, blk7]
      exact congrArg _ (Fin.ext (Nat.zero_add _).symm)
    exact funext key

theorem rd17 (A : FVec Ideal S2x16x8192x128 .bf16) (h : Fin 16) (r : Fin 512) (l : Fin 128) :
    (((cfg0.win (17 : Fin 20)).blk t).view.read (Elt Ideal) A : Vec Ideal S1x16x512x128 .bf16) (ix4 0 h r l)
      = A (ix4 ⟨t.val / 16, by have := (num t).isLt; have e : (num t).val = t.val := rfl; omega⟩ h ⟨512 * (t.val % 16) + r.val, by omega⟩ l) := by
  rw [View.read_apply]
  refine congrArg A (funext fun x => Fin.ext ?_)
  have ht := tr17 t
  match x with
  | ⟨0, _⟩ => show cc0_transform_17 (grid0.coords t) 0 * 1 + 1 * 0 = t.val / 16; rw [ht]; show t.val / 16 * 1 + 1 * 0 = _; omega
  | ⟨1, _⟩ => show cc0_transform_17 (grid0.coords t) 1 * 16 + 1 * h.val = h.val; rw [ht]; show 0 * 16 + 1 * h.val = _; omega
  | ⟨2, _⟩ => show cc0_transform_17 (grid0.coords t) 2 * 512 + 1 * r.val = 512 * (t.val % 16) + r.val; rw [ht]; show t.val % 16 * 512 + 1 * r.val = _; omega
  | ⟨3, _⟩ => show cc0_transform_17 (grid0.coords t) 3 * 128 + 1 * l.val = l.val; rw [ht]; show 0 * 128 + 1 * l.val = _; omega

theorem row_eq (hb) (r : Fin 512) (hs) : seqRow ⟨t.val / 16, hb⟩ ⟨512 * (t.val % 16) + r.val, hs⟩ = rowAt (num t) r :=
  Fin.ext (by show 8192 * (t.val / 16) + (512 * (t.val % 16) + r.val) = 512 * t.val + r.val; omega)

theorem flushed17_eq : (dats m 0 c).flushed (17 : Fin 20) t = ((cfg0.win (17 : Fin 20)).blk t).view.read (Elt Ideal) (headsOf (xA m c) (gA m c) (wvA m c)) := by
  by_cases h0 : t.val % 16 = 0
  · rw [flushed17_A m c t h0]
    have key : ∀ j : S1x16x512x128.Idx, out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (17 : Fin 20)).blk t).view.read (Elt Ideal) (headsOf (xA m c) (gA m c) (wvA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd17]
      refine (A17_at _ _ _ _ _ _ _ _ _ _ _ _ _ _ _ _ _ _ _ _ _ _ _ _ _ _ _ _ _ _ _ _ _ _ _ _ _ _ _ _ _ _ _ _ _ _ _ _ _ _ _ _ _ _ _ _ _ h r l).trans ?_
      simp only [blk0]
      rw [blk1, blk6, ← row_eq t _ r _]
      rfl
    exact funext key
  · rw [flushed17_B m c t h0]
    have key : ∀ j : S1x16x512x128.Idx, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (17 : Fin 20)).blk t).view.read (Elt Ideal) (headsOf (xA m c) (gA m c) (wvA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd17]
      refine (B17_at _ _ _ _ _ _ _ _ _ _ _ _ _ _ _ _ _ _ _ _ _ _ _ _ _ _ _ _ _ _ _ _ _ _ _ _ _ _ _ _ _ _ _ _ _ _ _ _ _ _ _ _ _ _ _ _ _ _ h r l).trans ?_
      simp only [blk0]
      rw [blk1, blk6, ← row_eq t _ r _]
      rfl
    exact funext key

end

theorem final12 (m : (ℓ : Loc nD τ sig) → Buf (Elt Ideal) ℓ) (c : Dev nD) :
    (dats m 0 c).arrAt (12 : Fin 20) cfg0.N = (colsOf (W := 2560) (N := 1024) 0 (by decide) (xA m c) (gA m c) (wsA m c) : FVec Ideal S16384x1024 .bf16) :=
  (dats m 0 c).arrAt_eq_of_cover (12 : Fin 20) _ (fun t _ => flushed12_eq m c t) fun i => by
    have h0 : (i 0).val < 16384 := (i 0).isLt
    have h1 : (i 1).val < 1024 := (i 1).isLt
    let t : Fin grid0.N := ⟨(i 0).val / 512, by rw [points]; omega⟩
    refine ⟨t, flush12 t, ?_⟩
    show i ∈ ((View.whole main_v56_0).slice ((cfg0.win (12 : Fin 20)).rect t)).set
    rw [View.set_slice_whole, Rect.mem_set_unit]
    intro x
    have h := tr12 t
    match x with
    | ⟨0, _⟩ =>
      show cc0_transform_12 (grid0.coords t) 0 * 512 ≤ (i 0).val ∧ (i 0).val < cc0_transform_12 (grid0.coords t) 0 * 512 + 512
      rw [h]
      show (i 0).val / 512 * 512 ≤ (i 0).val ∧ (i 0).val < (i 0).val / 512 * 512 + 512
      omega
    | ⟨1, _⟩ =>
      show cc0_transform_12 (grid0.coords t) 1 * 1024 ≤ (i 1).val ∧ (i 1).val < cc0_transform_12 (grid0.coords t) 1 * 1024 + 1024
      rw [h]
      show 0 * 1024 ≤ (i 1).val ∧ (i 1).val < 0 * 1024 + 1024
      omega

theorem final13 (m : (ℓ : Loc nD τ sig) → Buf (Elt Ideal) ℓ) (c : Dev nD) :
    (dats m 0 c).arrAt (13 : Fin 20) cfg0.N = (colsOf (W := 2560) (N := 1536) 1024 (by decide) (xA m c) (gA m c) (wsA m c) : FVec Ideal S16384x1536 .bf16) :=
  (dats m 0 c).arrAt_eq_of_cover (13 : Fin 20) _ (fun t _ => flushed13_eq m c t) fun i => by
    have h0 : (i 0).val < 16384 := (i 0).isLt
    have h1 : (i 1).val < 1536 := (i 1).isLt
    let t : Fin grid0.N := ⟨(i 0).val / 512, by rw [points]; omega⟩
    refine ⟨t, flush13 t, ?_⟩
    show i ∈ ((View.whole main_v56_1).slice ((cfg0.win (13 : Fin 20)).rect t)).set
    rw [View.set_slice_whole, Rect.mem_set_unit]
    intro x
    have h := tr13 t
    match x with
    | ⟨0, _⟩ =>
      show cc0_transform_13 (grid0.coords t) 0 * 512 ≤ (i 0).val ∧ (i 0).val < cc0_transform_13 (grid0.coords t) 0 * 512 + 512
      rw [h]
      show (i 0).val / 512 * 512 ≤ (i 0).val ∧ (i 0).val < (i 0).val / 512 * 512 + 512
      omega
    | ⟨1, _⟩ =>
      show cc0_transform_13 (grid0.coords t) 1 * 1536 ≤ (i 1).val ∧ (i 1).val < cc0_transform_13 (grid0.coords t) 1 * 1536 + 1536
      rw [h]
      show 0 * 1536 ≤ (i 1).val ∧ (i 1).val < 0 * 1536 + 1536
      omega

theorem final14 (m : (ℓ : Loc nD τ sig) → Buf (Elt Ideal) ℓ) (c : Dev nD) :
    (dats m 0 c).arrAt (14 : Fin 20) cfg0.N = (colsOf (W := 1024) (N := 1024) 0 (by decide) (xA m c) (gA m c) (wzA m c) : FVec Ideal S16384x1024 .bf16) :=
  (dats m 0 c).arrAt_eq_of_cover (14 : Fin 20) _ (fun t _ => flushed14_eq m c t) fun i => by
    have h0 : (i 0).val < 16384 := (i 0).isLt
    have h1 : (i 1).val < 1024 := (i 1).isLt
    let t : Fin grid0.N := ⟨(i 0).val / 512, by rw [points]; omega⟩
    refine ⟨t, flush14 t, ?_⟩
    show i ∈ ((View.whole main_v56_2).slice ((cfg0.win (14 : Fin 20)).rect t)).set
    rw [View.set_slice_whole, Rect.mem_set_unit]
    intro x
    have h := tr14 t
    match x with
    | ⟨0, _⟩ =>
      show cc0_transform_14 (grid0.coords t) 0 * 512 ≤ (i 0).val ∧ (i 0).val < cc0_transform_14 (grid0.coords t) 0 * 512 + 512
      rw [h]
      show (i 0).val / 512 * 512 ≤ (i 0).val ∧ (i 0).val < (i 0).val / 512 * 512 + 512
      omega
    | ⟨1, _⟩ =>
      show cc0_transform_14 (grid0.coords t) 1 * 1024 ≤ (i 1).val ∧ (i 1).val < cc0_transform_14 (grid0.coords t) 1 * 1024 + 1024
      rw [h]
      show 0 * 1024 ≤ (i 1).val ∧ (i 1).val < 0 * 1024 + 1024
      omega

theorem final18 (m : (ℓ : Loc nD τ sig) → Buf (Elt Ideal) ℓ) (c : Dev nD) :
    (dats m 0 c).arrAt (18 : Fin 20) cfg0.N = (colsOf (W := 128) (N := 128) 0 (by decide) (xA m c) (gA m c) (wtA m c) : FVec Ideal S16384x128 .f32) :=
  (dats m 0 c).arrAt_eq_of_cover (18 : Fin 20) _ (fun t _ => flushed18_eq m c t) fun i => by
    have h0 : (i 0).val < 16384 := (i 0).isLt
    have h1 : (i 1).val < 128 := (i 1).isLt
    let t : Fin grid0.N := ⟨(i 0).val / 512, by rw [points]; omega⟩
    refine ⟨t, flush18 t, ?_⟩
    show i ∈ ((View.whole main_v56_6).slice ((cfg0.win (18 : Fin 20)).rect t)).set
    rw [View.set_slice_whole, Rect.mem_set_unit]
    intro x
    have h := tr18 t
    match x with
    | ⟨0, _⟩ =>
      show cc0_transform_18 (grid0.coords t) 0 * 512 ≤ (i 0).val ∧ (i 0).val < cc0_transform_18 (grid0.coords t) 0 * 512 + 512
      rw [h]
      show (i 0).val / 512 * 512 ≤ (i 0).val ∧ (i 0).val < (i 0).val / 512 * 512 + 512
      omega
    | ⟨1, _⟩ =>
      show cc0_transform_18 (grid0.coords t) 1 * 128 ≤ (i 1).val ∧ (i 1).val < cc0_transform_18 (grid0.coords t) 1 * 128 + 128
      rw [h]
      show 0 * 128 ≤ (i 1).val ∧ (i 1).val < 0 * 128 + 128
      omega

theorem final17 (m : (ℓ : Loc nD τ sig) → Buf (Elt Ideal) ℓ) (c : Dev nD) :
    (dats m 0 c).arrAt (17 : Fin 20) cfg0.N = headsOf (xA m c) (gA m c) (wvA m c) :=
  (dats m 0 c).arrAt_eq_of_cover (17 : Fin 20) _ (fun t _ => flushed17_eq m c t) fun i => by
    have h0 : (i 0).val < 2 := (i 0).isLt
    have h1 : (i 1).val < 16 := (i 1).isLt
    have h2 : (i 2).val < 8192 := (i 2).isLt
    have h3 : (i 3).val < 128 := (i 3).isLt
    let t : Fin grid0.N := ⟨16 * (i 0).val + (i 2).val / 512, by rw [points]; omega⟩
    refine ⟨t, flush17 t, ?_⟩
    show i ∈ ((View.whole main_v56_5).slice ((cfg0.win (17 : Fin 20)).rect t)).set
    rw [View.set_slice_whole, Rect.mem_set_unit]
    intro x
    have h := tr17 t
    match x with
    | ⟨0, _⟩ =>
      show cc0_transform_17 (grid0.coords t) 0 * 1 ≤ (i 0).val ∧ (i 0).val < cc0_transform_17 (grid0.coords t) 0 * 1 + 1
      rw [h]
      show (16 * (i 0).val + (i 2).val / 512) / 16 * 1 ≤ (i 0).val ∧ (i 0).val < (16 * (i 0).val + (i 2).val / 512) / 16 * 1 + 1
      omega
    | ⟨1, _⟩ =>
      show cc0_transform_17 (grid0.coords t) 1 * 16 ≤ (i 1).val ∧ (i 1).val < cc0_transform_17 (grid0.coords t) 1 * 16 + 16
      rw [h]
      show 0 * 16 ≤ (i 1).val ∧ (i 1).val < 0 * 16 + 16
      omega
    | ⟨2, _⟩ =>
      show cc0_transform_17 (grid0.coords t) 2 * 512 ≤ (i 2).val ∧ (i 2).val < cc0_transform_17 (grid0.coords t) 2 * 512 + 512
      rw [h]
      show (16 * (i 0).val + (i 2).val / 512) % 16 * 512 ≤ (i 2).val ∧ (i 2).val < (16 * (i 0).val + (i 2).val / 512) % 16 * 512 + 512
      omega
    | ⟨3, _⟩ =>
      show cc0_transform_17 (grid0.coords t) 3 * 128 ≤ (i 3).val ∧ (i 3).val < cc0_transform_17 (grid0.coords t) 3 * 128 + 128
      rw [h]
      show 0 * 128 ≤ (i 3).val ∧ (i 3).val < 0 * 128 + 128
      omega

end Cert.Project
-- ==== Proof.Project.Ref.lean ====
/-
  The input projections' reference, read at an entry.
-/
module

public import proofs.«01_k».proof.Proof.Project.Array
public import proofs.«01_k».proof.Proof.Gen.Reference3Ideal.Run

@[expose] public section

set_option maxRecDepth 16384

noncomputable section

namespace Cert.Project

open Cert.Reference3Ideal Cert.Reference3Ideal.Gen Cert.Reference3Ideal.Value
open Cert.Output (normed)
open Idealize.ShloMosaic Idealize.ShloMosaic.TcCoe Idealize.SL.Sem

/-- The reference's norm of the rows of the layer's input. -/
def refNorm (h : FVec Ideal S16384x1024 .f32) (g : FVec Ideal S1x1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

theorem refNorm_at (h : FVec Ideal S16384x1024 .f32) (g : FVec Ideal S1x1024 .f32) (r : Fin 16384) (d : Fin 1024) :
    refNorm h g (ix2 r d) = normed (fun e => h (ix2 r e)) (fun e => g (ix2 0 e)) d := by
  pointwise [refNorm, normed]

variable (x : FVec Ideal S16384x1024 .f32) (g : FVec Ideal S1x1024 .f32)

def refS (w : FVec Ideal S1024x2560 .bf16) : FVec Ideal S16384x2560 .f32 :=
  Host.dotGeneral dot_S16384x1024_S1024x2560_S16384x2560_1_0_0_1_n_n none (refNorm x g) (extf .f32 w bitsLt_bf16_f32)

def refZs (w : FVec Ideal S1024x2560 .bf16) : FVec Ideal S16384x1024 .bf16 :=
  truncf .bf16 (extractStridedSlice S16384x1024 ![0, 0] (refS x g w) slices_S16384x2560_S16384x1024_0_0) bitsLt_bf16_f32

def refXbc (w : FVec Ideal S1024x2560 .bf16) : FVec Ideal S16384x1536 .bf16 :=
  truncf .bf16 (extractStridedSlice S16384x1536 ![0, 1024] (refS x g w) slices_S16384x2560_S16384x1536_0_1024) bitsLt_bf16_f32

def refP (w : FVec Ideal S1024x1024 .bf16) : FVec Ideal S16384x1024 .f32 :=
  Host.dotGeneral dot_S16384x1024_S1024x1024_S16384x1024_1_0_0_1_n_n none (refNorm x g) (extf .f32 w bitsLt_bf16_f32)

def refZa (w : FVec Ideal S1024x1024 .bf16) : FVec Ideal S16384x1024 .bf16 := truncf .bf16 (refP x g w) bitsLt_bf16_f32

def refTail (w : FVec Ideal S1024x128 .bf16) : FVec Ideal S16384x128 .f32 :=
  Host.dotGeneral dot_S16384x1024_S1024x128_S16384x128_1_0_0_1_n_n none (refNorm x g) (extf .f32 w bitsLt_bf16_f32)

/-- A projection, head-major. -/
def refHeads (w : FVec Ideal S1024x1024 .bf16) : FVec Ideal S2x16x8192x64 .f32 :=
  transpose S2x16x8192x64 [0, 2, 1, 3] (shapeCast _ (refP x g w) shapeCasts_S16384x1024_S2x8192x16x64) transposes_S2x8192x16x64_S2x16x8192x64_0_2_1_3

/-- A one in the first lane. -/
def refOne : FVec Ideal S2x16x8192x64 .f32 :=
  broadcastInDim S2x16x8192x64 ![3] bcast_S64_S2x16x8192x64_3 (uitofp .f32 (cmpi .eq (iotaInDim S64 32 0) (broadcastInDim S64 ![] bcast_S_S64 (constantI S_ 32 0#32))))

def refEven : IVec S2x16x8192x128 1 :=
  broadcastInDim S2x16x8192x128 ![0, 1, 2, 3] bcast_S1x16x1x1_S2x16x8192x128_0_1_2_3 (broadcastInDim S1x16x1x1 ![1] bcast_S16_S1x16x1x1_1 (cmpi .eq (andi (iotaInDim S16 32 0) (broadcastInDim S16 ![] bcast_S_S16 (constantI S_ 32 1#32))) (broadcastInDim S16 ![] bcast_S_S16 (constantI S_ 32 0#32))))

def refLanes (a b : FVec Ideal S2x16x8192x64 .f32) : FVec Ideal S2x16x8192x128 .f32 :=
  concatenate S2x16x8192x128 3 [⟨S2x16x8192x64, a⟩, ⟨S2x16x8192x64, b⟩] concatenates_S2x16x8192x64_S2x16x8192x64_S2x16x8192x128_d3

def refVa (w : FVec Ideal S1024x1024 .bf16) : FVec Ideal S2x16x8192x128 .bf16 :=
  truncf .bf16 (select refEven (refLanes (refHeads x g w) refOne) (refLanes refOne (refHeads x g w))) bitsLt_bf16_f32

theorem refS_at (w : FVec Ideal S1024x2560 .bf16) (r : Fin 16384) (d : Fin 2560) :
    refS x g w (ix2 r d) = proj (fun e => x (ix2 r e)) (fun e => g (ix2 0 e)) (fun e d => w (ix2 e d)) d := by
  pointwise [refS, refNorm_at, proj]

theorem refP_at (w : FVec Ideal S1024x1024 .bf16) (r : Fin 16384) (d : Fin 1024) :
    refP x g w (ix2 r d) = proj (fun e => x (ix2 r e)) (fun e => g (ix2 0 e)) (fun e d => w (ix2 e d)) d := by
  pointwise [refP, refNorm_at, proj]

theorem refTail_at (w : FVec Ideal S1024x128 .bf16) (r : Fin 16384) (d : Fin 128) :
    refTail x g w (ix2 r d) = proj (fun e => x (ix2 r e)) (fun e => g (ix2 0 e)) (fun e d => w (ix2 e d)) d := by
  pointwise [refTail, refNorm_at, proj]

theorem refZs_at (w : FVec Ideal S1024x2560 .bf16) (r : Fin 16384) (d : Fin 1024) :
    refZs x g w (ix2 r d) = proj (fun e => x (ix2 r e)) (fun e => g (ix2 0 e)) (fun e d => w (ix2 e d)) ⟨0 + d.val, by omega⟩ := by
  pointwise [refZs, refS_at]

theorem refXbc_at (w : FVec Ideal S1024x2560 .bf16) (r : Fin 16384) (d : Fin 1536) :
    refXbc x g w (ix2 r d) = proj (fun e => x (ix2 r e)) (fun e => g (ix2 0 e)) (fun e d => w (ix2 e d)) ⟨1024 + d.val, by omega⟩ := by
  pointwise [refXbc, refS_at]

theorem refZa_at (w : FVec Ideal S1024x1024 .bf16) (r : Fin 16384) (d : Fin 1024) :
    refZa x g w (ix2 r d) = proj (fun e => x (ix2 r e)) (fun e => g (ix2 0 e)) (fun e d => w (ix2 e d)) d := by
  pointwise [refZa, refP_at]

theorem refHeads_at (w : FVec Ideal S1024x1024 .bf16) (b : Fin 2) (h : Fin 16) (s : Fin 8192) (l : Fin 64) :
    refHeads x g w (ix4 b h s l) = proj (fun e => x (ix2 (seqRow b s) e)) (fun e => g (ix2 0 e)) (fun e d => w (ix2 e d)) ⟨64 * h.val + l.val, by omega⟩ := by
  refine Eq.trans ?_ (refP_at x g w (seqRow b s) ⟨64 * h.val + l.val, by omega⟩)
  pointwise [refHeads]
  refine congrArg (refP x g w) (congrArg₂ ix2 (Fin.ext ?_) (Fin.ext ?_))
  · show b.val * 8192 + s.val = 8192 * b.val + s.val; omega
  · show h.val * 64 + l.val = 64 * h.val + l.val; omega

theorem first_word : ∀ l : Fin 64, IntOp.cmpi .eq (BitVec.ofNat 32 l.val) 0#32 = BitVec.ofBool (decide (l.val = 0)) := by decide +kernel
theorem even_word : ∀ h : Fin 16, IntOp.cmpi .eq (IntOp.andi (BitVec.ofNat 32 h.val) 1#32) 0#32 = BitVec.ofBool (decide (h.val % 2 = 0)) := by decide +kernel

theorem bit_value (p : Prop) [Decidable p] : (FloatOps.uitofp FTy.f32 (BitVec.ofBool (decide p)) : Ideal FTy.f32) = if p then (1 : EReal) else 0 := by
  by_cases h : p
  · rw [if_pos h, decide_eq_true h]; exact Nat.cast_one
  · rw [if_neg h, decide_eq_false h]; exact Nat.cast_zero

theorem refOne_at (b : Fin 2) (h : Fin 16) (s : Fin 8192) (l : Fin 64) : refOne (ix4 b h s l) = if l.val = 0 then 1 else 0 := by
  pointwise [refOne]
  exact (congrArg _ (first_word l)).trans (bit_value _)

theorem refEven_at (b : Fin 2) (h : Fin 16) (s : Fin 8192) (l : Fin 128) : refEven (ix4 b h s l) = BitVec.ofBool (decide (h.val % 2 = 0)) := by
  pointwise [refEven]
  exact even_word h

theorem refLanes_at (p q : FVec Ideal S2x16x8192x64 .f32) (b : Fin 2) (h : Fin 16) (s : Fin 8192) (l : Fin 128) :
    refLanes p q (ix4 b h s l) = if hl : l.val < 64 then p (ix4 b h s ⟨l.val, hl⟩) else q (ix4 b h s ⟨l.val - 64, by omega⟩) := by
  pointwise [refLanes]

theorem refVa_at (w : FVec Ideal S1024x1024 .bf16) (b : Fin 2) (h : Fin 16) (s : Fin 8192) (l : Fin 128) :
    refVa x g w (ix4 b h s l) = headLanes (proj (fun e => x (ix2 (seqRow b s) e)) (fun e => g (ix2 0 e)) (fun e d => w (ix2 e d))) h l := by
  pointwise [refVa]
  rw [refEven_at, sel, refLanes_at, refLanes_at]
  unfold headLanes evenLanes oddLanes
  by_cases he : h.val % 2 = 0
  · rw [if_pos he, if_pos he]
    by_cases hl : l.val < 64
    · rw [dif_pos hl, if_pos hl, refHeads_at]
      exact congrArg _ (Fin.ext (by show 64 * h.val + l.val = 128 * (h.val / 2) + l.val; omega))
    · rw [dif_neg hl, if_neg hl, refOne_at]
      exact if_congr (by show l.val - 64 = 0 ↔ l.val = 64; omega) rfl rfl
  · rw [if_neg he, if_neg he]
    by_cases hl : l.val < 64
    · rw [dif_pos hl, if_pos hl, refOne_at]
    · rw [dif_neg hl, if_neg hl, refHeads_at]
      exact congrArg _ (Fin.ext (by show 64 * h.val + (l.val - 64) = 128 * (h.val / 2) + l.val; omega))

theorem refZs_eq (w : FVec Ideal S1024x2560 .bf16) : refZs x g w = colsOf (W := 2560) (N := 1024) 0 (by decide) x g w := by
  funext j
  obtain ⟨r, d, rfl⟩ : ∃ (r : Fin 16384) (d : Fin 1024), j = ix2 r d := ⟨j 0, j 1, funext fun a => match a with | 0 => rfl | 1 => rfl⟩
  exact refZs_at x g w r d

theorem refXbc_eq (w : FVec Ideal S1024x2560 .bf16) : refXbc x g w = colsOf (W := 2560) (N := 1536) 1024 (by decide) x g w := by
  funext j
  obtain ⟨r, d, rfl⟩ : ∃ (r : Fin 16384) (d : Fin 1536), j = ix2 r d := ⟨j 0, j 1, funext fun a => match a with | 0 => rfl | 1 => rfl⟩
  exact refXbc_at x g w r d

theorem refZa_eq (w : FVec Ideal S1024x1024 .bf16) : refZa x g w = colsOf (W := 1024) (N := 1024) 0 (by decide) x g w := by
  funext j
  obtain ⟨r, d, rfl⟩ : ∃ (r : Fin 16384) (d : Fin 1024), j = ix2 r d := ⟨j 0, j 1, funext fun a => match a with | 0 => rfl | 1 => rfl⟩
  exact (refZa_at x g w r d).trans (congrArg _ (Fin.ext (Nat.zero_add _).symm))

theorem refTail_eq (w : FVec Ideal S1024x128 .bf16) : refTail x g w = colsOf (W := 128) (N := 128) 0 (by decide) x g w := by
  funext j
  obtain ⟨r, d, rfl⟩ : ∃ (r : Fin 16384) (d : Fin 128), j = ix2 r d := ⟨j 0, j 1, funext fun a => match a with | 0 => rfl | 1 => rfl⟩
  exact (refTail_at x g w r d).trans (congrArg _ (Fin.ext (Nat.zero_add _).symm))

theorem refVa_eq (w : FVec Ideal S1024x1024 .bf16) : refVa x g w = headsOf x g w := by
  funext j
  obtain ⟨b, h, s, l, rfl⟩ : ∃ (b : Fin 2) (h : Fin 16) (s : Fin 8192) (l : Fin 128), j = ix4 b h s l :=
    ⟨j 0, j 1, j 2, j 3, funext fun a => match a with | 0 => rfl | 1 => rfl | 2 => rfl | 3 => rfl⟩
  exact refVa_at x g w b h s l

end Cert.Project
-- ==== Proof.Project.Gates.lean ====
/-
  The forget gates of the input projections: what the kernel cumulates over a block of rows, and how the parts of a
  cumulated gate come into the lanes of queries and keys.
-/
module

public import proofs.«01_k».proof.Proof.Project.Rows

@[expose] public section

set_option maxRecDepth 16384

noncomputable section

namespace Cert.Project

open Cert.Kernel3Ideal Cert.Kernel3Ideal.Gen
open Cert.Output (normed)
open Idealize.ShloMosaic

/-- The log of the sigmoid, in the form the kernel computes it. -/
def gate (z : EReal) : EReal := 0 - (max (0 - z) 0 + Ideal.log1p (Ideal.exp (0 - (FloatOps.absf (F := Ideal) (φ := .f32) (0 - z)))))

theorem log1p_exp_ne_bot (w : EReal) : Ideal.log1p (Ideal.exp w) ≠ ⊥ := by
  unfold Ideal.log1p
  induction w using EReal.rec with
  | bot =>
    have e : (1 : EReal) + Ideal.exp ⊥ = ((1 : ℝ) : EReal) := by show (1 : EReal) + 0 = _; rw [add_zero]; rfl
    rw [e]
    show (if (1 : ℝ) ≤ 0 then (⊥ : EReal) else _) ≠ ⊥
    rw [if_neg (by norm_num)]
    exact EReal.coe_ne_bot _
  | top =>
    have e : (1 : EReal) + Ideal.exp ⊤ = ⊤ := by show (1 : EReal) + ⊤ = _; rfl
    rw [e]
    exact top_ne_bot
  | coe x =>
    have e : (1 : EReal) + Ideal.exp (x : EReal) = ((1 + Real.exp x : ℝ) : EReal) := rfl
    rw [e]
    show (if 1 + Real.exp x ≤ 0 then (⊥ : EReal) else _) ≠ ⊥
    rw [if_neg (by have := Real.exp_pos x; linarith)]
    exact EReal.coe_ne_bot _

theorem gate_ne_top (z : EReal) : gate z ≠ ⊤ := by
  unfold gate
  have h : max (0 - z) 0 + Ideal.log1p (Ideal.exp (0 - (FloatOps.absf (F := Ideal) (φ := .f32) (0 - z)))) ≠ ⊥ := by
    rw [Ne, EReal.add_eq_bot_iff, not_or]
    refine ⟨fun h => ?_, log1p_exp_ne_bot _⟩
    have : (0 : EReal) ≤ max (0 - z) 0 := le_max_right _ _
    rw [h] at this
    exact absurd this (by decide)
  generalize max (0 - z) 0 + Ideal.log1p (Ideal.exp (0 - (FloatOps.absf (F := Ideal) (φ := .f32) (0 - z)))) = s at h
  induction s using EReal.rec with
  | bot => exact absurd rfl h
  | top => decide
  | coe x => exact EReal.coe_ne_top (0 - x)

/-- The three parts of a number, added up. -/
theorem parts_sum (f : EReal) (hf : f ≠ ⊤) : f + (f - f) + (f - f - (f - f)) = f := by
  induction f using EReal.rec with
  | bot => rfl
  | top => exact absurd rfl hf
  | coe x =>
    rw [EReal.sub_self (EReal.coe_ne_top x) (EReal.coe_ne_bot x), sub_zero, add_zero, add_zero]

/-- The sum of the first `n` gates. -/
def cum (G : ℕ → EReal) (n : ℕ) : EReal := ∑ k ∈ Finset.range n, G k

theorem chunk_sum (T : Fin 384 → EReal) (f : Fin 128 → EReal) (r : Fin 128) (hT : ∀ x, T x = if x.val % 128 ≤ r.val then 1 else 0) (hf : ∀ k, f k ≠ ⊤) :
    (∑ x : Fin 384, T x * (if h : x.val < 128 then f ⟨x.val, h⟩ else if h : x.val - 128 < 128 then f ⟨x.val - 128, h⟩ - f ⟨x.val - 128, h⟩
      else f ⟨x.val - 128 - 128, by omega⟩ - f ⟨x.val - 128 - 128, by omega⟩ - (f ⟨x.val - 128 - 128, by omega⟩ - f ⟨x.val - 128 - 128, by omega⟩)))
      = ∑ k : Fin 128, if k.val ≤ r.val then f k else 0 := by
  refine (Fin.sum_univ_add (a := 256) (b := 128) _).trans ?_
  refine (congrArg (· + _) (Fin.sum_univ_add (a := 128) (b := 128) _)).trans ?_
  rw [← Finset.sum_add_distrib, ← Finset.sum_add_distrib]
  refine Finset.sum_congr rfl fun k _ => ?_
  have hk := k.isLt
  have v1 : (Fin.castAdd 128 (Fin.castAdd 128 k) : Fin 384).val = k.val := rfl
  have v2 : (Fin.castAdd 128 (Fin.natAdd 128 k) : Fin 384).val = 128 + k.val := rfl
  have v3 : (Fin.natAdd 256 k : Fin 384).val = 256 + k.val := rfl
  rw [hT, hT, hT, dif_pos (by rw [v1]; omega), dif_neg (by rw [v2]; omega), dif_pos (by rw [v2]; omega), dif_neg (by rw [v3]; omega), dif_neg (by rw [v3]; omega)]
  have e1 : (⟨(Fin.castAdd 128 (Fin.castAdd 128 k) : Fin 384).val, by rw [v1]; omega⟩ : Fin 128) = k := Fin.ext v1
  have e2 : (⟨(Fin.castAdd 128 (Fin.natAdd 128 k) : Fin 384).val - 128, by rw [v2]; omega⟩ : Fin 128) = k := Fin.ext (by show (Fin.castAdd 128 (Fin.natAdd 128 k) : Fin 384).val - 128 = _; rw [v2]; omega)
  have e3 : (⟨(Fin.natAdd 256 k : Fin 384).val - 128 - 128, by rw [v3]; omega⟩ : Fin 128) = k := Fin.ext (by show (Fin.natAdd 256 k : Fin 384).val - 128 - 128 = _; rw [v3]; omega)
  rw [e1, e2, e3]
  have w1 : (Fin.castAdd 128 (Fin.castAdd 128 k) : Fin 384).val % 128 = k.val := by rw [v1]; omega
  have w2 : (Fin.castAdd 128 (Fin.natAdd 128 k) : Fin 384).val % 128 = k.val := by rw [v2]; omega
  have w3 : (Fin.natAdd 256 k : Fin 384).val % 128 = k.val := by rw [v3]; omega
  rw [w1, w2, w3]
  by_cases h : k.val ≤ r.val
  · rw [if_pos h, if_pos h, one_mul, one_mul, one_mul, parts_sum _ (hf k)]
  · rw [if_neg h, if_neg h, zero_mul, zero_mul, zero_mul, add_zero, add_zero]

theorem sum_le (G : ℕ → EReal) (base : ℕ) (r : Fin 128) : (∑ k : Fin 128, if k.val ≤ r.val then G (base + k.val) else 0) + cum G base = cum G (base + r.val + 1) := by
  have hr := r.isLt
  rw [Fin.sum_univ_eq_sum_range (fun k => if k ≤ r.val then G (base + k) else 0) 128, ← Finset.sum_filter]
  have e : Finset.filter (fun k => k ≤ r.val) (Finset.range 128) = Finset.range (r.val + 1) := by
    ext k
    simp only [Finset.mem_filter, Finset.mem_range]
    omega
  rw [e, add_comm]
  unfold cum
  rw [add_assoc, Finset.sum_range_add G base]

/-- A chunk of 128 rows: the gates cumulated from the sequence's start on. -/
theorem chunk_at (tri : FVec Ideal S128x384 .bf16) (car b : FVec Ideal S1x128 .f32) (z : FVec Ideal S128x128 .f32) (d : Fin 128) (G : ℕ → EReal) (base : ℕ)
    (hT : ∀ (r : Fin 128) (x : Fin 384), tri (ix2 r x) = if x.val % 128 ≤ r.val then 1 else 0) (hz : ∀ k : Fin 128, gate (z (ix2 k d) + b (ix2 0 d)) = G (base + k.val))
    (hc : car (ix2 0 d) = cum G base) (r : Fin 128) :
    k0_pay15 (F := Ideal) tri car z b (ix2 r d) = cum G (base + r.val + 1) := by
  refine Eq.trans (b := (∑ x : Fin 384, tri (ix2 r x) * (if h : x.val < 128 then gate (z (ix2 ⟨x.val, h⟩ d) + b (ix2 0 d)) else if h : x.val - 128 < 128 then gate (z (ix2 ⟨x.val - 128, h⟩ d) + b (ix2 0 d)) - gate (z (ix2 ⟨x.val - 128, h⟩ d) + b (ix2 0 d))
      else gate (z (ix2 ⟨x.val - 128 - 128, by omega⟩ d) + b (ix2 0 d)) - gate (z (ix2 ⟨x.val - 128 - 128, by omega⟩ d) + b (ix2 0 d)) - (gate (z (ix2 ⟨x.val - 128 - 128, by omega⟩ d) + b (ix2 0 d)) - gate (z (ix2 ⟨x.val - 128 - 128, by omega⟩ d) + b (ix2 0 d))))) + car (ix2 0 d)) ?_ ?_
  · pointwise [k0_pay15]
    rfl
  · rw [chunk_sum (fun x => tri (ix2 r x)) (fun k => gate (z (ix2 k d) + b (ix2 0 d))) r (hT r) (fun k => gate_ne_top _), hc, ← sum_le]
    exact congrArg (· + _) (Finset.sum_congr rfl fun k _ => by rw [hz])

/-- A part of a number: the number, and then what is left of it. -/
def part (j : ℕ) (x : EReal) : EReal := if j = 0 then x else if j = 1 then x - x else x - x - (x - x)

/-- The lanes of a row of cumulated gates: a one, then each lane's part. -/
def rowLanes (c : Fin 128 → EReal) (e : Fin 128) : EReal := if e.val = 0 then 1 else part (e.val / 16 - 1) (c e)

theorem l32_word : ∀ l : Fin 128, IntOp.cmpi .slt (BitVec.ofNat 32 l.val) 32#32 = BitVec.ofBool (decide (l.val < 32)) := by decide +kernel
theorem l48_word : ∀ l : Fin 128, IntOp.cmpi .slt (BitVec.ofNat 32 l.val) 48#32 = BitVec.ofBool (decide (l.val < 48)) := by decide +kernel

/-- The change of base, as a float. -/
abbrev toBase2 : EReal := Ideal.ofBits .f32 0x3FB8AA3B#32

theorem lanes_at (tri : FVec Ideal S128x384 .bf16) (car b : FVec Ideal S1x128 .f32) (z : FVec Ideal S128x128 .f32) (I : IVec S128x128 32) (hI : ∀ r d : Fin 128, I (ix2 r d) = BitVec.ofNat 32 d.val) (r d : Fin 128) (c : EReal)
    (hc : k0_pay15 (F := Ideal) tri car z b (ix2 r d) = c) :
    k0_pay18 (F := Ideal) tri I car z b (ix2 r d) = rowLanes (fun _ => c * toBase2) d := by
  unfold k0_pay18
  generalize k0_pay15 (F := Ideal) tri car z b = C at hc
  pointwise []
  rw [hI, hc, zero_word, l32_word, l48_word, sel, sel, sel]
  unfold rowLanes part
  split_ifs <;> first | rfl | omega

theorem last_at (C : FVec Ideal S128x128 .f32) (d : Fin 128) : extractStridedSlice S1x128 ![127, 0] C slices_S128x128_o127_0_S1x128 (ix2 0 d) = C (ix2 127 d) := by
  pointwise []

section
variable (tl : FVec Ideal S512x128 .f32) (T : FVec Ideal S128x384 .bf16) (I : IVec S128x128 32) (car b1 b2 b3 b4 : FVec Ideal S1x128 .f32)

/-- The carry after each chunk. -/
abbrev car1 := k0_pay16 (F := Ideal) T car (k0_pay14 tl) b1
abbrev car2 := k0_pay20 (F := Ideal) tl T (car1 tl T car b1) b2
abbrev car3 := k0_pay24 (F := Ideal) T (car2 tl T car b1 b2) (k0_pay22 tl) b3
abbrev car4 := k0_pay28 (F := Ideal) T (car3 tl T car b1 b2 b3) (k0_pay26 tl) b4

abbrev lan1 := k0_pay18 (F := Ideal) T I car (k0_pay14 tl) b1
abbrev lan2 := k0_pay21 (F := Ideal) tl T I (car1 tl T car b1) b2
abbrev lan3 := k0_pay25 (F := Ideal) T I (car2 tl T car b1 b2) (k0_pay22 tl) b3
abbrev lan4 := k0_pay29 (F := Ideal) T I (car3 tl T car b1 b2 b3) (k0_pay26 tl) b4

variable (hT : ∀ (r : Fin 128) (x : Fin 384), T (ix2 r x) = if x.val % 128 ≤ r.val then 1 else 0) (hI : ∀ r d : Fin 128, I (ix2 r d) = BitVec.ofNat 32 d.val)
  (B : Fin 128 → EReal) (h1 : ∀ d, b1 (ix2 0 d) = B d) (h2 : ∀ d, b2 (ix2 0 d) = B d) (h3 : ∀ d, b3 (ix2 0 d) = B d) (h4 : ∀ d, b4 (ix2 0 d) = B d)
  (G : Fin 128 → ℕ → EReal) (base : ℕ) (hz : ∀ (k : Fin 512) (d : Fin 128), gate (tl (ix2 k d) + B d) = G d (base + k.val)) (hc : ∀ d, car (ix2 0 d) = cum (G d) base)

theorem slice_at (o : ℕ) (ho : o + 128 ≤ 512) (hs : S512x128.Slices ![o, 0] S128x128) (k d : Fin 128) :
    extractStridedSlice S128x128 ![o, 0] tl hs (ix2 k d) = tl (ix2 ⟨o + k.val, by omega⟩ d) := by
  pointwise []

include hT h1 hz hc in
theorem cum1 (r d : Fin 128) : k0_pay15 (F := Ideal) T car (k0_pay14 tl) b1 (ix2 r d) = cum (G d) (base + r.val + 1) :=
  chunk_at T car b1 _ d (G d) base hT (fun k => by
    rw [h1]
    refine Eq.trans (congrArg (fun z => gate (z + B d)) (slice_at tl 0 (by decide) slices_S512x128_o0_0_S128x128 k d)) ((hz _ d).trans (congrArg (G d) ?_))
    show base + (0 + k.val) = _; omega) (hc d) r

include hT h1 hz hc in
theorem car1_at (d : Fin 128) : car1 tl T car b1 (ix2 0 d) = cum (G d) (base + 128) :=
  (last_at _ d).trans (cum1 tl T car b1 hT B h1 G base hz hc 127 d)

include hT h1 h2 hz hc in
theorem cum2 (r d : Fin 128) : k0_pay15 (F := Ideal) T (car1 tl T car b1) (extractStridedSlice S128x128 ![128, 0] tl slices_S512x128_o128_0_S128x128) b2 (ix2 r d) = cum (G d) (base + 128 + r.val + 1) :=
  chunk_at T _ b2 _ d (G d) (base + 128) hT (fun k => by
    rw [h2]
    refine Eq.trans (congrArg (fun z => gate (z + B d)) (slice_at tl 128 (by decide) _ k d)) ((hz _ d).trans (congrArg (G d) ?_))
    show base + (128 + k.val) = _; omega) (car1_at tl T car b1 hT B h1 G base hz hc d) r

include hT h1 h2 hz hc in
theorem car2_at (d : Fin 128) : car2 tl T car b1 b2 (ix2 0 d) = cum (G d) (base + 256) :=
  (last_at _ d).trans (cum2 tl T car b1 b2 hT B h1 h2 G base hz hc 127 d)

include hT h1 h2 h3 hz hc in
theorem cum3 (r d : Fin 128) : k0_pay15 (F := Ideal) T (car2 tl T car b1 b2) (k0_pay22 tl) b3 (ix2 r d) = cum (G d) (base + 256 + r.val + 1) :=
  chunk_at T _ b3 _ d (G d) (base + 256) hT (fun k => by
    rw [h3]
    refine Eq.trans (congrArg (fun z => gate (z + B d)) (slice_at tl 256 (by decide) slices_S512x128_o256_0_S128x128 k d)) ((hz _ d).trans (congrArg (G d) ?_))
    show base + (256 + k.val) = _; omega) (car2_at tl T car b1 b2 hT B h1 h2 G base hz hc d) r

include hT h1 h2 h3 hz hc in
theorem car3_at (d : Fin 128) : car3 tl T car b1 b2 b3 (ix2 0 d) = cum (G d) (base + 384) :=
  (last_at _ d).trans (cum3 tl T car b1 b2 b3 hT B h1 h2 h3 G base hz hc 127 d)

include hT h1 h2 h3 h4 hz hc in
theorem cum4 (r d : Fin 128) : k0_pay15 (F := Ideal) T (car3 tl T car b1 b2 b3) (k0_pay26 tl) b4 (ix2 r d) = cum (G d) (base + 384 + r.val + 1) :=
  chunk_at T _ b4 _ d (G d) (base + 384) hT (fun k => by
    rw [h4]
    refine Eq.trans (congrArg (fun z => gate (z + B d)) (slice_at tl 384 (by decide) slices_S512x128_o384_0_S128x128 k d)) ((hz _ d).trans (congrArg (G d) ?_))
    show base + (384 + k.val) = _; omega) (car3_at tl T car b1 b2 b3 hT B h1 h2 h3 G base hz hc d) r

include hT h1 h2 h3 h4 hz hc in
/-- The carry a block of 512 rows leaves. -/
theorem car4_at (d : Fin 128) : k0_pay30 (car4 tl T car b1 b2 b3 b4) (ix2 0 d) = cum (G d) (base + 512) := by
  refine Eq.trans (b := car4 tl T car b1 b2 b3 b4 (ix2 0 d)) ?_ ((last_at _ d).trans (cum4 tl T car b1 b2 b3 b4 hT B h1 h2 h3 h4 G base hz hc 127 d))
  unfold k0_pay30
  generalize car4 tl T car b1 b2 b3 b4 = C
  pointwise []

include hT hI h1 h2 h3 h4 hz hc in
/-- The rows that go into the two products that lay out the gates' lanes. -/
theorem rows_at (r : Fin 512) (x : Fin 128) :
    k0_pay31 (F := Ideal) (lan1 tl T I car b1) (lan2 tl T I car b1 b2) (lan3 tl T I car b1 b2 b3) (lan4 tl T I car b1 b2 b3 b4) (ix2 r x) = rowLanes (fun d => cum (G d) (base + r.val + 1) * toBase2) x := by
  have L1 : ∀ k, lan1 tl T I car b1 (ix2 k x) = rowLanes (fun d => cum (G x) (base + k.val + 1) * toBase2) x := fun k => lanes_at _ _ _ _ I hI k x _ (cum1 tl T car b1 hT B h1 G base hz hc k x)
  have L2 : ∀ k, lan2 tl T I car b1 b2 (ix2 k x) = rowLanes (fun d => cum (G x) (base + 128 + k.val + 1) * toBase2) x := fun k => lanes_at T _ _ _ I hI k x _ (cum2 tl T car b1 b2 hT B h1 h2 G base hz hc k x)
  have L3 : ∀ k, lan3 tl T I car b1 b2 b3 (ix2 k x) = rowLanes (fun d => cum (G x) (base + 256 + k.val + 1) * toBase2) x := fun k => lanes_at T _ _ _ I hI k x _ (cum3 tl T car b1 b2 b3 hT B h1 h2 h3 G base hz hc k x)
  have L4 : ∀ k, lan4 tl T I car b1 b2 b3 b4 (ix2 k x) = rowLanes (fun d => cum (G x) (base + 384 + k.val + 1) * toBase2) x := fun k => lanes_at T _ _ _ I hI k x _ (cum4 tl T car b1 b2 b3 b4 hT B h1 h2 h3 h4 G base hz hc k x)
  generalize lan1 tl T I car b1 = a at *
  generalize lan2 tl T I car b1 b2 = b at *
  generalize lan3 tl T I car b1 b2 b3 = c at *
  generalize lan4 tl T I car b1 b2 b3 b4 = d at *
  pointwise [k0_pay31]
  have hr := r.isLt
  have key : ∀ n, n = base + r.val + 1 → rowLanes (fun d => cum (G x) n * toBase2) x = rowLanes (fun d => cum (G d) (base + r.val + 1) * toBase2) x := by rintro n rfl; rfl
  split
  · exact (L1 _).trans (key _ rfl)
  · split
    · refine (L2 _).trans (key _ ?_); show base + 128 + (r.val - 128) + 1 = _; omega
    · split
      · refine (L3 _).trans (key _ ?_); show base + 256 + (r.val - 128 - 128) + 1 = _; omega
      · refine (L4 _).trans (key _ ?_); show base + 384 + (r.val - 128 - 128 - 128) + 1 = _; omega

end

/-- The head that a column of the laid-out lanes belongs to: the low half of a pair's columns is the odd head's. -/
def laneHead (D : ℕ) : ℕ := 2 * (D / 128) + (1 - D / 64 % 2)

/-- A query's gate lanes: the three parts of its cumulated gate, three ones, zeros. -/
def queryLane (c : Fin 128 → EReal) (h : Fin 16) (j : ℕ) : EReal := if hj : j < 3 then part j (c ⟨16 + 16 * j + h.val, by omega⟩) else if j < 6 then 1 else 0

/-- A key's: three ones, the parts negated, zeros. -/
def keyLane (c : Fin 128 → EReal) (h : Fin 16) (j : ℕ) : EReal := if j < 3 then 1 else if hj : j < 6 then -part (j - 3) (c ⟨16 + 16 * (j - 3) + h.val, by omega⟩) else 0

theorem rowLanes_part (c : Fin 128 → EReal) (h : Fin 16) (j : ℕ) (hj : j < 3) : rowLanes c ⟨16 + 16 * j + h.val, by omega⟩ = part j (c ⟨16 + 16 * j + h.val, by omega⟩) := by
  unfold rowLanes
  rw [if_neg (by show ¬(16 + 16 * j + h.val = 0); omega)]
  exact congrArg (fun n => part n _) (by show (16 + 16 * j + h.val) / 16 - 1 = j; omega)

theorem rowLanes_zero (c : Fin 128 → EReal) : rowLanes c 0 = 1 := rfl

theorem one_term (f e : Fin 128 → EReal) (a : Fin 128) (v : EReal) (he : ∀ x, e x = if x = a then v else 0) : ∑ x, f x * e x = f a * v := by
  rw [Finset.sum_eq_single a (fun x _ hx => by rw [he, if_neg hx, mul_zero]) (fun h => absurd (Finset.mem_univ a) h), he, if_pos rfl]

theorem query_sum (c : Fin 128 → EReal) (h : Fin 16) (j : ℕ) (e : Fin 128 → EReal)
    (he : ∀ x, e x = if (j < 3 ∧ x.val = 16 + 16 * j + h.val) ∨ (3 ≤ j ∧ j < 6 ∧ x.val = 0) then 1 else 0) : ∑ x, rowLanes c x * e x = queryLane c h j := by
  unfold queryLane
  by_cases h3 : j < 3
  · rw [dif_pos h3, one_term _ e ⟨16 + 16 * j + h.val, by omega⟩ 1 (fun x => (he x).trans (if_congr (by rw [Fin.ext_iff]; show _ ↔ x.val = 16 + 16 * j + h.val; omega) rfl rfl)), mul_one, rowLanes_part c h j h3]
  · rw [dif_neg h3]
    by_cases h6 : j < 6
    · rw [if_pos h6, one_term _ e 0 1 (fun x => (he x).trans (if_congr (by rw [Fin.ext_iff]; show _ ↔ x.val = 0; omega) rfl rfl)), mul_one, rowLanes_zero]
    · rw [if_neg h6]
      exact Finset.sum_eq_zero fun x _ => by rw [he, if_neg (by omega), mul_zero]

theorem key_sum (c : Fin 128 → EReal) (h : Fin 16) (j : ℕ) (e : Fin 128 → EReal)
    (he : ∀ x, e x = if j < 3 ∧ x.val = 0 then 1 else if 3 ≤ j ∧ j < 6 ∧ x.val = 16 + 16 * (j - 3) + h.val then -1 else 0) : ∑ x, rowLanes c x * e x = keyLane c h j := by
  unfold keyLane
  by_cases h3 : j < 3
  · rw [if_pos h3, one_term _ e 0 1 (fun x => (he x).trans (by
      by_cases hx : x = 0
      · rw [if_pos hx, if_pos ⟨h3, Fin.ext_iff.1 hx⟩]
      · rw [if_neg hx, if_neg (fun h => hx (Fin.ext h.2)), if_neg (by omega)])), mul_one, rowLanes_zero]
  · rw [if_neg h3]
    by_cases h6 : j < 6
    · rw [dif_pos h6, one_term _ e ⟨16 + 16 * (j - 3) + h.val, by omega⟩ (-1) (fun x => (he x).trans (by
        rw [if_neg (by omega)]
        exact if_congr (by rw [Fin.ext_iff]; show _ ↔ x.val = 16 + 16 * (j - 3) + h.val; omega) rfl rfl)), mul_neg, mul_one, rowLanes_part c h (j - 3) (by omega)]
    · rw [dif_neg h6]
      exact Finset.sum_eq_zero fun x _ => by rw [he, if_neg (by omega), if_neg (by omega), mul_zero]

/-- A head's lanes: its data in one half, its gate's lanes in the other. -/
def gatedLanes (V : Fin 1024 → EReal) (X : Fin 16 → ℕ → EReal) (h : Fin 16) (l : Fin 128) : EReal :=
  if h.val % 2 = 0 then (if hl : l.val < 64 then V ⟨64 * h.val + l.val, by omega⟩ else X h (l.val - 64))
  else (if hl : l.val < 64 then X h l.val else V ⟨64 * h.val + (l.val - 64), by omega⟩)

/-- The laid-out lanes, column by column. -/
def laneCol (X : Fin 16 → ℕ → EReal) (D : Fin 1024) : EReal := X ⟨laneHead D.val, by have := D.isLt; unfold laneHead; omega⟩ (D.val % 64)

theorem even_gated (w : FVec Ideal S512x512 .bf16) (a : FVec Ideal S512x1024 .bf16) (o O : ℕ) (hs : S512x512.Slices ![0, o] S512x128) (hs' : S512x1024.Slices ![0, O] S512x128) (hc : S512x128.ShapeCasts S1x1x512x128) (r : Fin 512) (l : Fin 128)
    (V : Fin 1024 → EReal) (X : Fin 16 → ℕ → EReal) (c : ℕ) (h : Fin 16) (hw : ∀ (d : Fin 512) (d' : Fin 1024), d'.val = c + d.val → w (ix2 r d) = V d') (ha : ∀ D, a (ix2 r D) = laneCol X D) (ho : o + 128 ≤ 512) (hh : 64 * h.val = c + o) (hO : O = c + o) (he : h.val % 2 = 0) :
    shapeCast S1x1x512x128 (select k0_pay34 (extractStridedSlice S512x128 ![0, o] w hs) (extractStridedSlice S512x128 ![0, O] a hs')) hc (ix4 0 0 r l) = gatedLanes V X h l := by
  subst hO
  have hb := h.isLt
  have hO' : c + o + 128 ≤ 1024 := by omega
  pointwise [k0_pay34]
  rw [low_word, sel]
  unfold gatedLanes
  rw [if_pos he]
  by_cases hl : l.val < 64
  · rw [if_pos hl, dif_pos hl]
    exact hw _ _ (by show 64 * h.val + l.val = c + (o + l.val); omega)
  · rw [if_neg hl, dif_neg hl]
    refine (ha _).trans ?_
    unfold laneCol laneHead
    congr 1
    · exact Fin.ext (by show 2 * ((c + o + l.val) / 128) + (1 - (c + o + l.val) / 64 % 2) = h.val; omega)
    · show (c + o + l.val) % 64 = l.val - 64; omega

theorem odd_gated (w : FVec Ideal S512x512 .bf16) (a : FVec Ideal S512x1024 .bf16) (o O : ℕ) (hs : S512x512.Slices ![0, o] S512x128) (hs' : S512x1024.Slices ![0, O] S512x128) (hc : S512x128.ShapeCasts S1x1x512x128) (r : Fin 512) (l : Fin 128)
    (V : Fin 1024 → EReal) (X : Fin 16 → ℕ → EReal) (c : ℕ) (h : Fin 16) (hw : ∀ (d : Fin 512) (d' : Fin 1024), d'.val = c + d.val → w (ix2 r d) = V d') (ha : ∀ D, a (ix2 r D) = laneCol X D) (ho : o + 128 ≤ 512) (hh : 64 * h.val = c + o + 64) (hO : O = c + o) (he : h.val % 2 = 1) :
    shapeCast S1x1x512x128 (select k0_pay34 (extractStridedSlice S512x128 ![0, O] a hs') (extractStridedSlice S512x128 ![0, o] w hs)) hc (ix4 0 0 r l) = gatedLanes V X h l := by
  subst hO
  have hb := h.isLt
  have hO' : c + o + 128 ≤ 1024 := by omega
  pointwise [k0_pay34]
  rw [low_word, sel]
  unfold gatedLanes
  have hn : ¬h.val % 2 = 0 := by omega
  rw [if_neg hn]
  by_cases hl : l.val < 64
  · rw [if_pos hl, dif_pos hl]
    refine (ha _).trans ?_
    unfold laneCol laneHead
    congr 1
    · exact Fin.ext (by show 2 * ((c + o + l.val) / 128) + (1 - (c + o + l.val) / 64 % 2) = h.val; omega)
    · show (c + o + l.val) % 64 = l.val; omega
  · rw [if_neg hl, dif_neg hl]
    exact hw _ _ (by show 64 * h.val + (l.val - 64) = c + (o + l.val); omega)

/-- The table that lays out the queries' lanes: the row a column takes its lane from. -/
def queryTable (x : Fin 128) (D : Fin 1024) : EReal :=
  if (D.val % 64 < 3 ∧ x.val = 16 + 16 * (D.val % 64) + laneHead D.val) ∨ (3 ≤ D.val % 64 ∧ D.val % 64 < 6 ∧ x.val = 0) then 1 else 0

/-- The keys' table. -/
def keyTable (x : Fin 128) (D : Fin 1024) : EReal :=
  if D.val % 64 < 3 ∧ x.val = 0 then 1 else if 3 ≤ D.val % 64 ∧ D.val % 64 < 6 ∧ x.val = 16 + 16 * (D.val % 64 - 3) + laneHead D.val then -1 else 0

section
variable (tl : FVec Ideal S512x128 .f32) (T : FVec Ideal S128x384 .bf16) (I : IVec S128x128 32) (car b1 b2 b3 b4 : FVec Ideal S1x128 .f32)
variable (hT : ∀ (r : Fin 128) (x : Fin 384), T (ix2 r x) = if x.val % 128 ≤ r.val then 1 else 0) (hI : ∀ r d : Fin 128, I (ix2 r d) = BitVec.ofNat 32 d.val)
  (B : Fin 128 → EReal) (h1 : ∀ d, b1 (ix2 0 d) = B d) (h2 : ∀ d, b2 (ix2 0 d) = B d) (h3 : ∀ d, b3 (ix2 0 d) = B d) (h4 : ∀ d, b4 (ix2 0 d) = B d)
  (G : Fin 128 → ℕ → EReal) (base : ℕ) (hz : ∀ (k : Fin 512) (d : Fin 128), gate (tl (ix2 k d) + B d) = G d (base + k.val)) (hc : ∀ d, car (ix2 0 d) = cum (G d) base)

include hT hI h1 h2 h3 h4 hz hc in
theorem queries_at (E : FVec Ideal S128x1024 .bf16) (hE : ∀ x D, E (ix2 x D) = queryTable x D) (r : Fin 512) (D : Fin 1024) :
    k0_pay32 (F := Ideal) (lan1 tl T I car b1) (lan2 tl T I car b1 b2) (lan3 tl T I car b1 b2 b3) (lan4 tl T I car b1 b2 b3 b4) E (ix2 r D)
      = laneCol (queryLane (fun d => cum (G d) (base + r.val + 1) * toBase2)) D := by
  refine Eq.trans (b := ∑ x, k0_pay31 (F := Ideal) (lan1 tl T I car b1) (lan2 tl T I car b1 b2) (lan3 tl T I car b1 b2 b3) (lan4 tl T I car b1 b2 b3 b4) (ix2 r x) * E (ix2 x D)) ?_ ?_
  · generalize lan1 tl T I car b1 = a
    generalize lan2 tl T I car b1 b2 = b
    generalize lan3 tl T I car b1 b2 b3 = c
    generalize lan4 tl T I car b1 b2 b3 b4 = d
    unfold k0_pay32
    generalize k0_pay31 a b c d = R
    pointwise []
  · exact (Finset.sum_congr rfl fun x _ => congrArg (· * _) (rows_at tl T I car b1 b2 b3 b4 hT hI B h1 h2 h3 h4 G base hz hc r x)).trans (query_sum _ ⟨laneHead D.val, by have := D.isLt; unfold laneHead; omega⟩ (D.val % 64) _ (fun x => hE x D))

include hT hI h1 h2 h3 h4 hz hc in
theorem keys_at (E : FVec Ideal S128x1024 .bf16) (hE : ∀ x D, E (ix2 x D) = keyTable x D) (r : Fin 512) (D : Fin 1024) :
    k0_pay33 (F := Ideal) (lan1 tl T I car b1) (lan2 tl T I car b1 b2) (lan3 tl T I car b1 b2 b3) (lan4 tl T I car b1 b2 b3 b4) E (ix2 r D)
      = laneCol (keyLane (fun d => cum (G d) (base + r.val + 1) * toBase2)) D := by
  refine Eq.trans (b := ∑ x, k0_pay31 (F := Ideal) (lan1 tl T I car b1) (lan2 tl T I car b1 b2) (lan3 tl T I car b1 b2 b3) (lan4 tl T I car b1 b2 b3 b4) (ix2 r x) * E (ix2 x D)) ?_ ?_
  · generalize lan1 tl T I car b1 = a
    generalize lan2 tl T I car b1 b2 = b
    generalize lan3 tl T I car b1 b2 b3 = c
    generalize lan4 tl T I car b1 b2 b3 b4 = d
    unfold k0_pay33
    generalize k0_pay31 a b c d = R
    pointwise []
  · exact (Finset.sum_congr rfl fun x _ => congrArg (· * _) (rows_at tl T I car b1 b2 b3 b4 hT hI B h1 h2 h3 h4 G base hz hc r x)).trans (key_sum _ ⟨laneHead D.val, by have := D.isLt; unfold laneHead; omega⟩ (D.val % 64) _ (fun x => hE x D))

end

/-- The scale of the queries, as a float. -/
abbrev qScale : EReal := Ideal.ofBits .f32 0x3E38AA3B#32

theorem pay39_at (x : FVec Ideal S512x1024 .f32) (g : FVec Ideal S1x1024 .f32) (w : FVec Ideal S1024x512 .bf16) (r d : Fin 512) :
    k0_pay39 (F := Ideal) (k0_pay4 x g) w (ix2 r d) = proj (fun e => x (ix2 r e)) (fun e => g (ix2 0 e)) (fun e d => w (ix2 e d)) d * qScale := by
  pointwise [k0_pay38, k0_pay39, pay4_at, proj]

theorem lane_word (r d : Fin 128) : iota Kind.tc S128x128 32 [1] iota_S128x128_d1_w32 (ix2 r d) = BitVec.ofNat 32 d.val := by
  pointwise []

theorem pay13_at (T : FVec Ideal S128x384 .bf16) (r : Fin 128) (x : Fin 384) : k0_pay13 (F := Ideal) T (ix2 r x) = T (ix2 r x) := by
  pointwise [k0_pay13]

theorem pay3_at (d : Fin 128) : k0_pay3 (F := Ideal) (ix2 0 d) = 0 := by
  pointwise [k0_pay3]

end Cert.Project
-- ==== Proof.Project.Loads.lean ====
/-
  What the input projections' loads of whole blocks give, and a block of scaled columns.
-/
module

public import proofs.«01_k».proof.Proof.Project.Gates
public import proofs.«01_k».proof.Proof.Project.Pieces

@[expose] public section

set_option maxRecDepth 65536

noncomputable section

namespace Cert.Project

open Cert.Kernel3Ideal Cert.Kernel3Ideal.Gen
open Cert.Output (normed)
open Idealize.ShloMosaic Idealize.ShloMosaic.TcCoe

/-- A load of a whole block is the block. -/
theorem load_whole {A B : ℕ} {e : EltTy} (a : Memref sig .tc .vmem ⟨2, ![A, B]⟩ e) (ha : a.IsWhole) (X : Vec Ideal ⟨2, ![A, B]⟩ e)
    (i : ∀ x, (![0, 0] : Fin 2 → ℕ) x + (![A, B] : Fin 2 → ℕ) x ≤ (![A, B] : Fin 2 → ℕ) x) :
    View.readAt (Elt Ideal) a.view (Rect.unit (s := ⟨2, ![A, B]⟩) ![0, 0] ![A, B] i).toLoadRect (ha.unread X) = X := by
  rw [load_at]
  funext y
  refine congrArg X (funext fun x => Fin.ext ?_)
  match x with
  | 0 => show 0 + 1 * (y 0).val = (y 0).val; omega
  | 1 => show 0 + 1 * (y 1).val = (y 1).val; omega

theorem load_cols {W : ℕ} {e : EltTy} (a4 : Memref sig .tc .vmem ⟨2, ![1024, W]⟩ e) (h4 : a4.IsWhole) (w : Vec Ideal ⟨2, ![1024, W]⟩ e)
    (k : ℕ) (i4 : ∀ a, (![0, k] : Fin 2 → ℕ) a + S1024x512.size a ≤ (![1024, W] : Fin 2 → ℕ) a) (x : Fin 1024) (d : Fin 512) (d' : Fin W) (hd : d'.val = k + d.val) :
    View.readAt (Elt Ideal) a4.view (Rect.unit (s := ⟨2, ![1024, W]⟩) ![0, k] S1024x512.size i4).toLoadRect (h4.unread w) (ix2 x d) = w (ix2 x d') := by
  rw [load_at]
  refine congrArg w (funext fun a => Fin.ext ?_)
  match a with
  | 0 => show 0 + 1 * x.val = x.val; omega
  | 1 => show k + 1 * d.val = d'.val; omega

/-- A block of 512 columns of the queries' projection, scaled. -/
theorem qcols (a2 : Memref sig .tc .vmem S512x1024 .f32) (h2 : a2.IsWhole) (a3 : Memref sig .tc .vmem S1x1024 .f32) (h3 : a3.IsWhole)
    (a4 : Memref sig .tc .vmem S1024x1024 .bf16) (h4 : a4.IsWhole) (x : Vec Ideal S512x1024 .f32) (g : Vec Ideal S1x1024 .f32) (w : Vec Ideal S1024x1024 .bf16)
    (i2 : ∀ a, (![0, 0] : Fin 2 → ℕ) a + S512x1024.size a ≤ S512x1024.size a) (i3 : ∀ a, (![0, 0] : Fin 2 → ℕ) a + S1x1024.size a ≤ S1x1024.size a)
    (k : ℕ) (i4 : ∀ a, (![0, k] : Fin 2 → ℕ) a + S1024x512.size a ≤ S1024x1024.size a) (r d : Fin 512) (d' : Fin 1024) (hd : d'.val = k + d.val) :
    k0_pay39 (F := Ideal) (k0_pay4 (View.readAt (Elt Ideal) a2.view (Rect.unit (s := S512x1024) ![0, 0] S512x1024.size i2).toLoadRect (h2.unread x))
      (View.readAt (Elt Ideal) a3.view (Rect.unit (s := S1x1024) ![0, 0] S1x1024.size i3).toLoadRect (h3.unread g)))
      (View.readAt (Elt Ideal) a4.view (Rect.unit (s := S1024x1024) ![0, k] S1024x512.size i4).toLoadRect (h4.unread w)) (ix2 r d)
      = proj (fun e => x (ix2 r e)) (fun e => g (ix2 0 e)) (fun e d => w (ix2 e d)) d' * qScale := by
  refine (pay39_at _ _ _ r d).trans ?_
  rw [load_whole a2 h2 x i2, load_whole a3 h3 g i3]
  exact congrArg (· * qScale) (Finset.sum_congr rfl fun e _ => congrArg (normed _ _ e * ·) (load_cols a4 h4 w k i4 e d d' hd))

/-- The tail's block. -/
theorem tail_load (a2 : Memref sig .tc .vmem S512x1024 .f32) (h2 : a2.IsWhole) (a3 : Memref sig .tc .vmem S1x1024 .f32) (h3 : a3.IsWhole)
    (a4 : Memref sig .tc .vmem S1024x128 .bf16) (h4 : a4.IsWhole) (x : Vec Ideal S512x1024 .f32) (g : Vec Ideal S1x1024 .f32) (w : Vec Ideal S1024x128 .bf16)
    (i2 : ∀ a, (![0, 0] : Fin 2 → ℕ) a + S512x1024.size a ≤ S512x1024.size a) (i3 : ∀ a, (![0, 0] : Fin 2 → ℕ) a + S1x1024.size a ≤ S1x1024.size a)
    (i4 : ∀ a, (![0, 0] : Fin 2 → ℕ) a + S1024x128.size a ≤ S1024x128.size a) (r : Fin 512) (d : Fin 128) :
    k0_pay5 (F := Ideal) (View.readAt (Elt Ideal) a2.view (Rect.unit (s := S512x1024) ![0, 0] S512x1024.size i2).toLoadRect (h2.unread x))
      (View.readAt (Elt Ideal) a3.view (Rect.unit (s := S1x1024) ![0, 0] S1x1024.size i3).toLoadRect (h3.unread g))
      (View.readAt (Elt Ideal) a4.view (Rect.unit (s := S1024x128) ![0, 0] S1024x128.size i4).toLoadRect (h4.unread w)) (ix2 r d)
      = proj (fun e => x (ix2 r e)) (fun e => g (ix2 0 e)) (fun e d => w (ix2 e d)) d := by
  rw [load_whole a2 h2 x i2, load_whole a3 h3 g i3, load_whole a4 h4 w i4]
  exact pay5_at _ _ _ r d

/-- The last store of the carry is what the next point finds. -/
theorem carry_hit (v : View sig .tc .vmem S1x128 .f32) (f : v.ty.Contents (Elt Ideal)) (inb : ∀ a, (![0, 0] : Fin 2 → ℕ) a + S1x128.size a ≤ S1x128.size a)
    (P : Vec Ideal S1x128 .f32) (L : List (View.Piece (Elt Ideal) S1x128 .f32)) (d : Fin 128) :
    v.read (Elt Ideal) (v.writes (Elt Ideal) f (⟨Rect.unit (s := S1x128) ![0, 0] S1x128.size inb, P⟩ :: L)) (ix2 0 d) = P (ix2 0 d) :=
  View.read_writes_cons_unit_of_mem v f inb P L _ (ix2 0 d) rfl (fun a => by
    match a with
    | 0 => rfl
    | 1 => exact (Nat.zero_add _).symm)

end Cert.Project
-- ==== Proof.Project.QueriesA.lean ====
/-
  The queries and keys that the grid points at the start of a sequence leave, and the carry of the cumulated gates.
-/
module

public import proofs.«01_k».proof.Proof.Project.Loads
public import Idealize.ShloMosaic.Lib.Pipeline.ValueKit.Basic
public import proofs.«01_k».proof.Proof.Gen.Kernel3Ideal.Frame

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16)

theorem triA (hT : ∀ (r : Fin 128) (x : Fin 384), x9 (ix2 r x) = if x.val % 128 ≤ r.val then 1 else 0) (r : Fin 128) (x : Fin 384) :
    (kernelRun0_A.sl.r_2 (F := Ideal) c arg11 harg11 x9) (ix2 r x) = if x.val % 128 ≤ r.val then 1 else 0 :=
  (pay13_at _ r x).trans ((congrFun (load_whole arg11 harg11 x9 inb_S128x384_S128x384_0_0) (ix2 r x)).trans (hT r x))

theorem gateA (d : Fin 128) : (View.readAt (Elt Ideal) arg10.view (Rect.unit (s := S1x128) ![0, 0] S1x128.size inb_S1x128_S1x128_0_0).toLoadRect (harg10.unread x8)) (ix2 0 d) = x8 (ix2 0 d) :=
  congrFun (load_whole arg10 harg10 x8 inb_S1x128_S1x128_0_0) (ix2 0 d)

theorem tailA (k : Fin 512) (d : Fin 128) :
    (kernelRun0_A.sl.r_1 (F := Ideal) c arg2 harg2 arg3 harg3 arg9 harg9 x0 x1 x7) (ix2 k d) = proj (fun e => x0 (ix2 k e)) (fun e => x1 (ix2 0 e)) (fun e d => x7 (ix2 e d)) d :=
  tail_load arg2 harg2 arg3 harg3 arg9 harg9 x0 x1 x7 _ _ _ k d

theorem startA (d : Fin 128) : (kernelRun0_A.sl.v52 (F := Ideal) c arg22) (ix2 0 d) = 0 :=
  (congrFun (View.readCov_unit_lit (Val := Elt Ideal) (S := S1x128) (e := .f32) arg22.view inb_S1x128_S1x128_0_0 (k0_pay3 (F := Ideal)) (by decide)) (ix2 0 d)).trans (pay3_at d)

variable (hT : ∀ (r : Fin 128) (x : Fin 384), x9 (ix2 r x) = if x.val % 128 ≤ r.val then 1 else 0) (G : Fin 128 → ℕ → EReal) (base : ℕ)
  (hz : ∀ (k : Fin 512) (d : Fin 128), gate (proj (fun e => x0 (ix2 k e)) (fun e => x1 (ix2 0 e)) (fun e d => x7 (ix2 e d)) d + x8 (ix2 0 d)) = G d (base + k.val))
  (hb : base = 0)

include hT hz hb in
theorem queryRowsA (hQ : ∀ x D, x10 (ix2 x D) = queryTable x D) (r : Fin 512) (D : Fin 1024) :
    kernelRun0_A.sl.r_15 (F := Ideal) c arg2 harg2 arg3 harg3 arg9 harg9 arg10 harg10 arg11 harg11 arg12 harg12 arg22 x0 x1 x7 x8 x9 x10 (ix2 r D) = laneCol (queryLane (fun d => cum (G d) (base + r.val + 1) * toBase2)) D :=
  queries_at (kernelRun0_A.sl.r_1 (F := Ideal) c arg2 harg2 arg3 harg3 arg9 harg9 x0 x1 x7) (kernelRun0_A.sl.r_2 (F := Ideal) c arg11 harg11 x9) kernelRun0_A.sl.v51 (kernelRun0_A.sl.v52 (F := Ideal) c arg22) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triA c arg11 harg11 x9 hT) lane_word (fun d => x8 (ix2 0 d)) (gateA arg10 harg10 x8) (gateA arg10 harg10 x8) (gateA arg10 harg10 x8) (gateA arg10 harg10 x8) G base (fun k d => (congrArg (fun z => gate (z + x8 (ix2 0 d))) (tailA c arg2 harg2 arg3 harg3 arg9 harg9 x0 x1 x7 k d)).trans (hz k d)) (fun d => (startA c arg22 d).trans (by rw [hb]; rfl)) _ (fun x D => (congrFun (load_whole arg12 harg12 x10 inb_S128x1024_S128x1024_0_0) (ix2 x D)).trans (hQ x D)) r D

include hT hz hb in
theorem keyRowsA (hK : ∀ x D, x11 (ix2 x D) = keyTable x D) (r : Fin 512) (D : Fin 1024) :
    kernelRun0_A.sl.r_16 (F := Ideal) c arg2 harg2 arg3 harg3 arg9 harg9 arg10 harg10 arg11 harg11 arg13 harg13 arg22 x0 x1 x7 x8 x9 x11 (ix2 r D) = laneCol (keyLane (fun d => cum (G d) (base + r.val + 1) * toBase2)) D :=
  keys_at (kernelRun0_A.sl.r_1 (F := Ideal) c arg2 harg2 arg3 harg3 arg9 harg9 x0 x1 x7) (kernelRun0_A.sl.r_2 (F := Ideal) c arg11 harg11 x9) kernelRun0_A.sl.v51 (kernelRun0_A.sl.v52 (F := Ideal) c arg22) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triA c arg11 harg11 x9 hT) lane_word (fun d => x8 (ix2 0 d)) (gateA arg10 harg10 x8) (gateA arg10 harg10 x8) (gateA arg10 harg10 x8) (gateA arg10 harg10 x8) G base (fun k d => (congrArg (fun z => gate (z + x8 (ix2 0 d))) (tailA c arg2 harg2 arg3 harg3 arg9 harg9 x0 x1 x7 k d)).trans (hz k d)) (fun d => (startA c arg22 d).trans (by rw [hb]; rfl)) _ (fun x D => (congrFun (load_whole arg13 harg13 x11 inb_S128x1024_S128x1024_0_0) (ix2 x D)).trans (hK x D)) r D

include hT hz hb in
/-- The carry a point leaves. -/
theorem carryA_at (d : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix2 0 d) = cum (G d) (base + 512) := by
  unfold sout0_A_0 kernelRun0_A
  dsimp only
  refine (carry_hit _ _ _ _ _ d).trans ?_
  exact car4_at (kernelRun0_A.sl.r_1 (F := Ideal) c arg2 harg2 arg3 harg3 arg9 harg9 x0 x1 x7) (kernelRun0_A.sl.r_2 (F := Ideal) c arg11 harg11 x9) (kernelRun0_A.sl.v52 (F := Ideal) c arg22) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triA c arg11 harg11 x9 hT) (fun d => x8 (ix2 0 d)) (gateA arg10 harg10 x8) (gateA arg10 harg10 x8) (gateA arg10 harg10 x8) (gateA arg10 harg10 x8) G base (fun k d => (congrArg (fun z => gate (z + x8 (ix2 0 d))) (tailA c arg2 harg2 arg3 harg3 arg9 harg9 x0 x1 x7 k d)).trans (hz k d)) (fun d => (startA c arg22 d).trans (by rw [hb]; rfl)) d

include hT hz hb in
theorem A15_at (hQ : ∀ x D, x10 (ix2 x D) = queryTable x D) (h : Fin 16) (r : Fin 512) (l : Fin 128) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix4 0 h r l)
      = gatedLanes (fun d => proj (fun e => x0 (ix2 r e)) (fun e => x1 (ix2 0 e)) (fun e d => x4 (ix2 e d)) d * qScale) (queryLane (fun d => cum (G d) (base + r.val + 1) * toBase2)) h l := by
  have ha := queryRowsA c arg2 harg2 arg3 harg3 arg9 harg9 arg10 harg10 arg11 harg11 arg12 harg12 arg22 x0 x1 x7 x8 x9 x10 hT G base hz hb hQ
  unfold out0_A_15 kernelRun0_A
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_gated _ _ 0 0 slices_S512x512_o0_0_S512x128 slices_S512x1024_o0_0_S512x128 shapeCasts_S512x128_S1x1x512x128 r l _ _ 0 (0 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_gated _ _ 0 0 slices_S512x512_o0_0_S512x128 slices_S512x1024_o0_0_S512x128 shapeCasts_S512x128_S1x1x512x128 r l _ _ 0 (1 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_gated _ _ 128 128 slices_S512x512_o0_128_S512x128 slices_S512x1024_o0_128_S512x128 shapeCasts_S512x128_S1x1x512x128 r l _ _ 0 (2 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_gated _ _ 128 128 slices_S512x512_o0_128_S512x128 slices_S512x1024_o0_128_S512x128 shapeCasts_S512x128_S1x1x512x128 r l _ _ 0 (3 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_gated _ _ 256 256 slices_S512x512_o0_256_S512x128 slices_S512x1024_o0_256_S512x128 shapeCasts_S512x128_S1x1x512x128 r l _ _ 0 (4 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_gated _ _ 256 256 slices_S512x512_o0_256_S512x128 slices_S512x1024_o0_256_S512x128 shapeCasts_S512x128_S1x1x512x128 r l _ _ 0 (5 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_gated _ _ 384 384 slices_S512x512_o0_384_S512x128 slices_S512x1024_o0_384_S512x128 shapeCasts_S512x128_S1x1x512x128 r l _ _ 0 (6 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_gated _ _ 384 384 slices_S512x512_o0_384_S512x128 slices_S512x1024_o0_384_S512x128 shapeCasts_S512x128_S1x1x512x128 r l _ _ 0 (7 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_gated _ _ 0 512 slices_S512x512_o0_0_S512x128 slices_S512x1024_o0_512_S512x128 shapeCasts_S512x128_S1x1x512x128 r l _ _ 512 (8 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_gated _ _ 0 512 slices_S512x512_o0_0_S512x128 slices_S512x1024_o0_512_S512x128 shapeCasts_S512x128_S1x1x512x128 r l _ _ 512 (9 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_gated _ _ 128 640 slices_S512x512_o0_128_S512x128 slices_S512x1024_o0_640_S512x128 shapeCasts_S512x128_S1x1x512x128 r l _ _ 512 (10 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_gated _ _ 128 640 slices_S512x512_o0_128_S512x128 slices_S512x1024_o0_640_S512x128 shapeCasts_S512x128_S1x1x512x128 r l _ _ 512 (11 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_gated _ _ 256 768 slices_S512x512_o0_256_S512x128 slices_S512x1024_o0_768_S512x128 shapeCasts_S512x128_S1x1x512x128 r l _ _ 512 (12 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_gated _ _ 256 768 slices_S512x512_o0_256_S512x128 slices_S512x1024_o0_768_S512x128 shapeCasts_S512x128_S1x1x512x128 r l _ _ 512 (13 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (hit _ _ 14 _ _ _ _ r l rfl).trans ?_
    exact even_gated _ _ 384 896 slices_S512x512_o0_384_S512x128 slices_S512x1024_o0_896_S512x128 shapeCasts_S512x128_S1x1x512x128 r l _ _ 512 (14 : Fin 16) (fun d d' hd => qcols arg2 harg2 arg3 harg3 arg6 harg6 x0 x1 x4 _ _ 512 _ r d d' hd) (ha r) (by decide) (by decide) (by decide) (by decide)
  · refine (hit _ _ 15 _ _ _ _ r l rfl).trans ?_
    exact odd_gated _ _ 384 896 slices_S512x512_o0_384_S512x128 slices_S512x1024_o0_896_S512x128 shapeCasts_S512x128_S1x1x512x128 r l _ _ 512 (15 : Fin 16) (fun d d' hd => qcols arg2 harg2 arg3 harg3 arg6 harg6 x0 x1 x4 _ _ 512 _ r d d' hd) (ha r) (by decide) (by decide) (by decide) (by decide)

include hT hz hb in
theorem A16_at (hK : ∀ x D, x11 (ix2 x D) = keyTable x D) (h : Fin 16) (r : Fin 512) (l : Fin 128) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix4 0 h r l)
      = gatedLanes (fun d => proj (fun e => x0 (ix2 r e)) (fun e => x1 (ix2 0 e)) (fun e d => x5 (ix2 e d)) d) (keyLane (fun d => cum (G d) (base + r.val + 1) * toBase2)) h l := by
  have ha := keyRowsA c arg2 harg2 arg3 harg3 arg9 harg9 arg10 harg10 arg11 harg11 arg13 harg13 arg22 x0 x1 x7 x8 x9 x11 hT G base hz hb hK
  unfold out0_A_16 kernelRun0_A
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_gated _ _ 0 0 slices_S512x512_o0_0_S512x128 slices_S512x1024_o0_0_S512x128 shapeCasts_S512x128_S1x1x512x128 r l _ _ 0 (0 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_gated _ _ 0 0 slices_S512x512_o0_0_S512x128 slices_S512x1024_o0_0_S512x128 shapeCasts_S512x128_S1x1x512x128 r l _ _ 0 (1 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_gated _ _ 128 128 slices_S512x512_o0_128_S512x128 slices_S512x1024_o0_128_S512x128 shapeCasts_S512x128_S1x1x512x128 r l _ _ 0 (2 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_gated _ _ 128 128 slices_S512x512_o0_128_S512x128 slices_S512x1024_o0_128_S512x128 shapeCasts_S512x128_S1x1x512x128 r l _ _ 0 (3 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_gated _ _ 256 256 slices_S512x512_o0_256_S512x128 slices_S512x1024_o0_256_S512x128 shapeCasts_S512x128_S1x1x512x128 r l _ _ 0 (4 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_gated _ _ 256 256 slices_S512x512_o0_256_S512x128 slices_S512x1024_o0_256_S512x128 shapeCasts_S512x128_S1x1x512x128 r l _ _ 0 (5 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_gated _ _ 384 384 slices_S512x512_o0_384_S512x128 slices_S512x1024_o0_384_S512x128 shapeCasts_S512x128_S1x1x512x128 r l _ _ 0 (6 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_gated _ _ 384 384 slices_S512x512_o0_384_S512x128 slices_S512x1024_o0_384_S512x128 shapeCasts_S512x128_S1x1x512x128 r l _ _ 0 (7 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_gated _ _ 0 512 slices_S512x512_o0_0_S512x128 slices_S512x1024_o0_512_S512x128 shapeCasts_S512x128_S1x1x512x128 r l _ _ 512 (8 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_gated _ _ 0 512 slices_S512x512_o0_0_S512x128 slices_S512x1024_o0_512_S512x128 shapeCasts_S512x128_S1x1x512x128 r l _ _ 512 (9 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_gated _ _ 128 640 slices_S512x512_o0_128_S512x128 slices_S512x1024_o0_640_S512x128 shapeCasts_S512x128_S1x1x512x128 r l _ _ 512 (10 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_gated _ _ 128 640 slices_S512x512_o0_128_S512x128 slices_S512x1024_o0_640_S512x128 shapeCasts_S512x128_S1x1x512x128 r l _ _ 512 (11 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_gated _ _ 256 768 slices_S512x512_o0_256_S512x128 slices_S512x1024_o0_768_S512x128 shapeCasts_S512x128_S1x1x512x128 r l _ _ 512 (12 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_gated _ _ 256 768 slices_S512x512_o0_256_S512x128 slices_S512x1024_o0_768_S512x128 shapeCasts_S512x128_S1x1x512x128 r l _ _ 512 (13 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (hit _ _ 14 _ _ _ _ r l rfl).trans ?_
    exact even_gated _ _ 384 896 slices_S512x512_o0_384_S512x128 slices_S512x1024_o0_896_S512x128 shapeCasts_S512x128_S1x1x512x128 r l _ _ 512 (14 : Fin 16) (fun d d' hd => cols (W := 1024) arg2 harg2 arg3 harg3 arg7 harg7 x0 x1 x5 _ _ 512 _ r d d' hd) (ha r) (by decide) (by decide) (by decide) (by decide)
  · refine (hit _ _ 15 _ _ _ _ r l rfl).trans ?_
    exact odd_gated _ _ 384 896 slices_S512x512_o0_384_S512x128 slices_S512x1024_o0_896_S512x128 shapeCasts_S512x128_S1x1x512x128 r l _ _ 512 (15 : Fin 16) (fun d d' hd => cols (W := 1024) arg2 harg2 arg3 harg3 arg7 harg7 x0 x1 x5 _ _ 512 _ r d d' hd) (ha r) (by decide) (by decide) (by decide) (by decide)

end

end Cert.Project
-- ==== Proof.Project.QueriesB.lean ====
/-
  The queries and keys that the grid points at the later steps of a sequence leave, and the carry of the cumulated gates.
-/
module

public import proofs.«01_k».proof.Proof.Project.Loads
public import Idealize.ShloMosaic.Lib.Pipeline.ValueKit.Basic
public import proofs.«01_k».proof.Proof.Gen.Kernel3Ideal.Frame

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : ¬cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16) (xs0 : Vec Ideal S1x128 .f32)

theorem triB (hT : ∀ (r : Fin 128) (x : Fin 384), x9 (ix2 r x) = if x.val % 128 ≤ r.val then 1 else 0) (r : Fin 128) (x : Fin 384) :
    (kernelRun0_B.sl.r_2 (F := Ideal) c arg11 harg11 x9) (ix2 r x) = if x.val % 128 ≤ r.val then 1 else 0 :=
  (pay13_at _ r x).trans ((congrFun (load_whole arg11 harg11 x9 inb_S128x384_S128x384_0_0) (ix2 r x)).trans (hT r x))

theorem gateB (d : Fin 128) : (View.readAt (Elt Ideal) arg10.view (Rect.unit (s := S1x128) ![0, 0] S1x128.size inb_S1x128_S1x128_0_0).toLoadRect (harg10.unread x8)) (ix2 0 d) = x8 (ix2 0 d) :=
  congrFun (load_whole arg10 harg10 x8 inb_S1x128_S1x128_0_0) (ix2 0 d)

theorem tailB (k : Fin 512) (d : Fin 128) :
    (kernelRun0_B.sl.r_1 (F := Ideal) c arg2 harg2 arg3 harg3 arg9 harg9 x0 x1 x7) (ix2 k d) = proj (fun e => x0 (ix2 k e)) (fun e => x1 (ix2 0 e)) (fun e d => x7 (ix2 e d)) d :=
  tail_load arg2 harg2 arg3 harg3 arg9 harg9 x0 x1 x7 _ _ _ k d

theorem startB (d : Fin 128) : (kernelRun0_B.sl.r_3 (F := Ideal) c arg22 harg22 xs0) (ix2 0 d) = xs0 (ix2 0 d) :=
  congrFun (load_whole arg22 harg22 xs0 inb_S1x128_S1x128_0_0) (ix2 0 d)

variable (hT : ∀ (r : Fin 128) (x : Fin 384), x9 (ix2 r x) = if x.val % 128 ≤ r.val then 1 else 0) (G : Fin 128 → ℕ → EReal) (base : ℕ)
  (hz : ∀ (k : Fin 512) (d : Fin 128), gate (proj (fun e => x0 (ix2 k e)) (fun e => x1 (ix2 0 e)) (fun e d => x7 (ix2 e d)) d + x8 (ix2 0 d)) = G d (base + k.val))
  (hx : ∀ d, xs0 (ix2 0 d) = cum (G d) base)

include hT hz hx in
theorem queryRowsB (hQ : ∀ x D, x10 (ix2 x D) = queryTable x D) (r : Fin 512) (D : Fin 1024) :
    kernelRun0_B.sl.r_16 (F := Ideal) c arg2 harg2 arg3 harg3 arg9 harg9 arg10 harg10 arg11 harg11 arg12 harg12 arg22 harg22 x0 x1 x7 x8 x9 x10 xs0 (ix2 r D) = laneCol (queryLane (fun d => cum (G d) (base + r.val + 1) * toBase2)) D :=
  queries_at (kernelRun0_B.sl.r_1 (F := Ideal) c arg2 harg2 arg3 harg3 arg9 harg9 x0 x1 x7) (kernelRun0_B.sl.r_2 (F := Ideal) c arg11 harg11 x9) kernelRun0_B.sl.v51 (kernelRun0_B.sl.r_3 (F := Ideal) c arg22 harg22 xs0) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triB c arg11 harg11 x9 hT) lane_word (fun d => x8 (ix2 0 d)) (gateB arg10 harg10 x8) (gateB arg10 harg10 x8) (gateB arg10 harg10 x8) (gateB arg10 harg10 x8) G base (fun k d => (congrArg (fun z => gate (z + x8 (ix2 0 d))) (tailB c arg2 harg2 arg3 harg3 arg9 harg9 x0 x1 x7 k d)).trans (hz k d)) (fun d => (startB c arg22 harg22 xs0 d).trans (hx d)) _ (fun x D => (congrFun (load_whole arg12 harg12 x10 inb_S128x1024_S128x1024_0_0) (ix2 x D)).trans (hQ x D)) r D

include hT hz hx in
theorem keyRowsB (hK : ∀ x D, x11 (ix2 x D) = keyTable x D) (r : Fin 512) (D : Fin 1024) :
    kernelRun0_B.sl.r_17 (F := Ideal) c arg2 harg2 arg3 harg3 arg9 harg9 arg10 harg10 arg11 harg11 arg13 harg13 arg22 harg22 x0 x1 x7 x8 x9 x11 xs0 (ix2 r D) = laneCol (keyLane (fun d => cum (G d) (base + r.val + 1) * toBase2)) D :=
  keys_at (kernelRun0_B.sl.r_1 (F := Ideal) c arg2 harg2 arg3 harg3 arg9 harg9 x0 x1 x7) (kernelRun0_B.sl.r_2 (F := Ideal) c arg11 harg11 x9) kernelRun0_B.sl.v51 (kernelRun0_B.sl.r_3 (F := Ideal) c arg22 harg22 xs0) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triB c arg11 harg11 x9 hT) lane_word (fun d => x8 (ix2 0 d)) (gateB arg10 harg10 x8) (gateB arg10 harg10 x8) (gateB arg10 harg10 x8) (gateB arg10 harg10 x8) G base (fun k d => (congrArg (fun z => gate (z + x8 (ix2 0 d))) (tailB c arg2 harg2 arg3 harg3 arg9 harg9 x0 x1 x7 k d)).trans (hz k d)) (fun d => (startB c arg22 harg22 xs0 d).trans (hx d)) _ (fun x D => (congrFun (load_whole arg13 harg13 x11 inb_S128x1024_S128x1024_0_0) (ix2 x D)).trans (hK x D)) r D

include hT hz hx in
/-- The carry a point leaves. -/
theorem carryB_at (d : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix2 0 d) = cum (G d) (base + 512) := by
  unfold sout0_B_0 kernelRun0_B
  dsimp only
  refine (carry_hit _ _ _ _ _ d).trans ?_
  exact car4_at (kernelRun0_B.sl.r_1 (F := Ideal) c arg2 harg2 arg3 harg3 arg9 harg9 x0 x1 x7) (kernelRun0_B.sl.r_2 (F := Ideal) c arg11 harg11 x9) (kernelRun0_B.sl.r_3 (F := Ideal) c arg22 harg22 xs0) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triB c arg11 harg11 x9 hT) (fun d => x8 (ix2 0 d)) (gateB arg10 harg10 x8) (gateB arg10 harg10 x8) (gateB arg10 harg10 x8) (gateB arg10 harg10 x8) G base (fun k d => (congrArg (fun z => gate (z + x8 (ix2 0 d))) (tailB c arg2 harg2 arg3 harg3 arg9 harg9 x0 x1 x7 k d)).trans (hz k d)) (fun d => (startB c arg22 harg22 xs0 d).trans (hx d)) d

include hT hz hx in
theorem B15_at (hQ : ∀ x D, x10 (ix2 x D) = queryTable x D) (h : Fin 16) (r : Fin 512) (l : Fin 128) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix4 0 h r l)
      = gatedLanes (fun d => proj (fun e => x0 (ix2 r e)) (fun e => x1 (ix2 0 e)) (fun e d => x4 (ix2 e d)) d * qScale) (queryLane (fun d => cum (G d) (base + r.val + 1) * toBase2)) h l := by
  have ha := queryRowsB c arg2 harg2 arg3 harg3 arg9 harg9 arg10 harg10 arg11 harg11 arg12 harg12 arg22 harg22 x0 x1 x7 x8 x9 x10 xs0 hT G base hz hx hQ
  unfold out0_B_15 kernelRun0_B
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_gated _ _ 0 0 slices_S512x512_o0_0_S512x128 slices_S512x1024_o0_0_S512x128 shapeCasts_S512x128_S1x1x512x128 r l _ _ 0 (0 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_gated _ _ 0 0 slices_S512x512_o0_0_S512x128 slices_S512x1024_o0_0_S512x128 shapeCasts_S512x128_S1x1x512x128 r l _ _ 0 (1 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_gated _ _ 128 128 slices_S512x512_o0_128_S512x128 slices_S512x1024_o0_128_S512x128 shapeCasts_S512x128_S1x1x512x128 r l _ _ 0 (2 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_gated _ _ 128 128 slices_S512x512_o0_128_S512x128 slices_S512x1024_o0_128_S512x128 shapeCasts_S512x128_S1x1x512x128 r l _ _ 0 (3 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_gated _ _ 256 256 slices_S512x512_o0_256_S512x128 slices_S512x1024_o0_256_S512x128 shapeCasts_S512x128_S1x1x512x128 r l _ _ 0 (4 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_gated _ _ 256 256 slices_S512x512_o0_256_S512x128 slices_S512x1024_o0_256_S512x128 shapeCasts_S512x128_S1x1x512x128 r l _ _ 0 (5 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_gated _ _ 384 384 slices_S512x512_o0_384_S512x128 slices_S512x1024_o0_384_S512x128 shapeCasts_S512x128_S1x1x512x128 r l _ _ 0 (6 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_gated _ _ 384 384 slices_S512x512_o0_384_S512x128 slices_S512x1024_o0_384_S512x128 shapeCasts_S512x128_S1x1x512x128 r l _ _ 0 (7 : Fin 16) (fun d d' hd => qcols arg2 harg2 arg3 harg3 arg6 harg6 x0 x1 x4 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_gated _ _ 0 512 slices_S512x512_o0_0_S512x128 slices_S512x1024_o0_512_S512x128 shapeCasts_S512x128_S1x1x512x128 r l _ _ 512 (8 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_gated _ _ 0 512 slices_S512x512_o0_0_S512x128 slices_S512x1024_o0_512_S512x128 shapeCasts_S512x128_S1x1x512x128 r l _ _ 512 (9 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_gated _ _ 128 640 slices_S512x512_o0_128_S512x128 slices_S512x1024_o0_640_S512x128 shapeCasts_S512x128_S1x1x512x128 r l _ _ 512 (10 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_gated _ _ 128 640 slices_S512x512_o0_128_S512x128 slices_S512x1024_o0_640_S512x128 shapeCasts_S512x128_S1x1x512x128 r l _ _ 512 (11 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_gated _ _ 256 768 slices_S512x512_o0_256_S512x128 slices_S512x1024_o0_768_S512x128 shapeCasts_S512x128_S1x1x512x128 r l _ _ 512 (12 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_gated _ _ 256 768 slices_S512x512_o0_256_S512x128 slices_S512x1024_o0_768_S512x128 shapeCasts_S512x128_S1x1x512x128 r l _ _ 512 (13 : Fin 16) (fun d d' hd => qcols arg2 harg2 arg3 harg3 arg6 harg6 x0 x1 x4 _ _ 512 _ r d d' hd) (ha r) (by decide) (by decide) (by decide) (by decide)
  · refine (miss _ _ 15 _ _ _ _ r l (by decide)).trans ?_
    refine (hit _ _ 14 _ _ _ _ r l rfl).trans ?_
    exact even_gated _ _ 384 896 slices_S512x512_o0_384_S512x128 slices_S512x1024_o0_896_S512x128 shapeCasts_S512x128_S1x1x512x128 r l _ _ 512 (14 : Fin 16) (fun d d' hd => qcols arg2 harg2 arg3 harg3 arg6 harg6 x0 x1 x4 _ _ 512 _ r d d' hd) (ha r) (by decide) (by decide) (by decide) (by decide)
  · refine (hit _ _ 15 _ _ _ _ r l rfl).trans ?_
    exact odd_gated _ _ 384 896 slices_S512x512_o0_384_S512x128 slices_S512x1024_o0_896_S512x128 shapeCasts_S512x128_S1x1x512x128 r l _ _ 512 (15 : Fin 16) (fun d d' hd => qcols arg2 harg2 arg3 harg3 arg6 harg6 x0 x1 x4 _ _ 512 _ r d d' hd) (ha r) (by decide) (by decide) (by decide) (by decide)

include hT hz hx in
theorem B16_at (hK : ∀ x D, x11 (ix2 x D) = keyTable x D) (h : Fin 16) (r : Fin 512) (l : Fin 128) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix4 0 h r l)
      = gatedLanes (fun d => proj (fun e => x0 (ix2 r e)) (fun e => x1 (ix2 0 e)) (fun e d => x5 (ix2 e d)) d) (keyLane (fun d => cum (G d) (base + r.val + 1) * toBase2)) h l := by
  have ha := keyRowsB c arg2 harg2 arg3 harg3 arg9 harg9 arg10 harg10 arg11 harg11 arg13 harg13 arg22 harg22 x0 x1 x7 x8 x9 x11 xs0 hT G base hz hx hK
  unfold out0_B_16 kernelRun0_B
  dsimp only
  fin_cases h
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (miss _ _ 1 _ _ _ _ r l (by decide)).trans ?_
    refine (hit _ _ 0 _ _ _ _ r l rfl).trans ?_
    exact even_gated _ _ 0 0 slices_S512x512_o0_0_S512x128 slices_S512x1024_o0_0_S512x128 shapeCasts_S512x128_S1x1x512x128 r l _ _ 0 (0 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (miss _ _ 2 _ _ _ _ r l (by decide)).trans ?_
    refine (hit _ _ 1 _ _ _ _ r l rfl).trans ?_
    exact odd_gated _ _ 0 0 slices_S512x512_o0_0_S512x128 slices_S512x1024_o0_0_S512x128 shapeCasts_S512x128_S1x1x512x128 r l _ _ 0 (1 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (miss _ _ 3 _ _ _ _ r l (by decide)).trans ?_
    refine (hit _ _ 2 _ _ _ _ r l rfl).trans ?_
    exact even_gated _ _ 128 128 slices_S512x512_o0_128_S512x128 slices_S512x1024_o0_128_S512x128 shapeCasts_S512x128_S1x1x512x128 r l _ _ 0 (2 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (miss _ _ 4 _ _ _ _ r l (by decide)).trans ?_
    refine (hit _ _ 3 _ _ _ _ r l rfl).trans ?_
    exact odd_gated _ _ 128 128 slices_S512x512_o0_128_S512x128 slices_S512x1024_o0_128_S512x128 shapeCasts_S512x128_S1x1x512x128 r l _ _ 0 (3 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (miss _ _ 5 _ _ _ _ r l (by decide)).trans ?_
    refine (hit _ _ 4 _ _ _ _ r l rfl).trans ?_
    exact even_gated _ _ 256 256 slices_S512x512_o0_256_S512x128 slices_S512x1024_o0_256_S512x128 shapeCasts_S512x128_S1x1x512x128 r l _ _ 0 (4 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (miss _ _ 6 _ _ _ _ r l (by decide)).trans ?_
    refine (hit _ _ 5 _ _ _ _ r l rfl).trans ?_
    exact odd_gated _ _ 256 256 slices_S512x512_o0_256_S512x128 slices_S512x1024_o0_256_S512x128 shapeCasts_S512x128_S1x1x512x128 r l _ _ 0 (5 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (miss _ _ 7 _ _ _ _ r l (by decide)).trans ?_
    refine (hit _ _ 6 _ _ _ _ r l rfl).trans ?_
    exact even_gated _ _ 384 384 slices_S512x512_o0_384_S512x128 slices_S512x1024_o0_384_S512x128 shapeCasts_S512x128_S1x1x512x128 r l _ _ 0 (6 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (miss _ _ 8 _ _ _ _ r l (by decide)).trans ?_
    refine (hit _ _ 7 _ _ _ _ r l rfl).trans ?_
    exact odd_gated _ _ 384 384 slices_S512x512_o0_384_S512x128 slices_S512x1024_o0_384_S512x128 shapeCasts_S512x128_S1x1x512x128 r l _ _ 0 (7 : Fin 16) (fun d d' hd => cols (W := 1024) arg2 harg2 arg3 harg3 arg7 harg7 x0 x1 x5 _ _ 0 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (miss _ _ 9 _ _ _ _ r l (by decide)).trans ?_
    refine (hit _ _ 8 _ _ _ _ r l rfl).trans ?_
    exact even_gated _ _ 0 512 slices_S512x512_o0_0_S512x128 slices_S512x1024_o0_512_S512x128 shapeCasts_S512x128_S1x1x512x128 r l _ _ 512 (8 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (miss _ _ 10 _ _ _ _ r l (by decide)).trans ?_
    refine (hit _ _ 9 _ _ _ _ r l rfl).trans ?_
    exact odd_gated _ _ 0 512 slices_S512x512_o0_0_S512x128 slices_S512x1024_o0_512_S512x128 shapeCasts_S512x128_S1x1x512x128 r l _ _ 512 (9 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (miss _ _ 11 _ _ _ _ r l (by decide)).trans ?_
    refine (hit _ _ 10 _ _ _ _ r l rfl).trans ?_
    exact even_gated _ _ 128 640 slices_S512x512_o0_128_S512x128 slices_S512x1024_o0_640_S512x128 shapeCasts_S512x128_S1x1x512x128 r l _ _ 512 (10 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (miss _ _ 12 _ _ _ _ r l (by decide)).trans ?_
    refine (hit _ _ 11 _ _ _ _ r l rfl).trans ?_
    exact odd_gated _ _ 128 640 slices_S512x512_o0_128_S512x128 slices_S512x1024_o0_640_S512x128 shapeCasts_S512x128_S1x1x512x128 r l _ _ 512 (11 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (miss _ _ 13 _ _ _ _ r l (by decide)).trans ?_
    refine (hit _ _ 12 _ _ _ _ r l rfl).trans ?_
    exact even_gated _ _ 256 768 slices_S512x512_o0_256_S512x128 slices_S512x1024_o0_768_S512x128 shapeCasts_S512x128_S1x1x512x128 r l _ _ 512 (12 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (miss _ _ 14 _ _ _ _ r l (by decide)).trans ?_
    refine (hit _ _ 13 _ _ _ _ r l rfl).trans ?_
    exact odd_gated _ _ 256 768 slices_S512x512_o0_256_S512x128 slices_S512x1024_o0_768_S512x128 shapeCasts_S512x128_S1x1x512x128 r l _ _ 512 (13 : Fin 16) (fun d d' hd => cols (W := 1024) arg2 harg2 arg3 harg3 arg7 harg7 x0 x1 x5 _ _ 512 _ r d d' hd) (ha r) (by decide) (by decide) (by decide) (by decide)
  · refine (miss _ _ 15 _ _ _ _ r l (by decide)).trans ?_
    refine (hit _ _ 14 _ _ _ _ r l rfl).trans ?_
    exact even_gated _ _ 384 896 slices_S512x512_o0_384_S512x128 slices_S512x1024_o0_896_S512x128 shapeCasts_S512x128_S1x1x512x128 r l _ _ 512 (14 : Fin 16) (fun d d' hd => cols (W := 1024) arg2 harg2 arg3 harg3 arg7 harg7 x0 x1 x5 _ _ 512 _ r d d' hd) (ha r) (by decide) (by decide) (by decide) (by decide)
  · refine (hit _ _ 15 _ _ _ _ r l rfl).trans ?_
    exact odd_gated _ _ 384 896 slices_S512x512_o0_384_S512x128 slices_S512x1024_o0_896_S512x128 shapeCasts_S512x128_S1x1x512x128 r l _ _ 512 (15 : Fin 16) (fun d d' hd => cols (W := 1024) arg2 harg2 arg3 harg3 arg7 harg7 x0 x1 x5 _ _ 512 _ r d d' hd) (ha r) (by decide) (by decide) (by decide) (by decide)

end

end Cert.Project
-- ==== Proof.Project.Tables.lean ====
/-
  The constant tables that the launching function hands the input projections: the triangle that cumulates a chunk of
  rows, and the two tables that lay out the gates' lanes.
-/
module

public import proofs.«01_k».proof.Proof.Project.Gates
public import proofs.«01_k».proof.Proof.Gen.Kernel3Ideal.Frame.Runs

@[expose] public section

set_option maxRecDepth 16384

noncomputable section

namespace Cert.Project

open Cert.Kernel3Ideal Cert.Kernel3Ideal.Gen
open Idealize.ShloMosaic Idealize.ShloMosaic.TcCoe Idealize.SL.Sem

def triTab : FVec Ideal S128x128 .f32 :=
  select (cmpi .sge (iotaInDim S128x128 32 0) (iotaInDim S128x128 32 1)) (broadcastInDim S128x128 ![] bcast_S_S128x128 (constant (F := Ideal) S_ .f32 0x3F800000#32)) (broadcastInDim S128x128 ![] bcast_S_S128x128 (constant (F := Ideal) S_ .f32 0x00000000#32))

def tri3Tab : FVec Ideal S128x384 .bf16 :=
  truncf .bf16 (concatenate S128x384 1 [⟨S128x128, triTab⟩, ⟨S128x128, triTab⟩, ⟨S128x128, triTab⟩] concatenates_S128x128_S128x128_S128x128_S128x384_d1) bitsLt_bf16_f32

abbrev wordTab (k : BitVec 32) : IVec S128x1024 32 := broadcastInDim S128x1024 ![] bcast_S_S128x1024 (constantI S_ 32 k)

def headTab : IVec S128x1024 32 :=
  addi (muli (wordTab 2#32) (Host.shrsi (iotaInDim S128x1024 32 1) (wordTab 7#32))) (subi (wordTab 1#32) (andi (Host.shrsi (iotaInDim S128x1024 32 1) (wordTab 6#32)) (wordTab 1#32)))

def laneTab : IVec S128x1024 32 := andi (iotaInDim S128x1024 32 1) (wordTab 63#32)

def lowTab : IVec S128x1024 1 := cmpi .slt laneTab (wordTab 3#32)

def midTab : IVec S128x1024 1 := andi (cmpi .sge laneTab (wordTab 3#32)) (cmpi .slt laneTab (wordTab 6#32))

def qTab : FVec Ideal S128x1024 .bf16 :=
  truncf .bf16 (select (ori (andi lowTab (cmpi .eq (iotaInDim S128x1024 32 0) (addi (addi (wordTab 16#32) (muli laneTab (wordTab 16#32))) headTab))) (andi midTab (cmpi .eq (iotaInDim S128x1024 32 0) (wordTab 0#32))))
    (broadcastInDim S128x1024 ![] bcast_S_S128x1024 (constant (F := Ideal) S_ .f32 0x3F800000#32)) (broadcastInDim S128x1024 ![] bcast_S_S128x1024 (constant (F := Ideal) S_ .f32 0x00000000#32))) bitsLt_bf16_f32

def kTab : FVec Ideal S128x1024 .bf16 :=
  truncf .bf16 (select (andi lowTab (cmpi .eq (iotaInDim S128x1024 32 0) (wordTab 0#32))) (broadcastInDim S128x1024 ![] bcast_S_S128x1024 (constant (F := Ideal) S_ .f32 0x3F800000#32))
    (select (andi midTab (cmpi .eq (iotaInDim S128x1024 32 0) (addi (addi (wordTab 16#32) (muli (subi laneTab (wordTab 3#32)) (wordTab 16#32))) headTab)))
      (broadcastInDim S128x1024 ![] bcast_S_S128x1024 (constant (F := Ideal) S_ .f32 0xBF800000#32)) (broadcastInDim S128x1024 ![] bcast_S_S128x1024 (constant (F := Ideal) S_ .f32 0x00000000#32)))) bitsLt_bf16_f32

section
variable (m : (ℓ : Loc nD τ sig) → Buf (Elt Ideal) ℓ) (c : Dev nD)

set_option maxHeartbeats 4000000 in
theorem V_tri : (V m c main_v5 : FVec Ideal S128x384 .bf16) = tri3Tab := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

set_option maxHeartbeats 4000000 in
theorem V_q : (V m c main_v54 : FVec Ideal S128x1024 .bf16) = qTab := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_k : (V m c main_v55 : FVec Ideal S128x1024 .bf16) = kTab := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

end

theorem head_word : ∀ D : Fin 1024, IntOp.addi (IntOp.muli 2#32 (IntOp.shrsi .host (BitVec.ofNat 32 D.val) 7#32)) (IntOp.subi 1#32 (IntOp.andi (IntOp.shrsi .host (BitVec.ofNat 32 D.val) 6#32) 1#32)) = BitVec.ofNat 32 (laneHead D.val) := by decide +kernel

theorem headTab_at (x : Fin 128) (D : Fin 1024) : headTab (ix2 x D) = BitVec.ofNat 32 (laneHead D.val) := by
  refine Eq.trans (b := IntOp.addi (IntOp.muli 2#32 (IntOp.shrsi .host (BitVec.ofNat 32 D.val) 7#32)) (IntOp.subi 1#32 (IntOp.andi (IntOp.shrsi .host (BitVec.ofNat 32 D.val) 6#32) 1#32))) ?_ (head_word D)
  pointwise [headTab]
  try rfl

theorem lane64_word : ∀ D : Fin 1024, IntOp.andi (BitVec.ofNat 32 D.val) 63#32 = BitVec.ofNat 32 (D.val % 64) := by decide +kernel

theorem laneTab_at (x : Fin 128) (D : Fin 1024) : laneTab (ix2 x D) = BitVec.ofNat 32 (D.val % 64) := by
  refine Eq.trans ?_ (lane64_word D)
  pointwise [laneTab]

theorem lt3_word : ∀ j : Fin 64, IntOp.cmpi .slt (BitVec.ofNat 32 j.val) 3#32 = BitVec.ofBool (decide (j.val < 3)) := by decide +kernel
theorem ge3_word : ∀ j : Fin 64, IntOp.cmpi .sge (BitVec.ofNat 32 j.val) 3#32 = BitVec.ofBool (decide (3 ≤ j.val)) := by decide +kernel
theorem lt6_word : ∀ j : Fin 64, IntOp.cmpi .slt (BitVec.ofNat 32 j.val) 6#32 = BitVec.ofBool (decide (j.val < 6)) := by decide +kernel

theorem and_word (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem or_word (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem eq_word (a b : ℕ) (ha : a < 4294967296) (hb : b < 4294967296) : IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · rw [decide_eq_false h, beq_eq_false_iff_ne]
    intro e
    have e' := congrArg BitVec.toNat e
    rw [BitVec.toNat_ofNat, BitVec.toNat_ofNat, Nat.mod_eq_of_lt ha, Nat.mod_eq_of_lt hb] at e'
    exact h e'

theorem lowTab_at (x : Fin 128) (D : Fin 1024) : lowTab (ix2 x D) = BitVec.ofBool (decide (D.val % 64 < 3)) := by
  refine Eq.trans (b := IntOp.cmpi .slt (laneTab (ix2 x D)) 3#32) ?_ ?_
  · pointwise [lowTab]
  · rw [laneTab_at]; exact lt3_word ⟨D.val % 64, by omega⟩

theorem midTab_at (x : Fin 128) (D : Fin 1024) : midTab (ix2 x D) = BitVec.ofBool (decide (3 ≤ D.val % 64 ∧ D.val % 64 < 6)) := by
  refine Eq.trans (b := IntOp.andi (IntOp.cmpi .sge (laneTab (ix2 x D)) 3#32) (IntOp.cmpi .slt (laneTab (ix2 x D)) 6#32)) ?_ ?_
  · pointwise [midTab]
  · rw [laneTab_at, ← and_word]; exact congrArg₂ IntOp.andi (ge3_word ⟨D.val % 64, by omega⟩) (lt6_word ⟨D.val % 64, by omega⟩)

theorem qrow_word : ∀ D : Fin 1024, IntOp.addi (IntOp.addi 16#32 (IntOp.muli (BitVec.ofNat 32 (D.val % 64)) 16#32)) (BitVec.ofNat 32 (laneHead D.val)) = BitVec.ofNat 32 (16 + 16 * (D.val % 64) + laneHead D.val) := by decide +kernel

theorem krow_word : ∀ D : Fin 1024, 3 ≤ D.val % 64 → IntOp.addi (IntOp.addi 16#32 (IntOp.muli (IntOp.subi (BitVec.ofNat 32 (D.val % 64)) 3#32) 16#32)) (BitVec.ofNat 32 (laneHead D.val)) = BitVec.ofNat 32 (16 + 16 * (D.val % 64 - 3) + laneHead D.val) := by decide +kernel

theorem laneHead_lt (D : Fin 1024) : laneHead D.val < 16 := by have := D.isLt; unfold laneHead; omega

theorem qTab_at (x : Fin 128) (D : Fin 1024) : qTab (ix2 x D) = queryTable x D := by
  have hl := laneHead_lt D
  refine Eq.trans (b := Scalar.select (IntOp.ori (IntOp.andi (lowTab (ix2 x D)) (IntOp.cmpi .eq (BitVec.ofNat 32 x.val) (IntOp.addi (IntOp.addi 16#32 (IntOp.muli (laneTab (ix2 x D)) 16#32)) (headTab (ix2 x D))))) (IntOp.andi (midTab (ix2 x D)) (IntOp.cmpi .eq (BitVec.ofNat 32 x.val) 0#32))) (1 : EReal) 0) ?_ ?_
  · pointwise [qTab]
    try rfl
  · rw [lowTab_at, midTab_at, laneTab_at, headTab_at, qrow_word, eq_word _ _ (by omega) (by omega), show (0#32) = BitVec.ofNat 32 0 from rfl, eq_word _ _ (by omega) (by omega), and_word, and_word, or_word, sel]
    unfold queryTable
    exact if_congr (by rw [and_assoc]) rfl rfl

theorem neg_one_word : Ideal.ofBits .f32 0xBF800000#32 = -1 := by
  rw [show (-1 : EReal) = ((-(1 : ℝ) : ℝ) : EReal) from by simp]
  simp [Ideal.ofBits, Ideal.ieee, -EReal.coe_mul, -EReal.coe_neg]; norm_num

theorem kTab_at (x : Fin 128) (D : Fin 1024) : kTab (ix2 x D) = keyTable x D := by
  have hl := laneHead_lt D
  refine Eq.trans (b := Scalar.select (IntOp.andi (lowTab (ix2 x D)) (IntOp.cmpi .eq (BitVec.ofNat 32 x.val) 0#32)) (1 : EReal) (Scalar.select (IntOp.andi (midTab (ix2 x D)) (IntOp.cmpi .eq (BitVec.ofNat 32 x.val) (IntOp.addi (IntOp.addi 16#32 (IntOp.muli (IntOp.subi (laneTab (ix2 x D)) 3#32) 16#32)) (headTab (ix2 x D))))) (-1) 0)) ?_ ?_
  · pointwise [kTab]
    rw [neg_one_word]
  · rw [lowTab_at, midTab_at, laneTab_at, headTab_at, show (0#32) = BitVec.ofNat 32 0 from rfl, eq_word _ _ (by omega) (by omega), and_word, sel]
    unfold keyTable
    refine if_congr Iff.rfl rfl ?_
    by_cases h3 : 3 ≤ D.val % 64
    · rw [krow_word D h3, eq_word _ _ (by omega) (by omega), and_word, sel]
      exact if_congr (by rw [and_assoc]) rfl rfl
    · rw [if_neg (by omega), decide_eq_false (show ¬(3 ≤ D.val % 64 ∧ D.val % 64 < 6) by omega)]
      generalize IntOp.cmpi _ _ _ = w
      have e : IntOp.andi (BitVec.ofBool false) w = BitVec.ofBool (decide False) := by
        show BitVec.ofBool false &&& w = _
        exact BitVec.zero_and
      rw [e, sel, if_neg id]

theorem ge_word : ∀ r k : Fin 128, IntOp.cmpi .sge (BitVec.ofNat 32 r.val) (BitVec.ofNat 32 k.val) = BitVec.ofBool (decide (k.val ≤ r.val)) := by decide +kernel

theorem triTab_at (r k : Fin 128) : triTab (ix2 r k) = if k.val ≤ r.val then 1 else 0 := by
  pointwise [triTab]
  rw [ge_word, sel]
  try rfl

theorem tri3Tab_at (r : Fin 128) (x : Fin 384) : tri3Tab (ix2 r x) = if x.val % 128 ≤ r.val then 1 else 0 := by
  have hx := x.isLt
  have at_k : ∀ (k : ℕ) (hk : k < 128) (i : S128x128.Idx), (i 0).val = r.val → (i 1).val = k → x.val % 128 = k → triTab i = if x.val % 128 ≤ r.val then 1 else 0 := by
    intro k hk i h0 h1 h2
    have e : i = ix2 r ⟨k, hk⟩ := funext fun a => match a with | 0 => Fin.ext h0 | 1 => Fin.ext h1
    rw [e, triTab_at, h2]
  pointwise [tri3Tab]
  by_cases h1 : x.val < 128
  · rw [dif_pos h1]
    exact at_k x.val h1 _ rfl rfl (by omega)
  · rw [dif_neg h1]
    by_cases h2 : x.val - 128 < 128
    · rw [dif_pos h2]
      exact at_k (x.val - 128) h2 _ rfl rfl (by omega)
    · rw [dif_neg h2]
      exact at_k (x.val - 128 - 128) (by omega) _ rfl rfl (by omega)

end Cert.Project
-- ==== Proof.Project.Lanes.lean ====
/-
  The queries and the keys the input projections leave, and the cumulative sum of the gates that the kernel carries from
  one block of rows to the next.
-/
module

public import proofs.«01_k».proof.Proof.Project.Array
public import proofs.«01_k».proof.Proof.Project.QueriesA
public import proofs.«01_k».proof.Proof.Project.QueriesB
public import proofs.«01_k».proof.Proof.Project.Tables

@[expose] public section

set_option maxRecDepth 16384

noncomputable section

namespace Cert.Project

open Cert.Kernel3Ideal Cert.Kernel3Ideal.Gen Cert.Kernel3Ideal.Value
open Idealize.ShloMosaic Idealize.ShloMosaic.TcCoe Idealize.SL.Sem
open Idealize.ShloMosaic.Pipeline (Dat Cfg Window)

/-- The gate of every column at every step of a sequence (zero past the sequence's end). -/
def gateRow (x : FVec Ideal S16384x1024 .f32) (g : FVec Ideal S1x1024 .f32) (w : FVec Ideal S1024x128 .bf16) (fb : FVec Ideal S1x128 .f32)
    (b : Fin 2) (d : Fin 128) (k : ℕ) : EReal :=
  if h : k < 8192 then gate (proj (fun e => x (ix2 (seqRow b ⟨k, h⟩) e)) (fun e => g (ix2 0 e)) (fun e d => w (ix2 e d)) d + fb (ix2 0 d)) else 0

/-- The gates of a sequence, cumulated up to a step and including it, in units of log 2. -/
def cumRow (x : FVec Ideal S16384x1024 .f32) (g : FVec Ideal S1x1024 .f32) (w : FVec Ideal S1024x128 .bf16) (fb : FVec Ideal S1x128 .f32)
    (b : Fin 2) (s : ℕ) (d : Fin 128) : EReal := cum (gateRow x g w fb b d) (s + 1) * toBase2

/-- The queries, head-major: the scaled projection in a head's own lanes, the gates' lanes beside them. -/
def queriesOf (x : FVec Ideal S16384x1024 .f32) (g : FVec Ideal S1x1024 .f32) (wq : FVec Ideal S1024x1024 .bf16) (w : FVec Ideal S1024x128 .bf16) (fb : FVec Ideal S1x128 .f32) :
    FVec Ideal S2x16x8192x128 .bf16 := fun i =>
  gatedLanes (fun d => proj (fun e => x (ix2 (seqRow (i 0) (i 2)) e)) (fun e => g (ix2 0 e)) (fun e d => wq (ix2 e d)) d * qScale)
    (queryLane (cumRow x g w fb (i 0) (i 2).val)) (i 1) (i 3)

/-- The keys, head-major: the projection in a head's own lanes, the gates' lanes beside them. -/
def keysOf (x : FVec Ideal S16384x1024 .f32) (g : FVec Ideal S1x1024 .f32) (wk : FVec Ideal S1024x1024 .bf16) (w : FVec Ideal S1024x128 .bf16) (fb : FVec Ideal S1x128 .f32) :
    FVec Ideal S2x16x8192x128 .bf16 := fun i =>
  gatedLanes (fun d => proj (fun e => x (ix2 (seqRow (i 0) (i 2)) e)) (fun e => g (ix2 0 e)) (fun e d => wk (ix2 e d)) d)
    (keyLane (cumRow x g w fb (i 0) (i 2).val)) (i 1) (i 3)

theorem tr4 : ∀ t : Fin grid0.N, cc0_transform_4 (grid0.coords t) = ![0, 0] := by decide +kernel
theorem tr5 : ∀ t : Fin grid0.N, cc0_transform_5 (grid0.coords t) = ![0, 0] := by decide +kernel
theorem tr8 : ∀ t : Fin grid0.N, cc0_transform_8 (grid0.coords t) = ![0, 0] := by decide +kernel
theorem tr9 : ∀ t : Fin grid0.N, cc0_transform_9 (grid0.coords t) = ![0, 0] := by decide +kernel
theorem tr10 : ∀ t : Fin grid0.N, cc0_transform_10 (grid0.coords t) = ![0, 0] := by decide +kernel
theorem tr11 : ∀ t : Fin grid0.N, cc0_transform_11 (grid0.coords t) = ![0, 0] := by decide +kernel
theorem tr15 : ∀ t : Fin grid0.N, cc0_transform_15 (grid0.coords t) = ![t.val / 16, 0, t.val % 16, 0] := by decide +kernel
theorem flush15 : ∀ t : Fin grid0.N, Window.flushOf grid0 true cc0_transform_15 t = true := by decide +kernel
theorem tr16 : ∀ t : Fin grid0.N, cc0_transform_16 (grid0.coords t) = ![t.val / 16, 0, t.val % 16, 0] := by decide +kernel
theorem flush16 : ∀ t : Fin grid0.N, Window.flushOf grid0 true cc0_transform_16 t = true := by decide +kernel

section
variable (m : (ℓ : Loc nD τ sig) → Buf (Elt Ideal) ℓ) (c : Dev nD)

abbrev wqA : FVec Ideal S1024x1024 .bf16 := m ((c : Thread nD τ).loc main_arg4)
abbrev wkA : FVec Ideal S1024x1024 .bf16 := m ((c : Thread nD τ).loc main_arg5)
abbrev fbA : FVec Ideal S1x128 .f32 := m ((c : Thread nD τ).loc main_arg8)

variable (t : Fin cfg0.N)

theorem blk4 : (iblk m c (4 : Fin 20) t : Vec Ideal S1024x1024 .bf16) = wqA m c := by
  funext y
  unfold iblk
  rw [View.read_apply]
  refine (congrFun (V_main_arg4 m c) _).trans ?_
  refine congrArg (wqA m c) (funext fun x => Fin.ext ?_)
  have h := tr4 t
  match x with
  | ⟨0, _⟩ => show cc0_transform_4 (grid0.coords t) 0 * 1024 + 1 * (y 0).val = (y 0).val; rw [h]; show 0 * 1024 + 1 * (y 0).val = _; omega
  | ⟨1, _⟩ => show cc0_transform_4 (grid0.coords t) 1 * 1024 + 1 * (y 1).val = (y 1).val; rw [h]; show 0 * 1024 + 1 * (y 1).val = _; omega

theorem blk5 : (iblk m c (5 : Fin 20) t : Vec Ideal S1024x1024 .bf16) = wkA m c := by
  funext y
  unfold iblk
  rw [View.read_apply]
  refine (congrFun (V_main_arg5 m c) _).trans ?_
  refine congrArg (wkA m c) (funext fun x => Fin.ext ?_)
  have h := tr5 t
  match x with
  | ⟨0, _⟩ => show cc0_transform_5 (grid0.coords t) 0 * 1024 + 1 * (y 0).val = (y 0).val; rw [h]; show 0 * 1024 + 1 * (y 0).val = _; omega
  | ⟨1, _⟩ => show cc0_transform_5 (grid0.coords t) 1 * 1024 + 1 * (y 1).val = (y 1).val; rw [h]; show 0 * 1024 + 1 * (y 1).val = _; omega

theorem blk8 : (iblk m c (8 : Fin 20) t : Vec Ideal S1x128 .f32) = fbA m c := by
  funext y
  unfold iblk
  rw [View.read_apply]
  refine (congrFun (V_main_arg8 m c) _).trans ?_
  refine congrArg (fbA m c) (funext fun x => Fin.ext ?_)
  have h := tr8 t
  match x with
  | ⟨0, _⟩ => show cc0_transform_8 (grid0.coords t) 0 * 1 + 1 * (y 0).val = (y 0).val; rw [h]; show 0 * 1 + 1 * (y 0).val = _; omega
  | ⟨1, _⟩ => show cc0_transform_8 (grid0.coords t) 1 * 128 + 1 * (y 1).val = (y 1).val; rw [h]; show 0 * 128 + 1 * (y 1).val = _; omega

theorem blk9 : (iblk m c (9 : Fin 20) t : Vec Ideal S128x384 .bf16) = tri3Tab := by
  funext y
  unfold iblk
  rw [View.read_apply]
  refine (congrFun (V_tri m c) _).trans ?_
  refine congrArg (tri3Tab) (funext fun x => Fin.ext ?_)
  have h := tr9 t
  match x with
  | ⟨0, _⟩ => show cc0_transform_9 (grid0.coords t) 0 * 128 + 1 * (y 0).val = (y 0).val; rw [h]; show 0 * 128 + 1 * (y 0).val = _; omega
  | ⟨1, _⟩ => show cc0_transform_9 (grid0.coords t) 1 * 384 + 1 * (y 1).val = (y 1).val; rw [h]; show 0 * 384 + 1 * (y 1).val = _; omega

theorem blk10 : (iblk m c (10 : Fin 20) t : Vec Ideal S128x1024 .bf16) = qTab := by
  funext y
  unfold iblk
  rw [View.read_apply]
  refine (congrFun (V_q m c) _).trans ?_
  refine congrArg (qTab) (funext fun x => Fin.ext ?_)
  have h := tr10 t
  match x with
  | ⟨0, _⟩ => show cc0_transform_10 (grid0.coords t) 0 * 128 + 1 * (y 0).val = (y 0).val; rw [h]; show 0 * 128 + 1 * (y 0).val = _; omega
  | ⟨1, _⟩ => show cc0_transform_10 (grid0.coords t) 1 * 1024 + 1 * (y 1).val = (y 1).val; rw [h]; show 0 * 1024 + 1 * (y 1).val = _; omega

theorem blk11 : (iblk m c (11 : Fin 20) t : Vec Ideal S128x1024 .bf16) = kTab := by
  funext y
  unfold iblk
  rw [View.read_apply]
  refine (congrFun (V_k m c) _).trans ?_
  refine congrArg (kTab) (funext fun x => Fin.ext ?_)
  have h := tr11 t
  match x with
  | ⟨0, _⟩ => show cc0_transform_11 (grid0.coords t) 0 * 128 + 1 * (y 0).val = (y 0).val; rw [h]; show 0 * 128 + 1 * (y 0).val = _; omega
  | ⟨1, _⟩ => show cc0_transform_11 (grid0.coords t) 1 * 1024 + 1 * (y 1).val = (y 1).val; rw [h]; show 0 * 1024 + 1 * (y 1).val = _; omega

/-- The sequence a block of rows belongs to. -/
def seqOf : Fin 2 := ⟨t.val / 16, by have := (num t).isLt; have e : (num t).val = t.val := rfl; omega⟩

/-- The gates of the sequence a block of rows belongs to. -/
abbrev gatesAt : Fin 128 → ℕ → EReal := gateRow (xA m c) (gA m c) (wtA m c) (fbA m c) (seqOf t)

theorem gates_blk (k : Fin 512) (d : Fin 128) :
    gate (proj (fun e => (iblk m c (0 : Fin 20) t : Vec Ideal S512x1024 .f32) (ix2 k e)) (fun e => (iblk m c (1 : Fin 20) t : Vec Ideal S1x1024 .f32) (ix2 0 e)) (fun e d => (iblk m c (7 : Fin 20) t : Vec Ideal S1024x128 .bf16) (ix2 e d)) d + (iblk m c (8 : Fin 20) t : Vec Ideal S1x128 .f32) (ix2 0 d))
      = gatesAt m c t d (512 * (t.val % 16) + k.val) := by
  simp only [blk0]
  rw [blk1, blk7, blk8]
  have hk : 512 * (t.val % 16) + k.val < 8192 := by omega
  refine Eq.trans ?_ (dif_pos hk).symm
  rw [show seqRow (seqOf t) ⟨512 * (t.val % 16) + k.val, hk⟩ = rowAt (num t) k from row_eq t _ k _]

theorem tri_blk (r : Fin 128) (x : Fin 384) : (iblk m c (9 : Fin 20) t : Vec Ideal S128x384 .bf16) (ix2 r x) = if x.val % 128 ≤ r.val then (1 : EReal) else 0 :=
  (congrFun (blk9 m c t) _).trans (tri3Tab_at r x)

theorem q_blk (x : Fin 128) (D : Fin 1024) : (iblk m c (10 : Fin 20) t : Vec Ideal S128x1024 .bf16) (ix2 x D) = queryTable x D :=
  (congrFun (blk10 m c t) _).trans (qTab_at x D)

theorem k_blk (x : Fin 128) (D : Fin 1024) : (iblk m c (11 : Fin 20) t : Vec Ideal S128x1024 .bf16) (ix2 x D) = keyTable x D :=
  (congrFun (blk11 m c t) _).trans (kTab_at x D)

/-- What the kernel has carried when it starts on a block of rows. -/
abbrev carried (n : ℕ) (hn : n < cfg0.N) : Vec Ideal S1x128 .f32 := (outsAt0 m c n hn).2.2.2.2.2.2.2.2

theorem base_zero (h0 : t.val % 16 = 0) : 512 * (t.val % 16) = 0 := by omega

theorem carry_first (h0 : t.val % 16 = 0) (d : Fin 128) : carried m c t.val t.isLt (ix2 0 d) = cum (gatesAt m c t d) (512 * (t.val % 16) + 512) := by
  simp only [carried, outsAt0_A m c t h0]
  exact carryA_at _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (base_zero t h0) d

theorem carry_next (h0 : ¬t.val % 16 = 0) (hx : ∀ d : Fin 128, carried m c (t.val - 1) (Nat.lt_of_le_of_lt (Nat.sub_le _ _) t.isLt) (ix2 0 d) = cum (gatesAt m c t d) (512 * (t.val % 16))) (d : Fin 128) :
    carried m c t.val t.isLt (ix2 0 d) = cum (gatesAt m c t d) (512 * (t.val % 16) + 512) := by
  simp only [carried, outsAt0_B m c t h0]
  exact carryB_at _ _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) hx d

theorem carry_at : ∀ (n : ℕ) (hn : n < cfg0.N) (d : Fin 128), carried m c n hn (ix2 0 d) = cum (gatesAt m c ⟨n, hn⟩ d) (512 * (n % 16) + 512)
  | 0, hn, d => carry_first m c ⟨0, hn⟩ rfl d
  | n + 1, hn, d => by
    by_cases h0 : (n + 1) % 16 = 0
    · exact carry_first m c ⟨n + 1, hn⟩ h0 d
    · refine carry_next m c ⟨n + 1, hn⟩ h0 (fun d' => ?_) d
      refine (carry_at n (Nat.lt_of_succ_lt hn) d').trans ?_
      have e : seqOf ⟨n, Nat.lt_of_succ_lt hn⟩ = seqOf ⟨n + 1, hn⟩ := Fin.ext (by show n / 16 = (n + 1) / 16; omega)
      unfold gatesAt
      rw [e]
      exact congrArg (cum _) (by show 512 * (n % 16) + 512 = 512 * ((n + 1) % 16); omega)

theorem carried_before (h0 : ¬t.val % 16 = 0) (d : Fin 128) : carried m c (t.val - 1) (Nat.lt_of_le_of_lt (Nat.sub_le _ _) t.isLt) (ix2 0 d) = cum (gatesAt m c t d) (512 * (t.val % 16)) := by
  refine (carry_at m c (t.val - 1) _ d).trans ?_
  have e : seqOf ⟨t.val - 1, Nat.lt_of_le_of_lt (Nat.sub_le _ _) t.isLt⟩ = seqOf t := Fin.ext (by show (t.val - 1) / 16 = t.val / 16; omega)
  unfold gatesAt
  rw [e]
  exact congrArg (cum _) (by omega)

theorem rd15 (A : FVec Ideal S2x16x8192x128 .bf16) (h : Fin 16) (r : Fin 512) (l : Fin 128) :
    (((cfg0.win (15 : Fin 20)).blk t).view.read (Elt Ideal) A : Vec Ideal S1x16x512x128 .bf16) (ix4 0 h r l)
      = A (ix4 (seqOf t) h ⟨512 * (t.val % 16) + r.val, by omega⟩ l) := by
  rw [View.read_apply]
  refine congrArg A (funext fun x => Fin.ext ?_)
  have ht := tr15 t
  match x with
  | ⟨0, _⟩ => show cc0_transform_15 (grid0.coords t) 0 * 1 + 1 * 0 = t.val / 16; rw [ht]; show t.val / 16 * 1 + 1 * 0 = _; omega
  | ⟨1, _⟩ => show cc0_transform_15 (grid0.coords t) 1 * 16 + 1 * h.val = h.val; rw [ht]; show 0 * 16 + 1 * h.val = _; omega
  | ⟨2, _⟩ => show cc0_transform_15 (grid0.coords t) 2 * 512 + 1 * r.val = 512 * (t.val % 16) + r.val; rw [ht]; show t.val % 16 * 512 + 1 * r.val = _; omega
  | ⟨3, _⟩ => show cc0_transform_15 (grid0.coords t) 3 * 128 + 1 * l.val = l.val; rw [ht]; show 0 * 128 + 1 * l.val = _; omega

theorem flushed15_at : (dats m 0 c).flushed (15 : Fin 20) t = ((cfg0.win (15 : Fin 20)).blk t).view.read (Elt Ideal) (queriesOf (xA m c) (gA m c) (wqA m c) (wtA m c) (fbA m c)) := by
  by_cases h0 : t.val % 16 = 0
  · rw [flushed15_A m c t h0]
    have key : ∀ j : S1x16x512x128.Idx, out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (15 : Fin 20)).blk t).view.read (Elt Ideal) (queriesOf (xA m c) (gA m c) (wqA m c) (wtA m c) (fbA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd15]
      refine (A15_at _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (base_zero t h0) (q_blk m c t) h r l).trans ?_
      simp only [blk0]
      rw [blk1, blk4, ← row_eq t _ r _]
      rfl
    exact funext key
  · rw [flushed15_B m c t h0]
    have key : ∀ j : S1x16x512x128.Idx, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (15 : Fin 20)).blk t).view.read (Elt Ideal) (queriesOf (xA m c) (gA m c) (wqA m c) (wtA m c) (fbA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd15]
      refine (B15_at _ _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (carried_before m c t h0) (q_blk m c t) h r l).trans ?_
      simp only [blk0]
      rw [blk1, blk4, ← row_eq t _ r _]
      rfl
    exact funext key

theorem rd16 (A : FVec Ideal S2x16x8192x128 .bf16) (h : Fin 16) (r : Fin 512) (l : Fin 128) :
    (((cfg0.win (16 : Fin 20)).blk t).view.read (Elt Ideal) A : Vec Ideal S1x16x512x128 .bf16) (ix4 0 h r l)
      = A (ix4 (seqOf t) h ⟨512 * (t.val % 16) + r.val, by omega⟩ l) := by
  rw [View.read_apply]
  refine congrArg A (funext fun x => Fin.ext ?_)
  have ht := tr16 t
  match x with
  | ⟨0, _⟩ => show cc0_transform_16 (grid0.coords t) 0 * 1 + 1 * 0 = t.val / 16; rw [ht]; show t.val / 16 * 1 + 1 * 0 = _; omega
  | ⟨1, _⟩ => show cc0_transform_16 (grid0.coords t) 1 * 16 + 1 * h.val = h.val; rw [ht]; show 0 * 16 + 1 * h.val = _; omega
  | ⟨2, _⟩ => show cc0_transform_16 (grid0.coords t) 2 * 512 + 1 * r.val = 512 * (t.val % 16) + r.val; rw [ht]; show t.val % 16 * 512 + 1 * r.val = _; omega
  | ⟨3, _⟩ => show cc0_transform_16 (grid0.coords t) 3 * 128 + 1 * l.val = l.val; rw [ht]; show 0 * 128 + 1 * l.val = _; omega

theorem flushed16_at : (dats m 0 c).flushed (16 : Fin 20) t = ((cfg0.win (16 : Fin 20)).blk t).view.read (Elt Ideal) (keysOf (xA m c) (gA m c) (wkA m c) (wtA m c) (fbA m c)) := by
  by_cases h0 : t.val % 16 = 0
  · rw [flushed16_A m c t h0]
    have key : ∀ j : S1x16x512x128.Idx, out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (16 : Fin 20)).blk t).view.read (Elt Ideal) (keysOf (xA m c) (gA m c) (wkA m c) (wtA m c) (fbA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd16]
      refine (A16_at _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (base_zero t h0) (k_blk m c t) h r l).trans ?_
      simp only [blk0]
      rw [blk1, blk5, ← row_eq t _ r _]
      rfl
    exact funext key
  · rw [flushed16_B m c t h0]
    have key : ∀ j : S1x16x512x128.Idx, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (16 : Fin 20)).blk t).view.read (Elt Ideal) (keysOf (xA m c) (gA m c) (wkA m c) (wtA m c) (fbA m c)) : Vec Ideal S1x16x512x128 .bf16) j := by
      intro j
      obtain ⟨h, r, l, rfl⟩ : ∃ (h : Fin 16) (r : Fin 512) (l : Fin 128), j = ix4 0 h r l :=
        ⟨j 1, j 2, j 3, funext fun x => match x with | 0 => Subsingleton.elim (α := Fin 1) _ _ | 1 => rfl | 2 => rfl | 3 => rfl⟩
      rw [rd16]
      refine (B16_at _ _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (carried_before m c t h0) (k_blk m c t) h r l).trans ?_
      simp only [blk0]
      rw [blk1, blk5, ← row_eq t _ r _]
      rfl
    exact funext key

end

theorem final15 (m : (ℓ : Loc nD τ sig) → Buf (Elt Ideal) ℓ) (c : Dev nD) :
    (dats m 0 c).arrAt (15 : Fin 20) cfg0.N = queriesOf (xA m c) (gA m c) (wqA m c) (wtA m c) (fbA m c) :=
  (dats m 0 c).arrAt_eq_of_cover (15 : Fin 20) _ (fun t _ => flushed15_at m c t) fun i => by
    have h0 : (i 0).val < 2 := (i 0).isLt
    have h1 : (i 1).val < 16 := (i 1).isLt
    have h2 : (i 2).val < 8192 := (i 2).isLt
    have h3 : (i 3).val < 128 := (i 3).isLt
    let t : Fin grid0.N := ⟨16 * (i 0).val + (i 2).val / 512, by rw [points]; omega⟩
    refine ⟨t, flush15 t, ?_⟩
    show i ∈ ((View.whole main_v56_3).slice ((cfg0.win (15 : Fin 20)).rect t)).set
    rw [View.set_slice_whole, Rect.mem_set_unit]
    intro x
    have h := tr15 t
    match x with
    | ⟨0, _⟩ =>
      show cc0_transform_15 (grid0.coords t) 0 * 1 ≤ (i 0).val ∧ (i 0).val < cc0_transform_15 (grid0.coords t) 0 * 1 + 1
      rw [h]
      show (16 * (i 0).val + (i 2).val / 512) / 16 * 1 ≤ (i 0).val ∧ (i 0).val < (16 * (i 0).val + (i 2).val / 512) / 16 * 1 + 1
      omega
    | ⟨1, _⟩ =>
      show cc0_transform_15 (grid0.coords t) 1 * 16 ≤ (i 1).val ∧ (i 1).val < cc0_transform_15 (grid0.coords t) 1 * 16 + 16
      rw [h]
      show 0 * 16 ≤ (i 1).val ∧ (i 1).val < 0 * 16 + 16
      omega
    | ⟨2, _⟩ =>
      show cc0_transform_15 (grid0.coords t) 2 * 512 ≤ (i 2).val ∧ (i 2).val < cc0_transform_15 (grid0.coords t) 2 * 512 + 512
      rw [h]
      show (16 * (i 0).val + (i 2).val / 512) % 16 * 512 ≤ (i 2).val ∧ (i 2).val < (16 * (i 0).val + (i 2).val / 512) % 16 * 512 + 512
      omega
    | ⟨3, _⟩ =>
      show cc0_transform_15 (grid0.coords t) 3 * 128 ≤ (i 3).val ∧ (i 3).val < cc0_transform_15 (grid0.coords t) 3 * 128 + 128
      rw [h]
      show 0 * 128 ≤ (i 3).val ∧ (i 3).val < 0 * 128 + 128
      omega

theorem final16 (m : (ℓ : Loc nD τ sig) → Buf (Elt Ideal) ℓ) (c : Dev nD) :
    (dats m 0 c).arrAt (16 : Fin 20) cfg0.N = keysOf (xA m c) (gA m c) (wkA m c) (wtA m c) (fbA m c) :=
  (dats m 0 c).arrAt_eq_of_cover (16 : Fin 20) _ (fun t _ => flushed16_at m c t) fun i => by
    have h0 : (i 0).val < 2 := (i 0).isLt
    have h1 : (i 1).val < 16 := (i 1).isLt
    have h2 : (i 2).val < 8192 := (i 2).isLt
    have h3 : (i 3).val < 128 := (i 3).isLt
    let t : Fin grid0.N := ⟨16 * (i 0).val + (i 2).val / 512, by rw [points]; omega⟩
    refine ⟨t, flush16 t, ?_⟩
    show i ∈ ((View.whole main_v56_4).slice ((cfg0.win (16 : Fin 20)).rect t)).set
    rw [View.set_slice_whole, Rect.mem_set_unit]
    intro x
    have h := tr16 t
    match x with
    | ⟨0, _⟩ =>
      show cc0_transform_16 (grid0.coords t) 0 * 1 ≤ (i 0).val ∧ (i 0).val < cc0_transform_16 (grid0.coords t) 0 * 1 + 1
      rw [h]
      show (16 * (i 0).val + (i 2).val / 512) / 16 * 1 ≤ (i 0).val ∧ (i 0).val < (16 * (i 0).val + (i 2).val / 512) / 16 * 1 + 1
      omega
    | ⟨1, _⟩ =>
      show cc0_transform_16 (grid0.coords t) 1 * 16 ≤ (i 1).val ∧ (i 1).val < cc0_transform_16 (grid0.coords t) 1 * 16 + 16
      rw [h]
      show 0 * 16 ≤ (i 1).val ∧ (i 1).val < 0 * 16 + 16
      omega
    | ⟨2, _⟩ =>
      show cc0_transform_16 (grid0.coords t) 2 * 512 ≤ (i 2).val ∧ (i 2).val < cc0_transform_16 (grid0.coords t) 2 * 512 + 512
      rw [h]
      show (16 * (i 0).val + (i 2).val / 512) % 16 * 512 ≤ (i 2).val ∧ (i 2).val < (16 * (i 0).val + (i 2).val / 512) % 16 * 512 + 512
      omega
    | ⟨3, _⟩ =>
      show cc0_transform_16 (grid0.coords t) 3 * 128 ≤ (i 3).val ∧ (i 3).val < cc0_transform_16 (grid0.coords t) 3 * 128 + 128
      rw [h]
      show 0 * 128 ≤ (i 3).val ∧ (i 3).val < 0 * 128 + 128
      omega

end Cert.Project
-- ==== Proof.Project.Norms.lean ====
/-
  The statistics of a block of rows: the largest squared norm of each head's queries and keys, and the first and the
  last of the cumulated gates.
-/
module

public import proofs.«01_k».proof.Proof.Project.Loads
public import proofs.«01_k».proof.Proof.Project.Tables

@[expose] public section

set_option maxRecDepth 65536

noncomputable section

namespace Cert.Project

open Cert.Kernel3Ideal Cert.Kernel3Ideal.Gen
open Idealize.ShloMosaic

/-- The greatest of a row of numbers. -/
def largest {n : ℕ} (f : Fin n → EReal) : EReal := Finset.univ.fold max ⊥ f

theorem bottom : Ideal.ofBits .f32 0xFF800000#32 = ⊥ := by
  simp [Ideal.ofBits, Ideal.ieee]

/-- The squared norms of the lanes that a mask keeps, and the largest of them in every lane. -/
def maskedTop (M : IVec S512x128 1) (sq : FVec Ideal S512x128 .f32) : FVec Ideal S1x128 .f32 :=
  broadcastTo S1x128 (shapeCast S1x1 (shapeCast S1x1 (multiReduction .maximumf [0] S1 (shapeCast S512x1 (multiReduction .add [1] S512
    (select M sq (broadcast S512x128 (Scalar.ofBits (F := Ideal) .f32 0x00000000#32))) 0x00000000#32 reduces_S512x128_S512 (.inl rfl) rfl)
    shapeCasts_S512_S512x1) 0xFF800000#32 reduces_S512x1_S1 (.inl rfl) rfl) shapeCasts_S1_S1x1) shapeCasts_S1x1_S1x1) broadcasts_S1x1_S1x128

/-- The lanes of a register, numbered. -/
abbrev laneIx : IVec S1x128 32 := iota .tc S1x128 32 [1] iota_S1x128_d1_w32

/-- A pair of heads' norms, written into the pair's two lanes. -/
def pairNorms (n n' : BitVec 32) (sq : FVec Ideal S512x128 .f32) (prev : FVec Ideal S1x128 .f32) : FVec Ideal S1x128 .f32 :=
  select (cmpi .eq laneIx (broadcast S1x128 n')) (maskedTop (xori k0_pay34 (constantI S512x128 1 1#1)) sq)
    (select (cmpi .eq laneIx (broadcast S1x128 n)) (maskedTop k0_pay34 sq) prev)

/-- The squares of a pair's 128 columns. -/
def squares (p : FVec Ideal S512x512 .f32) (o : ℕ) (hs : S512x512.Slices ![0, o] S512x128) : FVec Ideal S512x128 .f32 :=
  mulf (extractStridedSlice S512x128 ![0, o] p hs) (extractStridedSlice S512x128 ![0, o] p hs)

/-- The norms of 16 heads, from the projection's two halves. -/
def allNorms (p q : FVec Ideal S512x512 .f32) : FVec Ideal S1x128 .f32 :=
  pairNorms 14#32 15#32 (squares q 384 slices_S512x512_o0_384_S512x128) <|
  pairNorms 12#32 13#32 (squares q 256 slices_S512x512_o0_256_S512x128) <|
  pairNorms 10#32 11#32 (squares q 128 slices_S512x512_o0_128_S512x128) <|
  pairNorms 8#32 9#32 (squares q 0 slices_S512x512_o0_0_S512x128) <|
  pairNorms 6#32 7#32 (squares p 384 slices_S512x512_o0_384_S512x128) <|
  pairNorms 4#32 5#32 (squares p 256 slices_S512x512_o0_256_S512x128) <|
  pairNorms 2#32 3#32 (squares p 128 slices_S512x512_o0_128_S512x128) <|
  pairNorms 0#32 1#32 (squares p 0 slices_S512x512_o0_0_S512x128) (broadcast S1x128 (Scalar.ofBits (F := Ideal) .f32 0x00000000#32))

theorem maskedTop_at (M : IVec S512x128 1) (sq : FVec Ideal S512x128 .f32) (l : Fin 128) (p : Fin 128 → Prop) [DecidablePred p]
    (hM : ∀ (r : Fin 512) (x : Fin 128), M (ix2 r x) = BitVec.ofBool (decide (p x))) :
    maskedTop M sq (ix2 0 l) = largest fun r => ∑ x : Fin 128, if p x then sq (ix2 r x) else 0 := by
  pointwise [maskedTop, bottom]
  simp only [hM, sel]
  rfl

theorem low_mask (r : Fin 512) (x : Fin 128) : k0_pay34 (ix2 r x) = BitVec.ofBool (decide (x.val < 64)) := by
  pointwise [k0_pay34]
  exact low_word x

theorem high_mask (r : Fin 512) (x : Fin 128) : xori k0_pay34 (constantI S512x128 1 1#1) (ix2 r x) = BitVec.ofBool (decide (64 ≤ x.val)) := by
  refine Eq.trans (b := k0_pay34 (ix2 r x) ^^^ 1#1) rfl ?_
  rw [low_mask]
  by_cases h : x.val < 64
  · rw [decide_eq_true h, decide_eq_false (by omega)]; rfl
  · rw [decide_eq_false h, decide_eq_true (by omega)]; rfl

theorem low_sum (f : Fin 128 → EReal) : (∑ x : Fin 128, if x.val < 64 then f x else 0) = ∑ x : Fin 64, f ⟨x.val, by omega⟩ := by
  refine (Fin.sum_univ_add (a := 64) (b := 64) _).trans ?_
  refine Eq.trans (congrArg₂ (· + ·) (Finset.sum_congr rfl fun x _ => if_pos ?_) (Finset.sum_eq_zero fun x _ => if_neg ?_)) (add_zero _)
  · exact x.isLt
  · show ¬64 + x.val < 64; omega

theorem high_sum (f : Fin 128 → EReal) : (∑ x : Fin 128, if 64 ≤ x.val then f x else 0) = ∑ x : Fin 64, f ⟨64 + x.val, by omega⟩ := by
  refine (Fin.sum_univ_add (a := 64) (b := 64) _).trans ?_
  refine Eq.trans (congrArg₂ (· + ·) (Finset.sum_eq_zero fun x _ => if_neg ?_) (Finset.sum_congr rfl fun x _ => if_pos ?_)) (zero_add _)
  · show ¬64 ≤ x.val; omega
  · show 64 ≤ 64 + x.val; omega

theorem pairNorms_at (n : ℕ) (hn : n + 1 < 128) (sq : FVec Ideal S512x128 .f32) (prev : FVec Ideal S1x128 .f32) (l : Fin 128) :
    pairNorms (BitVec.ofNat 32 n) (BitVec.ofNat 32 (n + 1)) sq prev (ix2 0 l)
      = if l.val = n + 1 then largest (fun r => ∑ x : Fin 64, sq (ix2 r ⟨64 + x.val, by omega⟩))
        else if l.val = n then largest (fun r => ∑ x : Fin 64, sq (ix2 r ⟨x.val, by omega⟩)) else prev (ix2 0 l) := by
  have hl := l.isLt
  have h1 := maskedTop_at k0_pay34 sq l (fun x => x.val < 64) low_mask
  have h2 := maskedTop_at (xori k0_pay34 (constantI S512x128 1 1#1)) sq l (fun x => 64 ≤ x.val) high_mask
  simp only [low_sum] at h1
  simp only [high_sum] at h2
  rw [← h1, ← h2]
  unfold pairNorms
  generalize maskedTop k0_pay34 sq = a
  generalize maskedTop (xori k0_pay34 (constantI S512x128 1 1#1)) sq = b
  pointwise []
  rw [eq_word _ _ (by omega) (by omega), eq_word _ _ (by omega) (by omega), sel, sel]

/-- The largest squared norm of every head's rows, a head to a lane. -/
def normsRow (V : Fin 512 → Fin 1024 → EReal) (l : Fin 128) : EReal :=
  if h : l.val < 16 then largest (fun r => ∑ x : Fin 64, V r ⟨64 * l.val + x.val, by omega⟩ * V r ⟨64 * l.val + x.val, by omega⟩) else 0

theorem squares_at (p : FVec Ideal S512x512 .f32) (o : ℕ) (ho : o + 128 ≤ 512) (hs : S512x512.Slices ![0, o] S512x128) (r : Fin 512) (x : Fin 128) :
    squares p o hs (ix2 r x) = p (ix2 r ⟨o + x.val, by omega⟩) * p (ix2 r ⟨o + x.val, by omega⟩) := by
  pointwise [squares]

theorem allNorms_at (p q : FVec Ideal S512x512 .f32) (V : Fin 512 → Fin 1024 → EReal) (hp : ∀ r d : Fin 512, p (ix2 r d) = V r ⟨d.val, by omega⟩)
    (hq : ∀ r d : Fin 512, q (ix2 r d) = V r ⟨512 + d.val, by omega⟩) (l : Fin 128) : allNorms p q (ix2 0 l) = normsRow V l := by
  unfold allNorms
  have z : broadcast S1x128 (Scalar.ofBits (F := Ideal) .f32 0x00000000#32) (ix2 0 l) = 0 := by pointwise []
  rw [pairNorms_at 14 (by decide), pairNorms_at 12 (by decide), pairNorms_at 10 (by decide), pairNorms_at 8 (by decide),
    pairNorms_at 6 (by decide), pairNorms_at 4 (by decide), pairNorms_at 2 (by decide), pairNorms_at 0 (by decide), z]
  unfold normsRow
  by_cases h : l.val < 16
  · rw [dif_pos h]
    obtain ⟨l, hl⟩ := l
    simp only [squares_at _ _ (show 384 + 128 ≤ 512 by decide), squares_at _ _ (show 256 + 128 ≤ 512 by decide), squares_at _ _ (show 128 + 128 ≤ 512 by decide), squares_at _ _ (show 0 + 128 ≤ 512 by decide), hp, hq]
    have key : ∀ (a b : Fin 64 → Fin 1024), (∀ x, a x = b x) → largest (fun r => ∑ x, V r (a x) * V r (a x)) = largest (fun r => ∑ x, V r (b x) * V r (b x)) := by
      intro a b h
      rw [funext h]
    simp only at h
    interval_cases l <;> simp (decide := true) only [if_true, if_false, Nat.reduceAdd, Nat.reduceEqDiff, ↓reduceIte] <;> exact key _ _ fun x => Fin.ext (by simp only; omega)
  · rw [dif_neg h]
    rw [if_neg (by omega), if_neg (by omega), if_neg (by omega), if_neg (by omega), if_neg (by omega), if_neg (by omega), if_neg (by omega), if_neg (by omega),
      if_neg (by omega), if_neg (by omega), if_neg (by omega), if_neg (by omega), if_neg (by omega), if_neg (by omega), if_neg (by omega), if_neg (by omega)]

/-- The eight rows of a block's statistics. -/
def statRows (a b c d : Fin 128 → EReal) (r : Fin 8) (l : Fin 128) : EReal :=
  if r.val = 0 then a l else if r.val = 1 then b l else if r.val = 2 then c l else if r.val = 3 then d l else 0

theorem pay2_at (c d a b : FVec Ideal S1x128 .f32) (r : Fin 8) (l : Fin 128) :
    k0_pay2 c d a b (ix3 0 r l) = statRows (fun l => a (ix2 0 l)) (fun l => b (ix2 0 l)) (fun l => c (ix2 0 l)) (fun l => d (ix2 0 l) * toBase2) r l := by
  pointwise [k0_pay2]
  unfold statRows
  fin_cases r <;> rfl

theorem first_at (tri : FVec Ideal S128x384 .bf16) (car b : FVec Ideal S1x128 .f32) (z : FVec Ideal S128x128 .f32) (d : Fin 128) (c : EReal)
    (hc : k0_pay15 (F := Ideal) tri car z b (ix2 0 d) = c) : k0_pay17 (F := Ideal) tri car z b (ix2 0 d) = c * toBase2 := by
  unfold k0_pay17
  generalize k0_pay15 (F := Ideal) tri car z b = C at hc
  pointwise []
  exact congrArg (· * toBase2) hc

/-- The block is stored whole. -/
theorem stats_hit (v : View sig .tc .vmem S1x8x128 .f32) (f : v.ty.Contents (Elt Ideal)) (inb : ∀ a, (![0, 0, 0] : Fin 3 → ℕ) a + S1x8x128.size a ≤ S1x8x128.size a)
    (P : Vec Ideal S1x8x128 .f32) (L : List (View.Piece (Elt Ideal) S1x8x128 .f32)) (r : Fin 8) (l : Fin 128) :
    v.read (Elt Ideal) (v.writes (Elt Ideal) f (⟨Rect.unit (s := S1x8x128) ![0, 0, 0] S1x8x128.size inb, P⟩ :: L)) (ix3 0 r l) = P (ix3 0 r l) :=
  View.read_writes_cons_unit_of_mem v f inb P L _ (ix3 0 r l) rfl (fun a => by
    match a with
    | 0 => rfl
    | 1 => exact (Nat.zero_add _).symm
    | 2 => exact (Nat.zero_add _).symm)

end Cert.Project
-- ==== Proof.Project.StatsA.lean ====
/-
  The statistics that the grid points at the start of a sequence leave.
-/
module

public import proofs.«01_k».proof.Proof.Project.Norms
public import proofs.«01_k».proof.Proof.Project.QueriesA

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16)

theorem queryNormsA : kernelRun0_A.sl.r_40 (F := Ideal) c arg2 harg2 arg3 harg3 arg6 harg6 x0 x1 x4 = allNorms (kernelRun0_A.sl.r_17 (F := Ideal) c arg2 harg2 arg3 harg3 arg6 harg6 x0 x1 x4) (kernelRun0_A.sl.r_29 (F := Ideal) c arg2 harg2 arg3 harg3 arg6 harg6 x0 x1 x4) := rfl

theorem keyNormsA : kernelRun0_A.sl.r_59 (F := Ideal) c arg2 harg2 arg3 harg3 arg7 harg7 x0 x1 x5 = allNorms (kernelRun0_A.sl.r_41 (F := Ideal) c arg2 harg2 arg3 harg3 arg7 harg7 x0 x1 x5) (kernelRun0_A.sl.r_52 (F := Ideal) c arg2 harg2 arg3 harg3 arg7 harg7 x0 x1 x5) := rfl

theorem queryNormsA_at (l : Fin 128) :
    kernelRun0_A.sl.r_40 (F := Ideal) c arg2 harg2 arg3 harg3 arg6 harg6 x0 x1 x4 (ix2 0 l) = normsRow (fun r d => proj (fun e => x0 (ix2 r e)) (fun e => x1 (ix2 0 e)) (fun e d => x4 (ix2 e d)) d * qScale) l := by
  rw [queryNormsA]
  exact allNorms_at _ _ _ (fun r d => qcols arg2 harg2 arg3 harg3 arg6 harg6 x0 x1 x4 _ _ 0 _ r d _ (Nat.zero_add _).symm)
    (fun r d => qcols arg2 harg2 arg3 harg3 arg6 harg6 x0 x1 x4 _ _ 512 _ r d _ rfl) l

theorem keyNormsA_at (l : Fin 128) :
    kernelRun0_A.sl.r_59 (F := Ideal) c arg2 harg2 arg3 harg3 arg7 harg7 x0 x1 x5 (ix2 0 l) = normsRow (fun r d => proj (fun e => x0 (ix2 r e)) (fun e => x1 (ix2 0 e)) (fun e d => x5 (ix2 e d)) d) l := by
  rw [keyNormsA]
  exact allNorms_at _ _ _ (fun r d => cols (W := 1024) arg2 harg2 arg3 harg3 arg7 harg7 x0 x1 x5 _ _ 0 _ r d _ (Nat.zero_add _).symm)
    (fun r d => cols (W := 1024) arg2 harg2 arg3 harg3 arg7 harg7 x0 x1 x5 _ _ 512 _ r d _ rfl) l

variable (hT : ∀ (r : Fin 128) (x : Fin 384), x9 (ix2 r x) = if x.val % 128 ≤ r.val then 1 else 0) (G : Fin 128 → ℕ → EReal) (base : ℕ)
  (hz : ∀ (k : Fin 512) (d : Fin 128), gate (proj (fun e => x0 (ix2 k e)) (fun e => x1 (ix2 0 e)) (fun e d => x7 (ix2 e d)) d + x8 (ix2 0 d)) = G d (base + k.val))
  (hb : base = 0)

include hT hz hb in
theorem A19_at (r : Fin 8) (l : Fin 128) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 (ix3 0 r l)
      = statRows (normsRow (fun r d => proj (fun e => x0 (ix2 r e)) (fun e => x1 (ix2 0 e)) (fun e d => x4 (ix2 e d)) d * qScale)) (normsRow (fun r d => proj (fun e => x0 (ix2 r e)) (fun e => x1 (ix2 0 e)) (fun e d => x5 (ix2 e d)) d)) (fun d => cum (G d) (base + 1) * toBase2) (fun d => cum (G d) (base + 512) * toBase2) r l := by
  unfold out0_A_19 kernelRun0_A
  dsimp only
  refine (stats_hit _ _ _ _ _ r l).trans ((pay2_at _ _ _ _ r l).trans ?_)
  have e1 := funext (queryNormsA_at c arg2 harg2 arg3 harg3 arg6 harg6 x0 x1 x4)
  have e2 := funext (keyNormsA_at c arg2 harg2 arg3 harg3 arg7 harg7 x0 x1 x5)
  have e3 := fun d => first_at (kernelRun0_A.sl.r_2 (F := Ideal) c arg11 harg11 x9) (kernelRun0_A.sl.v52 (F := Ideal) c arg22) (View.readAt (Elt Ideal) arg10.view (Rect.unit (s := S1x128) ![0, 0] S1x128.size inb_S1x128_S1x128_0_0).toLoadRect (harg10.unread x8)) (k0_pay14 (kernelRun0_A.sl.r_1 (F := Ideal) c arg2 harg2 arg3 harg3 arg9 harg9 x0 x1 x7)) d _ (cum1 (kernelRun0_A.sl.r_1 (F := Ideal) c arg2 harg2 arg3 harg3 arg9 harg9 x0 x1 x7) (kernelRun0_A.sl.r_2 (F := Ideal) c arg11 harg11 x9) (kernelRun0_A.sl.v52 (F := Ideal) c arg22) (View.readAt (Elt Ideal) arg10.view (Rect.unit (s := S1x128) ![0, 0] S1x128.size inb_S1x128_S1x128_0_0).toLoadRect (harg10.unread x8)) (triA c arg11 harg11 x9 hT) (fun d => x8 (ix2 0 d)) (gateA arg10 harg10 x8) G base (fun k d => (congrArg (fun z => gate (z + x8 (ix2 0 d))) (tailA c arg2 harg2 arg3 harg3 arg9 harg9 x0 x1 x7 k d)).trans (hz k d)) (fun d => (startA c arg22 d).trans (by rw [hb]; rfl)) 0 d)
  have e4 := fun d => (last_at _ d).trans (cum4 (kernelRun0_A.sl.r_1 (F := Ideal) c arg2 harg2 arg3 harg3 arg9 harg9 x0 x1 x7) (kernelRun0_A.sl.r_2 (F := Ideal) c arg11 harg11 x9) (kernelRun0_A.sl.v52 (F := Ideal) c arg22) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triA c arg11 harg11 x9 hT) (fun d => x8 (ix2 0 d)) (gateA arg10 harg10 x8) (gateA arg10 harg10 x8) (gateA arg10 harg10 x8) (gateA arg10 harg10 x8) G base (fun k d => (congrArg (fun z => gate (z + x8 (ix2 0 d))) (tailA c arg2 harg2 arg3 harg3 arg9 harg9 x0 x1 x7 k d)).trans (hz k d)) (fun d => (startA c arg22 d).trans (by rw [hb]; rfl)) 127 d)
  refine Eq.trans (congrArg₂ (fun a b => statRows a b _ _ r l) e1 e2) (congrArg₂ (fun a b => statRows _ _ a b r l) (funext e3) (funext fun d => congrArg (· * toBase2) (e4 d)))

end

end Cert.Project
-- ==== Proof.Project.StatsB.lean ====
/-
  The statistics that the grid points at the later steps of a sequence leave.
-/
module

public import proofs.«01_k».proof.Proof.Project.Norms
public import proofs.«01_k».proof.Proof.Project.QueriesB

@[expose] public section

set_option maxRecDepth 65536

noncomputable section

namespace Cert.Project

open Cert.Kernel3Ideal Cert.Kernel3Ideal.Gen
open Idealize.ShloMosaic Idealize.ShloMosaic.TcCoe

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S128x384 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x1024 .bf16) (harg16 : arg16.IsWhole) (arg17 : Memref sig .tc .vmem S1x16x512x128 .bf16) (harg17 : arg17.IsWhole) (arg18 : Memref sig .tc .vmem S1x16x512x128 .bf16) (harg18 : arg18.IsWhole) (arg19 : Memref sig .tc .vmem S1x16x512x128 .bf16) (harg19 : arg19.IsWhole) (arg20 : Memref sig .tc .vmem S512x128 .f32) (harg20 : arg20.IsWhole) (arg21 : Memref sig .tc .vmem S1x8x128 .f32) (harg21 : arg21.IsWhole) (arg22 : Memref sig .tc .vmem S1x128 .f32) (harg22 : arg22.IsWhole) (hc0 : ¬cond0_0 i)
    (x0 : Vec Ideal S512x1024 .f32) (x1 : Vec Ideal S1x1024 .f32) (x2 : Vec Ideal S1024x2560 .bf16) (x3 : Vec Ideal S1024x1024 .bf16) (x4 : Vec Ideal S1024x1024 .bf16) (x5 : Vec Ideal S1024x1024 .bf16) (x6 : Vec Ideal S1024x1024 .bf16) (x7 : Vec Ideal S1024x128 .bf16) (x8 : Vec Ideal S1x128 .f32) (x9 : Vec Ideal S128x384 .bf16) (x10 : Vec Ideal S128x1024 .bf16) (x11 : Vec Ideal S128x1024 .bf16) (xs0 : Vec Ideal S1x128 .f32)

theorem queryNormsB : kernelRun0_B.sl.r_41 (F := Ideal) c arg2 harg2 arg3 harg3 arg6 harg6 x0 x1 x4 = allNorms (kernelRun0_B.sl.r_18 (F := Ideal) c arg2 harg2 arg3 harg3 arg6 harg6 x0 x1 x4) (kernelRun0_B.sl.r_30 (F := Ideal) c arg2 harg2 arg3 harg3 arg6 harg6 x0 x1 x4) := rfl

theorem keyNormsB : kernelRun0_B.sl.r_60 (F := Ideal) c arg2 harg2 arg3 harg3 arg7 harg7 x0 x1 x5 = allNorms (kernelRun0_B.sl.r_42 (F := Ideal) c arg2 harg2 arg3 harg3 arg7 harg7 x0 x1 x5) (kernelRun0_B.sl.r_53 (F := Ideal) c arg2 harg2 arg3 harg3 arg7 harg7 x0 x1 x5) := rfl

theorem queryNormsB_at (l : Fin 128) :
    kernelRun0_B.sl.r_41 (F := Ideal) c arg2 harg2 arg3 harg3 arg6 harg6 x0 x1 x4 (ix2 0 l) = normsRow (fun r d => proj (fun e => x0 (ix2 r e)) (fun e => x1 (ix2 0 e)) (fun e d => x4 (ix2 e d)) d * qScale) l := by
  rw [queryNormsB]
  exact allNorms_at _ _ _ (fun r d => qcols arg2 harg2 arg3 harg3 arg6 harg6 x0 x1 x4 _ _ 0 _ r d _ (Nat.zero_add _).symm)
    (fun r d => qcols arg2 harg2 arg3 harg3 arg6 harg6 x0 x1 x4 _ _ 512 _ r d _ rfl) l

theorem keyNormsB_at (l : Fin 128) :
    kernelRun0_B.sl.r_60 (F := Ideal) c arg2 harg2 arg3 harg3 arg7 harg7 x0 x1 x5 (ix2 0 l) = normsRow (fun r d => proj (fun e => x0 (ix2 r e)) (fun e => x1 (ix2 0 e)) (fun e d => x5 (ix2 e d)) d) l := by
  rw [keyNormsB]
  exact allNorms_at _ _ _ (fun r d => cols (W := 1024) arg2 harg2 arg3 harg3 arg7 harg7 x0 x1 x5 _ _ 0 _ r d _ (Nat.zero_add _).symm)
    (fun r d => cols (W := 1024) arg2 harg2 arg3 harg3 arg7 harg7 x0 x1 x5 _ _ 512 _ r d _ rfl) l

variable (hT : ∀ (r : Fin 128) (x : Fin 384), x9 (ix2 r x) = if x.val % 128 ≤ r.val then 1 else 0) (G : Fin 128 → ℕ → EReal) (base : ℕ)
  (hz : ∀ (k : Fin 512) (d : Fin 128), gate (proj (fun e => x0 (ix2 k e)) (fun e => x1 (ix2 0 e)) (fun e d => x7 (ix2 e d)) d + x8 (ix2 0 d)) = G d (base + k.val))
  (hx : ∀ d, xs0 (ix2 0 d) = cum (G d) base)

include hT hz hx in
theorem B19_at (r : Fin 8) (l : Fin 128) :
    out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0 (ix3 0 r l)
      = statRows (normsRow (fun r d => proj (fun e => x0 (ix2 r e)) (fun e => x1 (ix2 0 e)) (fun e d => x4 (ix2 e d)) d * qScale)) (normsRow (fun r d => proj (fun e => x0 (ix2 r e)) (fun e => x1 (ix2 0 e)) (fun e d => x5 (ix2 e d)) d)) (fun d => cum (G d) (base + 1) * toBase2) (fun d => cum (G d) (base + 512) * toBase2) r l := by
  unfold out0_B_19 kernelRun0_B
  dsimp only
  refine (stats_hit _ _ _ _ _ r l).trans ((pay2_at _ _ _ _ r l).trans ?_)
  have e1 := funext (queryNormsB_at c arg2 harg2 arg3 harg3 arg6 harg6 x0 x1 x4)
  have e2 := funext (keyNormsB_at c arg2 harg2 arg3 harg3 arg7 harg7 x0 x1 x5)
  have e3 := fun d => first_at (kernelRun0_B.sl.r_2 (F := Ideal) c arg11 harg11 x9) (kernelRun0_B.sl.r_3 (F := Ideal) c arg22 harg22 xs0) (View.readAt (Elt Ideal) arg10.view (Rect.unit (s := S1x128) ![0, 0] S1x128.size inb_S1x128_S1x128_0_0).toLoadRect (harg10.unread x8)) (k0_pay14 (kernelRun0_B.sl.r_1 (F := Ideal) c arg2 harg2 arg3 harg3 arg9 harg9 x0 x1 x7)) d _ (cum1 (kernelRun0_B.sl.r_1 (F := Ideal) c arg2 harg2 arg3 harg3 arg9 harg9 x0 x1 x7) (kernelRun0_B.sl.r_2 (F := Ideal) c arg11 harg11 x9) (kernelRun0_B.sl.r_3 (F := Ideal) c arg22 harg22 xs0) (View.readAt (Elt Ideal) arg10.view (Rect.unit (s := S1x128) ![0, 0] S1x128.size inb_S1x128_S1x128_0_0).toLoadRect (harg10.unread x8)) (triB c arg11 harg11 x9 hT) (fun d => x8 (ix2 0 d)) (gateB arg10 harg10 x8) G base (fun k d => (congrArg (fun z => gate (z + x8 (ix2 0 d))) (tailB c arg2 harg2 arg3 harg3 arg9 harg9 x0 x1 x7 k d)).trans (hz k d)) (fun d => (startB c arg22 harg22 xs0 d).trans (hx d)) 0 d)
  have e4 := fun d => (last_at _ d).trans (cum4 (kernelRun0_B.sl.r_1 (F := Ideal) c arg2 harg2 arg3 harg3 arg9 harg9 x0 x1 x7) (kernelRun0_B.sl.r_2 (F := Ideal) c arg11 harg11 x9) (kernelRun0_B.sl.r_3 (F := Ideal) c arg22 harg22 xs0) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (View.readAt (Elt Ideal) arg10.view (Rect.unit (s := S1x128) ![0, 0] S1x128.size inb_S1x128_S1x128_0_0).toLoadRect (harg10.unread x8)) (triB c arg11 harg11 x9 hT) (fun d => x8 (ix2 0 d)) (gateB arg10 harg10 x8) (gateB arg10 harg10 x8) (gateB arg10 harg10 x8) (gateB arg10 harg10 x8) G base (fun k d => (congrArg (fun z => gate (z + x8 (ix2 0 d))) (tailB c arg2 harg2 arg3 harg3 arg9 harg9 x0 x1 x7 k d)).trans (hz k d)) (fun d => (startB c arg22 harg22 xs0 d).trans (hx d)) 127 d)
  refine Eq.trans (congrArg₂ (fun a b => statRows a b _ _ r l) e1 e2) (congrArg₂ (fun a b => statRows _ _ a b r l) (funext e3) (funext fun d => congrArg (· * toBase2) (e4 d)))

end

end Cert.Project
-- ==== Proof.Project.StatArray.lean ====
/-
  The array of statistics that the input projections leave.
-/
module

public import proofs.«01_k».proof.Proof.Project.Lanes
public import proofs.«01_k».proof.Proof.Project.StatsA
public import proofs.«01_k».proof.Proof.Project.StatsB

@[expose] public section

set_option maxRecDepth 16384

noncomputable section

namespace Cert.Project

open Cert.Kernel3Ideal Cert.Kernel3Ideal.Gen Cert.Kernel3Ideal.Value
open Idealize.ShloMosaic Idealize.ShloMosaic.TcCoe Idealize.SL.Sem
open Idealize.ShloMosaic.Pipeline (Dat Cfg Window)

/-- The sequence of a block of rows. -/
def blockSeq (n : Fin 32) : Fin 2 := ⟨n.val / 16, by omega⟩

/-- The statistics of every block of rows: the largest squared norms of the queries and of the keys, the first and the
    last of the cumulated gates. -/
def statsOf (x : FVec Ideal S16384x1024 .f32) (g : FVec Ideal S1x1024 .f32) (wq wk : FVec Ideal S1024x1024 .bf16) (w : FVec Ideal S1024x128 .bf16) (fb : FVec Ideal S1x128 .f32) :
    FVec Ideal S32x8x128 .f32 := fun i =>
  statRows (normsRow (fun r d => proj (fun e => x (ix2 (rowAt (i 0) r) e)) (fun e => g (ix2 0 e)) (fun e d => wq (ix2 e d)) d * qScale))
    (normsRow (fun r d => proj (fun e => x (ix2 (rowAt (i 0) r) e)) (fun e => g (ix2 0 e)) (fun e d => wk (ix2 e d)) d))
    (fun d => cum (gateRow x g w fb (blockSeq (i 0)) d) (512 * ((i 0).val % 16) + 1) * toBase2)
    (fun d => cum (gateRow x g w fb (blockSeq (i 0)) d) (512 * ((i 0).val % 16) + 512) * toBase2) (i 1) (i 2)

theorem tr19 : ∀ t : Fin grid0.N, cc0_transform_19 (grid0.coords t) = ![t.val, 0, 0] := by decide +kernel
theorem flush19 : ∀ t : Fin grid0.N, Window.flushOf grid0 true cc0_transform_19 t = true := by decide +kernel

section
variable (m : (ℓ : Loc nD τ sig) → Buf (Elt Ideal) ℓ) (c : Dev nD) (t : Fin cfg0.N)

theorem rd19 (A : FVec Ideal S32x8x128 .f32) (r : Fin 8) (l : Fin 128) :
    (((cfg0.win (19 : Fin 20)).blk t).view.read (Elt Ideal) A : Vec Ideal S1x8x128 .f32) (ix3 0 r l) = A (ix3 (num t) r l) := by
  rw [View.read_apply]
  refine congrArg A (funext fun x => Fin.ext ?_)
  have ht := tr19 t
  match x with
  | ⟨0, _⟩ => show cc0_transform_19 (grid0.coords t) 0 * 1 + 1 * 0 = t.val; rw [ht]; show t.val * 1 + 1 * 0 = _; omega
  | ⟨1, _⟩ => show cc0_transform_19 (grid0.coords t) 1 * 8 + 1 * r.val = r.val; rw [ht]; show 0 * 8 + 1 * r.val = _; omega
  | ⟨2, _⟩ => show cc0_transform_19 (grid0.coords t) 2 * 128 + 1 * l.val = l.val; rw [ht]; show 0 * 128 + 1 * l.val = _; omega

theorem flushed19_at : (dats m 0 c).flushed (19 : Fin 20) t = ((cfg0.win (19 : Fin 20)).blk t).view.read (Elt Ideal) (statsOf (xA m c) (gA m c) (wqA m c) (wkA m c) (wtA m c) (fbA m c)) := by
  by_cases h0 : t.val % 16 = 0
  · rw [flushed19_A m c t h0]
    have key : ∀ j : S1x8x128.Idx, out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
        = (((cfg0.win (19 : Fin 20)).blk t).view.read (Elt Ideal) (statsOf (xA m c) (gA m c) (wqA m c) (wkA m c) (wtA m c) (fbA m c)) : Vec Ideal S1x8x128 .f32) j := by
      intro j
      obtain ⟨r, l, rfl⟩ : ∃ (r : Fin 8) (l : Fin 128), j = ix3 0 r l :=
        ⟨j 1, j 2, funext fun x => match x with | 0 => Subsingleton.elim (α := Fin 1) _ _ | 1 => rfl | 2 => rfl⟩
      rw [rd19]
      refine (A19_at _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (base_zero t h0) r l).trans ?_
      simp only [blk0]
      rw [blk1, blk4, blk5]
      rfl
    exact funext key
  · rw [flushed19_B m c t h0]
    have key : ∀ j : S1x8x128.Idx, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2 j
        = (((cfg0.win (19 : Fin 20)).blk t).view.read (Elt Ideal) (statsOf (xA m c) (gA m c) (wqA m c) (wkA m c) (wtA m c) (fbA m c)) : Vec Ideal S1x8x128 .f32) j := by
      intro j
      obtain ⟨r, l, rfl⟩ : ∃ (r : Fin 8) (l : Fin 128), j = ix3 0 r l :=
        ⟨j 1, j 2, funext fun x => match x with | 0 => Subsingleton.elim (α := Fin 1) _ _ | 1 => rfl | 2 => rfl⟩
      rw [rd19]
      refine (B19_at _ _ _ _ _ _ _ _ _ _ _ _ _ _ _ _ _ _ _ _ _ _ _ _ _ _ _ _ _ _ _ _ _ _ _ _ _ _ _ _ _ _ _ _ _ _ _ _ _ _ _ _ _ _ _ _ _ _ (tri_blk m c t) (gatesAt m c t) (512 * (t.val % 16)) (gates_blk m c t) (carried_before m c t h0) r l).trans ?_
      simp only [blk0]
      rw [blk1, blk4, blk5]
      rfl
    exact funext key

end

theorem final19 (m : (ℓ : Loc nD τ sig) → Buf (Elt Ideal) ℓ) (c : Dev nD) :
    (dats m 0 c).arrAt (19 : Fin 20) cfg0.N = statsOf (xA m c) (gA m c) (wqA m c) (wkA m c) (wtA m c) (fbA m c) :=
  (dats m 0 c).arrAt_eq_of_cover (19 : Fin 20) _ (fun t _ => flushed19_at m c t) fun i => by
    have h0 : (i 0).val < 32 := (i 0).isLt
    have h1 : (i 1).val < 8 := (i 1).isLt
    have h2 : (i 2).val < 128 := (i 2).isLt
    let t : Fin grid0.N := ⟨(i 0).val, by rw [points]; omega⟩
    refine ⟨t, flush19 t, ?_⟩
    show i ∈ ((View.whole main_v56_7).slice ((cfg0.win (19 : Fin 20)).rect t)).set
    rw [View.set_slice_whole, Rect.mem_set_unit]
    intro x
    have h := tr19 t
    match x with
    | ⟨0, _⟩ =>
      show cc0_transform_19 (grid0.coords t) 0 * 1 ≤ (i 0).val ∧ (i 0).val < cc0_transform_19 (grid0.coords t) 0 * 1 + 1
      rw [h]
      show (i 0).val * 1 ≤ (i 0).val ∧ (i 0).val < (i 0).val * 1 + 1
      omega
    | ⟨1, _⟩ =>
      show cc0_transform_19 (grid0.coords t) 1 * 8 ≤ (i 1).val ∧ (i 1).val < cc0_transform_19 (grid0.coords t) 1 * 8 + 8
      rw [h]
      show 0 * 8 ≤ (i 1).val ∧ (i 1).val < 0 * 8 + 8
      omega
    | ⟨2, _⟩ =>
      show cc0_transform_19 (grid0.coords t) 2 * 128 ≤ (i 2).val ∧ (i 2).val < cc0_transform_19 (grid0.coords t) 2 * 128 + 128
      rw [h]
      show 0 * 128 ≤ (i 2).val ∧ (i 2).val < 0 * 128 + 128
      omega

end Cert.Project
-- ==== Proof.Project.RefLanes.lean ====
/-
  The reference's queries and keys, read at an entry.
-/
module

public import proofs.«01_k».proof.Proof.Project.Lanes
public import proofs.«01_k».proof.Proof.Project.Ref

@[expose] public section

set_option maxRecDepth 16384

noncomputable section

namespace Cert.Project

open Cert.Reference3Ideal Cert.Reference3Ideal.Gen Cert.Reference3Ideal.Value
open Idealize.ShloMosaic Idealize.ShloMosaic.TcCoe Idealize.SL.Sem

variable (x : FVec Ideal S16384x1024 .f32) (g : FVec Ideal S1x1024 .f32) (w : FVec Ideal S1024x128 .bf16) (f : FVec Ideal S1x128 .f32)

/-- The tail's columns with their offsets. -/
def refTB : FVec Ideal S16384x128 .f32 := addf (refTail x g w) (broadcastInDim S16384x128 ![0, 1] bcast_S1x128_S16384x128_0_1 f)

theorem refTB_at (r : Fin 16384) (d : Fin 128) :
    refTB x g w f (ix2 r d) = proj (fun e => x (ix2 r e)) (fun e => g (ix2 0 e)) (fun e d => w (ix2 e d)) d + f (ix2 0 d) := by
  pointwise [refTB, refTail_at]

abbrev refZ : FVec Ideal S16384x128 .f32 := broadcastInDim S16384x128 ![] bcast_S_S16384x128 (constant S_ .f32 0x00000000#32)

/-- The reference's gates: the logarithm of a sigmoid. -/
def logSigmoid (z : FVec Ideal S16384x128 .f32) : FVec Ideal S16384x128 .f32 :=
  Host.negf (select (cmpf .une (subf (Host.negf z) refZ) (subf (Host.negf z) refZ)) (addf (Host.negf z) refZ) (addf (maximumf (Host.negf z) refZ) (Host.log1p (Host.exp (Host.negf (Host.absf (subf (Host.negf z) refZ)))))))

theorem logSigmoid_at (z : FVec Ideal S16384x128 .f32) (r : Fin 16384) (d : Fin 128) : logSigmoid z (ix2 r d) = gate (z (ix2 r d)) := by
  pointwise [logSigmoid]
  have e : ∀ a b : EReal, (if -z (ix2 r d) ≠ -z (ix2 r d) then a else b) = b := fun a b => if_neg fun h => h rfl
  rw [e]
  unfold gate
  simp only [zero_sub]
  try rfl

theorem sge_word (a b : ℕ) (ha : a < 2 ^ 31) (hb : b < 2 ^ 31) :
    IntOp.cmpi .sge (BitVec.ofNat 32 a) (BitVec.ofNat 32 b) = BitVec.ofBool (decide (b ≤ a)) := by
  have e : (BitVec.ofNat 32 b).sle (BitVec.ofNat 32 a) = decide (b ≤ a) := by
    rw [BitVec.sle_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact decide_eq_decide.mpr (by omega)
  simp only [IntOp.cmpi, e]

/-- The gates cumulated along a sequence, in units of log 2. -/
def refCum (z : FVec Ideal S16384x128 .f32) : FVec Ideal S2x8192x128 .f32 :=
  mulf (transpose S2x8192x128 [0, 2, 1] (Host.dotGeneral dot_S2x8192x128_S8192x8192_S2x128x8192_1_1_02_0_n_n none (shapeCast _ (logSigmoid z) shapeCasts_S16384x128_S2x8192x128) (uitofp .f32 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) transposes_S2x128x8192_S2x8192x128_0_2_1) (broadcastInDim S2x8192x128 ![] bcast_S_S2x8192x128 (constant S_ .f32 0x3FB8AA3B#32))

theorem refCum_at (z : FVec Ideal S16384x128 .f32) (b : Fin 2) (s : Fin 8192) (d : Fin 128) :
    refCum z (ix3 b s d) = (∑ k : Fin 8192, if k.val ≤ s.val then gate (z (ix2 (seqRow b k) d)) else 0) * toBase2 := by
  pointwise [refCum]
  refine congrArg (· * toBase2) (Finset.sum_congr rfl fun k _ => ?_)
  rw [sge_word _ _ (by omega) (by omega), bit_value, logSigmoid_at]
  have e : (⟨b.val * 8192 + k.val, by omega⟩ : Fin 16384) = seqRow b k := Fin.ext (by show b.val * 8192 + k.val = 8192 * b.val + k.val; omega)
  rw [e]
  by_cases h : k.val ≤ s.val
  · rw [if_pos h, if_pos h]; exact mul_one _
  · rw [if_neg h, if_neg h]; exact mul_zero _

def refPart0 (C : FVec Ideal S2x8192x128 .f32) : FVec Ideal S2x8192x128 .f32 := extf .f32 (truncf .bf16 C bitsLt_bf16_f32) bitsLt_bf16_f32
def refPart1 (C : FVec Ideal S2x8192x128 .f32) : FVec Ideal S2x8192x128 .f32 := extf .f32 (truncf .bf16 (subf C (refPart0 C)) bitsLt_bf16_f32) bitsLt_bf16_f32
def refPart2 (C : FVec Ideal S2x8192x128 .f32) : FVec Ideal S2x8192x128 .f32 := extf .f32 (truncf .bf16 (subf (subf C (refPart0 C)) (refPart1 C)) bitsLt_bf16_f32) bitsLt_bf16_f32

def refParts (C : FVec Ideal S2x8192x128 .f32) : FVec Ideal S2x16x8192x3 .f32 :=
  transpose S2x16x8192x3 [0, 2, 1, 3] (concatenate S2x8192x16x3 3 [⟨S2x8192x16x1, broadcastInDim S2x8192x16x1 ![0, 1, 2] bcast_S2x8192x16_S2x8192x16x1_0_1_2 (extractStridedSlice S2x8192x16 ![0, 0, 16] (refPart0 C) slices_S2x8192x128_S2x8192x16_0_0_16)⟩,
    ⟨S2x8192x16x1, broadcastInDim S2x8192x16x1 ![0, 1, 2] bcast_S2x8192x16_S2x8192x16x1_0_1_2 (extractStridedSlice S2x8192x16 ![0, 0, 32] (refPart1 C) slices_S2x8192x128_S2x8192x16_0_0_32)⟩,
    ⟨S2x8192x16x1, broadcastInDim S2x8192x16x1 ![0, 1, 2] bcast_S2x8192x16_S2x8192x16x1_0_1_2 (extractStridedSlice S2x8192x16 ![0, 0, 48] (refPart2 C) slices_S2x8192x128_S2x8192x16_0_0_48)⟩] concatenates_S2x8192x16x1_S2x8192x16x1_S2x8192x16x1_S2x8192x16x3_d3) transposes_S2x8192x16x3_S2x16x8192x3_0_2_1_3

theorem refParts_at (C : FVec Ideal S2x8192x128 .f32) (b : Fin 2) (h : Fin 16) (s : Fin 8192) (j : Fin 3) :
    refParts C (ix4 b h s j) = part j.val (C (ix3 b s ⟨16 + 16 * j.val + h.val, by omega⟩)) := by
  have p0 : ∀ i, refPart0 C i = C i := fun i => rfl
  have p1 : ∀ i, refPart1 C i = C i - C i := fun i => rfl
  have p2 : ∀ i, refPart2 C i = C i - C i - (C i - C i) := fun i => rfl
  pointwise [refParts]
  rw [p0, p1, p2]
  unfold part
  match j with
  | 0 => rfl
  | 1 => rfl
  | 2 => rfl

abbrev refOnes : FVec Ideal S2x16x8192x3 .f32 := broadcastInDim S2x16x8192x3 ![] bcast_S_S2x16x8192x3 (constant S_ .f32 0x3F800000#32)
theorem refOnes_at (i : S2x16x8192x3.Idx) : refOnes i = (1 : EReal) :=
  Eq.trans (b := Ideal.ofBits .f32 0x3F800000#32) rfl Ideal.ofBits_one_f32

abbrev refRest : FVec Ideal S2x16x8192x58 .f32 := broadcastInDim S2x16x8192x58 ![] bcast_S_S2x16x8192x58 (constant S_ .f32 0x00000000#32)

def refSix (a b : FVec Ideal S2x16x8192x3 .f32) : FVec Ideal S2x16x8192x64 .f32 :=
  concatenate S2x16x8192x64 3 [⟨S2x16x8192x3, a⟩, ⟨S2x16x8192x3, b⟩, ⟨S2x16x8192x58, refRest⟩] concatenates_S2x16x8192x3_S2x16x8192x3_S2x16x8192x58_S2x16x8192x64_d3

theorem refSix_at (p q : FVec Ideal S2x16x8192x3 .f32) (b : Fin 2) (h : Fin 16) (s : Fin 8192) (l : Fin 64) :
    refSix p q (ix4 b h s l) = if hl : l.val < 3 then p (ix4 b h s ⟨l.val, hl⟩) else if hl : l.val < 6 then q (ix4 b h s ⟨l.val - 3, by omega⟩) else 0 := by
  pointwise [refSix]
  refine dite_congr rfl (fun _ => rfl) fun h3 => ?_
  exact dite_congr (propext (by omega)) (fun _ => rfl) (fun _ => rfl)

theorem gate_step (b : Fin 2) (s : Fin 8192) (d : Fin 128) : refCum (refTB x g w f) (ix3 b s d) = cumRow x g w f b s.val d := by
  rw [refCum_at]
  refine congrArg (· * toBase2) ?_
  unfold cum
  rw [← Finset.sum_filter]
  refine Finset.sum_bij' (fun k _ => k.val) (fun n hn => ⟨n, by have := Finset.mem_range.mp hn; have := s.isLt; omega⟩) (fun k hk => ?_) (fun n hn => ?_) (fun k _ => rfl) (fun n _ => rfl) (fun k _ => ?_)
  · exact Finset.mem_range.mpr (Nat.lt_succ_of_le (Finset.mem_filter.mp hk).2)
  · exact Finset.mem_filter.mpr ⟨Finset.mem_univ _, Nat.le_of_lt_succ (Finset.mem_range.mp hn)⟩
  · rw [refTB_at]
    unfold gateRow
    rw [dif_pos k.isLt]

/-- The lanes beside a query's own: the parts of its cumulated gate, then ones. -/
def refGQ : FVec Ideal S2x16x8192x64 .f32 := refSix (refParts (refCum (refTB x g w f))) refOnes

/-- The lanes beside a key's own: ones, then the parts negated. -/
def refGK : FVec Ideal S2x16x8192x64 .f32 := refSix refOnes (Host.negf (refParts (refCum (refTB x g w f))))

theorem refGQ_at (b : Fin 2) (h : Fin 16) (s : Fin 8192) (l : Fin 64) : refGQ x g w f (ix4 b h s l) = queryLane (cumRow x g w f b s.val) h l.val := by
  unfold refGQ queryLane
  rw [refSix_at]
  refine dite_congr rfl (fun h3 => ?_) fun h3 => ?_
  · rw [refParts_at, gate_step]
  · by_cases h6 : l.val < 6
    · rw [dif_pos h6, if_pos h6]; exact refOnes_at (ix4 b h s ⟨l.val - 3, by omega⟩)
    · rw [dif_neg h6, if_neg h6]

theorem refGK_at (b : Fin 2) (h : Fin 16) (s : Fin 8192) (l : Fin 64) : refGK x g w f (ix4 b h s l) = keyLane (cumRow x g w f b s.val) h l.val := by
  unfold refGK keyLane
  rw [refSix_at]
  by_cases h3 : l.val < 3
  · rw [dif_pos h3, if_pos h3]; exact refOnes_at (ix4 b h s ⟨l.val, h3⟩)
  · rw [dif_neg h3, if_neg h3]
    refine dite_congr rfl (fun h6 => ?_) fun _ => rfl
    refine Eq.trans (b := -refParts (refCum (refTB x g w f)) (ix4 b h s ⟨l.val - 3, by omega⟩)) rfl ?_
    rw [refParts_at, gate_step]

theorem gated_select (V X : FVec Ideal S2x16x8192x64 .f32) (v : Fin 1024 → EReal) (c : Fin 16 → ℕ → EReal) (b : Fin 2) (h : Fin 16) (s : Fin 8192)
    (hV : ∀ l : Fin 64, V (ix4 b h s l) = v ⟨64 * h.val + l.val, by omega⟩) (hX : ∀ l : Fin 64, X (ix4 b h s l) = c h l.val) (l : Fin 128) :
    truncf .bf16 (select refEven (refLanes V X) (refLanes X V)) bitsLt_bf16_f32 (ix4 b h s l) = gatedLanes v c h l := by
  pointwise []
  rw [refEven_at, sel, refLanes_at, refLanes_at]
  unfold gatedLanes
  by_cases he : h.val % 2 = 0
  · rw [if_pos he, if_pos he]
    exact dite_congr rfl (fun _ => hV _) (fun _ => hX _)
  · rw [if_neg he, if_neg he]
    exact dite_congr rfl (fun _ => hX _) (fun _ => hV _)

/-- The reference's queries. -/
def refQa (wq : FVec Ideal S1024x1024 .bf16) : FVec Ideal S2x16x8192x128 .bf16 :=
  truncf .bf16 (select refEven (refLanes (mulf (refHeads x g wq) (broadcastInDim S2x16x8192x64 ![] bcast_S_S2x16x8192x64 (constant S_ .f32 0x3E38AA3B#32))) (refGQ x g w f)) (refLanes (refGQ x g w f) (mulf (refHeads x g wq) (broadcastInDim S2x16x8192x64 ![] bcast_S_S2x16x8192x64 (constant S_ .f32 0x3E38AA3B#32))))) bitsLt_bf16_f32

/-- The reference's keys. -/
def refKa (wk : FVec Ideal S1024x1024 .bf16) : FVec Ideal S2x16x8192x128 .bf16 :=
  truncf .bf16 (select refEven (refLanes (refHeads x g wk) (refGK x g w f)) (refLanes (refGK x g w f) (refHeads x g wk))) bitsLt_bf16_f32

theorem refQa_eq (wq : FVec Ideal S1024x1024 .bf16) : refQa x g w f wq = queriesOf x g wq w f := by
  funext j
  obtain ⟨b, h, s, l, rfl⟩ : ∃ (b : Fin 2) (h : Fin 16) (s : Fin 8192) (l : Fin 128), j = ix4 b h s l :=
    ⟨j 0, j 1, j 2, j 3, funext fun a => match a with | 0 => rfl | 1 => rfl | 2 => rfl | 3 => rfl⟩
  refine gated_select _ _ (fun d => proj (fun e => x (ix2 (seqRow b s) e)) (fun e => g (ix2 0 e)) (fun e d => wq (ix2 e d)) d * qScale) (queryLane (cumRow x g w f b s.val)) b h s (fun l => ?_) (refGQ_at x g w f b h s) l
  exact congrArg (· * qScale) (refHeads_at x g wq b h s l)

theorem refKa_eq (wk : FVec Ideal S1024x1024 .bf16) : refKa x g w f wk = keysOf x g wk w f := by
  funext j
  obtain ⟨b, h, s, l, rfl⟩ : ∃ (b : Fin 2) (h : Fin 16) (s : Fin 8192) (l : Fin 128), j = ix4 b h s l :=
    ⟨j 0, j 1, j 2, j 3, funext fun a => match a with | 0 => rfl | 1 => rfl | 2 => rfl | 3 => rfl⟩
  exact gated_select _ _ (proj (fun e => x (ix2 (seqRow b s) e)) (fun e => g (ix2 0 e)) (fun e d => wk (ix2 e d))) (keyLane (cumRow x g w f b s.val)) b h s (refHeads_at x g wk b h s) (refGK_at x g w f b h s) l

/-- The arrays the reference's program leaves are these. -/
theorem res_queries (m : (ℓ : Loc nD τ sig) → Buf (Elt Ideal) ℓ) (c : Dev nD) : res_main_v108 m c = refQa (m ((c : Thread nD τ).loc main_arg0)) (m ((c : Thread nD τ).loc main_arg1)) (m ((c : Thread nD τ).loc main_arg7)) (m ((c : Thread nD τ).loc main_arg8)) (m ((c : Thread nD τ).loc main_arg4)) := by
  unfold refQa refGQ refSix refParts refPart2 refPart1 refPart0 refCum logSigmoid refTB refHeads refP refTail refNorm refLanes refEven
  rfl

theorem res_keys (m : (ℓ : Loc nD τ sig) → Buf (Elt Ideal) ℓ) (c : Dev nD) : res_main_v114 m c = refKa (m ((c : Thread nD τ).loc main_arg0)) (m ((c : Thread nD τ).loc main_arg1)) (m ((c : Thread nD τ).loc main_arg7)) (m ((c : Thread nD τ).loc main_arg8)) (m ((c : Thread nD τ).loc main_arg5)) := by
  unfold refKa refGK refSix refParts refPart2 refPart1 refPart0 refCum logSigmoid refTB refHeads refP refTail refNorm refLanes refEven
  rfl

end Cert.Project
-- ==== Proof.Project.RefStats.lean ====
/-
  The reference's array of statistics, read at an entry.
-/
module

public import proofs.«01_k».proof.Proof.Project.StatArray
public import proofs.«01_k».proof.Proof.Project.RefLanes

@[expose] public section

set_option maxRecDepth 16384

noncomputable section

namespace Cert.Project

open Cert.Reference3Ideal Cert.Reference3Ideal.Gen Cert.Reference3Ideal.Value
open Idealize.ShloMosaic Idealize.ShloMosaic.TcCoe Idealize.SL.Sem

/-- The largest squared norm of each head's vectors in every block of rows. -/
def refTop (A : FVec Ideal S2x16x8192x64 .f32) : FVec Ideal S32x1x16 .f32 :=
  shapeCast _ (transpose S2x16x16 [0, 2, 1] (Host.reduce FloatOps.maximumf (shapeCast _ (Host.reduceAdd (mulf A A) (constant S_ .f32 0x00000000#32) reducesTo_S2x16x8192x64_S2x16x8192_d3 h_S_) shapeCasts_S2x16x8192_S2x16x16x512) (constant S_ .f32 0xFF800000#32) reducesTo_S2x16x16x512_S2x16x16_d3 h_S_) transposes_S2x16x16_S2x16x16_0_2_1) shapeCasts_S2x16x16_S32x1x16

def refTopRow (A : FVec Ideal S2x16x8192x64 .f32) : FVec Ideal S32x1x128 .f32 :=
  concatenate S32x1x128 2 [⟨S32x1x16, refTop A⟩, ⟨S32x1x112, broadcastInDim S32x1x112 ![] bcast_S_S32x1x112 (constant S_ .f32 0x00000000#32)⟩] concatenates_S32x1x16_S32x1x112_S32x1x128_d2

theorem refTop_at (A : FVec Ideal S2x16x8192x64 .f32) (n : Fin 32) (h : Fin 16) :
    refTop A (ix3 n 0 h) = largest fun r : Fin 512 => ∑ x : Fin 64, A (ix4 (blockSeq n) h ⟨512 * (n.val % 16) + r.val, by omega⟩ x) * A (ix4 (blockSeq n) h ⟨512 * (n.val % 16) + r.val, by omega⟩ x) := by
  pointwise [refTop, bottom]
  refine congrArg largest (funext fun r => Finset.sum_congr rfl fun x _ => ?_)
  have e : (⟨n.val % 16 * 512 + r.val, by omega⟩ : Fin 8192) = ⟨512 * (n.val % 16) + r.val, by omega⟩ := Fin.ext (by show n.val % 16 * 512 + r.val = 512 * (n.val % 16) + r.val; omega)
  exact congrArg (fun s => A (ix4 (blockSeq n) h s x) * A (ix4 (blockSeq n) h s x)) e

theorem refTopRow_at (A : FVec Ideal S2x16x8192x64 .f32) (n : Fin 32) (l : Fin 128) :
    refTopRow A (ix3 n 0 l) = if h : l.val < 16 then refTop A (ix3 n 0 ⟨l.val, h⟩) else 0 := by
  pointwise [refTopRow]

def refStats (a b : FVec Ideal S2x16x8192x64 .f32) (C : FVec Ideal S2x8192x128 .f32) : FVec Ideal S32x8x128 .f32 :=
  concatenate S32x8x128 1 [⟨S32x1x128, refTopRow a⟩, ⟨S32x1x128, refTopRow b⟩,
    ⟨S32x1x128, extractStridedSlice S32x1x128 ![0, 0, 0] (shapeCast S32x512x128 C shapeCasts_S2x8192x128_S32x512x128) slices_S32x512x128_S32x1x128_0_0_0⟩,
    ⟨S32x1x128, extractStridedSlice S32x1x128 ![0, 511, 0] (shapeCast S32x512x128 C shapeCasts_S2x8192x128_S32x512x128) slices_S32x512x128_S32x1x128_0_511_0⟩,
    ⟨S32x4x128, broadcastInDim S32x4x128 ![] bcast_S_S32x4x128 (constant S_ .f32 0x00000000#32)⟩] concatenates_S32x1x128_S32x1x128_S32x1x128_S32x1x128_S32x4x128_S32x8x128_d1

theorem refStats_at (a b : FVec Ideal S2x16x8192x64 .f32) (C : FVec Ideal S2x8192x128 .f32) (n : Fin 32) (r : Fin 8) (l : Fin 128) :
    refStats a b C (ix3 n r l) = statRows (fun l => refTopRow a (ix3 n 0 l)) (fun l => refTopRow b (ix3 n 0 l))
      (fun l => C (ix3 (blockSeq n) ⟨512 * (n.val % 16), by omega⟩ l)) (fun l => C (ix3 (blockSeq n) ⟨512 * (n.val % 16) + 511, by omega⟩ l)) r l := by
  pointwise [refStats]
  unfold statRows
  have key : ∀ s s' : Fin 8192, s.val = s'.val → C (ix3 (blockSeq n) s l) = C (ix3 (blockSeq n) s' l) := fun s s' h => by rw [Fin.ext h]
  match r with
  | 0 => rfl
  | 1 => rfl
  | 2 => exact key _ _ (by show n.val % 16 * 512 + 0 = 512 * (n.val % 16); omega)
  | 3 => exact key _ _ (by show n.val % 16 * 512 + (511 + 0) = 512 * (n.val % 16) + 511; omega)
  | 4 => rfl
  | 5 => rfl
  | 6 => rfl
  | 7 => rfl

variable (x : FVec Ideal S16384x1024 .f32) (g : FVec Ideal S1x1024 .f32) (w : FVec Ideal S1024x128 .bf16) (f : FVec Ideal S1x128 .f32)

abbrev refQ (wq : FVec Ideal S1024x1024 .bf16) : FVec Ideal S2x16x8192x64 .f32 :=
  mulf (refHeads x g wq) (broadcastInDim S2x16x8192x64 ![] bcast_S_S2x16x8192x64 (constant S_ .f32 0x3E38AA3B#32))

theorem refTopRow_norms (A : FVec Ideal S2x16x8192x64 .f32) (V : Fin 16384 → Fin 1024 → EReal)
    (hA : ∀ (b : Fin 2) (h : Fin 16) (s : Fin 8192) (l : Fin 64), A (ix4 b h s l) = V (seqRow b s) ⟨64 * h.val + l.val, by omega⟩) (n : Fin 32) (l : Fin 128) :
    refTopRow A (ix3 n 0 l) = normsRow (fun r => V (rowAt n r)) l := by
  rw [refTopRow_at]
  unfold normsRow
  refine dite_congr rfl (fun h => ?_) fun _ => rfl
  rw [refTop_at]
  refine congrArg largest (funext fun r => Finset.sum_congr rfl fun x _ => ?_)
  have e : seqRow (blockSeq n) ⟨512 * (n.val % 16) + r.val, by omega⟩ = rowAt n r :=
    Fin.ext (by show 8192 * (n.val / 16) + (512 * (n.val % 16) + r.val) = 512 * n.val + r.val; omega)
  rw [hA, e]

theorem refStats_eq (wq wk : FVec Ideal S1024x1024 .bf16) : refStats (refQ x g wq) (refHeads x g wk) (refCum (refTB x g w f)) = statsOf x g wq wk w f := by
  funext j
  obtain ⟨n, r, l, rfl⟩ : ∃ (n : Fin 32) (r : Fin 8) (l : Fin 128), j = ix3 n r l :=
    ⟨j 0, j 1, j 2, funext fun a => match a with | 0 => rfl | 1 => rfl | 2 => rfl⟩
  rw [refStats_at]
  have e1 := funext (refTopRow_norms (refQ x g wq) (fun r d => proj (fun e => x (ix2 r e)) (fun e => g (ix2 0 e)) (fun e d => wq (ix2 e d)) d * qScale)
    (fun b h s l => congrArg (· * qScale) (refHeads_at x g wq b h s l)) n)
  have e2 := funext (refTopRow_norms (refHeads x g wk) (fun r => proj (fun e => x (ix2 r e)) (fun e => g (ix2 0 e)) (fun e d => wk (ix2 e d))) (refHeads_at x g wk) n)
  have e3 := fun d => gate_step x g w f (blockSeq n) ⟨512 * (n.val % 16), by omega⟩ d
  have e4 := fun d => gate_step x g w f (blockSeq n) ⟨512 * (n.val % 16) + 511, by omega⟩ d
  exact Eq.trans (congrArg₂ (fun a b => statRows a b _ _ r l) e1 e2) (congrArg₂ (fun a b => statRows _ _ a b r l) (funext e3) (funext e4))

/-- The array the reference's program leaves is this one. -/
theorem res_stats (m : (ℓ : Loc nD τ sig) → Buf (Elt Ideal) ℓ) (c : Dev nD) : res_main_v96 m c
    = refStats (refQ (m ((c : Thread nD τ).loc main_arg0)) (m ((c : Thread nD τ).loc main_arg1)) (m ((c : Thread nD τ).loc main_arg4))) (refHeads (m ((c : Thread nD τ).loc main_arg0)) (m ((c : Thread nD τ).loc main_arg1)) (m ((c : Thread nD τ).loc main_arg5)))
      (refCum (refTB (m ((c : Thread nD τ).loc main_arg0)) (m ((c : Thread nD τ).loc main_arg1)) (m ((c : Thread nD τ).loc main_arg7)) (m ((c : Thread nD τ).loc main_arg8)))) := by
  unfold refStats refTopRow refTop refCum logSigmoid refTB refHeads refP refTail refNorm
  rfl

/-- The array the reference's program leaves, from its arguments. -/
theorem stats_of_args (m : (ℓ : Loc nD τ sig) → Buf (Elt Ideal) ℓ) (c : Dev nD) {x : FVec Ideal S16384x1024 .f32} {g : FVec Ideal S1x1024 .f32} {wq wk : FVec Ideal S1024x1024 .bf16}
    {w : FVec Ideal S1024x128 .bf16} {f : FVec Ideal S1x128 .f32}
    (hx : m ((c : Thread nD τ).loc main_arg0) = x) (hg : m ((c : Thread nD τ).loc main_arg1) = g) (hq : m ((c : Thread nD τ).loc main_arg4) = wq)
    (hk : m ((c : Thread nD τ).loc main_arg5) = wk) (hw : m ((c : Thread nD τ).loc main_arg7) = w) (hf : m ((c : Thread nD τ).loc main_arg8) = f) :
    res_main_v96 m c = statsOf x g wq wk w f := by
  subst hx hg hq hk hw hf
  exact (res_stats m c).trans (refStats_eq _ _ _ _ _ _)

end Cert.Project
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_attention_operands
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference2Ideal
public import proofs.«01_k».proof.Proof.Gen.Reference2Ideal.Run
public import proofs.«01_k».proof.Proof.Frame
public import proofs.«01_k».proof.Proof.Twin.Frame
public import proofs.«01_k».proof.Proof.Value.Result
public import proofs.«01_k».proof.Proof.Value.Ref
public import proofs.«01_k».proof.Proof.Output.Ref
public import proofs.«01_k».proof.Proof.Project.Ref
public import proofs.«01_k».proof.Proof.Project.RefStats
public import Idealize.ShloMosaic.Adequacy
public import Idealize.ShloMosaic.Init

@[expose] public section

noncomputable section

namespace Cert.Proof

open Idealize.ShloMosaic Idealize.SL.Sem Cert.Kernel

theorem frame_k : Cert.quiescent_Kernel := by
  intro m ρ h
  have hT := Cert.Kernel.Launch.tab_of (F := Bits) (m (((0 : Dev Cert.Kernel.nD).tc : Thread Cert.Kernel.nD Cert.Kernel.τ).loc Cert.Kernel.main_arg0))
    (Cert.Words.bound _ _ _ _ _ _ (h 0).1)
  exact (θ_run Cert.Kernel.defs _ _).mono (fun r h => ⟨fun c => (h.1 c).2, h.2⟩)
    (Cert.Kernel.Launch.run _ m ρ (fun c => by rw [Subsingleton.elim c 0]) hT)

theorem frame_ki : Cert.quiescent_KernelIdeal := by
  intro m ρ h
  have hT := Cert.KernelIdeal.Launch.tab_of (F := Ideal) (m (((0 : Dev Cert.KernelIdeal.nD).tc : Thread Cert.KernelIdeal.nD Cert.KernelIdeal.τ).loc Cert.KernelIdeal.main_arg0))
    (Cert.Words.bound _ _ _ _ _ _ (h 0).1)
  exact (θ_run Cert.KernelIdeal.defs _ _).mono (fun r h => ⟨fun c => (h.1 c).2, h.2⟩)
    (Cert.KernelIdeal.Launch.run _ m ρ (fun c => by rw [Subsingleton.elim c 0]) hT)

theorem frame_rp : Cert.quiescent_ReferenceIdeal_pre_attention_operands := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal := by
  intro m g m' g' h hm
  have hB : ∀ y : Cert.KernelIdeal.S128.Idx, ((m (((0 : Dev Cert.KernelIdeal.nD).tc : Thread Cert.KernelIdeal.nD Cert.KernelIdeal.τ).loc Cert.KernelIdeal.main_arg0) : IVec Cert.KernelIdeal.S128 32) y).toNat ≤ 2 * ((y 0).val % 8) :=
    Cert.Words.bound _ _ _ _ _ _ (h 0).1
  have hT := Cert.KernelIdeal.Launch.tab_of (F := Ideal) (m (((0 : Dev Cert.KernelIdeal.nD).tc : Thread Cert.KernelIdeal.nD Cert.KernelIdeal.τ).loc Cert.KernelIdeal.main_arg0)) hB
  have L : Cert.Value.Lanes (Cert.Value.qA m 0) (Cert.Value.kA m 0) (Cert.Value.vA m 0) := Cert.Value.lanes_of (h 0)
  refine ⟨fun c => Cert.Value.whole (m (((0 : Dev Cert.KernelIdeal.nD).tc : Thread Cert.KernelIdeal.nD Cert.KernelIdeal.τ).loc Cert.KernelIdeal.main_arg0))
    (Cert.Value.qA m 0) (Cert.Value.kA m 0) (Cert.Value.vA m 0) (Cert.Value.zA m 0) (Cert.Value.gA m 0), ?_, ?_⟩
  · refine (θ_run Cert.KernelIdeal.defs _ _).mono (fun r hr c => ?_) (Cert.KernelIdeal.Launch.run _ m g (fun c => by rw [Subsingleton.elim c 0]) hT)
    obtain rfl : c = 0 := Subsingleton.elim c 0
    exact ⟨((hr.1 0).1).trans (Cert.Value.final _ m 0 hT L), (hr.1 0).2⟩
  · refine (θ_run Cert.ReferenceIdeal.defs _ _).mono (fun r hr c => ?_) (Cert.ReferenceIdeal.Value.run (F := Ideal) m' g')
    obtain rfl : c = 0 := Subsingleton.elim c 0
    obtain ⟨e0, e1, e2, e3, e4, e5⟩ := hm 0
    refine ⟨((hr 0).1).trans ?_, (hr 0).2⟩
    show Cert.Value.refArray (Idealize.ShloMosaic.StableHlo.launchContents m' 0) = _
    have f0 : Cert.Value.rT (Idealize.ShloMosaic.StableHlo.launchContents m' 0) = m (((0 : Dev Cert.KernelIdeal.nD).tc : Thread Cert.KernelIdeal.nD Cert.KernelIdeal.τ).loc Cert.KernelIdeal.main_arg0) := e0
    have f1 : Cert.Value.rQ (Idealize.ShloMosaic.StableHlo.launchContents m' 0) = Cert.Value.qA m 0 := e1
    have f2 : Cert.Value.rK (Idealize.ShloMosaic.StableHlo.launchContents m' 0) = Cert.Value.kA m 0 := e2
    have f3 : Cert.Value.rV (Idealize.ShloMosaic.StableHlo.launchContents m' 0) = Cert.Value.vA m 0 := e3
    have f4 : Cert.Value.rZ (Idealize.ShloMosaic.StableHlo.launchContents m' 0) = Cert.Value.zA m 0 := e4
    have f5 : Cert.Value.rG (Idealize.ShloMosaic.StableHlo.launchContents m' 0) = Cert.Value.gA m 0 := e5
    rw [Cert.Value.refArray_eq _ (by rw [f0]; exact hB) (by rw [f1, f2, f3]; exact L), f0, f1, f2, f3, f4, f5]

theorem frame_k2 : Cert.quiescent_Kernel2 := fun m ρ _ => Cert.Kernel2.Gen.frame (F := Bits) m ρ

theorem frame_k2i : Cert.quiescent_Kernel2Ideal := fun m ρ _ => Cert.Kernel2Ideal.Gen.frame (F := Ideal) m ρ

theorem frame_r2 : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic2 : Cert.algebraic_Kernel2Ideal_Reference2Ideal := by
  intro m g m' g' _ hm
  refine ⟨fun c => Cert.Output.whole (Cert.Output.xA m c) (Cert.Output.ysA m c) (Cert.Output.yaA m c) (Cert.Output.pA m c) (Cert.Output.wsA m c) (Cert.Output.waA m c) (Cert.Output.wgA m c) (Cert.Output.wpA m c) (Cert.Output.gpA m c) (Cert.Output.gfA m c), ?_, ?_⟩
  · exact (θ_run Cert.Kernel2Ideal.defs _ _).mono (fun r hr c => ⟨((hr c).1).trans (Cert.Output.final m c), (hr c).2⟩) (Cert.Kernel2Ideal.Value.run_blocks (F := Ideal) m g)
  · refine (θ_run Cert.Reference2Ideal.defs _ _).mono (fun r hr c => ⟨((hr c).1).trans ?_, (hr c).2⟩) (Cert.Reference2Ideal.Value.run (F := Ideal) m' g')
    obtain ⟨e0, e1, e2, e3, e4, e5, e6, e7, e8, e9⟩ := hm c
    rw [Cert.Output.res_eq, Cert.Output.refArray_eq, e0, e1, e2, e3, e4, e5, e6, e7, e8, e9]

theorem frame_k3 : Cert.quiescent_Kernel3 := fun m ρ _ => Cert.Kernel3.Gen.frame (F := Bits) m ρ

theorem frame_k3i : Cert.quiescent_Kernel3Ideal := fun m ρ _ => Cert.Kernel3Ideal.Gen.frame (F := Ideal) m ρ

theorem frame_r3 : Cert.quiescent_Reference3Ideal := by
  intro m ρ _
  exact (θ_run Cert.Reference3Ideal.defs _ _).mono (fun r h => ⟨fun c => (h c).2.2.2.2.2.2.2.2,
      Idealize.ShloMosaic.sem_eq_zero_of_no_sems (by decide) r.2⟩)
    (Cert.Reference3Ideal.Value.run (F := Ideal) m ρ)

theorem algebraic3 : Cert.algebraic_Kernel3Ideal_Reference3Ideal := by
  intro m g m' g' _ hm
  refine ⟨fun c => Cert.Project.colsOf (W := 2560) (N := 1024) 0 (by decide) (Cert.Project.xA m c) (Cert.Project.gA m c) (Cert.Project.wsA m c),
    fun c => Cert.Project.colsOf (W := 2560) (N := 1536) 1024 (by decide) (Cert.Project.xA m c) (Cert.Project.gA m c) (Cert.Project.wsA m c),
    fun c => Cert.Project.colsOf (W := 1024) (N := 1024) 0 (by decide) (Cert.Project.xA m c) (Cert.Project.gA m c) (Cert.Project.wzA m c),
    fun c => Cert.Project.queriesOf (Cert.Project.xA m c) (Cert.Project.gA m c) (Cert.Project.wqA m c) (Cert.Project.wtA m c) (Cert.Project.fbA m c),
    fun c => Cert.Project.keysOf (Cert.Project.xA m c) (Cert.Project.gA m c) (Cert.Project.wkA m c) (Cert.Project.wtA m c) (Cert.Project.fbA m c),
    fun c => Cert.Project.headsOf (Cert.Project.xA m c) (Cert.Project.gA m c) (Cert.Project.wvA m c),
    fun c => Cert.Project.colsOf (W := 128) (N := 128) 0 (by decide) (Cert.Project.xA m c) (Cert.Project.gA m c) (Cert.Project.wtA m c),
    fun c => Cert.Project.statsOf (Cert.Project.xA m c) (Cert.Project.gA m c) (Cert.Project.wqA m c) (Cert.Project.wkA m c) (Cert.Project.wtA m c) (Cert.Project.fbA m c), ?_, ?_⟩
  · refine (θ_run Cert.Kernel3Ideal.defs _ _).mono (fun r hr c => ?_) (Cert.Kernel3Ideal.Value.run_blocks (F := Ideal) m g)
    obtain ⟨h0, h1, h2, h3, h4, h5, h6, h7, ha⟩ := hr c
    exact ⟨h0.trans (Cert.Project.final12 m c), h1.trans (Cert.Project.final13 m c), h2.trans (Cert.Project.final14 m c), h3.trans (Cert.Project.final15 m c), h4.trans (Cert.Project.final16 m c), h5.trans (Cert.Project.final17 m c), h6.trans (Cert.Project.final18 m c), h7.trans (Cert.Project.final19 m c), ha⟩
  · refine (θ_run Cert.Reference3Ideal.defs _ _).mono (fun r hr c => ?_) (Cert.Reference3Ideal.Value.run (F := Ideal) m' g')
    obtain ⟨h0, h1, h2, h3, h4, h5, h6, h7, ha⟩ := hr c
    obtain ⟨e0, e1, e2, e3, e4, e5, e6, e7, e8⟩ := hm c
    refine ⟨h0.trans ?_, h1.trans ?_, h2.trans ?_, h3.trans ?_, h4.trans ?_, h5.trans ?_, h6.trans ?_, h7.trans ?_, ha⟩
    · exact Eq.trans (by rw [e0, e1, e2]; rfl) (Cert.Project.refZs_eq (Cert.Project.xA m c) (Cert.Project.gA m c) (Cert.Project.wsA m c))
    · exact Eq.trans (by rw [e0, e1, e2]; rfl) (Cert.Project.refXbc_eq (Cert.Project.xA m c) (Cert.Project.gA m c) (Cert.Project.wsA m c))
    · exact Eq.trans (by rw [e0, e1, e3]; rfl) (Cert.Project.refZa_eq (Cert.Project.xA m c) (Cert.Project.gA m c) (Cert.Project.wzA m c))
    · exact Eq.trans (by rw [Cert.Project.res_queries, e0, e1, e4, e7, e8]) (Cert.Project.refQa_eq (Cert.Project.xA m c) (Cert.Project.gA m c) (Cert.Project.wtA m c) (Cert.Project.fbA m c) (Cert.Project.wqA m c))
    · exact Eq.trans (by rw [Cert.Project.res_keys, e0, e1, e5, e7, e8]) (Cert.Project.refKa_eq (Cert.Project.xA m c) (Cert.Project.gA m c) (Cert.Project.wtA m c) (Cert.Project.fbA m c) (Cert.Project.wkA m c))
    · exact Eq.trans (by rw [e0, e1, e6]; rfl) (Cert.Project.refVa_eq (Cert.Project.xA m c) (Cert.Project.gA m c) (Cert.Project.wvA m c))
    · exact Eq.trans (by rw [e0, e1, e7]; rfl) (Cert.Project.refTail_eq (Cert.Project.xA m c) (Cert.Project.gA m c) (Cert.Project.wtA m c))
    · exact Cert.Project.stats_of_args m' c e0 e1 e4 e5 e7 e8

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Pre_attention_operands.Gen.facts,
  frame_k, frame_ki, frame_r, frame_rp, frame_k2, frame_k2i, frame_r2, frame_k3, frame_k3i, frame_r3, trivial, algebraic, trivial, algebraic2, trivial, algebraic3⟩

end Cert.Proof

end
